-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnInX (m : (ℓ : Loc Cert.FfnInX.nD Cert.FfnInX.τ Cert.FfnInX.sig) → Buf (Elt Bits) ℓ) : Prop :=
  True

def Pre_FfnInXIdeal (m : (ℓ : Loc Cert.FfnInXIdeal.nD Cert.FfnInXIdeal.τ Cert.FfnInXIdeal.sig) → Buf (Elt Ideal) ℓ) : Prop :=
  True

def Pre_FfnInXReferenceIdeal (m : (ℓ : Loc Cert.FfnInXReferenceIdeal.nD Cert.FfnInXReferenceIdeal.τ Cert.FfnInXReferenceIdeal.sig) → Buf (Elt Ideal) ℓ) : Prop :=
  True

def Pre_FfnOutX (m : (ℓ : Loc Cert.FfnOutX.nD Cert.FfnOutX.τ Cert.FfnOutX.sig) → Buf (Elt Bits) ℓ) : Prop :=
  True

def Pre_FfnOutXIdeal (m : (ℓ : Loc Cert.FfnOutXIdeal.nD Cert.FfnOutXIdeal.τ Cert.FfnOutXIdeal.sig) → Buf (Elt Ideal) ℓ) : Prop :=
  True

def Pre_FfnOutXIdeal_finite [hPre_finite : Cert.Pre_finite.Facts] (m : (ℓ : Loc Cert.FfnOutXIdeal.nD Cert.FfnOutXIdeal.τ Cert.FfnOutXIdeal.sig) → Buf (Elt Ideal) ℓ) : Prop :=
  ∀ c : Dev Cert.FfnOutXIdeal.nD,
    (Cert.Pre_finite.fn (F := Ideal) (m ((c.tc : Thread Cert.FfnOutXIdeal.nD Cert.FfnOutXIdeal.τ).loc Cert.FfnOutXIdeal.main_arg0)) (m ((c.tc : Thread Cert.FfnOutXIdeal.nD Cert.FfnOutXIdeal.τ).loc Cert.FfnOutXIdeal.main_arg1)) (m ((c.tc : Thread Cert.FfnOutXIdeal.nD Cert.FfnOutXIdeal.τ).loc Cert.FfnOutXIdeal.main_arg2))).1 = (fun _ => 1#1)
    ∧ (Cert.Pre_finite.fn (F := Ideal) (m ((c.tc : Thread Cert.FfnOutXIdeal.nD Cert.FfnOutXIdeal.τ).loc Cert.FfnOutXIdeal.main_arg0)) (m ((c.tc : Thread Cert.FfnOutXIdeal.nD Cert.FfnOutXIdeal.τ).loc Cert.FfnOutXIdeal.main_arg1)) (m ((c.tc : Thread Cert.FfnOutXIdeal.nD Cert.FfnOutXIdeal.τ).loc Cert.FfnOutXIdeal.main_arg2))).2.1 = (fun _ => 1#1)
    ∧ (Cert.Pre_finite.fn (F := Ideal) (m ((c.tc : Thread Cert.FfnOutXIdeal.nD Cert.FfnOutXIdeal.τ).loc Cert.FfnOutXIdeal.main_arg0)) (m ((c.tc : Thread Cert.FfnOutXIdeal.nD Cert.FfnOutXIdeal.τ).loc Cert.FfnOutXIdeal.main_arg1)) (m ((c.tc : Thread Cert.FfnOutXIdeal.nD Cert.FfnOutXIdeal.τ).loc Cert.FfnOutXIdeal.main_arg2))).2.2 = (fun _ => 1#1)

def Pre_FfnOutXReferenceIdeal (m : (ℓ : Loc Cert.FfnOutXReferenceIdeal.nD Cert.FfnOutXReferenceIdeal.τ Cert.FfnOutXReferenceIdeal.sig) → Buf (Elt Ideal) ℓ) : Prop :=
  True

def Pre_FfnOutXReferenceIdeal_finite [hPre_finite : Cert.Pre_finite.Facts] (m : (ℓ : Loc Cert.FfnOutXReferenceIdeal.nD Cert.FfnOutXReferenceIdeal.τ Cert.FfnOutXReferenceIdeal.sig) → Buf (Elt Ideal) ℓ) : Prop :=
  ∀ c : Dev Cert.FfnOutXReferenceIdeal.nD,
    (Cert.Pre_finite.fn (F := Ideal) (m ((c.tc : Thread Cert.FfnOutXReferenceIdeal.nD Cert.FfnOutXReferenceIdeal.τ).loc Cert.FfnOutXReferenceIdeal.main_arg0)) (m ((c.tc : Thread Cert.FfnOutXReferenceIdeal.nD Cert.FfnOutXReferenceIdeal.τ).loc Cert.FfnOutXReferenceIdeal.main_arg1)) (m ((c.tc : Thread Cert.FfnOutXReferenceIdeal.nD Cert.FfnOutXReferenceIdeal.τ).loc Cert.FfnOutXReferenceIdeal.main_arg2))).1 = (fun _ => 1#1)
    ∧ (Cert.Pre_finite.fn (F := Ideal) (m ((c.tc : Thread Cert.FfnOutXReferenceIdeal.nD Cert.FfnOutXReferenceIdeal.τ).loc Cert.FfnOutXReferenceIdeal.main_arg0)) (m ((c.tc : Thread Cert.FfnOutXReferenceIdeal.nD Cert.FfnOutXReferenceIdeal.τ).loc Cert.FfnOutXReferenceIdeal.main_arg1)) (m ((c.tc : Thread Cert.FfnOutXReferenceIdeal.nD Cert.FfnOutXReferenceIdeal.τ).loc Cert.FfnOutXReferenceIdeal.main_arg2))).2.1 = (fun _ => 1#1)
    ∧ (Cert.Pre_finite.fn (F := Ideal) (m ((c.tc : Thread Cert.FfnOutXReferenceIdeal.nD Cert.FfnOutXReferenceIdeal.τ).loc Cert.FfnOutXReferenceIdeal.main_arg0)) (m ((c.tc : Thread Cert.FfnOutXReferenceIdeal.nD Cert.FfnOutXReferenceIdeal.τ).loc Cert.FfnOutXReferenceIdeal.main_arg1)) (m ((c.tc : Thread Cert.FfnOutXReferenceIdeal.nD Cert.FfnOutXReferenceIdeal.τ).loc Cert.FfnOutXReferenceIdeal.main_arg2))).2.2 = (fun _ => 1#1)

def Pre_FfnInW (m : (ℓ : Loc Cert.FfnInW.nD Cert.FfnInW.τ Cert.FfnInW.sig) → Buf (Elt Bits) ℓ) : Prop :=
  True

def Pre_FfnInWIdeal (m : (ℓ : Loc Cert.FfnInWIdeal.nD Cert.FfnInWIdeal.τ Cert.FfnInWIdeal.sig) → Buf (Elt Ideal) ℓ) : Prop :=
  True

def Pre_FfnInWReferenceIdeal (m : (ℓ : Loc Cert.FfnInWReferenceIdeal.nD Cert.FfnInWReferenceIdeal.τ Cert.FfnInWReferenceIdeal.sig) → Buf (Elt Ideal) ℓ) : Prop :=
  True

def Pre_FfnOutW (m : (ℓ : Loc Cert.FfnOutW.nD Cert.FfnOutW.τ Cert.FfnOutW.sig) → Buf (Elt Bits) ℓ) : Prop :=
  True

def Pre_FfnOutWIdeal (m : (ℓ : Loc Cert.FfnOutWIdeal.nD Cert.FfnOutWIdeal.τ Cert.FfnOutWIdeal.sig) → Buf (Elt Ideal) ℓ) : Prop :=
  True

def Pre_FfnOutWReferenceIdeal (m : (ℓ : Loc Cert.FfnOutWReferenceIdeal.nD Cert.FfnOutWReferenceIdeal.τ Cert.FfnOutWReferenceIdeal.sig) → Buf (Elt Ideal) ℓ) : Prop :=
  True

def Pre_ProjX (m : (ℓ : Loc Cert.ProjX.nD Cert.ProjX.τ Cert.ProjX.sig) → Buf (Elt Bits) ℓ) : Prop :=
  True

def Pre_ProjXIdeal (m : (ℓ : Loc Cert.ProjXIdeal.nD Cert.ProjXIdeal.τ Cert.ProjXIdeal.sig) → Buf (Elt Ideal) ℓ) : Prop :=
  True

def Pre_ProjXReferenceIdeal (m : (ℓ : Loc Cert.ProjXReferenceIdeal.nD Cert.ProjXReferenceIdeal.τ Cert.ProjXReferenceIdeal.sig) → Buf (Elt Ideal) ℓ) : Prop :=
  True

def Pre_ProjQkvW (m : (ℓ : Loc Cert.ProjQkvW.nD Cert.ProjQkvW.τ Cert.ProjQkvW.sig) → Buf (Elt Bits) ℓ) : Prop :=
  True

def Pre_ProjQkvWIdeal (m : (ℓ : Loc Cert.ProjQkvWIdeal.nD Cert.ProjQkvWIdeal.τ Cert.ProjQkvWIdeal.sig) → Buf (Elt Ideal) ℓ) : Prop :=
  True

def Pre_ProjQkvWReferenceIdeal (m : (ℓ : Loc Cert.ProjQkvWReferenceIdeal.nD Cert.ProjQkvWReferenceIdeal.τ Cert.ProjQkvWReferenceIdeal.sig) → Buf (Elt Ideal) ℓ) : Prop :=
  True

def Pre_ProjGatesW (m : (ℓ : Loc Cert.ProjGatesW.nD Cert.ProjGatesW.τ Cert.ProjGatesW.sig) → Buf (Elt Bits) ℓ) : Prop :=
  True

def Pre_ProjGatesWIdeal (m : (ℓ : Loc Cert.ProjGatesWIdeal.nD Cert.ProjGatesWIdeal.τ Cert.ProjGatesWIdeal.sig) → Buf (Elt Ideal) ℓ) : Prop :=
  True

def Pre_ProjGatesWReferenceIdeal (m : (ℓ : Loc Cert.ProjGatesWReferenceIdeal.nD Cert.ProjGatesWReferenceIdeal.τ Cert.ProjGatesWReferenceIdeal.sig) → Buf (Elt Ideal) ℓ) : Prop :=
  True

def Pre_ProjFW (m : (ℓ : Loc Cert.ProjFW.nD Cert.ProjFW.τ Cert.ProjFW.sig) → Buf (Elt Bits) ℓ) : Prop :=
  True

def Pre_ProjFWIdeal (m : (ℓ : Loc Cert.ProjFWIdeal.nD Cert.ProjFWIdeal.τ Cert.ProjFWIdeal.sig) → Buf (Elt Ideal) ℓ) : Prop :=
  True

def Pre_ProjFWReferenceIdeal (m : (ℓ : Loc Cert.ProjFWReferenceIdeal.nD Cert.ProjFWReferenceIdeal.τ Cert.ProjFWReferenceIdeal.sig) → Buf (Elt Ideal) ℓ) : Prop :=
  True

def Pre_MixOutW (m : (ℓ : Loc Cert.MixOutW.nD Cert.MixOutW.τ Cert.MixOutW.sig) → Buf (Elt Bits) ℓ) : Prop :=
  True

def Pre_MixOutWIdeal (m : (ℓ : Loc Cert.MixOutWIdeal.nD Cert.MixOutWIdeal.τ Cert.MixOutWIdeal.sig) → Buf (Elt Ideal) ℓ) : Prop :=
  True

def Pre_MixOutWReferenceIdeal (m : (ℓ : Loc Cert.MixOutWReferenceIdeal.nD Cert.MixOutWReferenceIdeal.τ Cert.MixOutWReferenceIdeal.sig) → Buf (Elt Ideal) ℓ) : Prop :=
  True

def Pre_BranchX (m : (ℓ : Loc Cert.BranchX.nD Cert.BranchX.τ Cert.BranchX.sig) → Buf (Elt Bits) ℓ) : Prop :=
  True

def Pre_BranchXIdeal (m : (ℓ : Loc Cert.BranchXIdeal.nD Cert.BranchXIdeal.τ Cert.BranchXIdeal.sig) → Buf (Elt Ideal) ℓ) : Prop :=
  True

def Pre_BranchXReferenceIdeal (m : (ℓ : Loc Cert.BranchXReferenceIdeal.nD Cert.BranchXReferenceIdeal.τ Cert.BranchXReferenceIdeal.sig) → Buf (Elt Ideal) ℓ) : Prop :=
  True

def Pre_BranchW (m : (ℓ : Loc Cert.BranchW.nD Cert.BranchW.τ Cert.BranchW.sig) → Buf (Elt Bits) ℓ) : Prop :=
  True

def Pre_BranchWIdeal (m : (ℓ : Loc Cert.BranchWIdeal.nD Cert.BranchWIdeal.τ Cert.BranchWIdeal.sig) → Buf (Elt Ideal) ℓ) : Prop :=
  True

def Pre_BranchWReferenceIdeal (m : (ℓ : Loc Cert.BranchWReferenceIdeal.nD Cert.BranchWReferenceIdeal.τ Cert.BranchWReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_in [hPre_finite_in : Cert.Pre_finite_in.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1))).1 = (fun _ => 1#1)
    ∧ (Cert.Pre_finite_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1))).2 = (fun _ => 1#1)

def Pre_FfnInReferenceIdeal (m : (ℓ : Loc Cert.FfnInReferenceIdeal.nD Cert.FfnInReferenceIdeal.τ Cert.FfnInReferenceIdeal.sig) → Buf (Elt Ideal) ℓ) : Prop :=
  True

def Pre_FfnInReferenceIdeal_finite_in [hPre_finite_in : Cert.Pre_finite_in.Facts] (m : (ℓ : Loc Cert.FfnInReferenceIdeal.nD Cert.FfnInReferenceIdeal.τ Cert.FfnInReferenceIdeal.sig) → Buf (Elt Ideal) ℓ) : Prop :=
  ∀ c : Dev Cert.FfnInReferenceIdeal.nD,
    (Cert.Pre_finite_in.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1))).1 = (fun _ => 1#1)
    ∧ (Cert.Pre_finite_in.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1))).2 = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_FoxX (m : (ℓ : Loc Cert.FoxX.nD Cert.FoxX.τ Cert.FoxX.sig) → Buf (Elt Bits) ℓ) : Prop :=
  True

def Pre_FoxXIdeal (m : (ℓ : Loc Cert.FoxXIdeal.nD Cert.FoxXIdeal.τ Cert.FoxXIdeal.sig) → Buf (Elt Ideal) ℓ) : Prop :=
  True

def Pre_FoxXIdeal_finite_fox [hPre_finite_fox : Cert.Pre_finite_fox.Facts] (m : (ℓ : Loc Cert.FoxXIdeal.nD Cert.FoxXIdeal.τ Cert.FoxXIdeal.sig) → Buf (Elt Ideal) ℓ) : Prop :=
  ∀ c : Dev Cert.FoxXIdeal.nD,
    (Cert.Pre_finite_fox.fn (F := Ideal) (m ((c.tc : Thread Cert.FoxXIdeal.nD Cert.FoxXIdeal.τ).loc Cert.FoxXIdeal.main_arg0)) (m ((c.tc : Thread Cert.FoxXIdeal.nD Cert.FoxXIdeal.τ).loc Cert.FoxXIdeal.main_arg1)) (m ((c.tc : Thread Cert.FoxXIdeal.nD Cert.FoxXIdeal.τ).loc Cert.FoxXIdeal.main_arg2)) (m ((c.tc : Thread Cert.FoxXIdeal.nD Cert.FoxXIdeal.τ).loc Cert.FoxXIdeal.main_arg3))).1 = (fun _ => 1#1)
    ∧ (Cert.Pre_finite_fox.fn (F := Ideal) (m ((c.tc : Thread Cert.FoxXIdeal.nD Cert.FoxXIdeal.τ).loc Cert.FoxXIdeal.main_arg0)) (m ((c.tc : Thread Cert.FoxXIdeal.nD Cert.FoxXIdeal.τ).loc Cert.FoxXIdeal.main_arg1)) (m ((c.tc : Thread Cert.FoxXIdeal.nD Cert.FoxXIdeal.τ).loc Cert.FoxXIdeal.main_arg2)) (m ((c.tc : Thread Cert.FoxXIdeal.nD Cert.FoxXIdeal.τ).loc Cert.FoxXIdeal.main_arg3))).2.1 = (fun _ => 1#1)
    ∧ (Cert.Pre_finite_fox.fn (F := Ideal) (m ((c.tc : Thread Cert.FoxXIdeal.nD Cert.FoxXIdeal.τ).loc Cert.FoxXIdeal.main_arg0)) (m ((c.tc : Thread Cert.FoxXIdeal.nD Cert.FoxXIdeal.τ).loc Cert.FoxXIdeal.main_arg1)) (m ((c.tc : Thread Cert.FoxXIdeal.nD Cert.FoxXIdeal.τ).loc Cert.FoxXIdeal.main_arg2)) (m ((c.tc : Thread Cert.FoxXIdeal.nD Cert.FoxXIdeal.τ).loc Cert.FoxXIdeal.main_arg3))).2.2.1 = (fun _ => 1#1)
    ∧ (Cert.Pre_finite_fox.fn (F := Ideal) (m ((c.tc : Thread Cert.FoxXIdeal.nD Cert.FoxXIdeal.τ).loc Cert.FoxXIdeal.main_arg0)) (m ((c.tc : Thread Cert.FoxXIdeal.nD Cert.FoxXIdeal.τ).loc Cert.FoxXIdeal.main_arg1)) (m ((c.tc : Thread Cert.FoxXIdeal.nD Cert.FoxXIdeal.τ).loc Cert.FoxXIdeal.main_arg2)) (m ((c.tc : Thread Cert.FoxXIdeal.nD Cert.FoxXIdeal.τ).loc Cert.FoxXIdeal.main_arg3))).2.2.2.1 = (fun _ => 1#1)
    ∧ (Cert.Pre_finite_fox.fn (F := Ideal) (m ((c.tc : Thread Cert.FoxXIdeal.nD Cert.FoxXIdeal.τ).loc Cert.FoxXIdeal.main_arg0)) (m ((c.tc : Thread Cert.FoxXIdeal.nD Cert.FoxXIdeal.τ).loc Cert.FoxXIdeal.main_arg1)) (m ((c.tc : Thread Cert.FoxXIdeal.nD Cert.FoxXIdeal.τ).loc Cert.FoxXIdeal.main_arg2)) (m ((c.tc : Thread Cert.FoxXIdeal.nD Cert.FoxXIdeal.τ).loc Cert.FoxXIdeal.main_arg3))).2.2.2.2 = (fun _ => 1#1)

def Pre_FoxXReferenceIdeal (m : (ℓ : Loc Cert.FoxXReferenceIdeal.nD Cert.FoxXReferenceIdeal.τ Cert.FoxXReferenceIdeal.sig) → Buf (Elt Ideal) ℓ) : Prop :=
  True

def Pre_FoxXReferenceIdeal_finite_fox [hPre_finite_fox : Cert.Pre_finite_fox.Facts] (m : (ℓ : Loc Cert.FoxXReferenceIdeal.nD Cert.FoxXReferenceIdeal.τ Cert.FoxXReferenceIdeal.sig) → Buf (Elt Ideal) ℓ) : Prop :=
  ∀ c : Dev Cert.FoxXReferenceIdeal.nD,
    (Cert.Pre_finite_fox.fn (F := Ideal) (m ((c.tc : Thread Cert.FoxXReferenceIdeal.nD Cert.FoxXReferenceIdeal.τ).loc Cert.FoxXReferenceIdeal.main_arg0)) (m ((c.tc : Thread Cert.FoxXReferenceIdeal.nD Cert.FoxXReferenceIdeal.τ).loc Cert.FoxXReferenceIdeal.main_arg1)) (m ((c.tc : Thread Cert.FoxXReferenceIdeal.nD Cert.FoxXReferenceIdeal.τ).loc Cert.FoxXReferenceIdeal.main_arg2)) (m ((c.tc : Thread Cert.FoxXReferenceIdeal.nD Cert.FoxXReferenceIdeal.τ).loc Cert.FoxXReferenceIdeal.main_arg3))).1 = (fun _ => 1#1)
    ∧ (Cert.Pre_finite_fox.fn (F := Ideal) (m ((c.tc : Thread Cert.FoxXReferenceIdeal.nD Cert.FoxXReferenceIdeal.τ).loc Cert.FoxXReferenceIdeal.main_arg0)) (m ((c.tc : Thread Cert.FoxXReferenceIdeal.nD Cert.FoxXReferenceIdeal.τ).loc Cert.FoxXReferenceIdeal.main_arg1)) (m ((c.tc : Thread Cert.FoxXReferenceIdeal.nD Cert.FoxXReferenceIdeal.τ).loc Cert.FoxXReferenceIdeal.main_arg2)) (m ((c.tc : Thread Cert.FoxXReferenceIdeal.nD Cert.FoxXReferenceIdeal.τ).loc Cert.FoxXReferenceIdeal.main_arg3))).2.1 = (fun _ => 1#1)
    ∧ (Cert.Pre_finite_fox.fn (F := Ideal) (m ((c.tc : Thread Cert.FoxXReferenceIdeal.nD Cert.FoxXReferenceIdeal.τ).loc Cert.FoxXReferenceIdeal.main_arg0)) (m ((c.tc : Thread Cert.FoxXReferenceIdeal.nD Cert.FoxXReferenceIdeal.τ).loc Cert.FoxXReferenceIdeal.main_arg1)) (m ((c.tc : Thread Cert.FoxXReferenceIdeal.nD Cert.FoxXReferenceIdeal.τ).loc Cert.FoxXReferenceIdeal.main_arg2)) (m ((c.tc : Thread Cert.FoxXReferenceIdeal.nD Cert.FoxXReferenceIdeal.τ).loc Cert.FoxXReferenceIdeal.main_arg3))).2.2.1 = (fun _ => 1#1)
    ∧ (Cert.Pre_finite_fox.fn (F := Ideal) (m ((c.tc : Thread Cert.FoxXReferenceIdeal.nD Cert.FoxXReferenceIdeal.τ).loc Cert.FoxXReferenceIdeal.main_arg0)) (m ((c.tc : Thread Cert.FoxXReferenceIdeal.nD Cert.FoxXReferenceIdeal.τ).loc Cert.FoxXReferenceIdeal.main_arg1)) (m ((c.tc : Thread Cert.FoxXReferenceIdeal.nD Cert.FoxXReferenceIdeal.τ).loc Cert.FoxXReferenceIdeal.main_arg2)) (m ((c.tc : Thread Cert.FoxXReferenceIdeal.nD Cert.FoxXReferenceIdeal.τ).loc Cert.FoxXReferenceIdeal.main_arg3))).2.2.2.1 = (fun _ => 1#1)
    ∧ (Cert.Pre_finite_fox.fn (F := Ideal) (m ((c.tc : Thread Cert.FoxXReferenceIdeal.nD Cert.FoxXReferenceIdeal.τ).loc Cert.FoxXReferenceIdeal.main_arg0)) (m ((c.tc : Thread Cert.FoxXReferenceIdeal.nD Cert.FoxXReferenceIdeal.τ).loc Cert.FoxXReferenceIdeal.main_arg1)) (m ((c.tc : Thread Cert.FoxXReferenceIdeal.nD Cert.FoxXReferenceIdeal.τ).loc Cert.FoxXReferenceIdeal.main_arg2)) (m ((c.tc : Thread Cert.FoxXReferenceIdeal.nD Cert.FoxXReferenceIdeal.τ).loc Cert.FoxXReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnInX [hFfnInX : Cert.FfnInX.Facts] : Prop :=
  ∀ (m : (ℓ : Loc Cert.FfnInX.nD Cert.FfnInX.τ Cert.FfnInX.sig) → Buf (Elt Bits) ℓ) (g : Dev Cert.FfnInX.nD → PrngReg), Pre_FfnInX m →
    θ_run (Cert.FfnInX.defs (F := Bits)) (onTc (τ := Cert.FfnInX.τ) (Cert.FfnInX.main (F := Bits))) ⟨m, fun _ => 0, g⟩ (fun r => (∀ c : Dev Cert.FfnInX.nD,
      r.2.mem ((c.tc : Thread Cert.FfnInX.nD Cert.FfnInX.τ).loc Cert.FfnInX.main_arg0) = m ((c.tc : Thread Cert.FfnInX.nD Cert.FfnInX.τ).loc Cert.FfnInX.main_arg0)
      ∧ r.2.mem ((c.tc : Thread Cert.FfnInX.nD Cert.FfnInX.τ).loc Cert.FfnInX.main_arg1) = m ((c.tc : Thread Cert.FfnInX.nD Cert.FfnInX.τ).loc Cert.FfnInX.main_arg1)
      ∧ r.2.mem ((c.tc : Thread Cert.FfnInX.nD Cert.FfnInX.τ).loc Cert.FfnInX.main_arg2) = m ((c.tc : Thread Cert.FfnInX.nD Cert.FfnInX.τ).loc Cert.FfnInX.main_arg2)
      ∧ r.2.mem ((c.tc : Thread Cert.FfnInX.nD Cert.FfnInX.τ).loc Cert.FfnInX.main_arg3) = m ((c.tc : Thread Cert.FfnInX.nD Cert.FfnInX.τ).loc Cert.FfnInX.main_arg3)
      ∧ r.2.mem ((c.tc : Thread Cert.FfnInX.nD Cert.FfnInX.τ).loc Cert.FfnInX.main_arg4) = m ((c.tc : Thread Cert.FfnInX.nD Cert.FfnInX.τ).loc Cert.FfnInX.main_arg4))
      ∧ r.2.sem = fun _ => 0)

def quiescent_FfnInXIdeal [hFfnInXIdeal : Cert.FfnInXIdeal.Facts] : Prop :=
  ∀ (m : (ℓ : Loc Cert.FfnInXIdeal.nD Cert.FfnInXIdeal.τ Cert.FfnInXIdeal.sig) → Buf (Elt Ideal) ℓ) (g : Dev Cert.FfnInXIdeal.nD → PrngReg), Pre_FfnInXIdeal m →
    θ_run (Cert.FfnInXIdeal.defs (F := Ideal)) (onTc (τ := Cert.FfnInXIdeal.τ) (Cert.FfnInXIdeal.main (F := Ideal))) ⟨m, fun _ => 0, g⟩ (fun r => (∀ c : Dev Cert.FfnInXIdeal.nD,
      r.2.mem ((c.tc : Thread Cert.FfnInXIdeal.nD Cert.FfnInXIdeal.τ).loc Cert.FfnInXIdeal.main_arg0) = m ((c.tc : Thread Cert.FfnInXIdeal.nD Cert.FfnInXIdeal.τ).loc Cert.FfnInXIdeal.main_arg0)
      ∧ r.2.mem ((c.tc : Thread Cert.FfnInXIdeal.nD Cert.FfnInXIdeal.τ).loc Cert.FfnInXIdeal.main_arg1) = m ((c.tc : Thread Cert.FfnInXIdeal.nD Cert.FfnInXIdeal.τ).loc Cert.FfnInXIdeal.main_arg1)
      ∧ r.2.mem ((c.tc : Thread Cert.FfnInXIdeal.nD Cert.FfnInXIdeal.τ).loc Cert.FfnInXIdeal.main_arg2) = m ((c.tc : Thread Cert.FfnInXIdeal.nD Cert.FfnInXIdeal.τ).loc Cert.FfnInXIdeal.main_arg2)
      ∧ r.2.mem ((c.tc : Thread Cert.FfnInXIdeal.nD Cert.FfnInXIdeal.τ).loc Cert.FfnInXIdeal.main_arg3) = m ((c.tc : Thread Cert.FfnInXIdeal.nD Cert.FfnInXIdeal.τ).loc Cert.FfnInXIdeal.main_arg3)
      ∧ r.2.mem ((c.tc : Thread Cert.FfnInXIdeal.nD Cert.FfnInXIdeal.τ).loc Cert.FfnInXIdeal.main_arg4) = m ((c.tc : Thread Cert.FfnInXIdeal.nD Cert.FfnInXIdeal.τ).loc Cert.FfnInXIdeal.main_arg4))
      ∧ r.2.sem = fun _ => 0)

def quiescent_FfnInXReferenceIdeal [hFfnInXReferenceIdeal : Cert.FfnInXReferenceIdeal.Facts] : Prop :=
  ∀ (m : (ℓ : Loc Cert.FfnInXReferenceIdeal.nD Cert.FfnInXReferenceIdeal.τ Cert.FfnInXReferenceIdeal.sig) → Buf (Elt Ideal) ℓ) (g : Dev Cert.FfnInXReferenceIdeal.nD → PrngReg), Pre_FfnInXReferenceIdeal m →
    θ_run (Cert.FfnInXReferenceIdeal.defs (F := Ideal)) (onTc (τ := Cert.FfnInXReferenceIdeal.τ) (Cert.FfnInXReferenceIdeal.main (F := Ideal))) ⟨m, fun _ => 0, g⟩ (fun r => (∀ c : Dev Cert.FfnInXReferenceIdeal.nD,
      r.2.mem ((c.tc : Thread Cert.FfnInXReferenceIdeal.nD Cert.FfnInXReferenceIdeal.τ).loc Cert.FfnInXReferenceIdeal.main_arg0) = m ((c.tc : Thread Cert.FfnInXReferenceIdeal.nD Cert.FfnInXReferenceIdeal.τ).loc Cert.FfnInXReferenceIdeal.main_arg0)
      ∧ r.2.mem ((c.tc : Thread Cert.FfnInXReferenceIdeal.nD Cert.FfnInXReferenceIdeal.τ).loc Cert.FfnInXReferenceIdeal.main_arg1) = m ((c.tc : Thread Cert.FfnInXReferenceIdeal.nD Cert.FfnInXReferenceIdeal.τ).loc Cert.FfnInXReferenceIdeal.main_arg1)
      ∧ r.2.mem ((c.tc : Thread Cert.FfnInXReferenceIdeal.nD Cert.FfnInXReferenceIdeal.τ).loc Cert.FfnInXReferenceIdeal.main_arg2) = m ((c.tc : Thread Cert.FfnInXReferenceIdeal.nD Cert.FfnInXReferenceIdeal.τ).loc Cert.FfnInXReferenceIdeal.main_arg2)
      ∧ r.2.mem ((c.tc : Thread Cert.FfnInXReferenceIdeal.nD Cert.FfnInXReferenceIdeal.τ).loc Cert.FfnInXReferenceIdeal.main_arg3) = m ((c.tc : Thread Cert.FfnInXReferenceIdeal.nD Cert.FfnInXReferenceIdeal.τ).loc Cert.FfnInXReferenceIdeal.main_arg3)
      ∧ r.2.mem ((c.tc : Thread Cert.FfnInXReferenceIdeal.nD Cert.FfnInXReferenceIdeal.τ).loc Cert.FfnInXReferenceIdeal.main_arg4) = m ((c.tc : Thread Cert.FfnInXReferenceIdeal.nD Cert.FfnInXReferenceIdeal.τ).loc Cert.FfnInXReferenceIdeal.main_arg4))
      ∧ r.2.sem = fun _ => 0)

def quiescent_FfnOutX [hFfnOutX : Cert.FfnOutX.Facts] : Prop :=
  ∀ (m : (ℓ : Loc Cert.FfnOutX.nD Cert.FfnOutX.τ Cert.FfnOutX.sig) → Buf (Elt Bits) ℓ) (g : Dev Cert.FfnOutX.nD → PrngReg), Pre_FfnOutX m →
    θ_run (Cert.FfnOutX.defs (F := Bits)) (onTc (τ := Cert.FfnOutX.τ) (Cert.FfnOutX.main (F := Bits))) ⟨m, fun _ => 0, g⟩ (fun r => (∀ c : Dev Cert.FfnOutX.nD,
      r.2.mem ((c.tc : Thread Cert.FfnOutX.nD Cert.FfnOutX.τ).loc Cert.FfnOutX.main_arg0) = m ((c.tc : Thread Cert.FfnOutX.nD Cert.FfnOutX.τ).loc Cert.FfnOutX.main_arg0)
      ∧ r.2.mem ((c.tc : Thread Cert.FfnOutX.nD Cert.FfnOutX.τ).loc Cert.FfnOutX.main_arg1) = m ((c.tc : Thread Cert.FfnOutX.nD Cert.FfnOutX.τ).loc Cert.FfnOutX.main_arg1)
      ∧ r.2.mem ((c.tc : Thread Cert.FfnOutX.nD Cert.FfnOutX.τ).loc Cert.FfnOutX.main_arg2) = m ((c.tc : Thread Cert.FfnOutX.nD Cert.FfnOutX.τ).loc Cert.FfnOutX.main_arg2))
      ∧ r.2.sem = fun _ => 0)

def quiescent_FfnOutXIdeal [hFfnOutXIdeal : Cert.FfnOutXIdeal.Facts] : Prop :=
  ∀ (m : (ℓ : Loc Cert.FfnOutXIdeal.nD Cert.FfnOutXIdeal.τ Cert.FfnOutXIdeal.sig) → Buf (Elt Ideal) ℓ) (g : Dev Cert.FfnOutXIdeal.nD → PrngReg), Pre_FfnOutXIdeal m →
    θ_run (Cert.FfnOutXIdeal.defs (F := Ideal)) (onTc (τ := Cert.FfnOutXIdeal.τ) (Cert.FfnOutXIdeal.main (F := Ideal))) ⟨m, fun _ => 0, g⟩ (fun r => (∀ c : Dev Cert.FfnOutXIdeal.nD,
      r.2.mem ((c.tc : Thread Cert.FfnOutXIdeal.nD Cert.FfnOutXIdeal.τ).loc Cert.FfnOutXIdeal.main_arg0) = m ((c.tc : Thread Cert.FfnOutXIdeal.nD Cert.FfnOutXIdeal.τ).loc Cert.FfnOutXIdeal.main_arg0)
      ∧ r.2.mem ((c.tc : Thread Cert.FfnOutXIdeal.nD Cert.FfnOutXIdeal.τ).loc Cert.FfnOutXIdeal.main_arg1) = m ((c.tc : Thread Cert.FfnOutXIdeal.nD Cert.FfnOutXIdeal.τ).loc Cert.FfnOutXIdeal.main_arg1)
      ∧ r.2.mem ((c.tc : Thread Cert.FfnOutXIdeal.nD Cert.FfnOutXIdeal.τ).loc Cert.FfnOutXIdeal.main_arg2) = m ((c.tc : Thread Cert.FfnOutXIdeal.nD Cert.FfnOutXIdeal.τ).loc Cert.FfnOutXIdeal.main_arg2))
      ∧ r.2.sem = fun _ => 0)

def quiescent_FfnOutXIdeal_pre_finite [hFfnOutXIdeal : Cert.FfnOutXIdeal.Facts] [hPre_finite : Cert.Pre_finite.Facts] : Prop :=
  ∀ (m : (ℓ : Loc Cert.FfnOutXIdeal.nD Cert.FfnOutXIdeal.τ Cert.FfnOutXIdeal.sig) → Buf (Elt Ideal) ℓ) (g : Dev Cert.FfnOutXIdeal.nD → PrngReg), Pre_FfnOutXIdeal_finite m →
    θ_run (Cert.FfnOutXIdeal.defs (F := Ideal)) (onTc (τ := Cert.FfnOutXIdeal.τ) (Cert.FfnOutXIdeal.main (F := Ideal))) ⟨m, fun _ => 0, g⟩ (fun r => (∀ c : Dev Cert.FfnOutXIdeal.nD,
      r.2.mem ((c.tc : Thread Cert.FfnOutXIdeal.nD Cert.FfnOutXIdeal.τ).loc Cert.FfnOutXIdeal.main_arg0) = m ((c.tc : Thread Cert.FfnOutXIdeal.nD Cert.FfnOutXIdeal.τ).loc Cert.FfnOutXIdeal.main_arg0)
      ∧ r.2.mem ((c.tc : Thread Cert.FfnOutXIdeal.nD Cert.FfnOutXIdeal.τ).loc Cert.FfnOutXIdeal.main_arg1) = m ((c.tc : Thread Cert.FfnOutXIdeal.nD Cert.FfnOutXIdeal.τ).loc Cert.FfnOutXIdeal.main_arg1)
      ∧ r.2.mem ((c.tc : Thread Cert.FfnOutXIdeal.nD Cert.FfnOutXIdeal.τ).loc Cert.FfnOutXIdeal.main_arg2) = m ((c.tc : Thread Cert.FfnOutXIdeal.nD Cert.FfnOutXIdeal.τ).loc Cert.FfnOutXIdeal.main_arg2))
      ∧ r.2.sem = fun _ => 0)

def quiescent_FfnOutXReferenceIdeal [hFfnOutXReferenceIdeal : Cert.FfnOutXReferenceIdeal.Facts] : Prop :=
  ∀ (m : (ℓ : Loc Cert.FfnOutXReferenceIdeal.nD Cert.FfnOutXReferenceIdeal.τ Cert.FfnOutXReferenceIdeal.sig) → Buf (Elt Ideal) ℓ) (g : Dev Cert.FfnOutXReferenceIdeal.nD → PrngReg), Pre_FfnOutXReferenceIdeal m →
    θ_run (Cert.FfnOutXReferenceIdeal.defs (F := Ideal)) (onTc (τ := Cert.FfnOutXReferenceIdeal.τ) (Cert.FfnOutXReferenceIdeal.main (F := Ideal))) ⟨m, fun _ => 0, g⟩ (fun r => (∀ c : Dev Cert.FfnOutXReferenceIdeal.nD,
      r.2.mem ((c.tc : Thread Cert.FfnOutXReferenceIdeal.nD Cert.FfnOutXReferenceIdeal.τ).loc Cert.FfnOutXReferenceIdeal.main_arg0) = m ((c.tc : Thread Cert.FfnOutXReferenceIdeal.nD Cert.FfnOutXReferenceIdeal.τ).loc Cert.FfnOutXReferenceIdeal.main_arg0)
      ∧ r.2.mem ((c.tc : Thread Cert.FfnOutXReferenceIdeal.nD Cert.FfnOutXReferenceIdeal.τ).loc Cert.FfnOutXReferenceIdeal.main_arg1) = m ((c.tc : Thread Cert.FfnOutXReferenceIdeal.nD Cert.FfnOutXReferenceIdeal.τ).loc Cert.FfnOutXReferenceIdeal.main_arg1)
      ∧ r.2.mem ((c.tc : Thread Cert.FfnOutXReferenceIdeal.nD Cert.FfnOutXReferenceIdeal.τ).loc Cert.FfnOutXReferenceIdeal.main_arg2) = m ((c.tc : Thread Cert.FfnOutXReferenceIdeal.nD Cert.FfnOutXReferenceIdeal.τ).loc Cert.FfnOutXReferenceIdeal.main_arg2))
      ∧ r.2.sem = fun _ => 0)

def quiescent_FfnOutXReferenceIdeal_pre_finite [hFfnOutXReferenceIdeal : Cert.FfnOutXReferenceIdeal.Facts] [hPre_finite : Cert.Pre_finite.Facts] : Prop :=
  ∀ (m : (ℓ : Loc Cert.FfnOutXReferenceIdeal.nD Cert.FfnOutXReferenceIdeal.τ Cert.FfnOutXReferenceIdeal.sig) → Buf (Elt Ideal) ℓ) (g : Dev Cert.FfnOutXReferenceIdeal.nD → PrngReg), Pre_FfnOutXReferenceIdeal_finite m →
    θ_run (Cert.FfnOutXReferenceIdeal.defs (F := Ideal)) (onTc (τ := Cert.FfnOutXReferenceIdeal.τ) (Cert.FfnOutXReferenceIdeal.main (F := Ideal))) ⟨m, fun _ => 0, g⟩ (fun r => (∀ c : Dev Cert.FfnOutXReferenceIdeal.nD,
      r.2.mem ((c.tc : Thread Cert.FfnOutXReferenceIdeal.nD Cert.FfnOutXReferenceIdeal.τ).loc Cert.FfnOutXReferenceIdeal.main_arg0) = m ((c.tc : Thread Cert.FfnOutXReferenceIdeal.nD Cert.FfnOutXReferenceIdeal.τ).loc Cert.FfnOutXReferenceIdeal.main_arg0)
      ∧ r.2.mem ((c.tc : Thread Cert.FfnOutXReferenceIdeal.nD Cert.FfnOutXReferenceIdeal.τ).loc Cert.FfnOutXReferenceIdeal.main_arg1) = m ((c.tc : Thread Cert.FfnOutXReferenceIdeal.nD Cert.FfnOutXReferenceIdeal.τ).loc Cert.FfnOutXReferenceIdeal.main_arg1)
      ∧ r.2.mem ((c.tc : Thread Cert.FfnOutXReferenceIdeal.nD Cert.FfnOutXReferenceIdeal.τ).loc Cert.FfnOutXReferenceIdeal.main_arg2) = m ((c.tc : Thread Cert.FfnOutXReferenceIdeal.nD Cert.FfnOutXReferenceIdeal.τ).loc Cert.FfnOutXReferenceIdeal.main_arg2))
      ∧ r.2.sem = fun _ => 0)

def quiescent_FfnInW [hFfnInW : Cert.FfnInW.Facts] : Prop :=
  ∀ (m : (ℓ : Loc Cert.FfnInW.nD Cert.FfnInW.τ Cert.FfnInW.sig) → Buf (Elt Bits) ℓ) (g : Dev Cert.FfnInW.nD → PrngReg), Pre_FfnInW m →
    θ_run (Cert.FfnInW.defs (F := Bits)) (onTc (τ := Cert.FfnInW.τ) (Cert.FfnInW.main (F := Bits))) ⟨m, fun _ => 0, g⟩ (fun r => (∀ c : Dev Cert.FfnInW.nD,
      r.2.mem ((c.tc : Thread Cert.FfnInW.nD Cert.FfnInW.τ).loc Cert.FfnInW.main_arg0) = m ((c.tc : Thread Cert.FfnInW.nD Cert.FfnInW.τ).loc Cert.FfnInW.main_arg0)
      ∧ r.2.mem ((c.tc : Thread Cert.FfnInW.nD Cert.FfnInW.τ).loc Cert.FfnInW.main_arg1) = m ((c.tc : Thread Cert.FfnInW.nD Cert.FfnInW.τ).loc Cert.FfnInW.main_arg1))
      ∧ r.2.sem = fun _ => 0)

def quiescent_FfnInWIdeal [hFfnInWIdeal : Cert.FfnInWIdeal.Facts] : Prop :=
  ∀ (m : (ℓ : Loc Cert.FfnInWIdeal.nD Cert.FfnInWIdeal.τ Cert.FfnInWIdeal.sig) → Buf (Elt Ideal) ℓ) (g : Dev Cert.FfnInWIdeal.nD → PrngReg), Pre_FfnInWIdeal m →
    θ_run (Cert.FfnInWIdeal.defs (F := Ideal)) (onTc (τ := Cert.FfnInWIdeal.τ) (Cert.FfnInWIdeal.main (F := Ideal))) ⟨m, fun _ => 0, g⟩ (fun r => (∀ c : Dev Cert.FfnInWIdeal.nD,
      r.2.mem ((c.tc : Thread Cert.FfnInWIdeal.nD Cert.FfnInWIdeal.τ).loc Cert.FfnInWIdeal.main_arg0) = m ((c.tc : Thread Cert.FfnInWIdeal.nD Cert.FfnInWIdeal.τ).loc Cert.FfnInWIdeal.main_arg0)
      ∧ r.2.mem ((c.tc : Thread Cert.FfnInWIdeal.nD Cert.FfnInWIdeal.τ).loc Cert.FfnInWIdeal.main_arg1) = m ((c.tc : Thread Cert.FfnInWIdeal.nD Cert.FfnInWIdeal.τ).loc Cert.FfnInWIdeal.main_arg1))
      ∧ r.2.sem = fun _ => 0)

def quiescent_FfnInWReferenceIdeal [hFfnInWReferenceIdeal : Cert.FfnInWReferenceIdeal.Facts] : Prop :=
  ∀ (m : (ℓ : Loc Cert.FfnInWReferenceIdeal.nD Cert.FfnInWReferenceIdeal.τ Cert.FfnInWReferenceIdeal.sig) → Buf (Elt Ideal) ℓ) (g : Dev Cert.FfnInWReferenceIdeal.nD → PrngReg), Pre_FfnInWReferenceIdeal m →
    θ_run (Cert.FfnInWReferenceIdeal.defs (F := Ideal)) (onTc (τ := Cert.FfnInWReferenceIdeal.τ) (Cert.FfnInWReferenceIdeal.main (F := Ideal))) ⟨m, fun _ => 0, g⟩ (fun r => (∀ c : Dev Cert.FfnInWReferenceIdeal.nD,
      r.2.mem ((c.tc : Thread Cert.FfnInWReferenceIdeal.nD Cert.FfnInWReferenceIdeal.τ).loc Cert.FfnInWReferenceIdeal.main_arg0) = m ((c.tc : Thread Cert.FfnInWReferenceIdeal.nD Cert.FfnInWReferenceIdeal.τ).loc Cert.FfnInWReferenceIdeal.main_arg0)
      ∧ r.2.mem ((c.tc : Thread Cert.FfnInWReferenceIdeal.nD Cert.FfnInWReferenceIdeal.τ).loc Cert.FfnInWReferenceIdeal.main_arg1) = m ((c.tc : Thread Cert.FfnInWReferenceIdeal.nD Cert.FfnInWReferenceIdeal.τ).loc Cert.FfnInWReferenceIdeal.main_arg1))
      ∧ r.2.sem = fun _ => 0)

def quiescent_FfnOutW [hFfnOutW : Cert.FfnOutW.Facts] : Prop :=
  ∀ (m : (ℓ : Loc Cert.FfnOutW.nD Cert.FfnOutW.τ Cert.FfnOutW.sig) → Buf (Elt Bits) ℓ) (g : Dev Cert.FfnOutW.nD → PrngReg), Pre_FfnOutW m →
    θ_run (Cert.FfnOutW.defs (F := Bits)) (onTc (τ := Cert.FfnOutW.τ) (Cert.FfnOutW.main (F := Bits))) ⟨m, fun _ => 0, g⟩ (fun r => (∀ c : Dev Cert.FfnOutW.nD,
      r.2.mem ((c.tc : Thread Cert.FfnOutW.nD Cert.FfnOutW.τ).loc Cert.FfnOutW.main_arg0) = m ((c.tc : Thread Cert.FfnOutW.nD Cert.FfnOutW.τ).loc Cert.FfnOutW.main_arg0)
      ∧ r.2.mem ((c.tc : Thread Cert.FfnOutW.nD Cert.FfnOutW.τ).loc Cert.FfnOutW.main_arg1) = m ((c.tc : Thread Cert.FfnOutW.nD Cert.FfnOutW.τ).loc Cert.FfnOutW.main_arg1))
      ∧ r.2.sem = fun _ => 0)

def quiescent_FfnOutWIdeal [hFfnOutWIdeal : Cert.FfnOutWIdeal.Facts] : Prop :=
  ∀ (m : (ℓ : Loc Cert.FfnOutWIdeal.nD Cert.FfnOutWIdeal.τ Cert.FfnOutWIdeal.sig) → Buf (Elt Ideal) ℓ) (g : Dev Cert.FfnOutWIdeal.nD → PrngReg), Pre_FfnOutWIdeal m →
    θ_run (Cert.FfnOutWIdeal.defs (F := Ideal)) (onTc (τ := Cert.FfnOutWIdeal.τ) (Cert.FfnOutWIdeal.main (F := Ideal))) ⟨m, fun _ => 0, g⟩ (fun r => (∀ c : Dev Cert.FfnOutWIdeal.nD,
      r.2.mem ((c.tc : Thread Cert.FfnOutWIdeal.nD Cert.FfnOutWIdeal.τ).loc Cert.FfnOutWIdeal.main_arg0) = m ((c.tc : Thread Cert.FfnOutWIdeal.nD Cert.FfnOutWIdeal.τ).loc Cert.FfnOutWIdeal.main_arg0)
      ∧ r.2.mem ((c.tc : Thread Cert.FfnOutWIdeal.nD Cert.FfnOutWIdeal.τ).loc Cert.FfnOutWIdeal.main_arg1) = m ((c.tc : Thread Cert.FfnOutWIdeal.nD Cert.FfnOutWIdeal.τ).loc Cert.FfnOutWIdeal.main_arg1))
      ∧ r.2.sem = fun _ => 0)

def quiescent_FfnOutWReferenceIdeal [hFfnOutWReferenceIdeal : Cert.FfnOutWReferenceIdeal.Facts] : Prop :=
  ∀ (m : (ℓ : Loc Cert.FfnOutWReferenceIdeal.nD Cert.FfnOutWReferenceIdeal.τ Cert.FfnOutWReferenceIdeal.sig) → Buf (Elt Ideal) ℓ) (g : Dev Cert.FfnOutWReferenceIdeal.nD → PrngReg), Pre_FfnOutWReferenceIdeal m →
    θ_run (Cert.FfnOutWReferenceIdeal.defs (F := Ideal)) (onTc (τ := Cert.FfnOutWReferenceIdeal.τ) (Cert.FfnOutWReferenceIdeal.main (F := Ideal))) ⟨m, fun _ => 0, g⟩ (fun r => (∀ c : Dev Cert.FfnOutWReferenceIdeal.nD,
      r.2.mem ((c.tc : Thread Cert.FfnOutWReferenceIdeal.nD Cert.FfnOutWReferenceIdeal.τ).loc Cert.FfnOutWReferenceIdeal.main_arg0) = m ((c.tc : Thread Cert.FfnOutWReferenceIdeal.nD Cert.FfnOutWReferenceIdeal.τ).loc Cert.FfnOutWReferenceIdeal.main_arg0)
      ∧ r.2.mem ((c.tc : Thread Cert.FfnOutWReferenceIdeal.nD Cert.FfnOutWReferenceIdeal.τ).loc Cert.FfnOutWReferenceIdeal.main_arg1) = m ((c.tc : Thread Cert.FfnOutWReferenceIdeal.nD Cert.FfnOutWReferenceIdeal.τ).loc Cert.FfnOutWReferenceIdeal.main_arg1))
      ∧ r.2.sem = fun _ => 0)

def quiescent_ProjX [hProjX : Cert.ProjX.Facts] : Prop :=
  ∀ (m : (ℓ : Loc Cert.ProjX.nD Cert.ProjX.τ Cert.ProjX.sig) → Buf (Elt Bits) ℓ) (g : Dev Cert.ProjX.nD → PrngReg), Pre_ProjX m →
    θ_run (Cert.ProjX.defs (F := Bits)) (onTc (τ := Cert.ProjX.τ) (Cert.ProjX.main (F := Bits))) ⟨m, fun _ => 0, g⟩ (fun r => (∀ c : Dev Cert.ProjX.nD,
      r.2.mem ((c.tc : Thread Cert.ProjX.nD Cert.ProjX.τ).loc Cert.ProjX.main_arg0) = m ((c.tc : Thread Cert.ProjX.nD Cert.ProjX.τ).loc Cert.ProjX.main_arg0)
      ∧ r.2.mem ((c.tc : Thread Cert.ProjX.nD Cert.ProjX.τ).loc Cert.ProjX.main_arg1) = m ((c.tc : Thread Cert.ProjX.nD Cert.ProjX.τ).loc Cert.ProjX.main_arg1)
      ∧ r.2.mem ((c.tc : Thread Cert.ProjX.nD Cert.ProjX.τ).loc Cert.ProjX.main_arg2) = m ((c.tc : Thread Cert.ProjX.nD Cert.ProjX.τ).loc Cert.ProjX.main_arg2)
      ∧ r.2.mem ((c.tc : Thread Cert.ProjX.nD Cert.ProjX.τ).loc Cert.ProjX.main_arg3) = m ((c.tc : Thread Cert.ProjX.nD Cert.ProjX.τ).loc Cert.ProjX.main_arg3)
      ∧ r.2.mem ((c.tc : Thread Cert.ProjX.nD Cert.ProjX.τ).loc Cert.ProjX.main_arg4) = m ((c.tc : Thread Cert.ProjX.nD Cert.ProjX.τ).loc Cert.ProjX.main_arg4)
      ∧ r.2.mem ((c.tc : Thread Cert.ProjX.nD Cert.ProjX.τ).loc Cert.ProjX.main_arg5) = m ((c.tc : Thread Cert.ProjX.nD Cert.ProjX.τ).loc Cert.ProjX.main_arg5)
      ∧ r.2.mem ((c.tc : Thread Cert.ProjX.nD Cert.ProjX.τ).loc Cert.ProjX.main_arg6) = m ((c.tc : Thread Cert.ProjX.nD Cert.ProjX.τ).loc Cert.ProjX.main_arg6))
      ∧ r.2.sem = fun _ => 0)

def quiescent_ProjXIdeal [hProjXIdeal : Cert.ProjXIdeal.Facts] : Prop :=
  ∀ (m : (ℓ : Loc Cert.ProjXIdeal.nD Cert.ProjXIdeal.τ Cert.ProjXIdeal.sig) → Buf (Elt Ideal) ℓ) (g : Dev Cert.ProjXIdeal.nD → PrngReg), Pre_ProjXIdeal m →
    θ_run (Cert.ProjXIdeal.defs (F := Ideal)) (onTc (τ := Cert.ProjXIdeal.τ) (Cert.ProjXIdeal.main (F := Ideal))) ⟨m, fun _ => 0, g⟩ (fun r => (∀ c : Dev Cert.ProjXIdeal.nD,
      r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
      ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1)
      ∧ r.2.mem ((c.tc : Thread Cert.ProjXIdeal.nD Cert.ProjXIdeal.τ).loc Cert.ProjXIdeal.main_arg2) = m ((c.tc : Thread Cert.ProjXIdeal.nD Cert.ProjXIdeal.τ).loc Cert.ProjXIdeal.main_arg2)
      ∧ r.2.mem ((c.tc : Thread Cert.ProjXIdeal.nD Cert.ProjXIdeal.τ).loc Cert.ProjXIdeal.main_arg3) = m ((c.tc : Thread Cert.ProjXIdeal.nD Cert.ProjXIdeal.τ).loc Cert.ProjXIdeal.main_arg3)
      ∧ r.2.mem ((c.tc : Thread Cert.ProjXIdeal.nD Cert.ProjXIdeal.τ).loc Cert.ProjXIdeal.main_arg4) = m ((c.tc : Thread Cert.ProjXIdeal.nD Cert.ProjXIdeal.τ).loc Cert.ProjXIdeal.main_arg4)
      ∧ r.2.mem ((c.tc : Thread Cert.ProjXIdeal.nD Cert.ProjXIdeal.τ).loc Cert.ProjXIdeal.main_arg5) = m ((c.tc : Thread Cert.ProjXIdeal.nD Cert.ProjXIdeal.τ).loc Cert.ProjXIdeal.main_arg5)
      ∧ r.2.mem ((c.tc : Thread Cert.ProjXIdeal.nD Cert.ProjXIdeal.τ).loc Cert.ProjXIdeal.main_arg6) = m ((c.tc : Thread Cert.ProjXIdeal.nD Cert.ProjXIdeal.τ).loc Cert.ProjXIdeal.main_arg6))
      ∧ r.2.sem = fun _ => 0)

def quiescent_ProjXReferenceIdeal [hProjXReferenceIdeal : Cert.ProjXReferenceIdeal.Facts] : Prop :=
  ∀ (m : (ℓ : Loc Cert.ProjXReferenceIdeal.nD Cert.ProjXReferenceIdeal.τ Cert.ProjXReferenceIdeal.sig) → Buf (Elt Ideal) ℓ) (g : Dev Cert.ProjXReferenceIdeal.nD → PrngReg), Pre_ProjXReferenceIdeal m →
    θ_run (Cert.ProjXReferenceIdeal.defs (F := Ideal)) (onTc (τ := Cert.ProjXReferenceIdeal.τ) (Cert.ProjXReferenceIdeal.main (F := Ideal))) ⟨m, fun _ => 0, g⟩ (fun r => (∀ c : Dev Cert.ProjXReferenceIdeal.nD,
      r.2.mem ((c.tc : Thread Cert.ProjXReferenceIdeal.nD Cert.ProjXReferenceIdeal.τ).loc Cert.ProjXReferenceIdeal.main_arg0) = m ((c.tc : Thread Cert.ProjXReferenceIdeal.nD Cert.ProjXReferenceIdeal.τ).loc Cert.ProjXReferenceIdeal.main_arg0)
      ∧ r.2.mem ((c.tc : Thread Cert.ProjXReferenceIdeal.nD Cert.ProjXReferenceIdeal.τ).loc Cert.ProjXReferenceIdeal.main_arg1) = m ((c.tc : Thread Cert.ProjXReferenceIdeal.nD Cert.ProjXReferenceIdeal.τ).loc Cert.ProjXReferenceIdeal.main_arg1)
      ∧ r.2.mem ((c.tc : Thread Cert.ProjXReferenceIdeal.nD Cert.ProjXReferenceIdeal.τ).loc Cert.ProjXReferenceIdeal.main_arg2) = m ((c.tc : Thread Cert.ProjXReferenceIdeal.nD Cert.ProjXReferenceIdeal.τ).loc Cert.ProjXReferenceIdeal.main_arg2)
      ∧ r.2.mem ((c.tc : Thread Cert.ProjXReferenceIdeal.nD Cert.ProjXReferenceIdeal.τ).loc Cert.ProjXReferenceIdeal.main_arg3) = m ((c.tc : Thread Cert.ProjXReferenceIdeal.nD Cert.ProjXReferenceIdeal.τ).loc Cert.ProjXReferenceIdeal.main_arg3)
      ∧ r.2.mem ((c.tc : Thread Cert.ProjXReferenceIdeal.nD Cert.ProjXReferenceIdeal.τ).loc Cert.ProjXReferenceIdeal.main_arg4) = m ((c.tc : Thread Cert.ProjXReferenceIdeal.nD Cert.ProjXReferenceIdeal.τ).loc Cert.ProjXReferenceIdeal.main_arg4)
      ∧ r.2.mem ((c.tc : Thread Cert.ProjXReferenceIdeal.nD Cert.ProjXReferenceIdeal.τ).loc Cert.ProjXReferenceIdeal.main_arg5) = m ((c.tc : Thread Cert.ProjXReferenceIdeal.nD Cert.ProjXReferenceIdeal.τ).loc Cert.ProjXReferenceIdeal.main_arg5)
      ∧ r.2.mem ((c.tc : Thread Cert.ProjXReferenceIdeal.nD Cert.ProjXReferenceIdeal.τ).loc Cert.ProjXReferenceIdeal.main_arg6) = m ((c.tc : Thread Cert.ProjXReferenceIdeal.nD Cert.ProjXReferenceIdeal.τ).loc Cert.ProjXReferenceIdeal.main_arg6))
      ∧ r.2.sem = fun _ => 0)

def quiescent_ProjQkvW [hProjQkvW : Cert.ProjQkvW.Facts] : Prop :=
  ∀ (m : (ℓ : Loc Cert.ProjQkvW.nD Cert.ProjQkvW.τ Cert.ProjQkvW.sig) → Buf (Elt Bits) ℓ) (g : Dev Cert.ProjQkvW.nD → PrngReg), Pre_ProjQkvW m →
    θ_run (Cert.ProjQkvW.defs (F := Bits)) (onTc (τ := Cert.ProjQkvW.τ) (Cert.ProjQkvW.main (F := Bits))) ⟨m, fun _ => 0, g⟩ (fun r => (∀ c : Dev Cert.ProjQkvW.nD,
      r.2.mem ((c.tc : Thread Cert.ProjQkvW.nD Cert.ProjQkvW.τ).loc Cert.ProjQkvW.main_arg0) = m ((c.tc : Thread Cert.ProjQkvW.nD Cert.ProjQkvW.τ).loc Cert.ProjQkvW.main_arg0)
      ∧ r.2.mem ((c.tc : Thread Cert.ProjQkvW.nD Cert.ProjQkvW.τ).loc Cert.ProjQkvW.main_arg1) = m ((c.tc : Thread Cert.ProjQkvW.nD Cert.ProjQkvW.τ).loc Cert.ProjQkvW.main_arg1))
      ∧ r.2.sem = fun _ => 0)

def quiescent_ProjQkvWIdeal [hProjQkvWIdeal : Cert.ProjQkvWIdeal.Facts] : Prop :=
  ∀ (m : (ℓ : Loc Cert.ProjQkvWIdeal.nD Cert.ProjQkvWIdeal.τ Cert.ProjQkvWIdeal.sig) → Buf (Elt Ideal) ℓ) (g : Dev Cert.ProjQkvWIdeal.nD → PrngReg), Pre_ProjQkvWIdeal m →
    θ_run (Cert.ProjQkvWIdeal.defs (F := Ideal)) (onTc (τ := Cert.ProjQkvWIdeal.τ) (Cert.ProjQkvWIdeal.main (F := Ideal))) ⟨m, fun _ => 0, g⟩ (fun r => (∀ c : Dev Cert.ProjQkvWIdeal.nD,
      r.2.mem ((c.tc : Thread Cert.ProjQkvWIdeal.nD Cert.ProjQkvWIdeal.τ).loc Cert.ProjQkvWIdeal.main_arg0) = m ((c.tc : Thread Cert.ProjQkvWIdeal.nD Cert.ProjQkvWIdeal.τ).loc Cert.ProjQkvWIdeal.main_arg0)
      ∧ r.2.mem ((c.tc : Thread Cert.ProjQkvWIdeal.nD Cert.ProjQkvWIdeal.τ).loc Cert.ProjQkvWIdeal.main_arg1) = m ((c.tc : Thread Cert.ProjQkvWIdeal.nD Cert.ProjQkvWIdeal.τ).loc Cert.ProjQkvWIdeal.main_arg1))
      ∧ r.2.sem = fun _ => 0)

def quiescent_ProjQkvWReferenceIdeal [hProjQkvWReferenceIdeal : Cert.ProjQkvWReferenceIdeal.Facts] : Prop :=
  ∀ (m : (ℓ : Loc Cert.ProjQkvWReferenceIdeal.nD Cert.ProjQkvWReferenceIdeal.τ Cert.ProjQkvWReferenceIdeal.sig) → Buf (Elt Ideal) ℓ) (g : Dev Cert.ProjQkvWReferenceIdeal.nD → PrngReg), Pre_ProjQkvWReferenceIdeal m →
    θ_run (Cert.ProjQkvWReferenceIdeal.defs (F := Ideal)) (onTc (τ := Cert.ProjQkvWReferenceIdeal.τ) (Cert.ProjQkvWReferenceIdeal.main (F := Ideal))) ⟨m, fun _ => 0, g⟩ (fun r => (∀ c : Dev Cert.ProjQkvWReferenceIdeal.nD,
      r.2.mem ((c.tc : Thread Cert.ProjQkvWReferenceIdeal.nD Cert.ProjQkvWReferenceIdeal.τ).loc Cert.ProjQkvWReferenceIdeal.main_arg0) = m ((c.tc : Thread Cert.ProjQkvWReferenceIdeal.nD Cert.ProjQkvWReferenceIdeal.τ).loc Cert.ProjQkvWReferenceIdeal.main_arg0)
      ∧ r.2.mem ((c.tc : Thread Cert.ProjQkvWReferenceIdeal.nD Cert.ProjQkvWReferenceIdeal.τ).loc Cert.ProjQkvWReferenceIdeal.main_arg1) = m ((c.tc : Thread Cert.ProjQkvWReferenceIdeal.nD Cert.ProjQkvWReferenceIdeal.τ).loc Cert.ProjQkvWReferenceIdeal.main_arg1))
      ∧ r.2.sem = fun _ => 0)

def quiescent_ProjGatesW [hProjGatesW : Cert.ProjGatesW.Facts] : Prop :=
  ∀ (m : (ℓ : Loc Cert.ProjGatesW.nD Cert.ProjGatesW.τ Cert.ProjGatesW.sig) → Buf (Elt Bits) ℓ) (g : Dev Cert.ProjGatesW.nD → PrngReg), Pre_ProjGatesW m →
    θ_run (Cert.ProjGatesW.defs (F := Bits)) (onTc (τ := Cert.ProjGatesW.τ) (Cert.ProjGatesW.main (F := Bits))) ⟨m, fun _ => 0, g⟩ (fun r => (∀ c : Dev Cert.ProjGatesW.nD,
      r.2.mem ((c.tc : Thread Cert.ProjGatesW.nD Cert.ProjGatesW.τ).loc Cert.ProjGatesW.main_arg0) = m ((c.tc : Thread Cert.ProjGatesW.nD Cert.ProjGatesW.τ).loc Cert.ProjGatesW.main_arg0)
      ∧ r.2.mem ((c.tc : Thread Cert.ProjGatesW.nD Cert.ProjGatesW.τ).loc Cert.ProjGatesW.main_arg1) = m ((c.tc : Thread Cert.ProjGatesW.nD Cert.ProjGatesW.τ).loc Cert.ProjGatesW.main_arg1))
      ∧ r.2.sem = fun _ => 0)

def quiescent_ProjGatesWIdeal [hProjGatesWIdeal : Cert.ProjGatesWIdeal.Facts] : Prop :=
  ∀ (m : (ℓ : Loc Cert.ProjGatesWIdeal.nD Cert.ProjGatesWIdeal.τ Cert.ProjGatesWIdeal.sig) → Buf (Elt Ideal) ℓ) (g : Dev Cert.ProjGatesWIdeal.nD → PrngReg), Pre_ProjGatesWIdeal m →
    θ_run (Cert.ProjGatesWIdeal.defs (F := Ideal)) (onTc (τ := Cert.ProjGatesWIdeal.τ) (Cert.ProjGatesWIdeal.main (F := Ideal))) ⟨m, fun _ => 0, g⟩ (fun r => (∀ c : Dev Cert.ProjGatesWIdeal.nD,
      r.2.mem ((c.tc : Thread Cert.ProjGatesWIdeal.nD Cert.ProjGatesWIdeal.τ).loc Cert.ProjGatesWIdeal.main_arg0) = m ((c.tc : Thread Cert.ProjGatesWIdeal.nD Cert.ProjGatesWIdeal.τ).loc Cert.ProjGatesWIdeal.main_arg0)
      ∧ r.2.mem ((c.tc : Thread Cert.ProjGatesWIdeal.nD Cert.ProjGatesWIdeal.τ).loc Cert.ProjGatesWIdeal.main_arg1) = m ((c.tc : Thread Cert.ProjGatesWIdeal.nD Cert.ProjGatesWIdeal.τ).loc Cert.ProjGatesWIdeal.main_arg1))
      ∧ r.2.sem = fun _ => 0)

def quiescent_ProjGatesWReferenceIdeal [hProjGatesWReferenceIdeal : Cert.ProjGatesWReferenceIdeal.Facts] : Prop :=
  ∀ (m : (ℓ : Loc Cert.ProjGatesWReferenceIdeal.nD Cert.ProjGatesWReferenceIdeal.τ Cert.ProjGatesWReferenceIdeal.sig) → Buf (Elt Ideal) ℓ) (g : Dev Cert.ProjGatesWReferenceIdeal.nD → PrngReg), Pre_ProjGatesWReferenceIdeal m →
    θ_run (Cert.ProjGatesWReferenceIdeal.defs (F := Ideal)) (onTc (τ := Cert.ProjGatesWReferenceIdeal.τ) (Cert.ProjGatesWReferenceIdeal.main (F := Ideal))) ⟨m, fun _ => 0, g⟩ (fun r => (∀ c : Dev Cert.ProjGatesWReferenceIdeal.nD,
      r.2.mem ((c.tc : Thread Cert.ProjGatesWReferenceIdeal.nD Cert.ProjGatesWReferenceIdeal.τ).loc Cert.ProjGatesWReferenceIdeal.main_arg0) = m ((c.tc : Thread Cert.ProjGatesWReferenceIdeal.nD Cert.ProjGatesWReferenceIdeal.τ).loc Cert.ProjGatesWReferenceIdeal.main_arg0)
      ∧ r.2.mem ((c.tc : Thread Cert.ProjGatesWReferenceIdeal.nD Cert.ProjGatesWReferenceIdeal.τ).loc Cert.ProjGatesWReferenceIdeal.main_arg1) = m ((c.tc : Thread Cert.ProjGatesWReferenceIdeal.nD Cert.ProjGatesWReferenceIdeal.τ).loc Cert.ProjGatesWReferenceIdeal.main_arg1))
      ∧ r.2.sem = fun _ => 0)

def quiescent_ProjFW [hProjFW : Cert.ProjFW.Facts] : Prop :=
  ∀ (m : (ℓ : Loc Cert.ProjFW.nD Cert.ProjFW.τ Cert.ProjFW.sig) → Buf (Elt Bits) ℓ) (g : Dev Cert.ProjFW.nD → PrngReg), Pre_ProjFW m →
    θ_run (Cert.ProjFW.defs (F := Bits)) (onTc (τ := Cert.ProjFW.τ) (Cert.ProjFW.main (F := Bits))) ⟨m, fun _ => 0, g⟩ (fun r => (∀ c : Dev Cert.ProjFW.nD,
      r.2.mem ((c.tc : Thread Cert.ProjFW.nD Cert.ProjFW.τ).loc Cert.ProjFW.main_arg0) = m ((c.tc : Thread Cert.ProjFW.nD Cert.ProjFW.τ).loc Cert.ProjFW.main_arg0)
      ∧ r.2.mem ((c.tc : Thread Cert.ProjFW.nD Cert.ProjFW.τ).loc Cert.ProjFW.main_arg1) = m ((c.tc : Thread Cert.ProjFW.nD Cert.ProjFW.τ).loc Cert.ProjFW.main_arg1))
      ∧ r.2.sem = fun _ => 0)

def quiescent_ProjFWIdeal [hProjFWIdeal : Cert.ProjFWIdeal.Facts] : Prop :=
  ∀ (m : (ℓ : Loc Cert.ProjFWIdeal.nD Cert.ProjFWIdeal.τ Cert.ProjFWIdeal.sig) → Buf (Elt Ideal) ℓ) (g : Dev Cert.ProjFWIdeal.nD → PrngReg), Pre_ProjFWIdeal m →
    θ_run (Cert.ProjFWIdeal.defs (F := Ideal)) (onTc (τ := Cert.ProjFWIdeal.τ) (Cert.ProjFWIdeal.main (F := Ideal))) ⟨m, fun _ => 0, g⟩ (fun r => (∀ c : Dev Cert.ProjFWIdeal.nD,
      r.2.mem ((c.tc : Thread Cert.ProjFWIdeal.nD Cert.ProjFWIdeal.τ).loc Cert.ProjFWIdeal.main_arg0) = m ((c.tc : Thread Cert.ProjFWIdeal.nD Cert.ProjFWIdeal.τ).loc Cert.ProjFWIdeal.main_arg0)
      ∧ r.2.mem ((c.tc : Thread Cert.ProjFWIdeal.nD Cert.ProjFWIdeal.τ).loc Cert.ProjFWIdeal.main_arg1) = m ((c.tc : Thread Cert.ProjFWIdeal.nD Cert.ProjFWIdeal.τ).loc Cert.ProjFWIdeal.main_arg1))
      ∧ r.2.sem = fun _ => 0)

def quiescent_ProjFWReferenceIdeal [hProjFWReferenceIdeal : Cert.ProjFWReferenceIdeal.Facts] : Prop :=
  ∀ (m : (ℓ : Loc Cert.ProjFWReferenceIdeal.nD Cert.ProjFWReferenceIdeal.τ Cert.ProjFWReferenceIdeal.sig) → Buf (Elt Ideal) ℓ) (g : Dev Cert.ProjFWReferenceIdeal.nD → PrngReg), Pre_ProjFWReferenceIdeal m →
    θ_run (Cert.ProjFWReferenceIdeal.defs (F := Ideal)) (onTc (τ := Cert.ProjFWReferenceIdeal.τ) (Cert.ProjFWReferenceIdeal.main (F := Ideal))) ⟨m, fun _ => 0, g⟩ (fun r => (∀ c : Dev Cert.ProjFWReferenceIdeal.nD,
      r.2.mem ((c.tc : Thread Cert.ProjFWReferenceIdeal.nD Cert.ProjFWReferenceIdeal.τ).loc Cert.ProjFWReferenceIdeal.main_arg0) = m ((c.tc : Thread Cert.ProjFWReferenceIdeal.nD Cert.ProjFWReferenceIdeal.τ).loc Cert.ProjFWReferenceIdeal.main_arg0)
      ∧ r.2.mem ((c.tc : Thread Cert.ProjFWReferenceIdeal.nD Cert.ProjFWReferenceIdeal.τ).loc Cert.ProjFWReferenceIdeal.main_arg1) = m ((c.tc : Thread Cert.ProjFWReferenceIdeal.nD Cert.ProjFWReferenceIdeal.τ).loc Cert.ProjFWReferenceIdeal.main_arg1))
      ∧ r.2.sem = fun _ => 0)

def quiescent_MixOutW [hMixOutW : Cert.MixOutW.Facts] : Prop :=
  ∀ (m : (ℓ : Loc Cert.MixOutW.nD Cert.MixOutW.τ Cert.MixOutW.sig) → Buf (Elt Bits) ℓ) (g : Dev Cert.MixOutW.nD → PrngReg), Pre_MixOutW m →
    θ_run (Cert.MixOutW.defs (F := Bits)) (onTc (τ := Cert.MixOutW.τ) (Cert.MixOutW.main (F := Bits))) ⟨m, fun _ => 0, g⟩ (fun r => (∀ c : Dev Cert.MixOutW.nD,
      r.2.mem ((c.tc : Thread Cert.MixOutW.nD Cert.MixOutW.τ).loc Cert.MixOutW.main_arg0) = m ((c.tc : Thread Cert.MixOutW.nD Cert.MixOutW.τ).loc Cert.MixOutW.main_arg0)
      ∧ r.2.mem ((c.tc : Thread Cert.MixOutW.nD Cert.MixOutW.τ).loc Cert.MixOutW.main_arg1) = m ((c.tc : Thread Cert.MixOutW.nD Cert.MixOutW.τ).loc Cert.MixOutW.main_arg1))
      ∧ r.2.sem = fun _ => 0)

def quiescent_MixOutWIdeal [hMixOutWIdeal : Cert.MixOutWIdeal.Facts] : Prop :=
  ∀ (m : (ℓ : Loc Cert.MixOutWIdeal.nD Cert.MixOutWIdeal.τ Cert.MixOutWIdeal.sig) → Buf (Elt Ideal) ℓ) (g : Dev Cert.MixOutWIdeal.nD → PrngReg), Pre_MixOutWIdeal m →
    θ_run (Cert.MixOutWIdeal.defs (F := Ideal)) (onTc (τ := Cert.MixOutWIdeal.τ) (Cert.MixOutWIdeal.main (F := Ideal))) ⟨m, fun _ => 0, g⟩ (fun r => (∀ c : Dev Cert.MixOutWIdeal.nD,
      r.2.mem ((c.tc : Thread Cert.MixOutWIdeal.nD Cert.MixOutWIdeal.τ).loc Cert.MixOutWIdeal.main_arg0) = m ((c.tc : Thread Cert.MixOutWIdeal.nD Cert.MixOutWIdeal.τ).loc Cert.MixOutWIdeal.main_arg0)
      ∧ r.2.mem ((c.tc : Thread Cert.MixOutWIdeal.nD Cert.MixOutWIdeal.τ).loc Cert.MixOutWIdeal.main_arg1) = m ((c.tc : Thread Cert.MixOutWIdeal.nD Cert.MixOutWIdeal.τ).loc Cert.MixOutWIdeal.main_arg1))
      ∧ r.2.sem = fun _ => 0)

def quiescent_MixOutWReferenceIdeal [hMixOutWReferenceIdeal : Cert.MixOutWReferenceIdeal.Facts] : Prop :=
  ∀ (m : (ℓ : Loc Cert.MixOutWReferenceIdeal.nD Cert.MixOutWReferenceIdeal.τ Cert.MixOutWReferenceIdeal.sig) → Buf (Elt Ideal) ℓ) (g : Dev Cert.MixOutWReferenceIdeal.nD → PrngReg), Pre_MixOutWReferenceIdeal m →
    θ_run (Cert.MixOutWReferenceIdeal.defs (F := Ideal)) (onTc (τ := Cert.MixOutWReferenceIdeal.τ) (Cert.MixOutWReferenceIdeal.main (F := Ideal))) ⟨m, fun _ => 0, g⟩ (fun r => (∀ c : Dev Cert.MixOutWReferenceIdeal.nD,
      r.2.mem ((c.tc : Thread Cert.MixOutWReferenceIdeal.nD Cert.MixOutWReferenceIdeal.τ).loc Cert.MixOutWReferenceIdeal.main_arg0) = m ((c.tc : Thread Cert.MixOutWReferenceIdeal.nD Cert.MixOutWReferenceIdeal.τ).loc Cert.MixOutWReferenceIdeal.main_arg0)
      ∧ r.2.mem ((c.tc : Thread Cert.MixOutWReferenceIdeal.nD Cert.MixOutWReferenceIdeal.τ).loc Cert.MixOutWReferenceIdeal.main_arg1) = m ((c.tc : Thread Cert.MixOutWReferenceIdeal.nD Cert.MixOutWReferenceIdeal.τ).loc Cert.MixOutWReferenceIdeal.main_arg1))
      ∧ r.2.sem = fun _ => 0)

def quiescent_BranchX [hBranchX : Cert.BranchX.Facts] : Prop :=
  ∀ (m : (ℓ : Loc Cert.BranchX.nD Cert.BranchX.τ Cert.BranchX.sig) → Buf (Elt Bits) ℓ) (g : Dev Cert.BranchX.nD → PrngReg), Pre_BranchX m →
    θ_run (Cert.BranchX.defs (F := Bits)) (onTc (τ := Cert.BranchX.τ) (Cert.BranchX.main (F := Bits))) ⟨m, fun _ => 0, g⟩ (fun r => (∀ c : Dev Cert.BranchX.nD,
      r.2.mem ((c.tc : Thread Cert.BranchX.nD Cert.BranchX.τ).loc Cert.BranchX.main_arg0) = m ((c.tc : Thread Cert.BranchX.nD Cert.BranchX.τ).loc Cert.BranchX.main_arg0)
      ∧ r.2.mem ((c.tc : Thread Cert.BranchX.nD Cert.BranchX.τ).loc Cert.BranchX.main_arg1) = m ((c.tc : Thread Cert.BranchX.nD Cert.BranchX.τ).loc Cert.BranchX.main_arg1)
      ∧ r.2.mem ((c.tc : Thread Cert.BranchX.nD Cert.BranchX.τ).loc Cert.BranchX.main_arg2) = m ((c.tc : Thread Cert.BranchX.nD Cert.BranchX.τ).loc Cert.BranchX.main_arg2)
      ∧ r.2.mem ((c.tc : Thread Cert.BranchX.nD Cert.BranchX.τ).loc Cert.BranchX.main_arg3) = m ((c.tc : Thread Cert.BranchX.nD Cert.BranchX.τ).loc Cert.BranchX.main_arg3))
      ∧ r.2.sem = fun _ => 0)

def quiescent_BranchXIdeal [hBranchXIdeal : Cert.BranchXIdeal.Facts] : Prop :=
  ∀ (m : (ℓ : Loc Cert.BranchXIdeal.nD Cert.BranchXIdeal.τ Cert.BranchXIdeal.sig) → Buf (Elt Ideal) ℓ) (g : Dev Cert.BranchXIdeal.nD → PrngReg), Pre_BranchXIdeal m →
    θ_run (Cert.BranchXIdeal.defs (F := Ideal)) (onTc (τ := Cert.BranchXIdeal.τ) (Cert.BranchXIdeal.main (F := Ideal))) ⟨m, fun _ => 0, g⟩ (fun r => (∀ c : Dev Cert.BranchXIdeal.nD,
      r.2.mem ((c.tc : Thread Cert.BranchXIdeal.nD Cert.BranchXIdeal.τ).loc Cert.BranchXIdeal.main_arg0) = m ((c.tc : Thread Cert.BranchXIdeal.nD Cert.BranchXIdeal.τ).loc Cert.BranchXIdeal.main_arg0)
      ∧ r.2.mem ((c.tc : Thread Cert.BranchXIdeal.nD Cert.BranchXIdeal.τ).loc Cert.BranchXIdeal.main_arg1) = m ((c.tc : Thread Cert.BranchXIdeal.nD Cert.BranchXIdeal.τ).loc Cert.BranchXIdeal.main_arg1)
      ∧ r.2.mem ((c.tc : Thread Cert.BranchXIdeal.nD Cert.BranchXIdeal.τ).loc Cert.BranchXIdeal.main_arg2) = m ((c.tc : Thread Cert.BranchXIdeal.nD Cert.BranchXIdeal.τ).loc Cert.BranchXIdeal.main_arg2)
      ∧ r.2.mem ((c.tc : Thread Cert.BranchXIdeal.nD Cert.BranchXIdeal.τ).loc Cert.BranchXIdeal.main_arg3) = m ((c.tc : Thread Cert.BranchXIdeal.nD Cert.BranchXIdeal.τ).loc Cert.BranchXIdeal.main_arg3))
      ∧ r.2.sem = fun _ => 0)

def quiescent_BranchXReferenceIdeal [hBranchXReferenceIdeal : Cert.BranchXReferenceIdeal.Facts] : Prop :=
  ∀ (m : (ℓ : Loc Cert.BranchXReferenceIdeal.nD Cert.BranchXReferenceIdeal.τ Cert.BranchXReferenceIdeal.sig) → Buf (Elt Ideal) ℓ) (g : Dev Cert.BranchXReferenceIdeal.nD → PrngReg), Pre_BranchXReferenceIdeal m →
    θ_run (Cert.BranchXReferenceIdeal.defs (F := Ideal)) (onTc (τ := Cert.BranchXReferenceIdeal.τ) (Cert.BranchXReferenceIdeal.main (F := Ideal))) ⟨m, fun _ => 0, g⟩ (fun r => (∀ c : Dev Cert.BranchXReferenceIdeal.nD,
      r.2.mem ((c.tc : Thread Cert.BranchXReferenceIdeal.nD Cert.BranchXReferenceIdeal.τ).loc Cert.BranchXReferenceIdeal.main_arg0) = m ((c.tc : Thread Cert.BranchXReferenceIdeal.nD Cert.BranchXReferenceIdeal.τ).loc Cert.BranchXReferenceIdeal.main_arg0)
      ∧ r.2.mem ((c.tc : Thread Cert.BranchXReferenceIdeal.nD Cert.BranchXReferenceIdeal.τ).loc Cert.BranchXReferenceIdeal.main_arg1) = m ((c.tc : Thread Cert.BranchXReferenceIdeal.nD Cert.BranchXReferenceIdeal.τ).loc Cert.BranchXReferenceIdeal.main_arg1)
      ∧ r.2.mem ((c.tc : Thread Cert.BranchXReferenceIdeal.nD Cert.BranchXReferenceIdeal.τ).loc Cert.BranchXReferenceIdeal.main_arg2) = m ((c.tc : Thread Cert.BranchXReferenceIdeal.nD Cert.BranchXReferenceIdeal.τ).loc Cert.BranchXReferenceIdeal.main_arg2)
      ∧ r.2.mem ((c.tc : Thread Cert.BranchXReferenceIdeal.nD Cert.BranchXReferenceIdeal.τ).loc Cert.BranchXReferenceIdeal.main_arg3) = m ((c.tc : Thread Cert.BranchXReferenceIdeal.nD Cert.BranchXReferenceIdeal.τ).loc Cert.BranchXReferenceIdeal.main_arg3))
      ∧ r.2.sem = fun _ => 0)

def quiescent_BranchW [hBranchW : Cert.BranchW.Facts] : Prop :=
  ∀ (m : (ℓ : Loc Cert.BranchW.nD Cert.BranchW.τ Cert.BranchW.sig) → Buf (Elt Bits) ℓ) (g : Dev Cert.BranchW.nD → PrngReg), Pre_BranchW m →
    θ_run (Cert.BranchW.defs (F := Bits)) (onTc (τ := Cert.BranchW.τ) (Cert.BranchW.main (F := Bits))) ⟨m, fun _ => 0, g⟩ (fun r => (∀ c : Dev Cert.BranchW.nD,
      r.2.mem ((c.tc : Thread Cert.BranchW.nD Cert.BranchW.τ).loc Cert.BranchW.main_arg0) = m ((c.tc : Thread Cert.BranchW.nD Cert.BranchW.τ).loc Cert.BranchW.main_arg0)
      ∧ r.2.mem ((c.tc : Thread Cert.BranchW.nD Cert.BranchW.τ).loc Cert.BranchW.main_arg1) = m ((c.tc : Thread Cert.BranchW.nD Cert.BranchW.τ).loc Cert.BranchW.main_arg1)
      ∧ r.2.mem ((c.tc : Thread Cert.BranchW.nD Cert.BranchW.τ).loc Cert.BranchW.main_arg2) = m ((c.tc : Thread Cert.BranchW.nD Cert.BranchW.τ).loc Cert.BranchW.main_arg2)
      ∧ r.2.mem ((c.tc : Thread Cert.BranchW.nD Cert.BranchW.τ).loc Cert.BranchW.main_arg3) = m ((c.tc : Thread Cert.BranchW.nD Cert.BranchW.τ).loc Cert.BranchW.main_arg3))
      ∧ r.2.sem = fun _ => 0)

def quiescent_BranchWIdeal [hBranchWIdeal : Cert.BranchWIdeal.Facts] : Prop :=
  ∀ (m : (ℓ : Loc Cert.BranchWIdeal.nD Cert.BranchWIdeal.τ Cert.BranchWIdeal.sig) → Buf (Elt Ideal) ℓ) (g : Dev Cert.BranchWIdeal.nD → PrngReg), Pre_BranchWIdeal m →
    θ_run (Cert.BranchWIdeal.defs (F := Ideal)) (onTc (τ := Cert.BranchWIdeal.τ) (Cert.BranchWIdeal.main (F := Ideal))) ⟨m, fun _ => 0, g⟩ (fun r => (∀ c : Dev Cert.BranchWIdeal.nD,
      r.2.mem ((c.tc : Thread Cert.BranchWIdeal.nD Cert.BranchWIdeal.τ).loc Cert.BranchWIdeal.main_arg0) = m ((c.tc : Thread Cert.BranchWIdeal.nD Cert.BranchWIdeal.τ).loc Cert.BranchWIdeal.main_arg0)
      ∧ r.2.mem ((c.tc : Thread Cert.BranchWIdeal.nD Cert.BranchWIdeal.τ).loc Cert.BranchWIdeal.main_arg1) = m ((c.tc : Thread Cert.BranchWIdeal.nD Cert.BranchWIdeal.τ).loc Cert.BranchWIdeal.main_arg1)
      ∧ r.2.mem ((c.tc : Thread Cert.BranchWIdeal.nD Cert.BranchWIdeal.τ).loc Cert.BranchWIdeal.main_arg2) = m ((c.tc : Thread Cert.BranchWIdeal.nD Cert.BranchWIdeal.τ).loc Cert.BranchWIdeal.main_arg2)
      ∧ r.2.mem ((c.tc : Thread Cert.BranchWIdeal.nD Cert.BranchWIdeal.τ).loc Cert.BranchWIdeal.main_arg3) = m ((c.tc : Thread Cert.BranchWIdeal.nD Cert.BranchWIdeal.τ).loc Cert.BranchWIdeal.main_arg3))
      ∧ r.2.sem = fun _ => 0)

def quiescent_BranchWReferenceIdeal [hBranchWReferenceIdeal : Cert.BranchWReferenceIdeal.Facts] : Prop :=
  ∀ (m : (ℓ : Loc Cert.BranchWReferenceIdeal.nD Cert.BranchWReferenceIdeal.τ Cert.BranchWReferenceIdeal.sig) → Buf (Elt Ideal) ℓ) (g : Dev Cert.BranchWReferenceIdeal.nD → PrngReg), Pre_BranchWReferenceIdeal m →
    θ_run (Cert.BranchWReferenceIdeal.defs (F := Ideal)) (onTc (τ := Cert.BranchWReferenceIdeal.τ) (Cert.BranchWReferenceIdeal.main (F := Ideal))) ⟨m, fun _ => 0, g⟩ (fun r => (∀ c : Dev Cert.BranchWReferenceIdeal.nD,
      r.2.mem ((c.tc : Thread Cert.BranchWReferenceIdeal.nD Cert.BranchWReferenceIdeal.τ).loc Cert.BranchWReferenceIdeal.main_arg0) = m ((c.tc : Thread Cert.BranchWReferenceIdeal.nD Cert.BranchWReferenceIdeal.τ).loc Cert.BranchWReferenceIdeal.main_arg0)
      ∧ r.2.mem ((c.tc : Thread Cert.BranchWReferenceIdeal.nD Cert.BranchWReferenceIdeal.τ).loc Cert.BranchWReferenceIdeal.main_arg1) = m ((c.tc : Thread Cert.BranchWReferenceIdeal.nD Cert.BranchWReferenceIdeal.τ).loc Cert.BranchWReferenceIdeal.main_arg1)
      ∧ r.2.mem ((c.tc : Thread Cert.BranchWReferenceIdeal.nD Cert.BranchWReferenceIdeal.τ).loc Cert.BranchWReferenceIdeal.main_arg2) = m ((c.tc : Thread Cert.BranchWReferenceIdeal.nD Cert.BranchWReferenceIdeal.τ).loc Cert.BranchWReferenceIdeal.main_arg2)
      ∧ r.2.mem ((c.tc : Thread Cert.BranchWReferenceIdeal.nD Cert.BranchWReferenceIdeal.τ).loc Cert.BranchWReferenceIdeal.main_arg3) = m ((c.tc : Thread Cert.BranchWReferenceIdeal.nD Cert.BranchWReferenceIdeal.τ).loc Cert.BranchWReferenceIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInIdeal_pre_finite_in [hFfnInIdeal : Cert.FfnInIdeal.Facts] [hPre_finite_in : Cert.Pre_finite_in.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_in m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1))
      ∧ r.2.sem = fun _ => 0)

def quiescent_FfnInReferenceIdeal_pre_finite_in [hFfnInReferenceIdeal : Cert.FfnInReferenceIdeal.Facts] [hPre_finite_in : Cert.Pre_finite_in.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal_finite_in m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1)
      ∧ r.2.mem ((c.tc : Thread Cert.FfnOutReferenceIdeal.nD Cert.FfnOutReferenceIdeal.τ).loc Cert.FfnOutReferenceIdeal.main_arg2) = m ((c.tc : Thread Cert.FfnOutReferenceIdeal.nD Cert.FfnOutReferenceIdeal.τ).loc Cert.FfnOutReferenceIdeal.main_arg2)
      ∧ r.2.mem ((c.tc : Thread Cert.FfnOutReferenceIdeal.nD Cert.FfnOutReferenceIdeal.τ).loc Cert.FfnOutReferenceIdeal.main_arg3) = m ((c.tc : Thread Cert.FfnOutReferenceIdeal.nD Cert.FfnOutReferenceIdeal.τ).loc Cert.FfnOutReferenceIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1)
      ∧ r.2.mem ((c.tc : Thread Cert.BranchReferenceIdeal.nD Cert.BranchReferenceIdeal.τ).loc Cert.BranchReferenceIdeal.main_arg2) = m ((c.tc : Thread Cert.BranchReferenceIdeal.nD Cert.BranchReferenceIdeal.τ).loc Cert.BranchReferenceIdeal.main_arg2)
      ∧ r.2.mem ((c.tc : Thread Cert.BranchReferenceIdeal.nD Cert.BranchReferenceIdeal.τ).loc Cert.BranchReferenceIdeal.main_arg3) = m ((c.tc : Thread Cert.BranchReferenceIdeal.nD Cert.BranchReferenceIdeal.τ).loc Cert.BranchReferenceIdeal.main_arg3)
      ∧ r.2.mem ((c.tc : Thread Cert.BranchReferenceIdeal.nD Cert.BranchReferenceIdeal.τ).loc Cert.BranchReferenceIdeal.main_arg4) = m ((c.tc : Thread Cert.BranchReferenceIdeal.nD Cert.BranchReferenceIdeal.τ).loc Cert.BranchReferenceIdeal.main_arg4))
      ∧ r.2.sem = fun _ => 0)

def quiescent_FoxX [hFoxX : Cert.FoxX.Facts] : Prop :=
  ∀ (m : (ℓ : Loc Cert.FoxX.nD Cert.FoxX.τ Cert.FoxX.sig) → Buf (Elt Bits) ℓ) (g : Dev Cert.FoxX.nD → PrngReg), Pre_FoxX m →
    θ_run (Cert.FoxX.defs (F := Bits)) (onTc (τ := Cert.FoxX.τ) (Cert.FoxX.main (F := Bits))) ⟨m, fun _ => 0, g⟩ (fun r => (∀ c : Dev Cert.FoxX.nD,
      r.2.mem ((c.tc : Thread Cert.FoxX.nD Cert.FoxX.τ).loc Cert.FoxX.main_arg0) = m ((c.tc : Thread Cert.FoxX.nD Cert.FoxX.τ).loc Cert.FoxX.main_arg0)
      ∧ r.2.mem ((c.tc : Thread Cert.FoxX.nD Cert.FoxX.τ).loc Cert.FoxX.main_arg1) = m ((c.tc : Thread Cert.FoxX.nD Cert.FoxX.τ).loc Cert.FoxX.main_arg1)
      ∧ r.2.mem ((c.tc : Thread Cert.FoxX.nD Cert.FoxX.τ).loc Cert.FoxX.main_arg2) = m ((c.tc : Thread Cert.FoxX.nD Cert.FoxX.τ).loc Cert.FoxX.main_arg2)
      ∧ r.2.mem ((c.tc : Thread Cert.FoxX.nD Cert.FoxX.τ).loc Cert.FoxX.main_arg3) = m ((c.tc : Thread Cert.FoxX.nD Cert.FoxX.τ).loc Cert.FoxX.main_arg3))
      ∧ r.2.sem = fun _ => 0)

def quiescent_FoxXIdeal [hFoxXIdeal : Cert.FoxXIdeal.Facts] : Prop :=
  ∀ (m : (ℓ : Loc Cert.FoxXIdeal.nD Cert.FoxXIdeal.τ Cert.FoxXIdeal.sig) → Buf (Elt Ideal) ℓ) (g : Dev Cert.FoxXIdeal.nD → PrngReg), Pre_FoxXIdeal m →
    θ_run (Cert.FoxXIdeal.defs (F := Ideal)) (onTc (τ := Cert.FoxXIdeal.τ) (Cert.FoxXIdeal.main (F := Ideal))) ⟨m, fun _ => 0, g⟩ (fun r => (∀ c : Dev Cert.FoxXIdeal.nD,
      r.2.mem ((c.tc : Thread Cert.FoxXIdeal.nD Cert.FoxXIdeal.τ).loc Cert.FoxXIdeal.main_arg0) = m ((c.tc : Thread Cert.FoxXIdeal.nD Cert.FoxXIdeal.τ).loc Cert.FoxXIdeal.main_arg0)
      ∧ r.2.mem ((c.tc : Thread Cert.FoxXIdeal.nD Cert.FoxXIdeal.τ).loc Cert.FoxXIdeal.main_arg1) = m ((c.tc : Thread Cert.FoxXIdeal.nD Cert.FoxXIdeal.τ).loc Cert.FoxXIdeal.main_arg1)
      ∧ r.2.mem ((c.tc : Thread Cert.FoxXIdeal.nD Cert.FoxXIdeal.τ).loc Cert.FoxXIdeal.main_arg2) = m ((c.tc : Thread Cert.FoxXIdeal.nD Cert.FoxXIdeal.τ).loc Cert.FoxXIdeal.main_arg2)
      ∧ r.2.mem ((c.tc : Thread Cert.FoxXIdeal.nD Cert.FoxXIdeal.τ).loc Cert.FoxXIdeal.main_arg3) = m ((c.tc : Thread Cert.FoxXIdeal.nD Cert.FoxXIdeal.τ).loc Cert.FoxXIdeal.main_arg3))
      ∧ r.2.sem = fun _ => 0)

def quiescent_FoxXIdeal_pre_finite_fox [hFoxXIdeal : Cert.FoxXIdeal.Facts] [hPre_finite_fox : Cert.Pre_finite_fox.Facts] : Prop :=
  ∀ (m : (ℓ : Loc Cert.FoxXIdeal.nD Cert.FoxXIdeal.τ Cert.FoxXIdeal.sig) → Buf (Elt Ideal) ℓ) (g : Dev Cert.FoxXIdeal.nD → PrngReg), Pre_FoxXIdeal_finite_fox m →
    θ_run (Cert.FoxXIdeal.defs (F := Ideal)) (onTc (τ := Cert.FoxXIdeal.τ) (Cert.FoxXIdeal.main (F := Ideal))) ⟨m, fun _ => 0, g⟩ (fun r => (∀ c : Dev Cert.FoxXIdeal.nD,
      r.2.mem ((c.tc : Thread Cert.FoxXIdeal.nD Cert.FoxXIdeal.τ).loc Cert.FoxXIdeal.main_arg0) = m ((c.tc : Thread Cert.FoxXIdeal.nD Cert.FoxXIdeal.τ).loc Cert.FoxXIdeal.main_arg0)
      ∧ r.2.mem ((c.tc : Thread Cert.FoxXIdeal.nD Cert.FoxXIdeal.τ).loc Cert.FoxXIdeal.main_arg1) = m ((c.tc : Thread Cert.FoxXIdeal.nD Cert.FoxXIdeal.τ).loc Cert.FoxXIdeal.main_arg1)
      ∧ r.2.mem ((c.tc : Thread Cert.FoxXIdeal.nD Cert.FoxXIdeal.τ).loc Cert.FoxXIdeal.main_arg2) = m ((c.tc : Thread Cert.FoxXIdeal.nD Cert.FoxXIdeal.τ).loc Cert.FoxXIdeal.main_arg2)
      ∧ r.2.mem ((c.tc : Thread Cert.FoxXIdeal.nD Cert.FoxXIdeal.τ).loc Cert.FoxXIdeal.main_arg3) = m ((c.tc : Thread Cert.FoxXIdeal.nD Cert.FoxXIdeal.τ).loc Cert.FoxXIdeal.main_arg3))
      ∧ r.2.sem = fun _ => 0)

def quiescent_FoxXReferenceIdeal [hFoxXReferenceIdeal : Cert.FoxXReferenceIdeal.Facts] : Prop :=
  ∀ (m : (ℓ : Loc Cert.FoxXReferenceIdeal.nD Cert.FoxXReferenceIdeal.τ Cert.FoxXReferenceIdeal.sig) → Buf (Elt Ideal) ℓ) (g : Dev Cert.FoxXReferenceIdeal.nD → PrngReg), Pre_FoxXReferenceIdeal m →
    θ_run (Cert.FoxXReferenceIdeal.defs (F := Ideal)) (onTc (τ := Cert.FoxXReferenceIdeal.τ) (Cert.FoxXReferenceIdeal.main (F := Ideal))) ⟨m, fun _ => 0, g⟩ (fun r => (∀ c : Dev Cert.FoxXReferenceIdeal.nD,
      r.2.mem ((c.tc : Thread Cert.FoxXReferenceIdeal.nD Cert.FoxXReferenceIdeal.τ).loc Cert.FoxXReferenceIdeal.main_arg0) = m ((c.tc : Thread Cert.FoxXReferenceIdeal.nD Cert.FoxXReferenceIdeal.τ).loc Cert.FoxXReferenceIdeal.main_arg0)
      ∧ r.2.mem ((c.tc : Thread Cert.FoxXReferenceIdeal.nD Cert.FoxXReferenceIdeal.τ).loc Cert.FoxXReferenceIdeal.main_arg1) = m ((c.tc : Thread Cert.FoxXReferenceIdeal.nD Cert.FoxXReferenceIdeal.τ).loc Cert.FoxXReferenceIdeal.main_arg1)
      ∧ r.2.mem ((c.tc : Thread Cert.FoxXReferenceIdeal.nD Cert.FoxXReferenceIdeal.τ).loc Cert.FoxXReferenceIdeal.main_arg2) = m ((c.tc : Thread Cert.FoxXReferenceIdeal.nD Cert.FoxXReferenceIdeal.τ).loc Cert.FoxXReferenceIdeal.main_arg2)
      ∧ r.2.mem ((c.tc : Thread Cert.FoxXReferenceIdeal.nD Cert.FoxXReferenceIdeal.τ).loc Cert.FoxXReferenceIdeal.main_arg3) = m ((c.tc : Thread Cert.FoxXReferenceIdeal.nD Cert.FoxXReferenceIdeal.τ).loc Cert.FoxXReferenceIdeal.main_arg3))
      ∧ r.2.sem = fun _ => 0)

def quiescent_FoxXReferenceIdeal_pre_finite_fox [hFoxXReferenceIdeal : Cert.FoxXReferenceIdeal.Facts] [hPre_finite_fox : Cert.Pre_finite_fox.Facts] : Prop :=
  ∀ (m : (ℓ : Loc Cert.FoxXReferenceIdeal.nD Cert.FoxXReferenceIdeal.τ Cert.FoxXReferenceIdeal.sig) → Buf (Elt Ideal) ℓ) (g : Dev Cert.FoxXReferenceIdeal.nD → PrngReg), Pre_FoxXReferenceIdeal_finite_fox m →
    θ_run (Cert.FoxXReferenceIdeal.defs (F := Ideal)) (onTc (τ := Cert.FoxXReferenceIdeal.τ) (Cert.FoxXReferenceIdeal.main (F := Ideal))) ⟨m, fun _ => 0, g⟩ (fun r => (∀ c : Dev Cert.FoxXReferenceIdeal.nD,
      r.2.mem ((c.tc : Thread Cert.FoxXReferenceIdeal.nD Cert.FoxXReferenceIdeal.τ).loc Cert.FoxXReferenceIdeal.main_arg0) = m ((c.tc : Thread Cert.FoxXReferenceIdeal.nD Cert.FoxXReferenceIdeal.τ).loc Cert.FoxXReferenceIdeal.main_arg0)
      ∧ r.2.mem ((c.tc : Thread Cert.FoxXReferenceIdeal.nD Cert.FoxXReferenceIdeal.τ).loc Cert.FoxXReferenceIdeal.main_arg1) = m ((c.tc : Thread Cert.FoxXReferenceIdeal.nD Cert.FoxXReferenceIdeal.τ).loc Cert.FoxXReferenceIdeal.main_arg1)
      ∧ r.2.mem ((c.tc : Thread Cert.FoxXReferenceIdeal.nD Cert.FoxXReferenceIdeal.τ).loc Cert.FoxXReferenceIdeal.main_arg2) = m ((c.tc : Thread Cert.FoxXReferenceIdeal.nD Cert.FoxXReferenceIdeal.τ).loc Cert.FoxXReferenceIdeal.main_arg2)
      ∧ r.2.mem ((c.tc : Thread Cert.FoxXReferenceIdeal.nD Cert.FoxXReferenceIdeal.τ).loc Cert.FoxXReferenceIdeal.main_arg3) = m ((c.tc : Thread Cert.FoxXReferenceIdeal.nD Cert.FoxXReferenceIdeal.τ).loc Cert.FoxXReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnInX_FfnInXIdeal : Prop :=
  True

def algebraic_FfnInXIdeal_FfnInXReferenceIdeal [hFfnInXIdeal : Cert.FfnInXIdeal.Facts] [hFfnInXReferenceIdeal : Cert.FfnInXReferenceIdeal.Facts] : Prop :=
  ∀ (m : (ℓ : Loc Cert.FfnInXIdeal.nD Cert.FfnInXIdeal.τ Cert.FfnInXIdeal.sig) → Buf (Elt Ideal) ℓ) (g : Dev Cert.FfnInXIdeal.nD → PrngReg)
    (m' : (ℓ : Loc Cert.FfnInXReferenceIdeal.nD Cert.FfnInXReferenceIdeal.τ Cert.FfnInXReferenceIdeal.sig) → Buf (Elt Ideal) ℓ) (g' : Dev Cert.FfnInXReferenceIdeal.nD → PrngReg), Pre_FfnInXIdeal m →
    (∀ c : Dev Cert.FfnInXIdeal.nD,
      m' ((c.tc : Thread Cert.FfnInXReferenceIdeal.nD Cert.FfnInXReferenceIdeal.τ).loc Cert.FfnInXReferenceIdeal.main_arg0) = m ((c.tc : Thread Cert.FfnInXIdeal.nD Cert.FfnInXIdeal.τ).loc Cert.FfnInXIdeal.main_arg0)
      ∧ m' ((c.tc : Thread Cert.FfnInXReferenceIdeal.nD Cert.FfnInXReferenceIdeal.τ).loc Cert.FfnInXReferenceIdeal.main_arg1) = m ((c.tc : Thread Cert.FfnInXIdeal.nD Cert.FfnInXIdeal.τ).loc Cert.FfnInXIdeal.main_arg1)
      ∧ m' ((c.tc : Thread Cert.FfnInXReferenceIdeal.nD Cert.FfnInXReferenceIdeal.τ).loc Cert.FfnInXReferenceIdeal.main_arg2) = m ((c.tc : Thread Cert.FfnInXIdeal.nD Cert.FfnInXIdeal.τ).loc Cert.FfnInXIdeal.main_arg2)
      ∧ m' ((c.tc : Thread Cert.FfnInXReferenceIdeal.nD Cert.FfnInXReferenceIdeal.τ).loc Cert.FfnInXReferenceIdeal.main_arg3) = m ((c.tc : Thread Cert.FfnInXIdeal.nD Cert.FfnInXIdeal.τ).loc Cert.FfnInXIdeal.main_arg3)
      ∧ m' ((c.tc : Thread Cert.FfnInXReferenceIdeal.nD Cert.FfnInXReferenceIdeal.τ).loc Cert.FfnInXReferenceIdeal.main_arg4) = m ((c.tc : Thread Cert.FfnInXIdeal.nD Cert.FfnInXIdeal.τ).loc Cert.FfnInXIdeal.main_arg4)) →
    ∃ (v0 : (c : Dev Cert.FfnInXIdeal.nD) → Buf (Elt Ideal) ((c.tc : Thread Cert.FfnInXIdeal.nD Cert.FfnInXIdeal.τ).loc Cert.FfnInXIdeal.main_v0_0)) (v1 : (c : Dev Cert.FfnInXIdeal.nD) → Buf (Elt Ideal) ((c.tc : Thread Cert.FfnInXIdeal.nD Cert.FfnInXIdeal.τ).loc Cert.FfnInXIdeal.main_v0_1)) (v2 : (c : Dev Cert.FfnInXIdeal.nD) → Buf (Elt Ideal) ((c.tc : Thread Cert.FfnInXIdeal.nD Cert.FfnInXIdeal.τ).loc Cert.FfnInXIdeal.main_v0_2)),
      θ_run (Cert.FfnInXIdeal.defs (F := Ideal)) (onTc (τ := Cert.FfnInXIdeal.τ) (Cert.FfnInXIdeal.main (F := Ideal))) ⟨m, fun _ => 0, g⟩ (fun r => ∀ c : Dev Cert.FfnInXIdeal.nD,
          r.2.mem ((c.tc : Thread Cert.FfnInXIdeal.nD Cert.FfnInXIdeal.τ).loc Cert.FfnInXIdeal.main_v0_0) = v0 c
          ∧ r.2.mem ((c.tc : Thread Cert.FfnInXIdeal.nD Cert.FfnInXIdeal.τ).loc Cert.FfnInXIdeal.main_v0_1) = v1 c
          ∧ r.2.mem ((c.tc : Thread Cert.FfnInXIdeal.nD Cert.FfnInXIdeal.τ).loc Cert.FfnInXIdeal.main_v0_2) = v2 c
          ∧ r.2.mem ((c.tc : Thread Cert.FfnInXIdeal.nD Cert.FfnInXIdeal.τ).loc Cert.FfnInXIdeal.main_arg0) = m ((c.tc : Thread Cert.FfnInXIdeal.nD Cert.FfnInXIdeal.τ).loc Cert.FfnInXIdeal.main_arg0)
          ∧ r.2.mem ((c.tc : Thread Cert.FfnInXIdeal.nD Cert.FfnInXIdeal.τ).loc Cert.FfnInXIdeal.main_arg1) = m ((c.tc : Thread Cert.FfnInXIdeal.nD Cert.FfnInXIdeal.τ).loc Cert.FfnInXIdeal.main_arg1)
          ∧ r.2.mem ((c.tc : Thread Cert.FfnInXIdeal.nD Cert.FfnInXIdeal.τ).loc Cert.FfnInXIdeal.main_arg2) = m ((c.tc : Thread Cert.FfnInXIdeal.nD Cert.FfnInXIdeal.τ).loc Cert.FfnInXIdeal.main_arg2)
          ∧ r.2.mem ((c.tc : Thread Cert.FfnInXIdeal.nD Cert.FfnInXIdeal.τ).loc Cert.FfnInXIdeal.main_arg3) = m ((c.tc : Thread Cert.FfnInXIdeal.nD Cert.FfnInXIdeal.τ).loc Cert.FfnInXIdeal.main_arg3)
          ∧ r.2.mem ((c.tc : Thread Cert.FfnInXIdeal.nD Cert.FfnInXIdeal.τ).loc Cert.FfnInXIdeal.main_arg4) = m ((c.tc : Thread Cert.FfnInXIdeal.nD Cert.FfnInXIdeal.τ).loc Cert.FfnInXIdeal.main_arg4))
      ∧ θ_run (Cert.FfnInXReferenceIdeal.defs (F := Ideal)) (onTc (τ := Cert.FfnInXReferenceIdeal.τ) (Cert.FfnInXReferenceIdeal.main (F := Ideal))) ⟨m', fun _ => 0, g'⟩ (fun r => ∀ c : Dev Cert.FfnInXReferenceIdeal.nD,
          r.2.mem ((c.tc : Thread Cert.FfnInXReferenceIdeal.nD Cert.FfnInXReferenceIdeal.τ).loc Cert.FfnInXReferenceIdeal.main_v56) = v0 c
          ∧ r.2.mem ((c.tc : Thread Cert.FfnInXReferenceIdeal.nD Cert.FfnInXReferenceIdeal.τ).loc Cert.FfnInXReferenceIdeal.main_v57) = v1 c
          ∧ r.2.mem ((c.tc : Thread Cert.FfnInXReferenceIdeal.nD Cert.FfnInXReferenceIdeal.τ).loc Cert.FfnInXReferenceIdeal.main_v39) = v2 c
          ∧ r.2.mem ((c.tc : Thread Cert.FfnInXReferenceIdeal.nD Cert.FfnInXReferenceIdeal.τ).loc Cert.FfnInXReferenceIdeal.main_arg0) = m' ((c.tc : Thread Cert.FfnInXReferenceIdeal.nD Cert.FfnInXReferenceIdeal.τ).loc Cert.FfnInXReferenceIdeal.main_arg0)
          ∧ r.2.mem ((c.tc : Thread Cert.FfnInXReferenceIdeal.nD Cert.FfnInXReferenceIdeal.τ).loc Cert.FfnInXReferenceIdeal.main_arg1) = m' ((c.tc : Thread Cert.FfnInXReferenceIdeal.nD Cert.FfnInXReferenceIdeal.τ).loc Cert.FfnInXReferenceIdeal.main_arg1)
          ∧ r.2.mem ((c.tc : Thread Cert.FfnInXReferenceIdeal.nD Cert.FfnInXReferenceIdeal.τ).loc Cert.FfnInXReferenceIdeal.main_arg2) = m' ((c.tc : Thread Cert.FfnInXReferenceIdeal.nD Cert.FfnInXReferenceIdeal.τ).loc Cert.FfnInXReferenceIdeal.main_arg2)
          ∧ r.2.mem ((c.tc : Thread Cert.FfnInXReferenceIdeal.nD Cert.FfnInXReferenceIdeal.τ).loc Cert.FfnInXReferenceIdeal.main_arg3) = m' ((c.tc : Thread Cert.FfnInXReferenceIdeal.nD Cert.FfnInXReferenceIdeal.τ).loc Cert.FfnInXReferenceIdeal.main_arg3)
          ∧ r.2.mem ((c.tc : Thread Cert.FfnInXReferenceIdeal.nD Cert.FfnInXReferenceIdeal.τ).loc Cert.FfnInXReferenceIdeal.main_arg4) = m' ((c.tc : Thread Cert.FfnInXReferenceIdeal.nD Cert.FfnInXReferenceIdeal.τ).loc Cert.FfnInXReferenceIdeal.main_arg4))

def preserves_FfnOutX_FfnOutXIdeal : Prop :=
  True

def algebraic_FfnOutXIdeal_FfnOutXReferenceIdeal_pre_finite [hFfnOutXIdeal : Cert.FfnOutXIdeal.Facts] [hFfnOutXReferenceIdeal : Cert.FfnOutXReferenceIdeal.Facts] [hPre_finite : Cert.Pre_finite.Facts] : Prop :=
  ∀ (m : (ℓ : Loc Cert.FfnOutXIdeal.nD Cert.FfnOutXIdeal.τ Cert.FfnOutXIdeal.sig) → Buf (Elt Ideal) ℓ) (g : Dev Cert.FfnOutXIdeal.nD → PrngReg)
    (m' : (ℓ : Loc Cert.FfnOutXReferenceIdeal.nD Cert.FfnOutXReferenceIdeal.τ Cert.FfnOutXReferenceIdeal.sig) → Buf (Elt Ideal) ℓ) (g' : Dev Cert.FfnOutXReferenceIdeal.nD → PrngReg), Pre_FfnOutXIdeal_finite m →
    (∀ c : Dev Cert.FfnOutXIdeal.nD,
      m' ((c.tc : Thread Cert.FfnOutXReferenceIdeal.nD Cert.FfnOutXReferenceIdeal.τ).loc Cert.FfnOutXReferenceIdeal.main_arg0) = m ((c.tc : Thread Cert.FfnOutXIdeal.nD Cert.FfnOutXIdeal.τ).loc Cert.FfnOutXIdeal.main_arg0)
      ∧ m' ((c.tc : Thread Cert.FfnOutXReferenceIdeal.nD Cert.FfnOutXReferenceIdeal.τ).loc Cert.FfnOutXReferenceIdeal.main_arg1) = m ((c.tc : Thread Cert.FfnOutXIdeal.nD Cert.FfnOutXIdeal.τ).loc Cert.FfnOutXIdeal.main_arg1)
      ∧ m' ((c.tc : Thread Cert.FfnOutXReferenceIdeal.nD Cert.FfnOutXReferenceIdeal.τ).loc Cert.FfnOutXReferenceIdeal.main_arg2) = m ((c.tc : Thread Cert.FfnOutXIdeal.nD Cert.FfnOutXIdeal.τ).loc Cert.FfnOutXIdeal.main_arg2)) →
    ∃ (v0 : (c : Dev Cert.FfnOutXIdeal.nD) → Buf (Elt Ideal) ((c.tc : Thread Cert.FfnOutXIdeal.nD Cert.FfnOutXIdeal.τ).loc Cert.FfnOutXIdeal.main_v24)),
      θ_run (Cert.FfnOutXIdeal.defs (F := Ideal)) (onTc (τ := Cert.FfnOutXIdeal.τ) (Cert.FfnOutXIdeal.main (F := Ideal))) ⟨m, fun _ => 0, g⟩ (fun r => ∀ c : Dev Cert.FfnOutXIdeal.nD,
          r.2.mem ((c.tc : Thread Cert.FfnOutXIdeal.nD Cert.FfnOutXIdeal.τ).loc Cert.FfnOutXIdeal.main_v24) = v0 c
          ∧ r.2.mem ((c.tc : Thread Cert.FfnOutXIdeal.nD Cert.FfnOutXIdeal.τ).loc Cert.FfnOutXIdeal.main_arg0) = m ((c.tc : Thread Cert.FfnOutXIdeal.nD Cert.FfnOutXIdeal.τ).loc Cert.FfnOutXIdeal.main_arg0)
          ∧ r.2.mem ((c.tc : Thread Cert.FfnOutXIdeal.nD Cert.FfnOutXIdeal.τ).loc Cert.FfnOutXIdeal.main_arg1) = m ((c.tc : Thread Cert.FfnOutXIdeal.nD Cert.FfnOutXIdeal.τ).loc Cert.FfnOutXIdeal.main_arg1)
          ∧ r.2.mem ((c.tc : Thread Cert.FfnOutXIdeal.nD Cert.FfnOutXIdeal.τ).loc Cert.FfnOutXIdeal.main_arg2) = m ((c.tc : Thread Cert.FfnOutXIdeal.nD Cert.FfnOutXIdeal.τ).loc Cert.FfnOutXIdeal.main_arg2))
      ∧ θ_run (Cert.FfnOutXReferenceIdeal.defs (F := Ideal)) (onTc (τ := Cert.FfnOutXReferenceIdeal.τ) (Cert.FfnOutXReferenceIdeal.main (F := Ideal))) ⟨m', fun _ => 0, g'⟩ (fun r => ∀ c : Dev Cert.FfnOutXReferenceIdeal.nD,
          r.2.mem ((c.tc : Thread Cert.FfnOutXReferenceIdeal.nD Cert.FfnOutXReferenceIdeal.τ).loc Cert.FfnOutXReferenceIdeal.main_v22) = v0 c
          ∧ r.2.mem ((c.tc : Thread Cert.FfnOutXReferenceIdeal.nD Cert.FfnOutXReferenceIdeal.τ).loc Cert.FfnOutXReferenceIdeal.main_arg0) = m' ((c.tc : Thread Cert.FfnOutXReferenceIdeal.nD Cert.FfnOutXReferenceIdeal.τ).loc Cert.FfnOutXReferenceIdeal.main_arg0)
          ∧ r.2.mem ((c.tc : Thread Cert.FfnOutXReferenceIdeal.nD Cert.FfnOutXReferenceIdeal.τ).loc Cert.FfnOutXReferenceIdeal.main_arg1) = m' ((c.tc : Thread Cert.FfnOutXReferenceIdeal.nD Cert.FfnOutXReferenceIdeal.τ).loc Cert.FfnOutXReferenceIdeal.main_arg1)
          ∧ r.2.mem ((c.tc : Thread Cert.FfnOutXReferenceIdeal.nD Cert.FfnOutXReferenceIdeal.τ).loc Cert.FfnOutXReferenceIdeal.main_arg2) = m' ((c.tc : Thread Cert.FfnOutXReferenceIdeal.nD Cert.FfnOutXReferenceIdeal.τ).loc Cert.FfnOutXReferenceIdeal.main_arg2))

def preserves_FfnInW_FfnInWIdeal : Prop :=
  True

def algebraic_FfnInWIdeal_FfnInWReferenceIdeal [hFfnInWIdeal : Cert.FfnInWIdeal.Facts] [hFfnInWReferenceIdeal : Cert.FfnInWReferenceIdeal.Facts] : Prop :=
  ∀ (m : (ℓ : Loc Cert.FfnInWIdeal.nD Cert.FfnInWIdeal.τ Cert.FfnInWIdeal.sig) → Buf (Elt Ideal) ℓ) (g : Dev Cert.FfnInWIdeal.nD → PrngReg)
    (m' : (ℓ : Loc Cert.FfnInWReferenceIdeal.nD Cert.FfnInWReferenceIdeal.τ Cert.FfnInWReferenceIdeal.sig) → Buf (Elt Ideal) ℓ) (g' : Dev Cert.FfnInWReferenceIdeal.nD → PrngReg), Pre_FfnInWIdeal m →
    (∀ c : Dev Cert.FfnInWIdeal.nD,
      m' ((c.tc : Thread Cert.FfnInWReferenceIdeal.nD Cert.FfnInWReferenceIdeal.τ).loc Cert.FfnInWReferenceIdeal.main_arg0) = m ((c.tc : Thread Cert.FfnInWIdeal.nD Cert.FfnInWIdeal.τ).loc Cert.FfnInWIdeal.main_arg0)
      ∧ m' ((c.tc : Thread Cert.FfnInWReferenceIdeal.nD Cert.FfnInWReferenceIdeal.τ).loc Cert.FfnInWReferenceIdeal.main_arg1) = m ((c.tc : Thread Cert.FfnInWIdeal.nD Cert.FfnInWIdeal.τ).loc Cert.FfnInWIdeal.main_arg1)) →
    ∃ (v0 : (c : Dev Cert.FfnInWIdeal.nD) → Buf (Elt Ideal) ((c.tc : Thread Cert.FfnInWIdeal.nD Cert.FfnInWIdeal.τ).loc Cert.FfnInWIdeal.main_v0)),
      θ_run (Cert.FfnInWIdeal.defs (F := Ideal)) (onTc (τ := Cert.FfnInWIdeal.τ) (Cert.FfnInWIdeal.main (F := Ideal))) ⟨m, fun _ => 0, g⟩ (fun r => ∀ c : Dev Cert.FfnInWIdeal.nD,
          r.2.mem ((c.tc : Thread Cert.FfnInWIdeal.nD Cert.FfnInWIdeal.τ).loc Cert.FfnInWIdeal.main_v0) = v0 c
          ∧ r.2.mem ((c.tc : Thread Cert.FfnInWIdeal.nD Cert.FfnInWIdeal.τ).loc Cert.FfnInWIdeal.main_arg0) = m ((c.tc : Thread Cert.FfnInWIdeal.nD Cert.FfnInWIdeal.τ).loc Cert.FfnInWIdeal.main_arg0)
          ∧ r.2.mem ((c.tc : Thread Cert.FfnInWIdeal.nD Cert.FfnInWIdeal.τ).loc Cert.FfnInWIdeal.main_arg1) = m ((c.tc : Thread Cert.FfnInWIdeal.nD Cert.FfnInWIdeal.τ).loc Cert.FfnInWIdeal.main_arg1))
      ∧ θ_run (Cert.FfnInWReferenceIdeal.defs (F := Ideal)) (onTc (τ := Cert.FfnInWReferenceIdeal.τ) (Cert.FfnInWReferenceIdeal.main (F := Ideal))) ⟨m', fun _ => 0, g'⟩ (fun r => ∀ c : Dev Cert.FfnInWReferenceIdeal.nD,
          r.2.mem ((c.tc : Thread Cert.FfnInWReferenceIdeal.nD Cert.FfnInWReferenceIdeal.τ).loc Cert.FfnInWReferenceIdeal.main_v9) = v0 c
          ∧ r.2.mem ((c.tc : Thread Cert.FfnInWReferenceIdeal.nD Cert.FfnInWReferenceIdeal.τ).loc Cert.FfnInWReferenceIdeal.main_arg0) = m' ((c.tc : Thread Cert.FfnInWReferenceIdeal.nD Cert.FfnInWReferenceIdeal.τ).loc Cert.FfnInWReferenceIdeal.main_arg0)
          ∧ r.2.mem ((c.tc : Thread Cert.FfnInWReferenceIdeal.nD Cert.FfnInWReferenceIdeal.τ).loc Cert.FfnInWReferenceIdeal.main_arg1) = m' ((c.tc : Thread Cert.FfnInWReferenceIdeal.nD Cert.FfnInWReferenceIdeal.τ).loc Cert.FfnInWReferenceIdeal.main_arg1))

def preserves_FfnOutW_FfnOutWIdeal : Prop :=
  True

def algebraic_FfnOutWIdeal_FfnOutWReferenceIdeal [hFfnOutWIdeal : Cert.FfnOutWIdeal.Facts] [hFfnOutWReferenceIdeal : Cert.FfnOutWReferenceIdeal.Facts] : Prop :=
  ∀ (m : (ℓ : Loc Cert.FfnOutWIdeal.nD Cert.FfnOutWIdeal.τ Cert.FfnOutWIdeal.sig) → Buf (Elt Ideal) ℓ) (g : Dev Cert.FfnOutWIdeal.nD → PrngReg)
    (m' : (ℓ : Loc Cert.FfnOutWReferenceIdeal.nD Cert.FfnOutWReferenceIdeal.τ Cert.FfnOutWReferenceIdeal.sig) → Buf (Elt Ideal) ℓ) (g' : Dev Cert.FfnOutWReferenceIdeal.nD → PrngReg), Pre_FfnOutWIdeal m →
    (∀ c : Dev Cert.FfnOutWIdeal.nD,
      m' ((c.tc : Thread Cert.FfnOutWReferenceIdeal.nD Cert.FfnOutWReferenceIdeal.τ).loc Cert.FfnOutWReferenceIdeal.main_arg0) = m ((c.tc : Thread Cert.FfnOutWIdeal.nD Cert.FfnOutWIdeal.τ).loc Cert.FfnOutWIdeal.main_arg0)
      ∧ m' ((c.tc : Thread Cert.FfnOutWReferenceIdeal.nD Cert.FfnOutWReferenceIdeal.τ).loc Cert.FfnOutWReferenceIdeal.main_arg1) = m ((c.tc : Thread Cert.FfnOutWIdeal.nD Cert.FfnOutWIdeal.τ).loc Cert.FfnOutWIdeal.main_arg1)) →
    ∃ (v0 : (c : Dev Cert.FfnOutWIdeal.nD) → Buf (Elt Ideal) ((c.tc : Thread Cert.FfnOutWIdeal.nD Cert.FfnOutWIdeal.τ).loc Cert.FfnOutWIdeal.main_v0)),
      θ_run (Cert.FfnOutWIdeal.defs (F := Ideal)) (onTc (τ := Cert.FfnOutWIdeal.τ) (Cert.FfnOutWIdeal.main (F := Ideal))) ⟨m, fun _ => 0, g⟩ (fun r => ∀ c : Dev Cert.FfnOutWIdeal.nD,
          r.2.mem ((c.tc : Thread Cert.FfnOutWIdeal.nD Cert.FfnOutWIdeal.τ).loc Cert.FfnOutWIdeal.main_v0) = v0 c
          ∧ r.2.mem ((c.tc : Thread Cert.FfnOutWIdeal.nD Cert.FfnOutWIdeal.τ).loc Cert.FfnOutWIdeal.main_arg0) = m ((c.tc : Thread Cert.FfnOutWIdeal.nD Cert.FfnOutWIdeal.τ).loc Cert.FfnOutWIdeal.main_arg0)
          ∧ r.2.mem ((c.tc : Thread Cert.FfnOutWIdeal.nD Cert.FfnOutWIdeal.τ).loc Cert.FfnOutWIdeal.main_arg1) = m ((c.tc : Thread Cert.FfnOutWIdeal.nD Cert.FfnOutWIdeal.τ).loc Cert.FfnOutWIdeal.main_arg1))
      ∧ θ_run (Cert.FfnOutWReferenceIdeal.defs (F := Ideal)) (onTc (τ := Cert.FfnOutWReferenceIdeal.τ) (Cert.FfnOutWReferenceIdeal.main (F := Ideal))) ⟨m', fun _ => 0, g'⟩ (fun r => ∀ c : Dev Cert.FfnOutWReferenceIdeal.nD,
          r.2.mem ((c.tc : Thread Cert.FfnOutWReferenceIdeal.nD Cert.FfnOutWReferenceIdeal.τ).loc Cert.FfnOutWReferenceIdeal.main_v15) = v0 c
          ∧ r.2.mem ((c.tc : Thread Cert.FfnOutWReferenceIdeal.nD Cert.FfnOutWReferenceIdeal.τ).loc Cert.FfnOutWReferenceIdeal.main_arg0) = m' ((c.tc : Thread Cert.FfnOutWReferenceIdeal.nD Cert.FfnOutWReferenceIdeal.τ).loc Cert.FfnOutWReferenceIdeal.main_arg0)
          ∧ r.2.mem ((c.tc : Thread Cert.FfnOutWReferenceIdeal.nD Cert.FfnOutWReferenceIdeal.τ).loc Cert.FfnOutWReferenceIdeal.main_arg1) = m' ((c.tc : Thread Cert.FfnOutWReferenceIdeal.nD Cert.FfnOutWReferenceIdeal.τ).loc Cert.FfnOutWReferenceIdeal.main_arg1))

def preserves_ProjX_ProjXIdeal : Prop :=
  True

def algebraic_ProjXIdeal_ProjXReferenceIdeal [hProjXIdeal : Cert.ProjXIdeal.Facts] [hProjXReferenceIdeal : Cert.ProjXReferenceIdeal.Facts] : Prop :=
  ∀ (m : (ℓ : Loc Cert.ProjXIdeal.nD Cert.ProjXIdeal.τ Cert.ProjXIdeal.sig) → Buf (Elt Ideal) ℓ) (g : Dev Cert.ProjXIdeal.nD → PrngReg)
    (m' : (ℓ : Loc Cert.ProjXReferenceIdeal.nD Cert.ProjXReferenceIdeal.τ Cert.ProjXReferenceIdeal.sig) → Buf (Elt Ideal) ℓ) (g' : Dev Cert.ProjXReferenceIdeal.nD → PrngReg), Pre_ProjXIdeal m →
    (∀ c : Dev Cert.ProjXIdeal.nD,
      m' ((c.tc : Thread Cert.ProjXReferenceIdeal.nD Cert.ProjXReferenceIdeal.τ).loc Cert.ProjXReferenceIdeal.main_arg0) = m ((c.tc : Thread Cert.ProjXIdeal.nD Cert.ProjXIdeal.τ).loc Cert.ProjXIdeal.main_arg0)
      ∧ m' ((c.tc : Thread Cert.ProjXReferenceIdeal.nD Cert.ProjXReferenceIdeal.τ).loc Cert.ProjXReferenceIdeal.main_arg1) = m ((c.tc : Thread Cert.ProjXIdeal.nD Cert.ProjXIdeal.τ).loc Cert.ProjXIdeal.main_arg1)
      ∧ m' ((c.tc : Thread Cert.ProjXReferenceIdeal.nD Cert.ProjXReferenceIdeal.τ).loc Cert.ProjXReferenceIdeal.main_arg2) = m ((c.tc : Thread Cert.ProjXIdeal.nD Cert.ProjXIdeal.τ).loc Cert.ProjXIdeal.main_arg2)
      ∧ m' ((c.tc : Thread Cert.ProjXReferenceIdeal.nD Cert.ProjXReferenceIdeal.τ).loc Cert.ProjXReferenceIdeal.main_arg3) = m ((c.tc : Thread Cert.ProjXIdeal.nD Cert.ProjXIdeal.τ).loc Cert.ProjXIdeal.main_arg3)
      ∧ m' ((c.tc : Thread Cert.ProjXReferenceIdeal.nD Cert.ProjXReferenceIdeal.τ).loc Cert.ProjXReferenceIdeal.main_arg4) = m ((c.tc : Thread Cert.ProjXIdeal.nD Cert.ProjXIdeal.τ).loc Cert.ProjXIdeal.main_arg4)
      ∧ m' ((c.tc : Thread Cert.ProjXReferenceIdeal.nD Cert.ProjXReferenceIdeal.τ).loc Cert.ProjXReferenceIdeal.main_arg5) = m ((c.tc : Thread Cert.ProjXIdeal.nD Cert.ProjXIdeal.τ).loc Cert.ProjXIdeal.main_arg5)
      ∧ m' ((c.tc : Thread Cert.ProjXReferenceIdeal.nD Cert.ProjXReferenceIdeal.τ).loc Cert.ProjXReferenceIdeal.main_arg6) = m ((c.tc : Thread Cert.ProjXIdeal.nD Cert.ProjXIdeal.τ).loc Cert.ProjXIdeal.main_arg6)) →
    ∃ (v0 : (c : Dev Cert.ProjXIdeal.nD) → Buf (Elt Ideal) ((c.tc : Thread Cert.ProjXIdeal.nD Cert.ProjXIdeal.τ).loc Cert.ProjXIdeal.main_v0_0)) (v1 : (c : Dev Cert.ProjXIdeal.nD) → Buf (Elt Ideal) ((c.tc : Thread Cert.ProjXIdeal.nD Cert.ProjXIdeal.τ).loc Cert.ProjXIdeal.main_v0_1)) (v2 : (c : Dev Cert.ProjXIdeal.nD) → Buf (Elt Ideal) ((c.tc : Thread Cert.ProjXIdeal.nD Cert.ProjXIdeal.τ).loc Cert.ProjXIdeal.main_v0_2)),
      θ_run (Cert.ProjXIdeal.defs (F := Ideal)) (onTc (τ := Cert.ProjXIdeal.τ) (Cert.ProjXIdeal.main (F := Ideal))) ⟨m, fun _ => 0, g⟩ (fun r => ∀ c : Dev Cert.ProjXIdeal.nD,
          r.2.mem ((c.tc : Thread Cert.ProjXIdeal.nD Cert.ProjXIdeal.τ).loc Cert.ProjXIdeal.main_v0_0) = v0 c
          ∧ r.2.mem ((c.tc : Thread Cert.ProjXIdeal.nD Cert.ProjXIdeal.τ).loc Cert.ProjXIdeal.main_v0_1) = v1 c
          ∧ r.2.mem ((c.tc : Thread Cert.ProjXIdeal.nD Cert.ProjXIdeal.τ).loc Cert.ProjXIdeal.main_v0_2) = v2 c
          ∧ r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
          ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1)
          ∧ r.2.mem ((c.tc : Thread Cert.ProjXIdeal.nD Cert.ProjXIdeal.τ).loc Cert.ProjXIdeal.main_arg2) = m ((c.tc : Thread Cert.ProjXIdeal.nD Cert.ProjXIdeal.τ).loc Cert.ProjXIdeal.main_arg2)
          ∧ r.2.mem ((c.tc : Thread Cert.ProjXIdeal.nD Cert.ProjXIdeal.τ).loc Cert.ProjXIdeal.main_arg3) = m ((c.tc : Thread Cert.ProjXIdeal.nD Cert.ProjXIdeal.τ).loc Cert.ProjXIdeal.main_arg3)
          ∧ r.2.mem ((c.tc : Thread Cert.ProjXIdeal.nD Cert.ProjXIdeal.τ).loc Cert.ProjXIdeal.main_arg4) = m ((c.tc : Thread Cert.ProjXIdeal.nD Cert.ProjXIdeal.τ).loc Cert.ProjXIdeal.main_arg4)
          ∧ r.2.mem ((c.tc : Thread Cert.ProjXIdeal.nD Cert.ProjXIdeal.τ).loc Cert.ProjXIdeal.main_arg5) = m ((c.tc : Thread Cert.ProjXIdeal.nD Cert.ProjXIdeal.τ).loc Cert.ProjXIdeal.main_arg5)
          ∧ r.2.mem ((c.tc : Thread Cert.ProjXIdeal.nD Cert.ProjXIdeal.τ).loc Cert.ProjXIdeal.main_arg6) = m ((c.tc : Thread Cert.ProjXIdeal.nD Cert.ProjXIdeal.τ).loc Cert.ProjXIdeal.main_arg6))
      ∧ θ_run (Cert.ProjXReferenceIdeal.defs (F := Ideal)) (onTc (τ := Cert.ProjXReferenceIdeal.τ) (Cert.ProjXReferenceIdeal.main (F := Ideal))) ⟨m', fun _ => 0, g'⟩ (fun r => ∀ c : Dev Cert.ProjXReferenceIdeal.nD,
          r.2.mem ((c.tc : Thread Cert.ProjXReferenceIdeal.nD Cert.ProjXReferenceIdeal.τ).loc Cert.ProjXReferenceIdeal.main_v49) = v0 c
          ∧ r.2.mem ((c.tc : Thread Cert.ProjXReferenceIdeal.nD Cert.ProjXReferenceIdeal.τ).loc Cert.ProjXReferenceIdeal.main_v50) = v1 c
          ∧ r.2.mem ((c.tc : Thread Cert.ProjXReferenceIdeal.nD Cert.ProjXReferenceIdeal.τ).loc Cert.ProjXReferenceIdeal.main_v32) = v2 c
          ∧ r.2.mem ((c.tc : Thread Cert.ProjXReferenceIdeal.nD Cert.ProjXReferenceIdeal.τ).loc Cert.ProjXReferenceIdeal.main_arg0) = m' ((c.tc : Thread Cert.ProjXReferenceIdeal.nD Cert.ProjXReferenceIdeal.τ).loc Cert.ProjXReferenceIdeal.main_arg0)
          ∧ r.2.mem ((c.tc : Thread Cert.ProjXReferenceIdeal.nD Cert.ProjXReferenceIdeal.τ).loc Cert.ProjXReferenceIdeal.main_arg1) = m' ((c.tc : Thread Cert.ProjXReferenceIdeal.nD Cert.ProjXReferenceIdeal.τ).loc Cert.ProjXReferenceIdeal.main_arg1)
          ∧ r.2.mem ((c.tc : Thread Cert.ProjXReferenceIdeal.nD Cert.ProjXReferenceIdeal.τ).loc Cert.ProjXReferenceIdeal.main_arg2) = m' ((c.tc : Thread Cert.ProjXReferenceIdeal.nD Cert.ProjXReferenceIdeal.τ).loc Cert.ProjXReferenceIdeal.main_arg2)
          ∧ r.2.mem ((c.tc : Thread Cert.ProjXReferenceIdeal.nD Cert.ProjXReferenceIdeal.τ).loc Cert.ProjXReferenceIdeal.main_arg3) = m' ((c.tc : Thread Cert.ProjXReferenceIdeal.nD Cert.ProjXReferenceIdeal.τ).loc Cert.ProjXReferenceIdeal.main_arg3)
          ∧ r.2.mem ((c.tc : Thread Cert.ProjXReferenceIdeal.nD Cert.ProjXReferenceIdeal.τ).loc Cert.ProjXReferenceIdeal.main_arg4) = m' ((c.tc : Thread Cert.ProjXReferenceIdeal.nD Cert.ProjXReferenceIdeal.τ).loc Cert.ProjXReferenceIdeal.main_arg4)
          ∧ r.2.mem ((c.tc : Thread Cert.ProjXReferenceIdeal.nD Cert.ProjXReferenceIdeal.τ).loc Cert.ProjXReferenceIdeal.main_arg5) = m' ((c.tc : Thread Cert.ProjXReferenceIdeal.nD Cert.ProjXReferenceIdeal.τ).loc Cert.ProjXReferenceIdeal.main_arg5)
          ∧ r.2.mem ((c.tc : Thread Cert.ProjXReferenceIdeal.nD Cert.ProjXReferenceIdeal.τ).loc Cert.ProjXReferenceIdeal.main_arg6) = m' ((c.tc : Thread Cert.ProjXReferenceIdeal.nD Cert.ProjXReferenceIdeal.τ).loc Cert.ProjXReferenceIdeal.main_arg6))

def preserves_ProjQkvW_ProjQkvWIdeal : Prop :=
  True

def algebraic_ProjQkvWIdeal_ProjQkvWReferenceIdeal [hProjQkvWIdeal : Cert.ProjQkvWIdeal.Facts] [hProjQkvWReferenceIdeal : Cert.ProjQkvWReferenceIdeal.Facts] : Prop :=
  ∀ (m : (ℓ : Loc Cert.ProjQkvWIdeal.nD Cert.ProjQkvWIdeal.τ Cert.ProjQkvWIdeal.sig) → Buf (Elt Ideal) ℓ) (g : Dev Cert.ProjQkvWIdeal.nD → PrngReg)
    (m' : (ℓ : Loc Cert.ProjQkvWReferenceIdeal.nD Cert.ProjQkvWReferenceIdeal.τ Cert.ProjQkvWReferenceIdeal.sig) → Buf (Elt Ideal) ℓ) (g' : Dev Cert.ProjQkvWReferenceIdeal.nD → PrngReg), Pre_ProjQkvWIdeal m →
    (∀ c : Dev Cert.ProjQkvWIdeal.nD,
      m' ((c.tc : Thread Cert.ProjQkvWReferenceIdeal.nD Cert.ProjQkvWReferenceIdeal.τ).loc Cert.ProjQkvWReferenceIdeal.main_arg0) = m ((c.tc : Thread Cert.ProjQkvWIdeal.nD Cert.ProjQkvWIdeal.τ).loc Cert.ProjQkvWIdeal.main_arg0)
      ∧ m' ((c.tc : Thread Cert.ProjQkvWReferenceIdeal.nD Cert.ProjQkvWReferenceIdeal.τ).loc Cert.ProjQkvWReferenceIdeal.main_arg1) = m ((c.tc : Thread Cert.ProjQkvWIdeal.nD Cert.ProjQkvWIdeal.τ).loc Cert.ProjQkvWIdeal.main_arg1)) →
    ∃ (v0 : (c : Dev Cert.ProjQkvWIdeal.nD) → Buf (Elt Ideal) ((c.tc : Thread Cert.ProjQkvWIdeal.nD Cert.ProjQkvWIdeal.τ).loc Cert.ProjQkvWIdeal.main_v0)),
      θ_run (Cert.ProjQkvWIdeal.defs (F := Ideal)) (onTc (τ := Cert.ProjQkvWIdeal.τ) (Cert.ProjQkvWIdeal.main (F := Ideal))) ⟨m, fun _ => 0, g⟩ (fun r => ∀ c : Dev Cert.ProjQkvWIdeal.nD,
          r.2.mem ((c.tc : Thread Cert.ProjQkvWIdeal.nD Cert.ProjQkvWIdeal.τ).loc Cert.ProjQkvWIdeal.main_v0) = v0 c
          ∧ r.2.mem ((c.tc : Thread Cert.ProjQkvWIdeal.nD Cert.ProjQkvWIdeal.τ).loc Cert.ProjQkvWIdeal.main_arg0) = m ((c.tc : Thread Cert.ProjQkvWIdeal.nD Cert.ProjQkvWIdeal.τ).loc Cert.ProjQkvWIdeal.main_arg0)
          ∧ r.2.mem ((c.tc : Thread Cert.ProjQkvWIdeal.nD Cert.ProjQkvWIdeal.τ).loc Cert.ProjQkvWIdeal.main_arg1) = m ((c.tc : Thread Cert.ProjQkvWIdeal.nD Cert.ProjQkvWIdeal.τ).loc Cert.ProjQkvWIdeal.main_arg1))
      ∧ θ_run (Cert.ProjQkvWReferenceIdeal.defs (F := Ideal)) (onTc (τ := Cert.ProjQkvWReferenceIdeal.τ) (Cert.ProjQkvWReferenceIdeal.main (F := Ideal))) ⟨m', fun _ => 0, g'⟩ (fun r => ∀ c : Dev Cert.ProjQkvWReferenceIdeal.nD,
          r.2.mem ((c.tc : Thread Cert.ProjQkvWReferenceIdeal.nD Cert.ProjQkvWReferenceIdeal.τ).loc Cert.ProjQkvWReferenceIdeal.main_v6) = v0 c
          ∧ r.2.mem ((c.tc : Thread Cert.ProjQkvWReferenceIdeal.nD Cert.ProjQkvWReferenceIdeal.τ).loc Cert.ProjQkvWReferenceIdeal.main_arg0) = m' ((c.tc : Thread Cert.ProjQkvWReferenceIdeal.nD Cert.ProjQkvWReferenceIdeal.τ).loc Cert.ProjQkvWReferenceIdeal.main_arg0)
          ∧ r.2.mem ((c.tc : Thread Cert.ProjQkvWReferenceIdeal.nD Cert.ProjQkvWReferenceIdeal.τ).loc Cert.ProjQkvWReferenceIdeal.main_arg1) = m' ((c.tc : Thread Cert.ProjQkvWReferenceIdeal.nD Cert.ProjQkvWReferenceIdeal.τ).loc Cert.ProjQkvWReferenceIdeal.main_arg1))

def preserves_ProjGatesW_ProjGatesWIdeal : Prop :=
  True

def algebraic_ProjGatesWIdeal_ProjGatesWReferenceIdeal [hProjGatesWIdeal : Cert.ProjGatesWIdeal.Facts] [hProjGatesWReferenceIdeal : Cert.ProjGatesWReferenceIdeal.Facts] : Prop :=
  ∀ (m : (ℓ : Loc Cert.ProjGatesWIdeal.nD Cert.ProjGatesWIdeal.τ Cert.ProjGatesWIdeal.sig) → Buf (Elt Ideal) ℓ) (g : Dev Cert.ProjGatesWIdeal.nD → PrngReg)
    (m' : (ℓ : Loc Cert.ProjGatesWReferenceIdeal.nD Cert.ProjGatesWReferenceIdeal.τ Cert.ProjGatesWReferenceIdeal.sig) → Buf (Elt Ideal) ℓ) (g' : Dev Cert.ProjGatesWReferenceIdeal.nD → PrngReg), Pre_ProjGatesWIdeal m →
    (∀ c : Dev Cert.ProjGatesWIdeal.nD,
      m' ((c.tc : Thread Cert.ProjGatesWReferenceIdeal.nD Cert.ProjGatesWReferenceIdeal.τ).loc Cert.ProjGatesWReferenceIdeal.main_arg0) = m ((c.tc : Thread Cert.ProjGatesWIdeal.nD Cert.ProjGatesWIdeal.τ).loc Cert.ProjGatesWIdeal.main_arg0)
      ∧ m' ((c.tc : Thread Cert.ProjGatesWReferenceIdeal.nD Cert.ProjGatesWReferenceIdeal.τ).loc Cert.ProjGatesWReferenceIdeal.main_arg1) = m ((c.tc : Thread Cert.ProjGatesWIdeal.nD Cert.ProjGatesWIdeal.τ).loc Cert.ProjGatesWIdeal.main_arg1)) →
    ∃ (v0 : (c : Dev Cert.ProjGatesWIdeal.nD) → Buf (Elt Ideal) ((c.tc : Thread Cert.ProjGatesWIdeal.nD Cert.ProjGatesWIdeal.τ).loc Cert.ProjGatesWIdeal.main_v0)),
      θ_run (Cert.ProjGatesWIdeal.defs (F := Ideal)) (onTc (τ := Cert.ProjGatesWIdeal.τ) (Cert.ProjGatesWIdeal.main (F := Ideal))) ⟨m, fun _ => 0, g⟩ (fun r => ∀ c : Dev Cert.ProjGatesWIdeal.nD,
          r.2.mem ((c.tc : Thread Cert.ProjGatesWIdeal.nD Cert.ProjGatesWIdeal.τ).loc Cert.ProjGatesWIdeal.main_v0) = v0 c
          ∧ r.2.mem ((c.tc : Thread Cert.ProjGatesWIdeal.nD Cert.ProjGatesWIdeal.τ).loc Cert.ProjGatesWIdeal.main_arg0) = m ((c.tc : Thread Cert.ProjGatesWIdeal.nD Cert.ProjGatesWIdeal.τ).loc Cert.ProjGatesWIdeal.main_arg0)
          ∧ r.2.mem ((c.tc : Thread Cert.ProjGatesWIdeal.nD Cert.ProjGatesWIdeal.τ).loc Cert.ProjGatesWIdeal.main_arg1) = m ((c.tc : Thread Cert.ProjGatesWIdeal.nD Cert.ProjGatesWIdeal.τ).loc Cert.ProjGatesWIdeal.main_arg1))
      ∧ θ_run (Cert.ProjGatesWReferenceIdeal.defs (F := Ideal)) (onTc (τ := Cert.ProjGatesWReferenceIdeal.τ) (Cert.ProjGatesWReferenceIdeal.main (F := Ideal))) ⟨m', fun _ => 0, g'⟩ (fun r => ∀ c : Dev Cert.ProjGatesWReferenceIdeal.nD,
          r.2.mem ((c.tc : Thread Cert.ProjGatesWReferenceIdeal.nD Cert.ProjGatesWReferenceIdeal.τ).loc Cert.ProjGatesWReferenceIdeal.main_v6) = v0 c
          ∧ r.2.mem ((c.tc : Thread Cert.ProjGatesWReferenceIdeal.nD Cert.ProjGatesWReferenceIdeal.τ).loc Cert.ProjGatesWReferenceIdeal.main_arg0) = m' ((c.tc : Thread Cert.ProjGatesWReferenceIdeal.nD Cert.ProjGatesWReferenceIdeal.τ).loc Cert.ProjGatesWReferenceIdeal.main_arg0)
          ∧ r.2.mem ((c.tc : Thread Cert.ProjGatesWReferenceIdeal.nD Cert.ProjGatesWReferenceIdeal.τ).loc Cert.ProjGatesWReferenceIdeal.main_arg1) = m' ((c.tc : Thread Cert.ProjGatesWReferenceIdeal.nD Cert.ProjGatesWReferenceIdeal.τ).loc Cert.ProjGatesWReferenceIdeal.main_arg1))

def preserves_ProjFW_ProjFWIdeal : Prop :=
  True

def algebraic_ProjFWIdeal_ProjFWReferenceIdeal [hProjFWIdeal : Cert.ProjFWIdeal.Facts] [hProjFWReferenceIdeal : Cert.ProjFWReferenceIdeal.Facts] : Prop :=
  ∀ (m : (ℓ : Loc Cert.ProjFWIdeal.nD Cert.ProjFWIdeal.τ Cert.ProjFWIdeal.sig) → Buf (Elt Ideal) ℓ) (g : Dev Cert.ProjFWIdeal.nD → PrngReg)
    (m' : (ℓ : Loc Cert.ProjFWReferenceIdeal.nD Cert.ProjFWReferenceIdeal.τ Cert.ProjFWReferenceIdeal.sig) → Buf (Elt Ideal) ℓ) (g' : Dev Cert.ProjFWReferenceIdeal.nD → PrngReg), Pre_ProjFWIdeal m →
    (∀ c : Dev Cert.ProjFWIdeal.nD,
      m' ((c.tc : Thread Cert.ProjFWReferenceIdeal.nD Cert.ProjFWReferenceIdeal.τ).loc Cert.ProjFWReferenceIdeal.main_arg0) = m ((c.tc : Thread Cert.ProjFWIdeal.nD Cert.ProjFWIdeal.τ).loc Cert.ProjFWIdeal.main_arg0)
      ∧ m' ((c.tc : Thread Cert.ProjFWReferenceIdeal.nD Cert.ProjFWReferenceIdeal.τ).loc Cert.ProjFWReferenceIdeal.main_arg1) = m ((c.tc : Thread Cert.ProjFWIdeal.nD Cert.ProjFWIdeal.τ).loc Cert.ProjFWIdeal.main_arg1)) →
    ∃ (v0 : (c : Dev Cert.ProjFWIdeal.nD) → Buf (Elt Ideal) ((c.tc : Thread Cert.ProjFWIdeal.nD Cert.ProjFWIdeal.τ).loc Cert.ProjFWIdeal.main_v0)),
      θ_run (Cert.ProjFWIdeal.defs (F := Ideal)) (onTc (τ := Cert.ProjFWIdeal.τ) (Cert.ProjFWIdeal.main (F := Ideal))) ⟨m, fun _ => 0, g⟩ (fun r => ∀ c : Dev Cert.ProjFWIdeal.nD,
          r.2.mem ((c.tc : Thread Cert.ProjFWIdeal.nD Cert.ProjFWIdeal.τ).loc Cert.ProjFWIdeal.main_v0) = v0 c
          ∧ r.2.mem ((c.tc : Thread Cert.ProjFWIdeal.nD Cert.ProjFWIdeal.τ).loc Cert.ProjFWIdeal.main_arg0) = m ((c.tc : Thread Cert.ProjFWIdeal.nD Cert.ProjFWIdeal.τ).loc Cert.ProjFWIdeal.main_arg0)
          ∧ r.2.mem ((c.tc : Thread Cert.ProjFWIdeal.nD Cert.ProjFWIdeal.τ).loc Cert.ProjFWIdeal.main_arg1) = m ((c.tc : Thread Cert.ProjFWIdeal.nD Cert.ProjFWIdeal.τ).loc Cert.ProjFWIdeal.main_arg1))
      ∧ θ_run (Cert.ProjFWReferenceIdeal.defs (F := Ideal)) (onTc (τ := Cert.ProjFWReferenceIdeal.τ) (Cert.ProjFWReferenceIdeal.main (F := Ideal))) ⟨m', fun _ => 0, g'⟩ (fun r => ∀ c : Dev Cert.ProjFWReferenceIdeal.nD,
          r.2.mem ((c.tc : Thread Cert.ProjFWReferenceIdeal.nD Cert.ProjFWReferenceIdeal.τ).loc Cert.ProjFWReferenceIdeal.main_v6) = v0 c
          ∧ r.2.mem ((c.tc : Thread Cert.ProjFWReferenceIdeal.nD Cert.ProjFWReferenceIdeal.τ).loc Cert.ProjFWReferenceIdeal.main_arg0) = m' ((c.tc : Thread Cert.ProjFWReferenceIdeal.nD Cert.ProjFWReferenceIdeal.τ).loc Cert.ProjFWReferenceIdeal.main_arg0)
          ∧ r.2.mem ((c.tc : Thread Cert.ProjFWReferenceIdeal.nD Cert.ProjFWReferenceIdeal.τ).loc Cert.ProjFWReferenceIdeal.main_arg1) = m' ((c.tc : Thread Cert.ProjFWReferenceIdeal.nD Cert.ProjFWReferenceIdeal.τ).loc Cert.ProjFWReferenceIdeal.main_arg1))

def preserves_MixOutW_MixOutWIdeal : Prop :=
  True

def algebraic_MixOutWIdeal_MixOutWReferenceIdeal [hMixOutWIdeal : Cert.MixOutWIdeal.Facts] [hMixOutWReferenceIdeal : Cert.MixOutWReferenceIdeal.Facts] : Prop :=
  ∀ (m : (ℓ : Loc Cert.MixOutWIdeal.nD Cert.MixOutWIdeal.τ Cert.MixOutWIdeal.sig) → Buf (Elt Ideal) ℓ) (g : Dev Cert.MixOutWIdeal.nD → PrngReg)
    (m' : (ℓ : Loc Cert.MixOutWReferenceIdeal.nD Cert.MixOutWReferenceIdeal.τ Cert.MixOutWReferenceIdeal.sig) → Buf (Elt Ideal) ℓ) (g' : Dev Cert.MixOutWReferenceIdeal.nD → PrngReg), Pre_MixOutWIdeal m →
    (∀ c : Dev Cert.MixOutWIdeal.nD,
      m' ((c.tc : Thread Cert.MixOutWReferenceIdeal.nD Cert.MixOutWReferenceIdeal.τ).loc Cert.MixOutWReferenceIdeal.main_arg0) = m ((c.tc : Thread Cert.MixOutWIdeal.nD Cert.MixOutWIdeal.τ).loc Cert.MixOutWIdeal.main_arg0)
      ∧ m' ((c.tc : Thread Cert.MixOutWReferenceIdeal.nD Cert.MixOutWReferenceIdeal.τ).loc Cert.MixOutWReferenceIdeal.main_arg1) = m ((c.tc : Thread Cert.MixOutWIdeal.nD Cert.MixOutWIdeal.τ).loc Cert.MixOutWIdeal.main_arg1)) →
    ∃ (v0 : (c : Dev Cert.MixOutWIdeal.nD) → Buf (Elt Ideal) ((c.tc : Thread Cert.MixOutWIdeal.nD Cert.MixOutWIdeal.τ).loc Cert.MixOutWIdeal.main_v0)),
      θ_run (Cert.MixOutWIdeal.defs (F := Ideal)) (onTc (τ := Cert.MixOutWIdeal.τ) (Cert.MixOutWIdeal.main (F := Ideal))) ⟨m, fun _ => 0, g⟩ (fun r => ∀ c : Dev Cert.MixOutWIdeal.nD,
          r.2.mem ((c.tc : Thread Cert.MixOutWIdeal.nD Cert.MixOutWIdeal.τ).loc Cert.MixOutWIdeal.main_v0) = v0 c
          ∧ r.2.mem ((c.tc : Thread Cert.MixOutWIdeal.nD Cert.MixOutWIdeal.τ).loc Cert.MixOutWIdeal.main_arg0) = m ((c.tc : Thread Cert.MixOutWIdeal.nD Cert.MixOutWIdeal.τ).loc Cert.MixOutWIdeal.main_arg0)
          ∧ r.2.mem ((c.tc : Thread Cert.MixOutWIdeal.nD Cert.MixOutWIdeal.τ).loc Cert.MixOutWIdeal.main_arg1) = m ((c.tc : Thread Cert.MixOutWIdeal.nD Cert.MixOutWIdeal.τ).loc Cert.MixOutWIdeal.main_arg1))
      ∧ θ_run (Cert.MixOutWReferenceIdeal.defs (F := Ideal)) (onTc (τ := Cert.MixOutWReferenceIdeal.τ) (Cert.MixOutWReferenceIdeal.main (F := Ideal))) ⟨m', fun _ => 0, g'⟩ (fun r => ∀ c : Dev Cert.MixOutWReferenceIdeal.nD,
          r.2.mem ((c.tc : Thread Cert.MixOutWReferenceIdeal.nD Cert.MixOutWReferenceIdeal.τ).loc Cert.MixOutWReferenceIdeal.main_v6) = v0 c
          ∧ r.2.mem ((c.tc : Thread Cert.MixOutWReferenceIdeal.nD Cert.MixOutWReferenceIdeal.τ).loc Cert.MixOutWReferenceIdeal.main_arg0) = m' ((c.tc : Thread Cert.MixOutWReferenceIdeal.nD Cert.MixOutWReferenceIdeal.τ).loc Cert.MixOutWReferenceIdeal.main_arg0)
          ∧ r.2.mem ((c.tc : Thread Cert.MixOutWReferenceIdeal.nD Cert.MixOutWReferenceIdeal.τ).loc Cert.MixOutWReferenceIdeal.main_arg1) = m' ((c.tc : Thread Cert.MixOutWReferenceIdeal.nD Cert.MixOutWReferenceIdeal.τ).loc Cert.MixOutWReferenceIdeal.main_arg1))

def preserves_BranchX_BranchXIdeal : Prop :=
  True

def algebraic_BranchXIdeal_BranchXReferenceIdeal [hBranchXIdeal : Cert.BranchXIdeal.Facts] [hBranchXReferenceIdeal : Cert.BranchXReferenceIdeal.Facts] : Prop :=
  ∀ (m : (ℓ : Loc Cert.BranchXIdeal.nD Cert.BranchXIdeal.τ Cert.BranchXIdeal.sig) → Buf (Elt Ideal) ℓ) (g : Dev Cert.BranchXIdeal.nD → PrngReg)
    (m' : (ℓ : Loc Cert.BranchXReferenceIdeal.nD Cert.BranchXReferenceIdeal.τ Cert.BranchXReferenceIdeal.sig) → Buf (Elt Ideal) ℓ) (g' : Dev Cert.BranchXReferenceIdeal.nD → PrngReg), Pre_BranchXIdeal m →
    (∀ c : Dev Cert.BranchXIdeal.nD,
      m' ((c.tc : Thread Cert.BranchXReferenceIdeal.nD Cert.BranchXReferenceIdeal.τ).loc Cert.BranchXReferenceIdeal.main_arg0) = m ((c.tc : Thread Cert.BranchXIdeal.nD Cert.BranchXIdeal.τ).loc Cert.BranchXIdeal.main_arg0)
      ∧ m' ((c.tc : Thread Cert.BranchXReferenceIdeal.nD Cert.BranchXReferenceIdeal.τ).loc Cert.BranchXReferenceIdeal.main_arg1) = m ((c.tc : Thread Cert.BranchXIdeal.nD Cert.BranchXIdeal.τ).loc Cert.BranchXIdeal.main_arg1)
      ∧ m' ((c.tc : Thread Cert.BranchXReferenceIdeal.nD Cert.BranchXReferenceIdeal.τ).loc Cert.BranchXReferenceIdeal.main_arg2) = m ((c.tc : Thread Cert.BranchXIdeal.nD Cert.BranchXIdeal.τ).loc Cert.BranchXIdeal.main_arg2)
      ∧ m' ((c.tc : Thread Cert.BranchXReferenceIdeal.nD Cert.BranchXReferenceIdeal.τ).loc Cert.BranchXReferenceIdeal.main_arg3) = m ((c.tc : Thread Cert.BranchXIdeal.nD Cert.BranchXIdeal.τ).loc Cert.BranchXIdeal.main_arg3)) →
    ∃ (v0 : (c : Dev Cert.BranchXIdeal.nD) → Buf (Elt Ideal) ((c.tc : Thread Cert.BranchXIdeal.nD Cert.BranchXIdeal.τ).loc Cert.BranchXIdeal.main_v0_0)) (v1 : (c : Dev Cert.BranchXIdeal.nD) → Buf (Elt Ideal) ((c.tc : Thread Cert.BranchXIdeal.nD Cert.BranchXIdeal.τ).loc Cert.BranchXIdeal.main_v0_1)),
      θ_run (Cert.BranchXIdeal.defs (F := Ideal)) (onTc (τ := Cert.BranchXIdeal.τ) (Cert.BranchXIdeal.main (F := Ideal))) ⟨m, fun _ => 0, g⟩ (fun r => ∀ c : Dev Cert.BranchXIdeal.nD,
          r.2.mem ((c.tc : Thread Cert.BranchXIdeal.nD Cert.BranchXIdeal.τ).loc Cert.BranchXIdeal.main_v0_0) = v0 c
          ∧ r.2.mem ((c.tc : Thread Cert.BranchXIdeal.nD Cert.BranchXIdeal.τ).loc Cert.BranchXIdeal.main_v0_1) = v1 c
          ∧ r.2.mem ((c.tc : Thread Cert.BranchXIdeal.nD Cert.BranchXIdeal.τ).loc Cert.BranchXIdeal.main_arg0) = m ((c.tc : Thread Cert.BranchXIdeal.nD Cert.BranchXIdeal.τ).loc Cert.BranchXIdeal.main_arg0)
          ∧ r.2.mem ((c.tc : Thread Cert.BranchXIdeal.nD Cert.BranchXIdeal.τ).loc Cert.BranchXIdeal.main_arg1) = m ((c.tc : Thread Cert.BranchXIdeal.nD Cert.BranchXIdeal.τ).loc Cert.BranchXIdeal.main_arg1)
          ∧ r.2.mem ((c.tc : Thread Cert.BranchXIdeal.nD Cert.BranchXIdeal.τ).loc Cert.BranchXIdeal.main_arg2) = m ((c.tc : Thread Cert.BranchXIdeal.nD Cert.BranchXIdeal.τ).loc Cert.BranchXIdeal.main_arg2)
          ∧ r.2.mem ((c.tc : Thread Cert.BranchXIdeal.nD Cert.BranchXIdeal.τ).loc Cert.BranchXIdeal.main_arg3) = m ((c.tc : Thread Cert.BranchXIdeal.nD Cert.BranchXIdeal.τ).loc Cert.BranchXIdeal.main_arg3))
      ∧ θ_run (Cert.BranchXReferenceIdeal.defs (F := Ideal)) (onTc (τ := Cert.BranchXReferenceIdeal.τ) (Cert.BranchXReferenceIdeal.main (F := Ideal))) ⟨m', fun _ => 0, g'⟩ (fun r => ∀ c : Dev Cert.BranchXReferenceIdeal.nD,
          r.2.mem ((c.tc : Thread Cert.BranchXReferenceIdeal.nD Cert.BranchXReferenceIdeal.τ).loc Cert.BranchXReferenceIdeal.main_v8) = v0 c
          ∧ r.2.mem ((c.tc : Thread Cert.BranchXReferenceIdeal.nD Cert.BranchXReferenceIdeal.τ).loc Cert.BranchXReferenceIdeal.main_v9) = v1 c
          ∧ r.2.mem ((c.tc : Thread Cert.BranchXReferenceIdeal.nD Cert.BranchXReferenceIdeal.τ).loc Cert.BranchXReferenceIdeal.main_arg0) = m' ((c.tc : Thread Cert.BranchXReferenceIdeal.nD Cert.BranchXReferenceIdeal.τ).loc Cert.BranchXReferenceIdeal.main_arg0)
          ∧ r.2.mem ((c.tc : Thread Cert.BranchXReferenceIdeal.nD Cert.BranchXReferenceIdeal.τ).loc Cert.BranchXReferenceIdeal.main_arg1) = m' ((c.tc : Thread Cert.BranchXReferenceIdeal.nD Cert.BranchXReferenceIdeal.τ).loc Cert.BranchXReferenceIdeal.main_arg1)
          ∧ r.2.mem ((c.tc : Thread Cert.BranchXReferenceIdeal.nD Cert.BranchXReferenceIdeal.τ).loc Cert.BranchXReferenceIdeal.main_arg2) = m' ((c.tc : Thread Cert.BranchXReferenceIdeal.nD Cert.BranchXReferenceIdeal.τ).loc Cert.BranchXReferenceIdeal.main_arg2)
          ∧ r.2.mem ((c.tc : Thread Cert.BranchXReferenceIdeal.nD Cert.BranchXReferenceIdeal.τ).loc Cert.BranchXReferenceIdeal.main_arg3) = m' ((c.tc : Thread Cert.BranchXReferenceIdeal.nD Cert.BranchXReferenceIdeal.τ).loc Cert.BranchXReferenceIdeal.main_arg3))

def preserves_BranchW_BranchWIdeal : Prop :=
  True

def algebraic_BranchWIdeal_BranchWReferenceIdeal [hBranchWIdeal : Cert.BranchWIdeal.Facts] [hBranchWReferenceIdeal : Cert.BranchWReferenceIdeal.Facts] : Prop :=
  ∀ (m : (ℓ : Loc Cert.BranchWIdeal.nD Cert.BranchWIdeal.τ Cert.BranchWIdeal.sig) → Buf (Elt Ideal) ℓ) (g : Dev Cert.BranchWIdeal.nD → PrngReg)
    (m' : (ℓ : Loc Cert.BranchWReferenceIdeal.nD Cert.BranchWReferenceIdeal.τ Cert.BranchWReferenceIdeal.sig) → Buf (Elt Ideal) ℓ) (g' : Dev Cert.BranchWReferenceIdeal.nD → PrngReg), Pre_BranchWIdeal m →
    (∀ c : Dev Cert.BranchWIdeal.nD,
      m' ((c.tc : Thread Cert.BranchWReferenceIdeal.nD Cert.BranchWReferenceIdeal.τ).loc Cert.BranchWReferenceIdeal.main_arg0) = m ((c.tc : Thread Cert.BranchWIdeal.nD Cert.BranchWIdeal.τ).loc Cert.BranchWIdeal.main_arg0)
      ∧ m' ((c.tc : Thread Cert.BranchWReferenceIdeal.nD Cert.BranchWReferenceIdeal.τ).loc Cert.BranchWReferenceIdeal.main_arg1) = m ((c.tc : Thread Cert.BranchWIdeal.nD Cert.BranchWIdeal.τ).loc Cert.BranchWIdeal.main_arg1)
      ∧ m' ((c.tc : Thread Cert.BranchWReferenceIdeal.nD Cert.BranchWReferenceIdeal.τ).loc Cert.BranchWReferenceIdeal.main_arg2) = m ((c.tc : Thread Cert.BranchWIdeal.nD Cert.BranchWIdeal.τ).loc Cert.BranchWIdeal.main_arg2)
      ∧ m' ((c.tc : Thread Cert.BranchWReferenceIdeal.nD Cert.BranchWReferenceIdeal.τ).loc Cert.BranchWReferenceIdeal.main_arg3) = m ((c.tc : Thread Cert.BranchWIdeal.nD Cert.BranchWIdeal.τ).loc Cert.BranchWIdeal.main_arg3)) →
    ∃ (v0 : (c : Dev Cert.BranchWIdeal.nD) → Buf (Elt Ideal) ((c.tc : Thread Cert.BranchWIdeal.nD Cert.BranchWIdeal.τ).loc Cert.BranchWIdeal.main_v0_0)) (v1 : (c : Dev Cert.BranchWIdeal.nD) → Buf (Elt Ideal) ((c.tc : Thread Cert.BranchWIdeal.nD Cert.BranchWIdeal.τ).loc Cert.BranchWIdeal.main_v0_1)),
      θ_run (Cert.BranchWIdeal.defs (F := Ideal)) (onTc (τ := Cert.BranchWIdeal.τ) (Cert.BranchWIdeal.main (F := Ideal))) ⟨m, fun _ => 0, g⟩ (fun r => ∀ c : Dev Cert.BranchWIdeal.nD,
          r.2.mem ((c.tc : Thread Cert.BranchWIdeal.nD Cert.BranchWIdeal.τ).loc Cert.BranchWIdeal.main_v0_0) = v0 c
          ∧ r.2.mem ((c.tc : Thread Cert.BranchWIdeal.nD Cert.BranchWIdeal.τ).loc Cert.BranchWIdeal.main_v0_1) = v1 c
          ∧ r.2.mem ((c.tc : Thread Cert.BranchWIdeal.nD Cert.BranchWIdeal.τ).loc Cert.BranchWIdeal.main_arg0) = m ((c.tc : Thread Cert.BranchWIdeal.nD Cert.BranchWIdeal.τ).loc Cert.BranchWIdeal.main_arg0)
          ∧ r.2.mem ((c.tc : Thread Cert.BranchWIdeal.nD Cert.BranchWIdeal.τ).loc Cert.BranchWIdeal.main_arg1) = m ((c.tc : Thread Cert.BranchWIdeal.nD Cert.BranchWIdeal.τ).loc Cert.BranchWIdeal.main_arg1)
          ∧ r.2.mem ((c.tc : Thread Cert.BranchWIdeal.nD Cert.BranchWIdeal.τ).loc Cert.BranchWIdeal.main_arg2) = m ((c.tc : Thread Cert.BranchWIdeal.nD Cert.BranchWIdeal.τ).loc Cert.BranchWIdeal.main_arg2)
          ∧ r.2.mem ((c.tc : Thread Cert.BranchWIdeal.nD Cert.BranchWIdeal.τ).loc Cert.BranchWIdeal.main_arg3) = m ((c.tc : Thread Cert.BranchWIdeal.nD Cert.BranchWIdeal.τ).loc Cert.BranchWIdeal.main_arg3))
      ∧ θ_run (Cert.BranchWReferenceIdeal.defs (F := Ideal)) (onTc (τ := Cert.BranchWReferenceIdeal.τ) (Cert.BranchWReferenceIdeal.main (F := Ideal))) ⟨m', fun _ => 0, g'⟩ (fun r => ∀ c : Dev Cert.BranchWReferenceIdeal.nD,
          r.2.mem ((c.tc : Thread Cert.BranchWReferenceIdeal.nD Cert.BranchWReferenceIdeal.τ).loc Cert.BranchWReferenceIdeal.main_v6) = v0 c
          ∧ r.2.mem ((c.tc : Thread Cert.BranchWReferenceIdeal.nD Cert.BranchWReferenceIdeal.τ).loc Cert.BranchWReferenceIdeal.main_v13) = v1 c
          ∧ r.2.mem ((c.tc : Thread Cert.BranchWReferenceIdeal.nD Cert.BranchWReferenceIdeal.τ).loc Cert.BranchWReferenceIdeal.main_arg0) = m' ((c.tc : Thread Cert.BranchWReferenceIdeal.nD Cert.BranchWReferenceIdeal.τ).loc Cert.BranchWReferenceIdeal.main_arg0)
          ∧ r.2.mem ((c.tc : Thread Cert.BranchWReferenceIdeal.nD Cert.BranchWReferenceIdeal.τ).loc Cert.BranchWReferenceIdeal.main_arg1) = m' ((c.tc : Thread Cert.BranchWReferenceIdeal.nD Cert.BranchWReferenceIdeal.τ).loc Cert.BranchWReferenceIdeal.main_arg1)
          ∧ r.2.mem ((c.tc : Thread Cert.BranchWReferenceIdeal.nD Cert.BranchWReferenceIdeal.τ).loc Cert.BranchWReferenceIdeal.main_arg2) = m' ((c.tc : Thread Cert.BranchWReferenceIdeal.nD Cert.BranchWReferenceIdeal.τ).loc Cert.BranchWReferenceIdeal.main_arg2)
          ∧ r.2.mem ((c.tc : Thread Cert.BranchWReferenceIdeal.nD Cert.BranchWReferenceIdeal.τ).loc Cert.BranchWReferenceIdeal.main_arg3) = m' ((c.tc : Thread Cert.BranchWReferenceIdeal.nD Cert.BranchWReferenceIdeal.τ).loc Cert.BranchWReferenceIdeal.main_arg3))

def preserves_FfnIn_FfnInIdeal : Prop :=
  True

def algebraic_FfnInIdeal_FfnInReferenceIdeal_pre_finite_in [hFfnInIdeal : Cert.FfnInIdeal.Facts] [hFfnInReferenceIdeal : Cert.FfnInReferenceIdeal.Facts] [hPre_finite_in : Cert.Pre_finite_in.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal_finite_in m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v27) = v0 c
          ∧ r.2.mem ((c.tc : Thread Cert.FfnInReferenceIdeal.nD Cert.FfnInReferenceIdeal.τ).loc Cert.FfnInReferenceIdeal.main_v30) = v1 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)
      ∧ m' ((c.tc : Thread Cert.FfnOutReferenceIdeal.nD Cert.FfnOutReferenceIdeal.τ).loc Cert.FfnOutReferenceIdeal.main_arg2) = m ((c.tc : Thread Cert.FfnOutIdeal.nD Cert.FfnOutIdeal.τ).loc Cert.FfnOutIdeal.main_arg2)
      ∧ m' ((c.tc : Thread Cert.FfnOutReferenceIdeal.nD Cert.FfnOutReferenceIdeal.τ).loc Cert.FfnOutReferenceIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v5) = v0 c
          ∧ r.2.mem ((c.tc : Thread Cert.FfnOutReferenceIdeal.nD Cert.FfnOutReferenceIdeal.τ).loc Cert.FfnOutReferenceIdeal.main_v18) = v1 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1)
          ∧ r.2.mem ((c.tc : Thread Cert.FfnOutReferenceIdeal.nD Cert.FfnOutReferenceIdeal.τ).loc Cert.FfnOutReferenceIdeal.main_arg2) = m' ((c.tc : Thread Cert.FfnOutReferenceIdeal.nD Cert.FfnOutReferenceIdeal.τ).loc Cert.FfnOutReferenceIdeal.main_arg2)
          ∧ r.2.mem ((c.tc : Thread Cert.FfnOutReferenceIdeal.nD Cert.FfnOutReferenceIdeal.τ).loc Cert.FfnOutReferenceIdeal.main_arg3) = m' ((c.tc : Thread Cert.FfnOutReferenceIdeal.nD Cert.FfnOutReferenceIdeal.τ).loc Cert.FfnOutReferenceIdeal.main_arg3))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v3) = v0 c
          ∧ r.2.mem ((c.tc : Thread Cert.MixOutReferenceIdeal.nD Cert.MixOutReferenceIdeal.τ).loc Cert.MixOutReferenceIdeal.main_v16) = v1 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v4) = v0 c
          ∧ r.2.mem ((c.tc : Thread Cert.ProjReferenceIdeal.nD Cert.ProjReferenceIdeal.τ).loc Cert.ProjReferenceIdeal.main_v6) = v1 c
          ∧ r.2.mem ((c.tc : Thread Cert.ProjReferenceIdeal.nD Cert.ProjReferenceIdeal.τ).loc Cert.ProjReferenceIdeal.main_v7) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Branch_BranchIdeal : Prop :=
  True

def algebraic_BranchIdeal_BranchReferenceIdeal [hBranchIdeal : Cert.BranchIdeal.Facts] [hBranchReferenceIdeal : Cert.BranchReferenceIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchIdeal m →
    (∀ c : Dev Cert.BranchIdeal.nD,
      m' ((c.tc : Thread Cert.BranchReferenceIdeal.nD Cert.BranchReferenceIdeal.τ).loc Cert.BranchReferenceIdeal.main_arg0) = m ((c.tc : Thread Cert.BranchIdeal.nD Cert.BranchIdeal.τ).loc Cert.BranchIdeal.main_arg0)
      ∧ m' ((c.tc : Thread Cert.BranchReferenceIdeal.nD Cert.BranchReferenceIdeal.τ).loc Cert.BranchReferenceIdeal.main_arg1) = m ((c.tc : Thread Cert.BranchIdeal.nD Cert.BranchIdeal.τ).loc Cert.BranchIdeal.main_arg1)
      ∧ m' ((c.tc : Thread Cert.BranchReferenceIdeal.nD Cert.BranchReferenceIdeal.τ).loc Cert.BranchReferenceIdeal.main_arg2) = m ((c.tc : Thread Cert.BranchIdeal.nD Cert.BranchIdeal.τ).loc Cert.BranchIdeal.main_arg2)
      ∧ m' ((c.tc : Thread Cert.BranchReferenceIdeal.nD Cert.BranchReferenceIdeal.τ).loc Cert.BranchReferenceIdeal.main_arg3) = m ((c.tc : Thread Cert.BranchIdeal.nD Cert.BranchIdeal.τ).loc Cert.BranchIdeal.main_arg3)
      ∧ m' ((c.tc : Thread Cert.BranchReferenceIdeal.nD Cert.BranchReferenceIdeal.τ).loc Cert.BranchReferenceIdeal.main_arg4) = m ((c.tc : Thread Cert.BranchIdeal.nD Cert.BranchIdeal.τ).loc Cert.BranchIdeal.main_arg4)) →
    ∃ (v0 : (c : Dev Cert.BranchIdeal.nD) → Buf (Elt Ideal) ((c.tc : Thread Cert.BranchIdeal.nD Cert.BranchIdeal.τ).loc Cert.BranchIdeal.main_v0_0)) (v1 : (c : Dev Cert.BranchIdeal.nD) → Buf (Elt Ideal) ((c.tc : Thread Cert.BranchIdeal.nD Cert.BranchIdeal.τ).loc Cert.BranchIdeal.main_v0_1)) (v2 : (c : Dev Cert.BranchIdeal.nD) → Buf (Elt Ideal) ((c.tc : Thread Cert.BranchIdeal.nD Cert.BranchIdeal.τ).loc Cert.BranchIdeal.main_v0_2)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0_0) = v0 c
          ∧ r.2.mem ((c.tc : Thread Cert.BranchIdeal.nD Cert.BranchIdeal.τ).loc Cert.BranchIdeal.main_v0_1) = v1 c
          ∧ r.2.mem ((c.tc : Thread Cert.BranchIdeal.nD Cert.BranchIdeal.τ).loc Cert.BranchIdeal.main_v0_2) = v2 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v24) = v0 c
          ∧ r.2.mem ((c.tc : Thread Cert.BranchReferenceIdeal.nD Cert.BranchReferenceIdeal.τ).loc Cert.BranchReferenceIdeal.main_v25) = v1 c
          ∧ r.2.mem ((c.tc : Thread Cert.BranchReferenceIdeal.nD Cert.BranchReferenceIdeal.τ).loc Cert.BranchReferenceIdeal.main_v26) = v2 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1)
          ∧ r.2.mem ((c.tc : Thread Cert.BranchReferenceIdeal.nD Cert.BranchReferenceIdeal.τ).loc Cert.BranchReferenceIdeal.main_arg2) = m' ((c.tc : Thread Cert.BranchReferenceIdeal.nD Cert.BranchReferenceIdeal.τ).loc Cert.BranchReferenceIdeal.main_arg2)
          ∧ r.2.mem ((c.tc : Thread Cert.BranchReferenceIdeal.nD Cert.BranchReferenceIdeal.τ).loc Cert.BranchReferenceIdeal.main_arg3) = m' ((c.tc : Thread Cert.BranchReferenceIdeal.nD Cert.BranchReferenceIdeal.τ).loc Cert.BranchReferenceIdeal.main_arg3)
          ∧ r.2.mem ((c.tc : Thread Cert.BranchReferenceIdeal.nD Cert.BranchReferenceIdeal.τ).loc Cert.BranchReferenceIdeal.main_arg4) = m' ((c.tc : Thread Cert.BranchReferenceIdeal.nD Cert.BranchReferenceIdeal.τ).loc Cert.BranchReferenceIdeal.main_arg4))

def preserves_FoxX_FoxXIdeal : Prop :=
  IdealRules.named_const.Statement Cert.FoxXIdeal.κ "masked" .f32 0xF149F2CA#32 ⊥

def algebraic_FoxXIdeal_FoxXReferenceIdeal_pre_finite_fox [hFoxXIdeal : Cert.FoxXIdeal.Facts] [hFoxXReferenceIdeal : Cert.FoxXReferenceIdeal.Facts] [hPre_finite_fox : Cert.Pre_finite_fox.Facts] : Prop :=
  ∀ (m : (ℓ : Loc Cert.FoxXIdeal.nD Cert.FoxXIdeal.τ Cert.FoxXIdeal.sig) → Buf (Elt Ideal) ℓ) (g : Dev Cert.FoxXIdeal.nD → PrngReg)
    (m' : (ℓ : Loc Cert.FoxXReferenceIdeal.nD Cert.FoxXReferenceIdeal.τ Cert.FoxXReferenceIdeal.sig) → Buf (Elt Ideal) ℓ) (g' : Dev Cert.FoxXReferenceIdeal.nD → PrngReg), Pre_FoxXIdeal_finite_fox m →
    (∀ c : Dev Cert.FoxXIdeal.nD,
      m' ((c.tc : Thread Cert.FoxXReferenceIdeal.nD Cert.FoxXReferenceIdeal.τ).loc Cert.FoxXReferenceIdeal.main_arg0) = m ((c.tc : Thread Cert.FoxXIdeal.nD Cert.FoxXIdeal.τ).loc Cert.FoxXIdeal.main_arg0)
      ∧ m' ((c.tc : Thread Cert.FoxXReferenceIdeal.nD Cert.FoxXReferenceIdeal.τ).loc Cert.FoxXReferenceIdeal.main_arg1) = m ((c.tc : Thread Cert.FoxXIdeal.nD Cert.FoxXIdeal.τ).loc Cert.FoxXIdeal.main_arg1)
      ∧ m' ((c.tc : Thread Cert.FoxXReferenceIdeal.nD Cert.FoxXReferenceIdeal.τ).loc Cert.FoxXReferenceIdeal.main_arg2) = m ((c.tc : Thread Cert.FoxXIdeal.nD Cert.FoxXIdeal.τ).loc Cert.FoxXIdeal.main_arg2)
      ∧ m' ((c.tc : Thread Cert.FoxXReferenceIdeal.nD Cert.FoxXReferenceIdeal.τ).loc Cert.FoxXReferenceIdeal.main_arg3) = m ((c.tc : Thread Cert.FoxXIdeal.nD Cert.FoxXIdeal.τ).loc Cert.FoxXIdeal.main_arg3)) →
    ∃ (v0 : (c : Dev Cert.FoxXIdeal.nD) → Buf (Elt Ideal) ((c.tc : Thread Cert.FoxXIdeal.nD Cert.FoxXIdeal.τ).loc Cert.FoxXIdeal.main_v77_0)) (v1 : (c : Dev Cert.FoxXIdeal.nD) → Buf (Elt Ideal) ((c.tc : Thread Cert.FoxXIdeal.nD Cert.FoxXIdeal.τ).loc Cert.FoxXIdeal.main_v77_1)) (v2 : (c : Dev Cert.FoxXIdeal.nD) → Buf (Elt Ideal) ((c.tc : Thread Cert.FoxXIdeal.nD Cert.FoxXIdeal.τ).loc Cert.FoxXIdeal.main_v77_2)),
      θ_run (Cert.FoxXIdeal.defs (F := Ideal)) (onTc (τ := Cert.FoxXIdeal.τ) (Cert.FoxXIdeal.main (F := Ideal))) ⟨m, fun _ => 0, g⟩ (fun r => ∀ c : Dev Cert.FoxXIdeal.nD,
          r.2.mem ((c.tc : Thread Cert.FoxXIdeal.nD Cert.FoxXIdeal.τ).loc Cert.FoxXIdeal.main_v77_0) = v0 c
          ∧ r.2.mem ((c.tc : Thread Cert.FoxXIdeal.nD Cert.FoxXIdeal.τ).loc Cert.FoxXIdeal.main_v77_1) = v1 c
          ∧ r.2.mem ((c.tc : Thread Cert.FoxXIdeal.nD Cert.FoxXIdeal.τ).loc Cert.FoxXIdeal.main_v77_2) = v2 c
          ∧ r.2.mem ((c.tc : Thread Cert.FoxXIdeal.nD Cert.FoxXIdeal.τ).loc Cert.FoxXIdeal.main_arg0) = m ((c.tc : Thread Cert.FoxXIdeal.nD Cert.FoxXIdeal.τ).loc Cert.FoxXIdeal.main_arg0)
          ∧ r.2.mem ((c.tc : Thread Cert.FoxXIdeal.nD Cert.FoxXIdeal.τ).loc Cert.FoxXIdeal.main_arg1) = m ((c.tc : Thread Cert.FoxXIdeal.nD Cert.FoxXIdeal.τ).loc Cert.FoxXIdeal.main_arg1)
          ∧ r.2.mem ((c.tc : Thread Cert.FoxXIdeal.nD Cert.FoxXIdeal.τ).loc Cert.FoxXIdeal.main_arg2) = m ((c.tc : Thread Cert.FoxXIdeal.nD Cert.FoxXIdeal.τ).loc Cert.FoxXIdeal.main_arg2)
          ∧ r.2.mem ((c.tc : Thread Cert.FoxXIdeal.nD Cert.FoxXIdeal.τ).loc Cert.FoxXIdeal.main_arg3) = m ((c.tc : Thread Cert.FoxXIdeal.nD Cert.FoxXIdeal.τ).loc Cert.FoxXIdeal.main_arg3))
      ∧ θ_run (Cert.FoxXReferenceIdeal.defs (F := Ideal)) (onTc (τ := Cert.FoxXReferenceIdeal.τ) (Cert.FoxXReferenceIdeal.main (F := Ideal))) ⟨m', fun _ => 0, g'⟩ (fun r => ∀ c : Dev Cert.FoxXReferenceIdeal.nD,
          r.2.mem ((c.tc : Thread Cert.FoxXReferenceIdeal.nD Cert.FoxXReferenceIdeal.τ).loc Cert.FoxXReferenceIdeal.main_v101) = v0 c
          ∧ r.2.mem ((c.tc : Thread Cert.FoxXReferenceIdeal.nD Cert.FoxXReferenceIdeal.τ).loc Cert.FoxXReferenceIdeal.main_v86) = v1 c
          ∧ r.2.mem ((c.tc : Thread Cert.FoxXReferenceIdeal.nD Cert.FoxXReferenceIdeal.τ).loc Cert.FoxXReferenceIdeal.main_v84) = v2 c
          ∧ r.2.mem ((c.tc : Thread Cert.FoxXReferenceIdeal.nD Cert.FoxXReferenceIdeal.τ).loc Cert.FoxXReferenceIdeal.main_arg0) = m' ((c.tc : Thread Cert.FoxXReferenceIdeal.nD Cert.FoxXReferenceIdeal.τ).loc Cert.FoxXReferenceIdeal.main_arg0)
          ∧ r.2.mem ((c.tc : Thread Cert.FoxXReferenceIdeal.nD Cert.FoxXReferenceIdeal.τ).loc Cert.FoxXReferenceIdeal.main_arg1) = m' ((c.tc : Thread Cert.FoxXReferenceIdeal.nD Cert.FoxXReferenceIdeal.τ).loc Cert.FoxXReferenceIdeal.main_arg1)
          ∧ r.2.mem ((c.tc : Thread Cert.FoxXReferenceIdeal.nD Cert.FoxXReferenceIdeal.τ).loc Cert.FoxXReferenceIdeal.main_arg2) = m' ((c.tc : Thread Cert.FoxXReferenceIdeal.nD Cert.FoxXReferenceIdeal.τ).loc Cert.FoxXReferenceIdeal.main_arg2)
          ∧ r.2.mem ((c.tc : Thread Cert.FoxXReferenceIdeal.nD Cert.FoxXReferenceIdeal.τ).loc Cert.FoxXReferenceIdeal.main_arg3) = m' ((c.tc : Thread Cert.FoxXReferenceIdeal.nD Cert.FoxXReferenceIdeal.τ).loc Cert.FoxXReferenceIdeal.main_arg3))

def Claim : Prop :=
  ∃ (hKernel : Cert.Kernel.Facts) (hKernelIdeal : Cert.KernelIdeal.Facts) (hReferenceIdeal : Cert.ReferenceIdeal.Facts) (hFfnInX : Cert.FfnInX.Facts) (hFfnInXIdeal : Cert.FfnInXIdeal.Facts) (hFfnInXReferenceIdeal : Cert.FfnInXReferenceIdeal.Facts) (hFfnOutX : Cert.FfnOutX.Facts) (hFfnOutXIdeal : Cert.FfnOutXIdeal.Facts) (hFfnOutXReferenceIdeal : Cert.FfnOutXReferenceIdeal.Facts) (hFfnInW : Cert.FfnInW.Facts) (hFfnInWIdeal : Cert.FfnInWIdeal.Facts) (hFfnInWReferenceIdeal : Cert.FfnInWReferenceIdeal.Facts) (hFfnOutW : Cert.FfnOutW.Facts) (hFfnOutWIdeal : Cert.FfnOutWIdeal.Facts) (hFfnOutWReferenceIdeal : Cert.FfnOutWReferenceIdeal.Facts) (hProjX : Cert.ProjX.Facts) (hProjXIdeal : Cert.ProjXIdeal.Facts) (hProjXReferenceIdeal : Cert.ProjXReferenceIdeal.Facts) (hProjQkvW : Cert.ProjQkvW.Facts) (hProjQkvWIdeal : Cert.ProjQkvWIdeal.Facts) (hProjQkvWReferenceIdeal : Cert.ProjQkvWReferenceIdeal.Facts) (hProjGatesW : Cert.ProjGatesW.Facts) (hProjGatesWIdeal : Cert.ProjGatesWIdeal.Facts) (hProjGatesWReferenceIdeal : Cert.ProjGatesWReferenceIdeal.Facts) (hProjFW : Cert.ProjFW.Facts) (hProjFWIdeal : Cert.ProjFWIdeal.Facts) (hProjFWReferenceIdeal : Cert.ProjFWReferenceIdeal.Facts) (hMixOutW : Cert.MixOutW.Facts) (hMixOutWIdeal : Cert.MixOutWIdeal.Facts) (hMixOutWReferenceIdeal : Cert.MixOutWReferenceIdeal.Facts) (hBranchX : Cert.BranchX.Facts) (hBranchXIdeal : Cert.BranchXIdeal.Facts) (hBranchXReferenceIdeal : Cert.BranchXReferenceIdeal.Facts) (hBranchW : Cert.BranchW.Facts) (hBranchWIdeal : Cert.BranchWIdeal.Facts) (hBranchWReferenceIdeal : Cert.BranchWReferenceIdeal.Facts) (hFfnIn : Cert.FfnIn.Facts) (hFfnInIdeal : Cert.FfnInIdeal.Facts) (hFfnInReferenceIdeal : Cert.FfnInReferenceIdeal.Facts) (hFfnOut : Cert.FfnOut.Facts) (hFfnOutIdeal : Cert.FfnOutIdeal.Facts) (hFfnOutReferenceIdeal : Cert.FfnOutReferenceIdeal.Facts) (hMixOut : Cert.MixOut.Facts) (hMixOutIdeal : Cert.MixOutIdeal.Facts) (hMixOutReferenceIdeal : Cert.MixOutReferenceIdeal.Facts) (hProj : Cert.Proj.Facts) (hProjIdeal : Cert.ProjIdeal.Facts) (hProjReferenceIdeal : Cert.ProjReferenceIdeal.Facts) (hBranch : Cert.Branch.Facts) (hBranchIdeal : Cert.BranchIdeal.Facts) (hBranchReferenceIdeal : Cert.BranchReferenceIdeal.Facts) (hFoxX : Cert.FoxX.Facts) (hFoxXIdeal : Cert.FoxXIdeal.Facts) (hFoxXReferenceIdeal : Cert.FoxXReferenceIdeal.Facts) (hPre_finite : Cert.Pre_finite.Facts) (hPre_finite_in : Cert.Pre_finite_in.Facts) (hPre_finite_fox : Cert.Pre_finite_fox.Facts),
    quiescent_Kernel (hKernel := hKernel)
    ∧ quiescent_KernelIdeal (hKernelIdeal := hKernelIdeal)
    ∧ quiescent_ReferenceIdeal (hReferenceIdeal := hReferenceIdeal)
    ∧ quiescent_FfnInX (hFfnInX := hFfnInX)
    ∧ quiescent_FfnInXIdeal (hFfnInXIdeal := hFfnInXIdeal)
    ∧ quiescent_FfnInXReferenceIdeal (hFfnInXReferenceIdeal := hFfnInXReferenceIdeal)
    ∧ quiescent_FfnOutX (hFfnOutX := hFfnOutX)
    ∧ quiescent_FfnOutXIdeal (hFfnOutXIdeal := hFfnOutXIdeal)
    ∧ quiescent_FfnOutXIdeal_pre_finite (hFfnOutXIdeal := hFfnOutXIdeal) (hPre_finite := hPre_finite)
    ∧ quiescent_FfnOutXReferenceIdeal (hFfnOutXReferenceIdeal := hFfnOutXReferenceIdeal)
    ∧ quiescent_FfnOutXReferenceIdeal_pre_finite (hFfnOutXReferenceIdeal := hFfnOutXReferenceIdeal) (hPre_finite := hPre_finite)
    ∧ quiescent_FfnInW (hFfnInW := hFfnInW)
    ∧ quiescent_FfnInWIdeal (hFfnInWIdeal := hFfnInWIdeal)
    ∧ quiescent_FfnInWReferenceIdeal (hFfnInWReferenceIdeal := hFfnInWReferenceIdeal)
    ∧ quiescent_FfnOutW (hFfnOutW := hFfnOutW)
    ∧ quiescent_FfnOutWIdeal (hFfnOutWIdeal := hFfnOutWIdeal)
    ∧ quiescent_FfnOutWReferenceIdeal (hFfnOutWReferenceIdeal := hFfnOutWReferenceIdeal)
    ∧ quiescent_ProjX (hProjX := hProjX)
    ∧ quiescent_ProjXIdeal (hProjXIdeal := hProjXIdeal)
    ∧ quiescent_ProjXReferenceIdeal (hProjXReferenceIdeal := hProjXReferenceIdeal)
    ∧ quiescent_ProjQkvW (hProjQkvW := hProjQkvW)
    ∧ quiescent_ProjQkvWIdeal (hProjQkvWIdeal := hProjQkvWIdeal)
    ∧ quiescent_ProjQkvWReferenceIdeal (hProjQkvWReferenceIdeal := hProjQkvWReferenceIdeal)
    ∧ quiescent_ProjGatesW (hProjGatesW := hProjGatesW)
    ∧ quiescent_ProjGatesWIdeal (hProjGatesWIdeal := hProjGatesWIdeal)
    ∧ quiescent_ProjGatesWReferenceIdeal (hProjGatesWReferenceIdeal := hProjGatesWReferenceIdeal)
    ∧ quiescent_ProjFW (hProjFW := hProjFW)
    ∧ quiescent_ProjFWIdeal (hProjFWIdeal := hProjFWIdeal)
    ∧ quiescent_ProjFWReferenceIdeal (hProjFWReferenceIdeal := hProjFWReferenceIdeal)
    ∧ quiescent_MixOutW (hMixOutW := hMixOutW)
    ∧ quiescent_MixOutWIdeal (hMixOutWIdeal := hMixOutWIdeal)
    ∧ quiescent_MixOutWReferenceIdeal (hMixOutWReferenceIdeal := hMixOutWReferenceIdeal)
    ∧ quiescent_BranchX (hBranchX := hBranchX)
    ∧ quiescent_BranchXIdeal (hBranchXIdeal := hBranchXIdeal)
    ∧ quiescent_BranchXReferenceIdeal (hBranchXReferenceIdeal := hBranchXReferenceIdeal)
    ∧ quiescent_BranchW (hBranchW := hBranchW)
    ∧ quiescent_BranchWIdeal (hBranchWIdeal := hBranchWIdeal)
    ∧ quiescent_BranchWReferenceIdeal (hBranchWReferenceIdeal := hBranchWReferenceIdeal)
    ∧ quiescent_FfnIn (hFfnIn := hFfnIn)
    ∧ quiescent_FfnInIdeal (hFfnInIdeal := hFfnInIdeal)
    ∧ quiescent_FfnInIdeal_pre_finite_in (hFfnInIdeal := hFfnInIdeal) (hPre_finite_in := hPre_finite_in)
    ∧ quiescent_FfnInReferenceIdeal (hFfnInReferenceIdeal := hFfnInReferenceIdeal)
    ∧ quiescent_FfnInReferenceIdeal_pre_finite_in (hFfnInReferenceIdeal := hFfnInReferenceIdeal) (hPre_finite_in := hPre_finite_in)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Branch (hBranch := hBranch)
    ∧ quiescent_BranchIdeal (hBranchIdeal := hBranchIdeal)
    ∧ quiescent_BranchReferenceIdeal (hBranchReferenceIdeal := hBranchReferenceIdeal)
    ∧ quiescent_FoxX (hFoxX := hFoxX)
    ∧ quiescent_FoxXIdeal (hFoxXIdeal := hFoxXIdeal)
    ∧ quiescent_FoxXIdeal_pre_finite_fox (hFoxXIdeal := hFoxXIdeal) (hPre_finite_fox := hPre_finite_fox)
    ∧ quiescent_FoxXReferenceIdeal (hFoxXReferenceIdeal := hFoxXReferenceIdeal)
    ∧ quiescent_FoxXReferenceIdeal_pre_finite_fox (hFoxXReferenceIdeal := hFoxXReferenceIdeal) (hPre_finite_fox := hPre_finite_fox)
    ∧ preserves_Kernel_KernelIdeal
    ∧ algebraic_KernelIdeal_ReferenceIdeal (hKernelIdeal := hKernelIdeal) (hReferenceIdeal := hReferenceIdeal)
    ∧ preserves_FfnInX_FfnInXIdeal
    ∧ algebraic_FfnInXIdeal_FfnInXReferenceIdeal (hFfnInXIdeal := hFfnInXIdeal) (hFfnInXReferenceIdeal := hFfnInXReferenceIdeal)
    ∧ preserves_FfnOutX_FfnOutXIdeal
    ∧ algebraic_FfnOutXIdeal_FfnOutXReferenceIdeal_pre_finite (hFfnOutXIdeal := hFfnOutXIdeal) (hFfnOutXReferenceIdeal := hFfnOutXReferenceIdeal) (hPre_finite := hPre_finite)
    ∧ preserves_FfnInW_FfnInWIdeal
    ∧ algebraic_FfnInWIdeal_FfnInWReferenceIdeal (hFfnInWIdeal := hFfnInWIdeal) (hFfnInWReferenceIdeal := hFfnInWReferenceIdeal)
    ∧ preserves_FfnOutW_FfnOutWIdeal
    ∧ algebraic_FfnOutWIdeal_FfnOutWReferenceIdeal (hFfnOutWIdeal := hFfnOutWIdeal) (hFfnOutWReferenceIdeal := hFfnOutWReferenceIdeal)
    ∧ preserves_ProjX_ProjXIdeal
    ∧ algebraic_ProjXIdeal_ProjXReferenceIdeal (hProjXIdeal := hProjXIdeal) (hProjXReferenceIdeal := hProjXReferenceIdeal)
    ∧ preserves_ProjQkvW_ProjQkvWIdeal
    ∧ algebraic_ProjQkvWIdeal_ProjQkvWReferenceIdeal (hProjQkvWIdeal := hProjQkvWIdeal) (hProjQkvWReferenceIdeal := hProjQkvWReferenceIdeal)
    ∧ preserves_ProjGatesW_ProjGatesWIdeal
    ∧ algebraic_ProjGatesWIdeal_ProjGatesWReferenceIdeal (hProjGatesWIdeal := hProjGatesWIdeal) (hProjGatesWReferenceIdeal := hProjGatesWReferenceIdeal)
    ∧ preserves_ProjFW_ProjFWIdeal
    ∧ algebraic_ProjFWIdeal_ProjFWReferenceIdeal (hProjFWIdeal := hProjFWIdeal) (hProjFWReferenceIdeal := hProjFWReferenceIdeal)
    ∧ preserves_MixOutW_MixOutWIdeal
    ∧ algebraic_MixOutWIdeal_MixOutWReferenceIdeal (hMixOutWIdeal := hMixOutWIdeal) (hMixOutWReferenceIdeal := hMixOutWReferenceIdeal)
    ∧ preserves_BranchX_BranchXIdeal
    ∧ algebraic_BranchXIdeal_BranchXReferenceIdeal (hBranchXIdeal := hBranchXIdeal) (hBranchXReferenceIdeal := hBranchXReferenceIdeal)
    ∧ preserves_BranchW_BranchWIdeal
    ∧ algebraic_BranchWIdeal_BranchWReferenceIdeal (hBranchWIdeal := hBranchWIdeal) (hBranchWReferenceIdeal := hBranchWReferenceIdeal)
    ∧ preserves_FfnIn_FfnInIdeal
    ∧ algebraic_FfnInIdeal_FfnInReferenceIdeal_pre_finite_in (hFfnInIdeal := hFfnInIdeal) (hFfnInReferenceIdeal := hFfnInReferenceIdeal) (hPre_finite_in := hPre_finite_in)
    ∧ preserves_FfnOut_FfnOutIdeal
    ∧ algebraic_FfnOutIdeal_FfnOutReferenceIdeal (hFfnOutIdeal := hFfnOutIdeal) (hFfnOutReferenceIdeal := hFfnOutReferenceIdeal)
    ∧ preserves_MixOut_MixOutIdeal
    ∧ algebraic_MixOutIdeal_MixOutReferenceIdeal (hMixOutIdeal := hMixOutIdeal) (hMixOutReferenceIdeal := hMixOutReferenceIdeal)
    ∧ preserves_Proj_ProjIdeal
    ∧ algebraic_ProjIdeal_ProjReferenceIdeal (hProjIdeal := hProjIdeal) (hProjReferenceIdeal := hProjReferenceIdeal)
    ∧ preserves_Branch_BranchIdeal
    ∧ algebraic_BranchIdeal_BranchReferenceIdeal (hBranchIdeal := hBranchIdeal) (hBranchReferenceIdeal := hBranchReferenceIdeal)
    ∧ preserves_FoxX_FoxXIdeal
    ∧ algebraic_FoxXIdeal_FoxXReferenceIdeal_pre_finite_fox (hFoxXIdeal := hFoxXIdeal) (hFoxXReferenceIdeal := hFoxXReferenceIdeal) (hPre_finite_fox := hPre_finite_fox)
-- ==== Pre_finite.lean ====
abbrev S4352x1024 : Shape := ⟨2, ![4352, 1024]⟩
abbrev S3072x1024 : Shape := ⟨2, ![3072, 1024]⟩
abbrev S2x4352x3072 : Shape := ⟨3, ![2, 4352, 3072]⟩
abbrev S1x4352x3072 : Shape := ⟨3, ![1, 4352, 3072]⟩
abbrev S4352x3072 : Shape := ⟨2, ![4352, 3072]⟩
abbrev S_ : Shape := ⟨0, ![]⟩

class Facts : Prop where
  slices_S2x4352x3072_S1x4352x3072_1_0_0 : S2x4352x3072.Slices ![1, 0, 0] S1x4352x3072
  shapeCasts_S1x4352x3072_S4352x3072 : S1x4352x3072.ShapeCasts S4352x3072
  bitsLt_bf16_f32 : FTy.bits .bf16 < FTy.bits .f32
  bcast_S_S4352x1024 : S_.BroadcastsInDim S4352x1024 (![] : Fin 0 → Fin S4352x1024.rank)
  bcast_S_S3072x1024 : S_.BroadcastsInDim S3072x1024 (![] : Fin 0 → Fin S3072x1024.rank)
  bcast_S_S4352x3072 : S_.BroadcastsInDim S4352x3072 (![] : Fin 0 → Fin S4352x3072.rank)

variable [Facts]

def fn {F : FTy → Type} [FloatOps F] (main_arg0 : FVec F S4352x1024 .bf16) (main_arg1 : FVec F S3072x1024 .bf16) (main_arg2 : FVec F S2x4352x3072 .f32) : IVec S4352x1024 1 × IVec S3072x1024 1 × IVec S4352x3072 1 :=
  let main_v0 : FVec F S1x4352x3072 .f32 := (extractStridedSlice S1x4352x3072 ![1, 0, 0] · slices_S2x4352x3072_S1x4352x3072_1_0_0) main_arg2
  let main_v1 : FVec F S4352x3072 .f32 := shapeCast S4352x3072 main_v0 shapeCasts_S1x4352x3072_S4352x3072
  let main_v2 : FVec F S4352x1024 .f32 := (extf .f32 · bitsLt_bf16_f32) main_arg0
  let main_v3 : FVec F S4352x1024 .f32 := Host.absf main_v2
  let main_cst : FVec F S_ .f32 := constant S_ .f32 0x7F800000#32
  let main_v4 : FVec F S4352x1024 .f32 := broadcastInDim S4352x1024 ![] bcast_S_S4352x1024 main_cst
  let main_v5 : IVec S4352x1024 1 := cmpf .olt main_v3 main_v4
  let main_v6 : FVec F S3072x1024 .f32 := (extf .f32 · bitsLt_bf16_f32) main_arg1
  let main_v7 : FVec F S3072x1024 .f32 := Host.absf main_v6
  let main_cst_0 : FVec F S_ .f32 := constant S_ .f32 0x7F800000#32
  let main_v8 : FVec F S3072x1024 .f32 := broadcastInDim S3072x1024 ![] bcast_S_S3072x1024 main_cst_0
  let main_v9 : IVec S3072x1024 1 := cmpf .olt main_v7 main_v8
  let main_v10 : FVec F S4352x3072 .f32 := Host.absf main_v1
  let main_cst_1 : FVec F S_ .f32 := constant S_ .f32 0x7F800000#32
  let main_v11 : FVec F S4352x3072 .f32 := broadcastInDim S4352x3072 ![] bcast_S_S4352x3072 main_cst_1
  let main_v12 : IVec S4352x3072 1 := cmpf .olt main_v10 main_v11
  (main_v5, main_v9, main_v12)
-- ==== Pre_finite_fox.lean ====
abbrev S2x2176x1536 : Shape := ⟨3, ![2, 2176, 1536]⟩
abbrev S2x8x2176x1 : Shape := ⟨4, ![2, 8, 2176, 1]⟩
abbrev S2x8x1x2176 : Shape := ⟨4, ![2, 8, 1, 2176]⟩
abbrev S2x2176x512 : Shape := ⟨3, ![2, 2176, 512]⟩
abbrev S_ : Shape := ⟨0, ![]⟩
abbrev S2x112x512 : Shape := ⟨3, ![2, 112, 512]⟩

class Facts : Prop where
  bitsLt_bf16_f32 : FTy.bits .bf16 < FTy.bits .f32
  bcast_S_S2x2176x1536 : S_.BroadcastsInDim S2x2176x1536 (![] : Fin 0 → Fin S2x2176x1536.rank)
  bcast_S_S2x8x2176x1 : S_.BroadcastsInDim S2x8x2176x1 (![] : Fin 0 → Fin S2x8x2176x1.rank)
  bcast_S_S2x8x1x2176 : S_.BroadcastsInDim S2x8x1x2176 (![] : Fin 0 → Fin S2x8x1x2176.rank)
  bcast_S_S2x2176x512 : S_.BroadcastsInDim S2x2176x512 (![] : Fin 0 → Fin S2x2176x512.rank)
  slices_S2x2176x512_S2x112x512_0_0_0 : S2x2176x512.Slices ![0, 0, 0] S2x112x512
  bcast_S_S2x112x512 : S_.BroadcastsInDim S2x112x512 (![] : Fin 0 → Fin S2x112x512.rank)

variable [Facts]

def fn {F : FTy → Type} [FloatOps F] (main_arg0 : FVec F S2x2176x1536 .bf16) (main_arg1 : FVec F S2x8x2176x1 .f32) (main_arg2 : FVec F S2x8x1x2176 .f32) (main_arg3 : FVec F S2x2176x512 .bf16) : IVec S2x2176x1536 1 × IVec S2x8x2176x1 1 × IVec S2x8x1x2176 1 × IVec S2x2176x512 1 × IVec S2x112x512 1 :=
  let main_v0 : FVec F S2x2176x1536 .f32 := (extf .f32 · bitsLt_bf16_f32) main_arg0
  let main_v1 : FVec F S2x2176x1536 .f32 := Host.absf main_v0
  let main_cst : FVec F S_ .f32 := constant S_ .f32 0x7F800000#32
  let main_v2 : FVec F S2x2176x1536 .f32 := broadcastInDim S2x2176x1536 ![] bcast_S_S2x2176x1536 main_cst
  let main_v3 : IVec S2x2176x1536 1 := cmpf .olt main_v1 main_v2
  let main_v4 : FVec F S2x8x2176x1 .f32 := Host.absf main_arg1
  let main_cst_0 : FVec F S_ .f32 := constant S_ .f32 0x7F800000#32
  let main_v5 : FVec F S2x8x2176x1 .f32 := broadcastInDim S2x8x2176x1 ![] bcast_S_S2x8x2176x1 main_cst_0
  let main_v6 : IVec S2x8x2176x1 1 := cmpf .olt main_v4 main_v5
  let main_v7 : FVec F S2x8x1x2176 .f32 := Host.absf main_arg2
  let main_cst_1 : FVec F S_ .f32 := constant S_ .f32 0x7F800000#32
  let main_v8 : FVec F S2x8x1x2176 .f32 := broadcastInDim S2x8x1x2176 ![] bcast_S_S2x8x1x2176 main_cst_1
  let main_v9 : IVec S2x8x1x2176 1 := cmpf .olt main_v7 main_v8
  let main_v10 : FVec F S2x2176x512 .f32 := (extf .f32 · bitsLt_bf16_f32) main_arg3
  let main_v11 : FVec F S2x2176x512 .f32 := Host.absf main_v10
  let main_cst_2 : FVec F S_ .f32 := constant S_ .f32 0x7F800000#32
  let main_v12 : FVec F S2x2176x512 .f32 := broadcastInDim S2x2176x512 ![] bcast_S_S2x2176x512 main_cst_2
  let main_v13 : IVec S2x2176x512 1 := cmpf .olt main_v11 main_v12
  let main_v14 : FVec F S2x112x512 .bf16 := (extractStridedSlice S2x112x512 ![0, 0, 0] · slices_S2x2176x512_S2x112x512_0_0_0) main_arg3
  let main_cst_3 : FVec F S_ .bf16 := constant S_ .bf16 0x0000#16
  let main_v15 : FVec F S2x112x512 .bf16 := broadcastInDim S2x112x512 ![] bcast_S_S2x112x512 main_cst_3
  let main_v16 : IVec S2x112x512 1 := cmpf .oeq main_v14 main_v15
  (main_v3, main_v6, main_v9, main_v13, main_v16)
-- ==== Pre_finite_in.lean ====
abbrev S4352x1024 : Shape := ⟨2, ![4352, 1024]⟩
abbrev S2x4x1024x768 : Shape := ⟨4, ![2, 4, 1024, 768]⟩
abbrev S_ : Shape := ⟨0, ![]⟩

class Facts : Prop where
  bitsLt_bf16_f32 : FTy.bits .bf16 < FTy.bits .f32
  bcast_S_S4352x1024 : S_.BroadcastsInDim S4352x1024 (![] : Fin 0 → Fin S4352x1024.rank)
  bcast_S_S2x4x1024x768 : S_.BroadcastsInDim S2x4x1024x768 (![] : Fin 0 → Fin S2x4x1024x768.rank)

variable [Facts]

def fn {F : FTy → Type} [FloatOps F] (main_arg0 : FVec F S4352x1024 .bf16) (main_arg1 : FVec F S2x4x1024x768 .bf16) : IVec S4352x1024 1 × IVec S2x4x1024x768 1 :=
  let main_v0 : FVec F S4352x1024 .f32 := (extf .f32 · bitsLt_bf16_f32) main_arg0
  let main_v1 : FVec F S4352x1024 .f32 := Host.absf main_v0
  let main_cst : FVec F S_ .f32 := constant S_ .f32 0x7F800000#32
  let main_v2 : FVec F S4352x1024 .f32 := broadcastInDim S4352x1024 ![] bcast_S_S4352x1024 main_cst
  let main_v3 : IVec S4352x1024 1 := cmpf .olt main_v1 main_v2
  let main_v4 : FVec F S2x4x1024x768 .f32 := (extf .f32 · bitsLt_bf16_f32) main_arg1
  let main_v5 : FVec F S2x4x1024x768 .f32 := Host.absf main_v4
  let main_cst_0 : FVec F S_ .f32 := constant S_ .f32 0x7F800000#32
  let main_v6 : FVec F S2x4x1024x768 .f32 := broadcastInDim S2x4x1024x768 ![] bcast_S_S2x4x1024x768 main_cst_0
  let main_v7 : IVec S2x4x1024x768 1 := cmpf .olt main_v5 main_v6
  (main_v3, main_v7)
-- ==== Kernel.lean ====
abbrev S4352x1024 : Shape := ⟨2, ![4352, 1024]⟩
abbrev S1024x1024 : Shape := ⟨2, ![1024, 1024]⟩
abbrev S4352x2048 : Shape := ⟨2, ![4352, 2048]⟩
abbrev S544x1024 : Shape := ⟨2, ![544, 1024]⟩
abbrev S544x2048 : Shape := ⟨2, ![544, 2048]⟩

abbrev nBuf : Space → Nat
  | .hbm => 8
  | .vmem => 15
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x2048, .bf16⟩
  | .hbm, ⟨3, _⟩ => ⟨S4352x1024, .bf16⟩
  | .hbm, ⟨4, _⟩ => ⟨S4352x1024, .bf16⟩
  | .hbm, ⟨5, _⟩ => ⟨S4352x1024, .bf16⟩
  | .hbm, ⟨6, _⟩ => ⟨S4352x1024, .bf16⟩
  | .hbm, ⟨7, _⟩ => ⟨S4352x2048, .bf16⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x2048, .bf16⟩
  | .local _ .vmem, ⟨4, _⟩ => ⟨S544x2048, .bf16⟩
  | .local _ .vmem, ⟨5, _⟩ => ⟨S544x1024, .bf16⟩
  | .local _ .vmem, ⟨6, _⟩ => ⟨S544x1024, .bf16⟩
  | .local _ .vmem, ⟨7, _⟩ => ⟨S544x1024, .bf16⟩
  | .local _ .vmem, ⟨8, _⟩ => ⟨S544x1024, .bf16⟩
  | .local _ .vmem, ⟨9, _⟩ => ⟨S544x1024, .bf16⟩
  | .local _ .vmem, ⟨10, _⟩ => ⟨S544x1024, .bf16⟩
  | .local _ .vmem, ⟨11, _⟩ => ⟨S544x1024, .bf16⟩
  | .local _ .vmem, ⟨12, _⟩ => ⟨S544x1024, .bf16⟩
  | .local _ .vmem, ⟨13, _⟩ => ⟨S544x2048, .bf16⟩
  | .local _ .vmem, ⟨14, _⟩ => ⟨S544x2048, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4352x1024 : Shape := ⟨2, ![4352, 1024]⟩
abbrev S1024x1024 : Shape := ⟨2, ![1024, 1024]⟩
abbrev S4352x2048 : Shape := ⟨2, ![4352, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x2048, .bf16⟩
  | .hbm, ⟨3, _⟩ => ⟨S4352x1024, .bf16⟩
  | .hbm, ⟨4, _⟩ => ⟨S4352x1024, .bf16⟩
  | .hbm, ⟨5, _⟩ => ⟨S4352x1024, .f32⟩
  | .hbm, ⟨6, _⟩ => ⟨S4352x1024, .f32⟩
  | .hbm, ⟨7, _⟩ => ⟨S4352x2048, .f32⟩
  | .hbm, ⟨8, _⟩ => ⟨S1024x1024, .f32⟩
  | .hbm, ⟨9, _⟩ => ⟨S4352x1024, .f32⟩
  | .hbm, ⟨10, _⟩ => ⟨S4352x1024, .f32⟩
  | .hbm, ⟨11, _⟩ => ⟨S4352x1024, .f32⟩
  | .hbm, ⟨12, _⟩ => ⟨S4352x1024, .f32⟩
  | .hbm, ⟨13, _⟩ => ⟨S_, .f32⟩
  | .hbm, ⟨14, _⟩ => ⟨S4352x1024, .f32⟩
  | .hbm, ⟨15, _⟩ => ⟨S4352x1024, .f32⟩
  | .hbm, ⟨16, _⟩ => ⟨S_, .f32⟩
  | .hbm, ⟨17, _⟩ => ⟨S4352x1024, .f32⟩
  | .hbm, ⟨18, _⟩ => ⟨S4352x1024, .f32⟩
  | .hbm, ⟨19, _⟩ => ⟨S_, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S_, .f32⟩
  | .hbm, ⟨27, _⟩ => ⟨S4352x1024, .f32⟩
  | .hbm, ⟨28, _⟩ => ⟨S4352x1024, .f32⟩
  | .hbm, ⟨29, _⟩ => ⟨S_, .f32⟩
  | .hbm, ⟨30, _⟩ => ⟨S4352x1024, .f32⟩
  | .hbm, ⟨31, _⟩ => ⟨S4352x1024, .f32⟩
  | .hbm, ⟨32, _⟩ => ⟨S_, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S4352x1024, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S4352x2048, .f32⟩
  | .hbm, ⟨48, _⟩ => ⟨S4352x1024, .bf16⟩
  | .hbm, ⟨49, _⟩ => ⟨S4352x1024, .bf16⟩
  | .hbm, ⟨50, _⟩ => ⟨S4352x2048, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== FfnInX.lean ====
abbrev S2x4352x3072 : Shape := ⟨3, ![2, 4352, 3072]⟩
abbrev S2x4x1024x768 : Shape := ⟨4, ![2, 4, 1024, 768]⟩
abbrev S4352x1024 : Shape := ⟨2, ![4352, 1024]⟩
abbrev S1x1024 : Shape := ⟨2, ![1, 1024]⟩
abbrev S2x544x3072 : Shape := ⟨3, ![2, 544, 3072]⟩
abbrev S544x1024 : Shape := ⟨2, ![544, 1024]⟩
abbrev S1x544x768 : Shape := ⟨3, ![1, 544, 768]⟩
abbrev S544x768 : Shape := ⟨2, ![544, 768]⟩
abbrev S1x1x1024x768 : Shape := ⟨4, ![1, 1, 1024, 768]⟩
abbrev S1024x768 : Shape := ⟨2, ![1024, 768]⟩
abbrev S544 : Shape := ⟨1, ![544]⟩
abbrev S544x1 : Shape := ⟨2, ![544, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2x4352x3072, .bf16⟩
  | .hbm, ⟨1, _⟩ => ⟨S2x4x1024x768, .bf16⟩
  | .hbm, ⟨2, _⟩ => ⟨S4352x1024, .f32⟩
  | .hbm, ⟨3, _⟩ => ⟨S1x1024, .f32⟩
  | .hbm, ⟨4, _⟩ => ⟨S4352x1024, .f32⟩
  | .hbm, ⟨5, _⟩ => ⟨S4352x1024, .f32⟩
  | .hbm, ⟨6, _⟩ => ⟨S4352x1024, .bf16⟩
  | .hbm, ⟨7, _⟩ => ⟨S1x1024, .f32⟩
  | .local _ .vmem, ⟨0, _⟩ => ⟨S2x544x3072, .bf16⟩
  | .local _ .vmem, ⟨1, _⟩ => ⟨S2x544x3072, .bf16⟩
  | .local _ .vmem, ⟨2, _⟩ => ⟨S2x4x1024x768, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .bf16⟩
  | .local _ .vmem, ⟨11, _⟩ => ⟨S544x1024, .bf16⟩
  | .local _ .vmem, ⟨12, _⟩ => ⟨S1x1024, .f32⟩
  | _, _ => ⟨S2x4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_72 : BitVec 32 := 0#32
  let v84 : BitVec 1 := Scalar.cmpi .ne v83 c0_i32_72
  v84

def k0_cond2 (i : grid0.Coords) : BitVec 1 :=
  let arg0 : BitVec 32 := BitVec.ofNat 32 (i 0).val
  let c0_i32 : BitVec 32 := 0#32
  let v82 : BitVec 1 := Scalar.cmpi .eq arg0 c0_i32
  let v_true : BitVec 1 := 1#1
  let v85 : BitVec 1 := Scalar.xori v82 v_true
  let v86 : BitVec 32 := Scalar.extui v85
  let c0_i32_73 : BitVec 32 := 0#32
  let v87 : BitVec 1 := Scalar.cmpi .ne v86 c0_i32_73
  v87

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x544x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnInXReferenceIdeal.lean ====
abbrev S2x4352x3072 : Shape := ⟨3, ![2, 4352, 3072]⟩
abbrev S2x4x1024x768 : Shape := ⟨4, ![2, 4, 1024, 768]⟩
abbrev S4352x1024 : Shape := ⟨2, ![4352, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩
abbrev S1x4x1024x768 : Shape := ⟨4, ![1, 4, 1024, 768]⟩
abbrev S4x1024x768 : Shape := ⟨3, ![4, 1024, 768]⟩
abbrev S1024x4x768 : Shape := ⟨3, ![1024, 4, 768]⟩
abbrev S1024x3072 : Shape := ⟨2, ![1024, 3072]⟩
abbrev S4352x3072 : Shape := ⟨2, ![4352, 3072]⟩
abbrev S1x4352x3072 : Shape := ⟨3, ![1, 4352, 3072]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S2x4352x3072, .bf16⟩
  | .hbm, ⟨1, _⟩ => ⟨S2x4x1024x768, .bf16⟩
  | .hbm, ⟨2, _⟩ => ⟨S4352x1024, .f32⟩
  | .hbm, ⟨3, _⟩ => ⟨S1x1024, .f32⟩
  | .hbm, ⟨4, _⟩ => ⟨S4352x1024, .f32⟩
  | .hbm, ⟨5, _⟩ => ⟨S2x4x1024x768, .f32⟩
  | .hbm, ⟨6, _⟩ => ⟨S4352x1024, .f32⟩
  | .hbm, ⟨7, _⟩ => ⟨S_, .f32⟩
  | .hbm, ⟨8, _⟩ => ⟨S4352, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S4352x1, .f32⟩
  | .hbm, ⟨17, _⟩ => ⟨S4352x1, .f32⟩
  | .hbm, ⟨18, _⟩ => ⟨S_, .f32⟩
  | .hbm, ⟨19, _⟩ => ⟨S4352x1, .f32⟩
  | .hbm, ⟨20, _⟩ => ⟨S4352x1, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S1x4x1024x768, .f32⟩
  | .hbm, ⟨26, _⟩ => ⟨S4x1024x768, .f32⟩
  | .hbm, ⟨27, _⟩ => ⟨S1024x4x768, .f32⟩
  | .hbm, ⟨28, _⟩ => ⟨S1024x3072, .f32⟩
  | .hbm, ⟨29, _⟩ => ⟨S1x4x1024x768, .f32⟩
  | .hbm, ⟨30, _⟩ => ⟨S4x1024x768, .f32⟩
  | .hbm, ⟨31, _⟩ => ⟨S1024x4x768, .f32⟩
  | .hbm, ⟨32, _⟩ => ⟨S1024x3072, .f32⟩
  | .hbm, ⟨33, _⟩ => ⟨S4352x3072, .f32⟩
  | .hbm, ⟨34, _⟩ => ⟨S4352x3072, .f32⟩
  | .hbm, ⟨35, _⟩ => ⟨S1x4352x3072, .f32⟩
  | .hbm, ⟨36, _⟩ => ⟨S1x4352x3072, .f32⟩
  | .hbm, ⟨37, _⟩ => ⟨S2x4352x3072, .f32⟩
  | .hbm, ⟨38, _⟩ => ⟨S2x4352x3072, .f32⟩
  | .hbm, ⟨39, _⟩ => ⟨S1x4352x3072, .f32⟩
  | .hbm, ⟨40, _⟩ => ⟨S4352x3072, .f32⟩
  | .hbm, ⟨41, _⟩ => ⟨S1x4352x3072, .f32⟩
  | .hbm, ⟨42, _⟩ => ⟨S4352x3072, .f32⟩
  | .hbm, ⟨43, _⟩ => ⟨S4352x1024, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4352x1024, .f32⟩
  | .hbm, ⟨51, _⟩ => ⟨S4352x1024, .f32⟩
  | .hbm, ⟨52, _⟩ => ⟨S4352x1024, .f32⟩
  | .hbm, ⟨53, _⟩ => ⟨S_, .f32⟩
  | .hbm, ⟨54, _⟩ => ⟨S4352, .f32⟩
  | .hbm, ⟨55, _⟩ => ⟨S4352x1, .f32⟩
  | .hbm, ⟨56, _⟩ => ⟨S4352x1024, .f32⟩
  | .hbm, ⟨57, _⟩ => ⟨S4352x1024, .f32⟩
  | .hbm, ⟨58, _⟩ => ⟨S4352x1, .f32⟩
  | .hbm, ⟨59, _⟩ => ⟨S_, .f32⟩
  | .hbm, ⟨60, _⟩ => ⟨S4352x1, .f32⟩
  | .hbm, ⟨61, _⟩ => ⟨S4352x1, .f32⟩
  | .hbm, ⟨62, _⟩ => ⟨S_, .f32⟩
  | .hbm, ⟨63, _⟩ => ⟨S4352, .f32⟩
  | .hbm, ⟨64, _⟩ => ⟨S4352x1024, .f32⟩
  | .hbm, ⟨65, _⟩ => ⟨S4352x1024, .f32⟩
  | .hbm, ⟨66, _⟩ => ⟨S4352x1024, .f32⟩
  | .hbm, ⟨67, _⟩ => ⟨S4352x1024, .f32⟩
  | .hbm, ⟨68, _⟩ => ⟨S4352x1024, .f32⟩
  | .hbm, ⟨69, _⟩ => ⟨S4352x1024, .f32⟩
  | .hbm, ⟨70, _⟩ => ⟨S4352x1024, .bf16⟩
  | _, _ => ⟨S2x4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== FfnOutX.lean ====
abbrev S4352x1024 : Shape := ⟨2, ![4352, 1024]⟩
abbrev S3072x1024 : Shape := ⟨2, ![3072, 1024]⟩
abbrev S2x4352x3072 : Shape := ⟨3, ![2, 4352, 3072]⟩
abbrev S1x4352x3072 : Shape := ⟨3, ![1, 4352, 3072]⟩
abbrev S4352x3072 : Shape := ⟨2, ![4352, 3072]⟩
abbrev S_ : Shape := ⟨0, ![]⟩
abbrev S1088x1024 : Shape := ⟨2, ![1088, 1024]⟩
abbrev S2x1088x768 : Shape := ⟨3, ![2, 1088, 768]⟩
abbrev S768x1024 : Shape := ⟨2, ![768, 1024]⟩
abbrev S1088x768 : Shape := ⟨2, ![1088, 768]⟩
abbrev S1x1088x768 : Shape := ⟨3, ![1, 1088, 768]⟩

abbrev nBuf : Space → Nat
  | .hbm => 33
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S3072x1024, .bf16⟩
  | .hbm, ⟨2, _⟩ => ⟨S2x4352x3072, .f32⟩
  | .hbm, ⟨3, _⟩ => ⟨S1x4352x3072, .f32⟩
  | .hbm, ⟨4, _⟩ => ⟨S4352x3072, .f32⟩
  | .hbm, ⟨5, _⟩ => ⟨S1x4352x3072, .f32⟩
  | .hbm, ⟨6, _⟩ => ⟨S4352x3072, .f32⟩
  | .hbm, ⟨7, _⟩ => ⟨S4352x3072, .f32⟩
  | .hbm, ⟨8, _⟩ => ⟨S4352x3072, .f32⟩
  | .hbm, ⟨9, _⟩ => ⟨S_, .f32⟩
  | .hbm, ⟨10, _⟩ => ⟨S4352x3072, .f32⟩
  | .hbm, ⟨11, _⟩ => ⟨S4352x3072, .f32⟩
  | .hbm, ⟨12, _⟩ => ⟨S_, .f32⟩
  | .hbm, ⟨13, _⟩ => ⟨S4352x3072, .f32⟩
  | .hbm, ⟨14, _⟩ => ⟨S4352x3072, .f32⟩
  | .hbm, ⟨15, _⟩ => ⟨S4352x3072, .f32⟩
  | .hbm, ⟨16, _⟩ => ⟨S_, .f32⟩
  | .hbm, ⟨17, _⟩ => ⟨S4352x3072, .f32⟩
  | .hbm, ⟨18, _⟩ => ⟨S4352x3072, .f32⟩
  | .hbm, ⟨19, _⟩ => ⟨S_, .f32⟩
  | .hbm, ⟨20, _⟩ => ⟨S4352x3072, .f32⟩
  | .hbm, ⟨21, _⟩ => ⟨S4352x3072, .f32⟩
  | .hbm, ⟨22, _⟩ => ⟨S4352x3072, .f32⟩
  | .hbm, ⟨23, _⟩ => ⟨S4352x3072, .f32⟩
  | .hbm, ⟨24, _⟩ => ⟨S4352x3072, .f32⟩
  | .hbm, ⟨25, _⟩ => ⟨S_, .f32⟩
  | .hbm, ⟨26, _⟩ => ⟨S4352x3072, .f32⟩
  | .hbm, ⟨27, _⟩ => ⟨S4352x3072, .f32⟩
  | .hbm, ⟨28, _⟩ => ⟨S1x4352x3072, .f32⟩
  | .hbm, ⟨29, _⟩ => ⟨S1x4352x3072, .f32⟩
  | .hbm, ⟨30, _⟩ => ⟨S2x4352x3072, .f32⟩
  | .hbm, ⟨31, _⟩ => ⟨S2x4352x3072, .bf16⟩
  | .hbm, ⟨32, _⟩ => ⟨S2x4352x3072, .bf16⟩
  | .local _ .vmem, ⟨0, _⟩ => ⟨S1088x1024, .bf16⟩
  | .local _ .vmem, ⟨1, _⟩ => ⟨S1088x1024, .bf16⟩
  | .local _ .vmem, ⟨2, _⟩ => ⟨S3072x1024, .bf16⟩
  | .local _ .vmem, ⟨3, _⟩ => ⟨S2x1088x768, .bf16⟩
  | .local _ .vmem, ⟨4, _⟩ => ⟨S2x1088x768, .bf16⟩
  | .local _ .vmem, ⟨5, _⟩ => ⟨S2x1088x768, .bf16⟩
  | .local _ .vmem, ⟨6, _⟩ => ⟨S2x1088x768, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c768_i32 : BitVec 32 := 768#32
  let v0 : BitVec 32 := Scalar.muli arg1 c768_i32
  v0
def k0_off1 (i : grid0.Coords) : Fin 2 → Nat :=
  let arg1 : BitVec 32 := BitVec.ofNat 32 (i 1).val
  let c768_i32 : BitVec 32 := 768#32
  let v0 : BitVec 32 := Scalar.muli arg1 c768_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1088x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1088x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOutXReferenceIdeal.lean ====
abbrev S4352x1024 : Shape := ⟨2, ![4352, 1024]⟩
abbrev S3072x1024 : Shape := ⟨2, ![3072, 1024]⟩
abbrev S2x4352x3072 : Shape := ⟨3, ![2, 4352, 3072]⟩
abbrev S1x4352x3072 : Shape := ⟨3, ![1, 4352, 3072]⟩
abbrev S4352x3072 : Shape := ⟨2, ![4352, 3072]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S3072x1024, .bf16⟩
  | .hbm, ⟨2, _⟩ => ⟨S2x4352x3072, .f32⟩
  | .hbm, ⟨3, _⟩ => ⟨S1x4352x3072, .f32⟩
  | .hbm, ⟨4, _⟩ => ⟨S4352x3072, .f32⟩
  | .hbm, ⟨5, _⟩ => ⟨S4352x3072, .f32⟩
  | .hbm, ⟨6, _⟩ => ⟨S4352x3072, .f32⟩
  | .hbm, ⟨7, _⟩ => ⟨S_, .f32⟩
  | .hbm, ⟨8, _⟩ => ⟨S4352x3072, .f32⟩
  | .hbm, ⟨9, _⟩ => ⟨S4352x3072, .f32⟩
  | .hbm, ⟨10, _⟩ => ⟨S_, .f32⟩
  | .hbm, ⟨11, _⟩ => ⟨S4352x3072, .f32⟩
  | .hbm, ⟨12, _⟩ => ⟨S4352x3072, .f32⟩
  | .hbm, ⟨13, _⟩ => ⟨S_, .f32⟩
  | .hbm, ⟨14, _⟩ => ⟨S4352x3072, .f32⟩
  | .hbm, ⟨15, _⟩ => ⟨S4352x3072, .f32⟩
  | .hbm, ⟨16, _⟩ => ⟨S4352x3072, .f32⟩
  | .hbm, ⟨17, _⟩ => ⟨S4352x3072, .f32⟩
  | .hbm, ⟨18, _⟩ => ⟨S1x4352x3072, .f32⟩
  | .hbm, ⟨19, _⟩ => ⟨S4352x3072, .f32⟩
  | .hbm, ⟨20, _⟩ => ⟨S4352x3072, .f32⟩
  | .hbm, ⟨21, _⟩ => ⟨S3072x1024, .f32⟩
  | .hbm, ⟨22, _⟩ => ⟨S4352x1024, .f32⟩
  | .hbm, ⟨23, _⟩ => ⟨S_, .f32⟩
  | .hbm, ⟨24, _⟩ => ⟨S4352x1024, .f32⟩
  | .hbm, ⟨25, _⟩ => ⟨S4352x1024, .f32⟩
  | .hbm, ⟨26, _⟩ => ⟨S4352x1024, .f32⟩
  | .hbm, ⟨27, _⟩ => ⟨S_, .f32⟩
  | .hbm, ⟨28, _⟩ => ⟨S4352x1024, .f32⟩
  | .hbm, ⟨29, _⟩ => ⟨S4352x1024, .f32⟩
  | .hbm, ⟨30, _⟩ => ⟨S4352x3072, .f32⟩
  | .hbm, ⟨31, _⟩ => ⟨S4352x3072, .f32⟩
  | .hbm, ⟨32, _⟩ => ⟨S4352x3072, .f32⟩
  | .hbm, ⟨33, _⟩ => ⟨S1x4352x3072, .f32⟩
  | .hbm, ⟨34, _⟩ => ⟨S_, .f32⟩
  | .hbm, ⟨35, _⟩ => ⟨S2x4352x3072, .f32⟩
  | .hbm, ⟨36, _⟩ => ⟨S4352x3072, .f32⟩
  | .hbm, ⟨37, _⟩ => ⟨S4352x3072, .f32⟩
  | .hbm, ⟨38, _⟩ => ⟨S4352x3072, .f32⟩
  | .hbm, ⟨39, _⟩ => ⟨S4352x3072, .f32⟩
  | .hbm, ⟨40, _⟩ => ⟨S1x4352x3072, .f32⟩
  | .hbm, ⟨41, _⟩ => ⟨S_, .f32⟩
  | .hbm, ⟨42, _⟩ => ⟨S2x4352x3072, .f32⟩
  | .hbm, ⟨43, _⟩ => ⟨S2x4352x3072, .f32⟩
  | .hbm, ⟨44, _⟩ => ⟨S2x4352x3072, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== FfnInW.lean ====
abbrev S4352x1024 : Shape := ⟨2, ![4352, 1024]⟩
abbrev S2x4352x3072 : Shape := ⟨3, ![2, 4352, 3072]⟩
abbrev S2x4x768x1024 : Shape := ⟨4, ![2, 4, 768, 1024]⟩
abbrev S1x4352x768 : Shape := ⟨3, ![1, 4352, 768]⟩
abbrev S1x1x768x1024 : Shape := ⟨4, ![1, 1, 768, 1024]⟩
abbrev S4352x768 : Shape := ⟨2, ![4352, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S2x4352x3072, .bf16⟩
  | .hbm, ⟨2, _⟩ => ⟨S2x4x768x1024, .bf16⟩
  | .local _ .vmem, ⟨0, _⟩ => ⟨S1x4352x768, .bf16⟩
  | .local _ .vmem, ⟨1, _⟩ => ⟨S1x4352x768, .bf16⟩
  | .local _ .vmem, ⟨2, _⟩ => ⟨S4352x1024, .bf16⟩
  | .local _ .vmem, ⟨3, _⟩ => ⟨S1x1x768x1024, .bf16⟩
  | .local _ .vmem, ⟨4, _⟩ => ⟨S1x1x768x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4352x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnInWReferenceIdeal.lean ====
abbrev S4352x1024 : Shape := ⟨2, ![4352, 1024]⟩
abbrev S2x4352x3072 : Shape := ⟨3, ![2, 4352, 3072]⟩
abbrev S_ : Shape := ⟨0, ![]⟩
abbrev S2x4x768x1024 : Shape := ⟨4, ![2, 4, 768, 1024]⟩
abbrev S2x4x768x4352 : Shape := ⟨4, ![2, 4, 768, 4352]⟩
abbrev S2x4352x4x768 : Shape := ⟨4, ![2, 4352, 4, 768]⟩

abbrev nBuf : Space → Nat
  | .hbm => 13
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2x4352x3072, .bf16⟩
  | .hbm, ⟨2, _⟩ => ⟨S_, .f32⟩
  | .hbm, ⟨3, _⟩ => ⟨S2x4x768x1024, .f32⟩
  | .hbm, ⟨4, _⟩ => ⟨S4352x1024, .f32⟩
  | .hbm, ⟨5, _⟩ => ⟨S2x4x768x4352, .f32⟩
  | .hbm, ⟨6, _⟩ => ⟨S2x4352x4x768, .f32⟩
  | .hbm, ⟨7, _⟩ => ⟨S2x4352x3072, .f32⟩
  | .hbm, ⟨8, _⟩ => ⟨S2x4352x3072, .f32⟩
  | .hbm, ⟨9, _⟩ => ⟨S2x4352x4x768, .f32⟩
  | .hbm, ⟨10, _⟩ => ⟨S2x4x768x4352, .f32⟩
  | .hbm, ⟨11, _⟩ => ⟨S2x4x768x1024, .f32⟩
  | .hbm, ⟨12, _⟩ => ⟨S2x4x768x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== FfnOutW.lean ====
abbrev S4352x3072 : Shape := ⟨2, ![4352, 3072]⟩
abbrev S4352x1024 : Shape := ⟨2, ![4352, 1024]⟩
abbrev S8x352x1024 : Shape := ⟨3, ![8, 352, 1024]⟩
abbrev S4352x768 : Shape := ⟨2, ![4352, 768]⟩
abbrev S2x352x1024 : Shape := ⟨3, ![2, 352, 1024]⟩
abbrev S768x1024 : Shape := ⟨2, ![768, 1024]⟩
abbrev S352x1024 : Shape := ⟨2, ![352, 1024]⟩
abbrev S1x352x1024 : Shape := ⟨3, ![1, 352, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x3072, .bf16⟩
  | .hbm, ⟨1, _⟩ => ⟨S4352x1024, .bf16⟩
  | .hbm, ⟨2, _⟩ => ⟨S8x352x1024, .bf16⟩
  | .local _ .vmem, ⟨0, _⟩ => ⟨S4352x768, .bf16⟩
  | .local _ .vmem, ⟨1, _⟩ => ⟨S4352x768, .bf16⟩
  | .local _ .vmem, ⟨2, _⟩ => ⟨S4352x1024, .bf16⟩
  | .local _ .vmem, ⟨3, _⟩ => ⟨S2x352x1024, .bf16⟩
  | .local _ .vmem, ⟨4, _⟩ => ⟨S2x352x1024, .bf16⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4352x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnOutWReferenceIdeal.lean ====
abbrev S4352x3072 : Shape := ⟨2, ![4352, 3072]⟩
abbrev S4352x1024 : Shape := ⟨2, ![4352, 1024]⟩
abbrev S4352x4x768 : Shape := ⟨3, ![4352, 4, 768]⟩
abbrev S4352x4x704 : Shape := ⟨3, ![4352, 4, 704]⟩
abbrev S4352x2816 : Shape := ⟨2, ![4352, 2816]⟩
abbrev S_ : Shape := ⟨0, ![]⟩
abbrev S8x352x1024 : Shape := ⟨3, ![8, 352, 1024]⟩
abbrev S2816x1024 : Shape := ⟨2, ![2816, 1024]⟩
abbrev S1024x2816 : Shape := ⟨2, ![1024, 2816]⟩

abbrev nBuf : Space → Nat
  | .hbm => 21
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S4352x1024, .bf16⟩
  | .hbm, ⟨2, _⟩ => ⟨S4352x3072, .f32⟩
  | .hbm, ⟨3, _⟩ => ⟨S4352x4x768, .f32⟩
  | .hbm, ⟨4, _⟩ => ⟨S4352x4x704, .f32⟩
  | .hbm, ⟨5, _⟩ => ⟨S4352x2816, .f32⟩
  | .hbm, ⟨6, _⟩ => ⟨S_, .f32⟩
  | .hbm, ⟨7, _⟩ => ⟨S8x352x1024, .f32⟩
  | .hbm, ⟨8, _⟩ => ⟨S2816x1024, .f32⟩
  | .hbm, ⟨9, _⟩ => ⟨S4352x1024, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S4352x1024, .f32⟩
  | .hbm, ⟨14, _⟩ => ⟨S_, .f32⟩
  | .hbm, ⟨15, _⟩ => ⟨S4352x1024, .f32⟩
  | .hbm, ⟨16, _⟩ => ⟨S4352x1024, .f32⟩
  | .hbm, ⟨17, _⟩ => ⟨S1024x2816, .f32⟩
  | .hbm, ⟨18, _⟩ => ⟨S2816x1024, .f32⟩
  | .hbm, ⟨19, _⟩ => ⟨S8x352x1024, .f32⟩
  | .hbm, ⟨20, _⟩ => ⟨S8x352x1024, .bf16⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== ProjX.lean ====
abbrev S4352x2304 : Shape := ⟨2, ![4352, 2304]⟩
abbrev S4352x2048 : Shape := ⟨2, ![4352, 2048]⟩
abbrev S4352x128 : Shape := ⟨2, ![4352, 128]⟩
abbrev S1024x6272 : Shape := ⟨2, ![1024, 6272]⟩
abbrev S4352x1024 : Shape := ⟨2, ![4352, 1024]⟩
abbrev S1x1024 : Shape := ⟨2, ![1, 1024]⟩
abbrev S544x2304 : Shape := ⟨2, ![544, 2304]⟩
abbrev S544x2048 : Shape := ⟨2, ![544, 2048]⟩
abbrev S544x128 : Shape := ⟨2, ![544, 128]⟩
abbrev S544x1024 : Shape := ⟨2, ![544, 1024]⟩
abbrev S1024x2304 : Shape := ⟨2, ![1024, 2304]⟩
abbrev S1024x2048 : Shape := ⟨2, ![1024, 2048]⟩
abbrev S1024x128 : Shape := ⟨2, ![1024, 128]⟩
abbrev S544 : Shape := ⟨1, ![544]⟩
abbrev S544x1 : Shape := ⟨2, ![544, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4352x2304, .bf16⟩
  | .hbm, ⟨1, _⟩ => ⟨S4352x2048, .bf16⟩
  | .hbm, ⟨2, _⟩ => ⟨S4352x128, .bf16⟩
  | .hbm, ⟨3, _⟩ => ⟨S1024x6272, .bf16⟩
  | .hbm, ⟨4, _⟩ => ⟨S4352x1024, .f32⟩
  | .hbm, ⟨5, _⟩ => ⟨S1x1024, .f32⟩
  | .hbm, ⟨6, _⟩ => ⟨S4352x1024, .f32⟩
  | .hbm, ⟨7, _⟩ => ⟨S4352x1024, .f32⟩
  | .hbm, ⟨8, _⟩ => ⟨S4352x1024, .bf16⟩
  | .hbm, ⟨9, _⟩ => ⟨S1x1024, .f32⟩
  | .local _ .vmem, ⟨0, _⟩ => ⟨S544x2304, .bf16⟩
  | .local _ .vmem, ⟨1, _⟩ => ⟨S544x2304, .bf16⟩
  | .local _ .vmem, ⟨2, _⟩ => ⟨S544x2048, .bf16⟩
  | .local _ .vmem, ⟨3, _⟩ => ⟨S544x2048, .bf16⟩
  | .local _ .vmem, ⟨4, _⟩ => ⟨S544x128, .bf16⟩
  | .local _ .vmem, ⟨5, _⟩ => ⟨S544x128, .bf16⟩
  | .local _ .vmem, ⟨6, _⟩ => ⟨S1024x6272, .bf16⟩
  | .local _ .vmem, ⟨7, _⟩ => ⟨S544x1024, .f32⟩
  | .local _ .vmem, ⟨8, _⟩ => ⟨S544x1024, .f32⟩
  | .local _ .vmem, ⟨9, _⟩ => ⟨S1x1024, .f32⟩
  | .local _ .vmem, ⟨10, _⟩ => ⟨S544x1024, .f32⟩
  | .local _ .vmem, ⟨11, _⟩ => ⟨S544x1024, .f32⟩
  | .local _ .vmem, ⟨12, _⟩ => ⟨S544x1024, .f32⟩
  | .local _ .vmem, ⟨13, _⟩ => ⟨S544x1024, .f32⟩
  | .local _ .vmem, ⟨14, _⟩ => ⟨S544x1024, .bf16⟩
  | .local _ .vmem, ⟨15, _⟩ => ⟨S544x1024, .bf16⟩
  | .local _ .vmem, ⟨16, _⟩ => ⟨S1x1024, .f32⟩
  | _, _ => ⟨S4352x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_27 : BitVec 32 := 0#32
  let v48 : BitVec 1 := Scalar.cmpi .ne v47 c0_i32_27
  v48

def k0_cond2 (i : grid0.Coords) : BitVec 1 :=
  let arg0 : BitVec 32 := BitVec.ofNat 32 (i 0).val
  let c0_i32 : BitVec 32 := 0#32
  let v46 : BitVec 1 := Scalar.cmpi .eq arg0 c0_i32
  let v_true : BitVec 1 := 1#1
  let v49 : BitVec 1 := Scalar.xori v46 v_true
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6272 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ProjXReferenceIdeal.lean ====
abbrev S4352x2304 : Shape := ⟨2, ![4352, 2304]⟩
abbrev S4352x2048 : Shape := ⟨2, ![4352, 2048]⟩
abbrev S4352x128 : Shape := ⟨2, ![4352, 128]⟩
abbrev S1024x6272 : Shape := ⟨2, ![1024, 6272]⟩
abbrev S4352x1024 : Shape := ⟨2, ![4352, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩
abbrev S1024x2304 : Shape := ⟨2, ![1024, 2304]⟩
abbrev S1024x2048 : Shape := ⟨2, ![1024, 2048]⟩
abbrev S1024x128 : Shape := ⟨2, ![1024, 128]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4352x2304, .bf16⟩
  | .hbm, ⟨1, _⟩ => ⟨S4352x2048, .bf16⟩
  | .hbm, ⟨2, _⟩ => ⟨S4352x128, .bf16⟩
  | .hbm, ⟨3, _⟩ => ⟨S1024x6272, .bf16⟩
  | .hbm, ⟨4, _⟩ => ⟨S4352x1024, .f32⟩
  | .hbm, ⟨5, _⟩ => ⟨S1x1024, .f32⟩
  | .hbm, ⟨6, _⟩ => ⟨S4352x1024, .f32⟩
  | .hbm, ⟨7, _⟩ => ⟨S1024x6272, .f32⟩
  | .hbm, ⟨8, _⟩ => ⟨S4352x1024, .f32⟩
  | .hbm, ⟨9, _⟩ => ⟨S_, .f32⟩
  | .hbm, ⟨10, _⟩ => ⟨S4352, .f32⟩
  | .hbm, ⟨11, _⟩ => ⟨S4352x1, .f32⟩
  | .hbm, ⟨12, _⟩ => ⟨S_, .f32⟩
  | .hbm, ⟨13, _⟩ => ⟨S4352x1, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x1, .f32⟩
  | .hbm, ⟨19, _⟩ => ⟨S4352x1, .f32⟩
  | .hbm, ⟨20, _⟩ => ⟨S_, .f32⟩
  | .hbm, ⟨21, _⟩ => ⟨S4352x1, .f32⟩
  | .hbm, ⟨22, _⟩ => ⟨S4352x1, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S4352x1024, .f32⟩
  | .hbm, ⟨27, _⟩ => ⟨S1024x2304, .f32⟩
  | .hbm, ⟨28, _⟩ => ⟨S4352x2304, .f32⟩
  | .hbm, ⟨29, _⟩ => ⟨S1024x2048, .f32⟩
  | .hbm, ⟨30, _⟩ => ⟨S4352x2048, .f32⟩
  | .hbm, ⟨31, _⟩ => ⟨S1024x128, .f32⟩
  | .hbm, ⟨32, _⟩ => ⟨S4352x128, .f32⟩
  | .hbm, ⟨33, _⟩ => ⟨S4352x2304, .f32⟩
  | .hbm, ⟨34, _⟩ => ⟨S4352x2048, .f32⟩
  | .hbm, ⟨35, _⟩ => ⟨S4352x128, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .f32⟩
  | .hbm, ⟨40, _⟩ => ⟨S4352x1024, .f32⟩
  | .hbm, ⟨41, _⟩ => ⟨S4352x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S_, .f32⟩
  | .hbm, ⟨49, _⟩ => ⟨S4352, .f32⟩
  | .hbm, ⟨50, _⟩ => ⟨S4352x1, .f32⟩
  | .hbm, ⟨51, _⟩ => ⟨S4352x1024, .f32⟩
  | .hbm, ⟨52, _⟩ => ⟨S4352x1024, .f32⟩
  | .hbm, ⟨53, _⟩ => ⟨S4352x1, .f32⟩
  | .hbm, ⟨54, _⟩ => ⟨S_, .f32⟩
  | .hbm, ⟨55, _⟩ => ⟨S4352x1, .f32⟩
  | .hbm, ⟨56, _⟩ => ⟨S4352x1, .f32⟩
  | .hbm, ⟨57, _⟩ => ⟨S_, .f32⟩
  | .hbm, ⟨58, _⟩ => ⟨S4352, .f32⟩
  | .hbm, ⟨59, _⟩ => ⟨S4352x1024, .f32⟩
  | .hbm, ⟨60, _⟩ => ⟨S4352x1024, .f32⟩
  | .hbm, ⟨61, _⟩ => ⟨S4352x1024, .f32⟩
  | .hbm, ⟨62, _⟩ => ⟨S4352x1024, .f32⟩
  | .hbm, ⟨63, _⟩ => ⟨S4352x1024, .f32⟩
  | .hbm, ⟨64, _⟩ => ⟨S4352x1024, .f32⟩
  | .hbm, ⟨65, _⟩ => ⟨S4352x1024, .bf16⟩
  | _, _ => ⟨S4352x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== ProjQkvW.lean ====
abbrev S4352x1024 : Shape := ⟨2, ![4352, 1024]⟩
abbrev S4352x2304 : Shape := ⟨2, ![4352, 2304]⟩
abbrev S1024x2304 : Shape := ⟨2, ![1024, 2304]⟩
abbrev S4352x512 : Shape := ⟨2, ![4352, 512]⟩
abbrev S4352x768 : Shape := ⟨2, ![4352, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x2304, .bf16⟩
  | .hbm, ⟨2, _⟩ => ⟨S1024x2304, .bf16⟩
  | .local _ .vmem, ⟨0, _⟩ => ⟨S4352x512, .bf16⟩
  | .local _ .vmem, ⟨1, _⟩ => ⟨S4352x512, .bf16⟩
  | .local _ .vmem, ⟨2, _⟩ => ⟨S4352x768, .bf16⟩
  | .local _ .vmem, ⟨3, _⟩ => ⟨S4352x768, .bf16⟩
  | .local _ .vmem, ⟨4, _⟩ => ⟨S512x768, .bf16⟩
  | .local _ .vmem, ⟨5, _⟩ => ⟨S512x768, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4352x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQkvWReferenceIdeal.lean ====
abbrev S4352x1024 : Shape := ⟨2, ![4352, 1024]⟩
abbrev S4352x2304 : Shape := ⟨2, ![4352, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2304, .bf16⟩
  | .hbm, ⟨2, _⟩ => ⟨S_, .f32⟩
  | .hbm, ⟨3, _⟩ => ⟨S1024x2304, .f32⟩
  | .hbm, ⟨4, _⟩ => ⟨S4352x1024, .f32⟩
  | .hbm, ⟨5, _⟩ => ⟨S4352x2304, .f32⟩
  | .hbm, ⟨6, _⟩ => ⟨S4352x2304, .f32⟩
  | .hbm, ⟨7, _⟩ => ⟨S2304x1024, .f32⟩
  | .hbm, ⟨8, _⟩ => ⟨S1024x2304, .f32⟩
  | .hbm, ⟨9, _⟩ => ⟨S1024x2304, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjGatesW.lean ====
abbrev S4352x1024 : Shape := ⟨2, ![4352, 1024]⟩
abbrev S4352x2048 : Shape := ⟨2, ![4352, 2048]⟩
abbrev S1024x2048 : Shape := ⟨2, ![1024, 2048]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S1024x2048, .bf16⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S4352x512, .bf16⟩
  | .local _ .vmem, ⟨4, _⟩ => ⟨S512x512, .bf16⟩
  | .local _ .vmem, ⟨5, _⟩ => ⟨S512x512, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGatesWReferenceIdeal.lean ====
abbrev S4352x1024 : Shape := ⟨2, ![4352, 1024]⟩
abbrev S4352x2048 : Shape := ⟨2, ![4352, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S_, .f32⟩
  | .hbm, ⟨3, _⟩ => ⟨S1024x2048, .f32⟩
  | .hbm, ⟨4, _⟩ => ⟨S4352x1024, .f32⟩
  | .hbm, ⟨5, _⟩ => ⟨S4352x2048, .f32⟩
  | .hbm, ⟨6, _⟩ => ⟨S4352x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjFW.lean ====
abbrev S4352x1024 : Shape := ⟨2, ![4352, 1024]⟩
abbrev S4352x128 : Shape := ⟨2, ![4352, 128]⟩
abbrev S1024x128 : Shape := ⟨2, ![1024, 128]⟩
abbrev S4352x512 : Shape := ⟨2, ![4352, 512]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x128, .bf16⟩
  | .hbm, ⟨2, _⟩ => ⟨S1024x128, .bf16⟩
  | .local _ .vmem, ⟨0, _⟩ => ⟨S4352x512, .bf16⟩
  | .local _ .vmem, ⟨1, _⟩ => ⟨S4352x512, .bf16⟩
  | .local _ .vmem, ⟨2, _⟩ => ⟨S4352x128, .bf16⟩
  | .local _ .vmem, ⟨3, _⟩ => ⟨S512x128, .bf16⟩
  | .local _ .vmem, ⟨4, _⟩ => ⟨S512x128, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4352x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjFWReferenceIdeal.lean ====
abbrev S4352x1024 : Shape := ⟨2, ![4352, 1024]⟩
abbrev S4352x128 : Shape := ⟨2, ![4352, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x128, .bf16⟩
  | .hbm, ⟨2, _⟩ => ⟨S_, .f32⟩
  | .hbm, ⟨3, _⟩ => ⟨S1024x128, .f32⟩
  | .hbm, ⟨4, _⟩ => ⟨S4352x1024, .f32⟩
  | .hbm, ⟨5, _⟩ => ⟨S4352x128, .f32⟩
  | .hbm, ⟨6, _⟩ => ⟨S4352x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOutW.lean ====
abbrev S4352x1024 : Shape := ⟨2, ![4352, 1024]⟩
abbrev S1024x1024 : Shape := ⟨2, ![1024, 1024]⟩
abbrev S4352x512 : Shape := ⟨2, ![4352, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S512x1024, .bf16⟩
  | .local _ .vmem, ⟨4, _⟩ => ⟨S512x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutWReferenceIdeal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchX.lean ====
abbrev S4352x1024 : Shape := ⟨2, ![4352, 1024]⟩
abbrev S512x1024 : Shape := ⟨2, ![512, 1024]⟩
abbrev S4352x512 : Shape := ⟨2, ![4352, 512]⟩
abbrev S1088x1024 : Shape := ⟨2, ![1088, 1024]⟩
abbrev S1088x512 : Shape := ⟨2, ![1088, 512]⟩

abbrev nBuf : Space → Nat
  | .hbm => 6
  | .vmem => 10
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S512x1024, .bf16⟩
  | .hbm, ⟨3, _⟩ => ⟨S512x1024, .bf16⟩
  | .hbm, ⟨4, _⟩ => ⟨S4352x512, .f32⟩
  | .hbm, ⟨5, _⟩ => ⟨S4352x512, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S512x1024, .bf16⟩
  | .local _ .vmem, ⟨5, _⟩ => ⟨S512x1024, .bf16⟩
  | .local _ .vmem, ⟨6, _⟩ => ⟨S1088x512, .f32⟩
  | .local _ .vmem, ⟨7, _⟩ => ⟨S1088x512, .f32⟩
  | .local _ .vmem, ⟨8, _⟩ => ⟨S1088x512, .bf16⟩
  | .local _ .vmem, ⟨9, _⟩ => ⟨S1088x512, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1088x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1088x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BranchXReferenceIdeal.lean ====
abbrev S4352x1024 : Shape := ⟨2, ![4352, 1024]⟩
abbrev S512x1024 : Shape := ⟨2, ![512, 1024]⟩
abbrev S_ : Shape := ⟨0, ![]⟩
abbrev S4352x512 : Shape := ⟨2, ![4352, 512]⟩

abbrev nBuf : Space → Nat
  | .hbm => 15
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S512x1024, .bf16⟩
  | .hbm, ⟨3, _⟩ => ⟨S512x1024, .bf16⟩
  | .hbm, ⟨4, _⟩ => ⟨S_, .f32⟩
  | .hbm, ⟨5, _⟩ => ⟨S4352x512, .f32⟩
  | .hbm, ⟨6, _⟩ => ⟨S512x1024, .f32⟩
  | .hbm, ⟨7, _⟩ => ⟨S4352x1024, .f32⟩
  | .hbm, ⟨8, _⟩ => ⟨S512x1024, .f32⟩
  | .hbm, ⟨9, _⟩ => ⟨S4352x1024, .f32⟩
  | .hbm, ⟨10, _⟩ => ⟨S4352x1024, .f32⟩
  | .hbm, ⟨11, _⟩ => ⟨S4352x1024, .f32⟩
  | .hbm, ⟨12, _⟩ => ⟨S4352x512, .f32⟩
  | .hbm, ⟨13, _⟩ => ⟨S4352x512, .f32⟩
  | .hbm, ⟨14, _⟩ => ⟨S4352x512, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== BranchW.lean ====
abbrev S4352x512 : Shape := ⟨2, ![4352, 512]⟩
abbrev S4352x1024 : Shape := ⟨2, ![4352, 1024]⟩
abbrev S512x1024 : Shape := ⟨2, ![512, 1024]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S4352x512, .bf16⟩
  | .hbm, ⟨1, _⟩ => ⟨S4352x512, .bf16⟩
  | .hbm, ⟨2, _⟩ => ⟨S4352x1024, .bf16⟩
  | .hbm, ⟨3, _⟩ => ⟨S4352x1024, .bf16⟩
  | .hbm, ⟨4, _⟩ => ⟨S512x1024, .bf16⟩
  | .hbm, ⟨5, _⟩ => ⟨S512x1024, .bf16⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S4352x512, .bf16⟩
  | .local _ .vmem, ⟨4, _⟩ => ⟨S4352x512, .bf16⟩
  | .local _ .vmem, ⟨5, _⟩ => ⟨S4352x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4352x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4352x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BranchWReferenceIdeal.lean ====
abbrev S4352x512 : Shape := ⟨2, ![4352, 512]⟩
abbrev S4352x1024 : Shape := ⟨2, ![4352, 1024]⟩
abbrev S_ : Shape := ⟨0, ![]⟩
abbrev S512x1024 : Shape := ⟨2, ![512, 1024]⟩
abbrev S1024x512 : Shape := ⟨2, ![1024, 512]⟩

abbrev nBuf : Space → Nat
  | .hbm => 20
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x512, .bf16⟩
  | .hbm, ⟨2, _⟩ => ⟨S4352x1024, .bf16⟩
  | .hbm, ⟨3, _⟩ => ⟨S4352x1024, .bf16⟩
  | .hbm, ⟨4, _⟩ => ⟨S_, .f32⟩
  | .hbm, ⟨5, _⟩ => ⟨S512x1024, .f32⟩
  | .hbm, ⟨6, _⟩ => ⟨S4352x512, .f32⟩
  | .hbm, ⟨7, _⟩ => ⟨S4352x1024, .f32⟩
  | .hbm, ⟨8, _⟩ => ⟨S4352x1024, .f32⟩
  | .hbm, ⟨9, _⟩ => ⟨S1024x512, .f32⟩
  | .hbm, ⟨10, _⟩ => ⟨S512x1024, .f32⟩
  | .hbm, ⟨11, _⟩ => ⟨S512x1024, .bf16⟩
  | .hbm, ⟨12, _⟩ => ⟨S_, .f32⟩
  | .hbm, ⟨13, _⟩ => ⟨S512x1024, .f32⟩
  | .hbm, ⟨14, _⟩ => ⟨S4352x512, .f32⟩
  | .hbm, ⟨15, _⟩ => ⟨S4352x1024, .f32⟩
  | .hbm, ⟨16, _⟩ => ⟨S4352x1024, .f32⟩
  | .hbm, ⟨17, _⟩ => ⟨S1024x512, .f32⟩
  | .hbm, ⟨18, _⟩ => ⟨S512x1024, .f32⟩
  | .hbm, ⟨19, _⟩ => ⟨S512x1024, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== FfnIn.lean ====
abbrev S4352x1024 : Shape := ⟨2, ![4352, 1024]⟩
abbrev S2x4x1024x768 : Shape := ⟨4, ![2, 4, 1024, 768]⟩
abbrev S2x4352x3072 : Shape := ⟨3, ![2, 4352, 3072]⟩
abbrev S4352x3072 : Shape := ⟨2, ![4352, 3072]⟩
abbrev S1088x1024 : Shape := ⟨2, ![1088, 1024]⟩
abbrev S2x1x1024x768 : Shape := ⟨4, ![2, 1, 1024, 768]⟩
abbrev S2x1088x768 : Shape := ⟨3, ![2, 1088, 768]⟩
abbrev S1088x768 : Shape := ⟨2, ![1088, 768]⟩
abbrev S1x1x1024x768 : Shape := ⟨4, ![1, 1, 1024, 768]⟩
abbrev S1024x768 : Shape := ⟨2, ![1024, 768]⟩
abbrev S1x1088x768 : Shape := ⟨3, ![1, 1088, 768]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S2x4x1024x768, .bf16⟩
  | .hbm, ⟨2, _⟩ => ⟨S2x4352x3072, .bf16⟩
  | .hbm, ⟨3, _⟩ => ⟨S4352x3072, .bf16⟩
  | .local _ .vmem, ⟨0, _⟩ => ⟨S1088x1024, .bf16⟩
  | .local _ .vmem, ⟨1, _⟩ => ⟨S1088x1024, .bf16⟩
  | .local _ .vmem, ⟨2, _⟩ => ⟨S2x1x1024x768, .bf16⟩
  | .local _ .vmem, ⟨3, _⟩ => ⟨S2x1x1024x768, .bf16⟩
  | .local _ .vmem, ⟨4, _⟩ => ⟨S2x1088x768, .bf16⟩
  | .local _ .vmem, ⟨5, _⟩ => ⟨S2x1088x768, .bf16⟩
  | .local _ .vmem, ⟨6, _⟩ => ⟨S1088x768, .bf16⟩
  | .local _ .vmem, ⟨7, _⟩ => ⟨S1088x768, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1088x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnInReferenceIdeal.lean ====
abbrev S4352x1024 : Shape := ⟨2, ![4352, 1024]⟩
abbrev S2x4x1024x768 : Shape := ⟨4, ![2, 4, 1024, 768]⟩
abbrev S1x4x1024x768 : Shape := ⟨4, ![1, 4, 1024, 768]⟩
abbrev S4x1024x768 : Shape := ⟨3, ![4, 1024, 768]⟩
abbrev S1024x4x768 : Shape := ⟨3, ![1024, 4, 768]⟩
abbrev S1024x3072 : Shape := ⟨2, ![1024, 3072]⟩
abbrev S4352x3072 : Shape := ⟨2, ![4352, 3072]⟩
abbrev S_ : Shape := ⟨0, ![]⟩
abbrev S1x4352x3072 : Shape := ⟨3, ![1, 4352, 3072]⟩
abbrev S2x4352x3072 : Shape := ⟨3, ![2, 4352, 3072]⟩

abbrev nBuf : Space → Nat
  | .hbm => 59
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2x4x1024x768, .bf16⟩
  | .hbm, ⟨2, _⟩ => ⟨S1x4x1024x768, .bf16⟩
  | .hbm, ⟨3, _⟩ => ⟨S4x1024x768, .bf16⟩
  | .hbm, ⟨4, _⟩ => ⟨S4x1024x768, .f32⟩
  | .hbm, ⟨5, _⟩ => ⟨S1024x4x768, .f32⟩
  | .hbm, ⟨6, _⟩ => ⟨S1024x3072, .f32⟩
  | .hbm, ⟨7, _⟩ => ⟨S1x4x1024x768, .bf16⟩
  | .hbm, ⟨8, _⟩ => ⟨S4x1024x768, .bf16⟩
  | .hbm, ⟨9, _⟩ => ⟨S4x1024x768, .f32⟩
  | .hbm, ⟨10, _⟩ => ⟨S1024x4x768, .f32⟩
  | .hbm, ⟨11, _⟩ => ⟨S1024x3072, .f32⟩
  | .hbm, ⟨12, _⟩ => ⟨S4352x1024, .f32⟩
  | .hbm, ⟨13, _⟩ => ⟨S4352x3072, .f32⟩
  | .hbm, ⟨14, _⟩ => ⟨S4352x1024, .f32⟩
  | .hbm, ⟨15, _⟩ => ⟨S4352x3072, .f32⟩
  | .hbm, ⟨16, _⟩ => ⟨S4352x3072, .f32⟩
  | .hbm, ⟨17, _⟩ => ⟨S4352x3072, .f32⟩
  | .hbm, ⟨18, _⟩ => ⟨S_, .f32⟩
  | .hbm, ⟨19, _⟩ => ⟨S4352x3072, .f32⟩
  | .hbm, ⟨20, _⟩ => ⟨S4352x3072, .f32⟩
  | .hbm, ⟨21, _⟩ => ⟨S_, .f32⟩
  | .hbm, ⟨22, _⟩ => ⟨S4352x3072, .f32⟩
  | .hbm, ⟨23, _⟩ => ⟨S4352x3072, .f32⟩
  | .hbm, ⟨24, _⟩ => ⟨S_, .f32⟩
  | .hbm, ⟨25, _⟩ => ⟨S4352x3072, .f32⟩
  | .hbm, ⟨26, _⟩ => ⟨S4352x3072, .f32⟩
  | .hbm, ⟨27, _⟩ => ⟨S4352x3072, .f32⟩
  | .hbm, ⟨28, _⟩ => ⟨S4352x3072, .f32⟩
  | .hbm, ⟨29, _⟩ => ⟨S4352x3072, .f32⟩
  | .hbm, ⟨30, _⟩ => ⟨S_, .f32⟩
  | .hbm, ⟨31, _⟩ => ⟨S4352x3072, .f32⟩
  | .hbm, ⟨32, _⟩ => ⟨S4352x3072, .f32⟩
  | .hbm, ⟨33, _⟩ => ⟨S_, .f32⟩
  | .hbm, ⟨34, _⟩ => ⟨S4352x3072, .f32⟩
  | .hbm, ⟨35, _⟩ => ⟨S_, .f32⟩
  | .hbm, ⟨36, _⟩ => ⟨S4352x3072, .f32⟩
  | .hbm, ⟨37, _⟩ => ⟨S4352x3072, .f32⟩
  | .hbm, ⟨38, _⟩ => ⟨S4352x3072, .f32⟩
  | .hbm, ⟨39, _⟩ => ⟨S4352x3072, .f32⟩
  | .hbm, ⟨40, _⟩ => ⟨S4352x3072, .f32⟩
  | .hbm, ⟨41, _⟩ => ⟨S4352x3072, .f32⟩
  | .hbm, ⟨42, _⟩ => ⟨S4352x3072, .f32⟩
  | .hbm, ⟨43, _⟩ => ⟨S4352x3072, .f32⟩
  | .hbm, ⟨44, _⟩ => ⟨S1x4352x3072, .f32⟩
  | .hbm, ⟨45, _⟩ => ⟨S1x4352x3072, .f32⟩
  | .hbm, ⟨46, _⟩ => ⟨S2x4352x3072, .f32⟩
  | .hbm, ⟨47, _⟩ => ⟨S2x4352x3072, .bf16⟩
  | .hbm, ⟨48, _⟩ => ⟨S4352x3072, .f32⟩
  | .hbm, ⟨49, _⟩ => ⟨S4352x3072, .f32⟩
  | .hbm, ⟨50, _⟩ => ⟨S_, .f32⟩
  | .hbm, ⟨51, _⟩ => ⟨S4352x3072, .f32⟩
  | .hbm, ⟨52, _⟩ => ⟨S4352x3072, .f32⟩
  | .hbm, ⟨53, _⟩ => ⟨S_, .f32⟩
  | .hbm, ⟨54, _⟩ => ⟨S4352x3072, .f32⟩
  | .hbm, ⟨55, _⟩ => ⟨S4352x3072, .f32⟩
  | .hbm, ⟨56, _⟩ => ⟨S4352x3072, .f32⟩
  | .hbm, ⟨57, _⟩ => ⟨S4352x3072, .f32⟩
  | .hbm, ⟨58, _⟩ => ⟨S4352x3072, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v14_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v14_1 : Ref sig .tc := ⟨.hbm, 27, rfl⟩
abbrev main_v14_0 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩

abbrev nD : Nat := 1
abbrev τ : Topo := Topo.v7x

variable {F : FTy → Type} [FloatOps F]
-- ==== FfnOut.lean ====
abbrev S4352x3072 : Shape := ⟨2, ![4352, 3072]⟩
abbrev S3072x1024 : Shape := ⟨2, ![3072, 1024]⟩
abbrev S4352x1024 : Shape := ⟨2, ![4352, 1024]⟩
abbrev S1x1024 : Shape := ⟨2, ![1, 1024]⟩
abbrev S544x3072 : Shape := ⟨2, ![544, 3072]⟩
abbrev S544x1024 : Shape := ⟨2, ![544, 1024]⟩
abbrev S544 : Shape := ⟨1, ![544]⟩
abbrev S544x1 : Shape := ⟨2, ![544, 1]⟩

abbrev nBuf : Space → Nat
  | .hbm => 6
  | .vmem => 10
  | .smem => 0
  | _ => 0

abbrev bufTy : (tb : Table) → Fin (tcTables nBuf tb) → BufTy
  | .hbm, ⟨0, _⟩ => ⟨S4352x3072, .bf16⟩
  | .hbm, ⟨1, _⟩ => ⟨S3072x1024, .bf16⟩
  | .hbm, ⟨2, _⟩ => ⟨S4352x1024, .f32⟩
  | .hbm, ⟨3, _⟩ => ⟨S1x1024, .f32⟩
  | .hbm, ⟨4, _⟩ => ⟨S4352x1024, .f32⟩
  | .hbm, ⟨5, _⟩ => ⟨S4352x1024, .bf16⟩
  | .local _ .vmem, ⟨0, _⟩ => ⟨S544x3072, .bf16⟩
  | .local _ .vmem, ⟨1, _⟩ => ⟨S544x3072, .bf16⟩
  | .local _ .vmem, ⟨2, _⟩ => ⟨S3072x1024, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .bf16⟩
  | .local _ .vmem, ⟨9, _⟩ => ⟨S544x1024, .bf16⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnOutReferenceIdeal.lean ====
abbrev S4352x3072 : Shape := ⟨2, ![4352, 3072]⟩
abbrev S3072x1024 : Shape := ⟨2, ![3072, 1024]⟩
abbrev S4352x1024 : Shape := ⟨2, ![4352, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 27
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S3072x1024, .bf16⟩
  | .hbm, ⟨2, _⟩ => ⟨S4352x1024, .f32⟩
  | .hbm, ⟨3, _⟩ => ⟨S1x1024, .f32⟩
  | .hbm, ⟨4, _⟩ => ⟨S4352x3072, .f32⟩
  | .hbm, ⟨5, _⟩ => ⟨S3072x1024, .f32⟩
  | .hbm, ⟨6, _⟩ => ⟨S4352x1024, .f32⟩
  | .hbm, ⟨7, _⟩ => ⟨S_, .f32⟩
  | .hbm, ⟨8, _⟩ => ⟨S4352x1024, .f32⟩
  | .hbm, ⟨9, _⟩ => ⟨S4352x1024, .f32⟩
  | .hbm, ⟨10, _⟩ => ⟨S4352x1024, .f32⟩
  | .hbm, ⟨11, _⟩ => ⟨S4352x1024, .f32⟩
  | .hbm, ⟨12, _⟩ => ⟨S_, .f32⟩
  | .hbm, ⟨13, _⟩ => ⟨S4352, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S_, .f32⟩
  | .hbm, ⟨19, _⟩ => ⟨S4352x1, .f32⟩
  | .hbm, ⟨20, _⟩ => ⟨S4352x1, .f32⟩
  | .hbm, ⟨21, _⟩ => ⟨S4352x1, .f32⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S4352x1024, .bf16⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== MixOut.lean ====
abbrev S4352x1024 : Shape := ⟨2, ![4352, 1024]⟩
abbrev S1024x1024 : Shape := ⟨2, ![1024, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩

abbrev nBuf : Space → Nat
  | .hbm => 6
  | .vmem => 10
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1x1024, .f32⟩
  | .hbm, ⟨4, _⟩ => ⟨S4352x1024, .f32⟩
  | .hbm, ⟨5, _⟩ => ⟨S4352x1024, .bf16⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .bf16⟩
  | .local _ .vmem, ⟨9, _⟩ => ⟨S544x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixOutReferenceIdeal.lean ====
abbrev S4352x1024 : Shape := ⟨2, ![4352, 1024]⟩
abbrev S1024x1024 : Shape := ⟨2, ![1024, 1024]⟩
abbrev S1x1024 : Shape := ⟨2, ![1, 1024]⟩
abbrev S_ : Shape := ⟨0, ![]⟩
abbrev S4352 : Shape := ⟨1, ![4352]⟩
abbrev S4352x1 : Shape := ⟨2, ![4352, 1]⟩

abbrev nBuf : Space → Nat
  | .hbm => 24
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1x1024, .f32⟩
  | .hbm, ⟨4, _⟩ => ⟨S4352x1024, .f32⟩
  | .hbm, ⟨5, _⟩ => ⟨S1024x1024, .f32⟩
  | .hbm, ⟨6, _⟩ => ⟨S4352x1024, .f32⟩
  | .hbm, ⟨7, _⟩ => ⟨S4352x1024, .f32⟩
  | .hbm, ⟨8, _⟩ => ⟨S4352x1024, .f32⟩
  | .hbm, ⟨9, _⟩ => ⟨S_, .f32⟩
  | .hbm, ⟨10, _⟩ => ⟨S4352, .f32⟩
  | .hbm, ⟨11, _⟩ => ⟨S4352x1, .f32⟩
  | .hbm, ⟨12, _⟩ => ⟨S_, .f32⟩
  | .hbm, ⟨13, _⟩ => ⟨S4352x1, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x1, .f32⟩
  | .hbm, ⟨19, _⟩ => ⟨S4352x1024, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proj.lean ====
abbrev S4352x1024 : Shape := ⟨2, ![4352, 1024]⟩
abbrev S1024x6272 : Shape := ⟨2, ![1024, 6272]⟩
abbrev S4352x2304 : Shape := ⟨2, ![4352, 2304]⟩
abbrev S4352x2048 : Shape := ⟨2, ![4352, 2048]⟩
abbrev S4352x128 : Shape := ⟨2, ![4352, 128]⟩
abbrev S544x1024 : Shape := ⟨2, ![544, 1024]⟩
abbrev S544x2304 : Shape := ⟨2, ![544, 2304]⟩
abbrev S544x2048 : Shape := ⟨2, ![544, 2048]⟩
abbrev S544x128 : Shape := ⟨2, ![544, 128]⟩
abbrev S1024x2304 : Shape := ⟨2, ![1024, 2304]⟩
abbrev S1024x2048 : Shape := ⟨2, ![1024, 2048]⟩
abbrev S1024x128 : Shape := ⟨2, ![1024, 128]⟩

abbrev nBuf : Space → Nat
  | .hbm => 5
  | .vmem => 9
  | .smem => 0
  | _ => 0

abbrev bufTy : (tb : Table) → Fin (tcTables nBuf tb) → BufTy
  | .hbm, ⟨0, _⟩ => ⟨S4352x1024, .bf16⟩
  | .hbm, ⟨1, _⟩ => ⟨S1024x6272, .bf16⟩
  | .hbm, ⟨2, _⟩ => ⟨S4352x2304, .bf16⟩
  | .hbm, ⟨3, _⟩ => ⟨S4352x2048, .bf16⟩
  | .hbm, ⟨4, _⟩ => ⟨S4352x128, .f32⟩
  | .local _ .vmem, ⟨0, _⟩ => ⟨S544x1024, .bf16⟩
  | .local _ .vmem, ⟨1, _⟩ => ⟨S544x1024, .bf16⟩
  | .local _ .vmem, ⟨2, _⟩ => ⟨S1024x6272, .bf16⟩
  | .local _ .vmem, ⟨3, _⟩ => ⟨S544x2304, .bf16⟩
  | .local _ .vmem, ⟨4, _⟩ => ⟨S544x2304, .bf16⟩
  | .local _ .vmem, ⟨5, _⟩ => ⟨S544x2048, .bf16⟩
  | .local _ .vmem, ⟨6, _⟩ => ⟨S544x2048, .bf16⟩
  | .local _ .vmem, ⟨7, _⟩ => ⟨S544x128, .f32⟩
  | .local _ .vmem, ⟨8, _⟩ => ⟨S544x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6272 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjReferenceIdeal.lean ====
abbrev S4352x1024 : Shape := ⟨2, ![4352, 1024]⟩
abbrev S1024x6272 : Shape := ⟨2, ![1024, 6272]⟩
abbrev S4352x6272 : Shape := ⟨2, ![4352, 6272]⟩
abbrev S4352x2304 : Shape := ⟨2, ![4352, 2304]⟩
abbrev S4352x2048 : Shape := ⟨2, ![4352, 2048]⟩
abbrev S4352x128 : Shape := ⟨2, ![4352, 128]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x6272, .bf16⟩
  | .hbm, ⟨2, _⟩ => ⟨S4352x1024, .f32⟩
  | .hbm, ⟨3, _⟩ => ⟨S1024x6272, .f32⟩
  | .hbm, ⟨4, _⟩ => ⟨S4352x6272, .f32⟩
  | .hbm, ⟨5, _⟩ => ⟨S4352x2304, .f32⟩
  | .hbm, ⟨6, _⟩ => ⟨S4352x2304, .bf16⟩
  | .hbm, ⟨7, _⟩ => ⟨S4352x2048, .f32⟩
  | .hbm, ⟨8, _⟩ => ⟨S4352x2048, .bf16⟩
  | .hbm, ⟨9, _⟩ => ⟨S4352x128, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Branch.lean ====
abbrev S4352x512 : Shape := ⟨2, ![4352, 512]⟩
abbrev S512x1024 : Shape := ⟨2, ![512, 1024]⟩
abbrev S4352x2048 : Shape := ⟨2, ![4352, 2048]⟩
abbrev S4352x1024 : Shape := ⟨2, ![4352, 1024]⟩
abbrev S544x512 : Shape := ⟨2, ![544, 512]⟩
abbrev S544x2048 : Shape := ⟨2, ![544, 2048]⟩
abbrev S544x1024 : Shape := ⟨2, ![544, 1024]⟩

abbrev nBuf : Space → Nat
  | .hbm => 8
  | .vmem => 14
  | .smem => 0
  | _ => 0

abbrev bufTy : (tb : Table) → Fin (tcTables nBuf tb) → BufTy
  | .hbm, ⟨0, _⟩ => ⟨S4352x512, .bf16⟩
  | .hbm, ⟨1, _⟩ => ⟨S4352x512, .bf16⟩
  | .hbm, ⟨2, _⟩ => ⟨S512x1024, .bf16⟩
  | .hbm, ⟨3, _⟩ => ⟨S512x1024, .bf16⟩
  | .hbm, ⟨4, _⟩ => ⟨S4352x2048, .bf16⟩
  | .hbm, ⟨5, _⟩ => ⟨S4352x1024, .bf16⟩
  | .hbm, ⟨6, _⟩ => ⟨S4352x1024, .bf16⟩
  | .hbm, ⟨7, _⟩ => ⟨S4352x1024, .bf16⟩
  | .local _ .vmem, ⟨0, _⟩ => ⟨S544x512, .bf16⟩
  | .local _ .vmem, ⟨1, _⟩ => ⟨S544x512, .bf16⟩
  | .local _ .vmem, ⟨2, _⟩ => ⟨S544x512, .bf16⟩
  | .local _ .vmem, ⟨3, _⟩ => ⟨S544x512, .bf16⟩
  | .local _ .vmem, ⟨4, _⟩ => ⟨S512x1024, .bf16⟩
  | .local _ .vmem, ⟨5, _⟩ => ⟨S512x1024, .bf16⟩
  | .local _ .vmem, ⟨6, _⟩ => ⟨S544x2048, .bf16⟩
  | .local _ .vmem, ⟨7, _⟩ => ⟨S544x2048, .bf16⟩
  | .local _ .vmem, ⟨8, _⟩ => ⟨S544x1024, .bf16⟩
  | .local _ .vmem, ⟨9, _⟩ => ⟨S544x1024, .bf16⟩
  | .local _ .vmem, ⟨10, _⟩ => ⟨S544x1024, .bf16⟩
  | .local _ .vmem, ⟨11, _⟩ => ⟨S544x1024, .bf16⟩
  | .local _ .vmem, ⟨12, _⟩ => ⟨S544x1024, .bf16⟩
  | .local _ .vmem, ⟨13, _⟩ => ⟨S544x1024, .bf16⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BranchReferenceIdeal.lean ====
abbrev S4352x512 : Shape := ⟨2, ![4352, 512]⟩
abbrev S512x1024 : Shape := ⟨2, ![512, 1024]⟩
abbrev S4352x2048 : Shape := ⟨2, ![4352, 2048]⟩
abbrev S4352x1024 : Shape := ⟨2, ![4352, 1024]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x512, .bf16⟩
  | .hbm, ⟨2, _⟩ => ⟨S512x1024, .bf16⟩
  | .hbm, ⟨3, _⟩ => ⟨S512x1024, .bf16⟩
  | .hbm, ⟨4, _⟩ => ⟨S4352x2048, .bf16⟩
  | .hbm, ⟨5, _⟩ => ⟨S4352x512, .f32⟩
  | .hbm, ⟨6, _⟩ => ⟨S512x1024, .f32⟩
  | .hbm, ⟨7, _⟩ => ⟨S4352x1024, .f32⟩
  | .hbm, ⟨8, _⟩ => ⟨S4352x512, .f32⟩
  | .hbm, ⟨9, _⟩ => ⟨S512x1024, .f32⟩
  | .hbm, ⟨10, _⟩ => ⟨S4352x1024, .f32⟩
  | .hbm, ⟨11, _⟩ => ⟨S4352x2048, .f32⟩
  | .hbm, ⟨12, _⟩ => ⟨S4352x1024, .f32⟩
  | .hbm, ⟨13, _⟩ => ⟨S4352x1024, .f32⟩
  | .hbm, ⟨14, _⟩ => ⟨S4352x1024, .f32⟩
  | .hbm, ⟨15, _⟩ => ⟨S4352x1024, .f32⟩
  | .hbm, ⟨16, _⟩ => ⟨S_, .f32⟩
  | .hbm, ⟨17, _⟩ => ⟨S4352x1024, .f32⟩
  | .hbm, ⟨18, _⟩ => ⟨S4352x1024, .f32⟩
  | .hbm, ⟨19, _⟩ => ⟨S_, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S_, .f32⟩
  | .hbm, ⟨26, _⟩ => ⟨S4352x1024, .f32⟩
  | .hbm, ⟨27, _⟩ => ⟨S4352x1024, .f32⟩
  | .hbm, ⟨28, _⟩ => ⟨S_, .f32⟩
  | .hbm, ⟨29, _⟩ => ⟨S4352x1024, .f32⟩
  | .hbm, ⟨30, _⟩ => ⟨S4352x1024, .f32⟩
  | .hbm, ⟨31, _⟩ => ⟨S4352x1024, .f32⟩
  | .hbm, ⟨32, _⟩ => ⟨S4352x1024, .f32⟩
  | .hbm, ⟨33, _⟩ => ⟨S4352x1024, .bf16⟩
  | .hbm, ⟨34, _⟩ => ⟨S4352x1024, .bf16⟩
  | .hbm, ⟨35, _⟩ => ⟨S4352x1024, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== FoxX.lean ====
abbrev S2x2176x1536 : Shape := ⟨3, ![2, 2176, 1536]⟩
abbrev S2x8x2176x1 : Shape := ⟨4, ![2, 8, 2176, 1]⟩
abbrev S2x8x1x2176 : Shape := ⟨4, ![2, 8, 1, 2176]⟩
abbrev S2x2176x512 : Shape := ⟨3, ![2, 2176, 512]⟩
abbrev S2x2176x4x3x128 : Shape := ⟨5, ![2, 2176, 4, 3, 128]⟩
abbrev S2x2176x4x1x128 : Shape := ⟨5, ![2, 2176, 4, 1, 128]⟩
abbrev S2x2176x4x128 : Shape := ⟨4, ![2, 2176, 4, 128]⟩
abbrev S2x2176x8x64 : Shape := ⟨4, ![2, 2176, 8, 64]⟩
abbrev S2x8x2176x2176 : Shape := ⟨4, ![2, 8, 2176, 2176]⟩
abbrev S_ : Shape := ⟨0, ![]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S1x1x2176x2176 : Shape := ⟨4, ![1, 1, 2176, 2176]⟩
abbrev S2x8x2176 : Shape := ⟨3, ![2, 8, 2176]⟩
abbrev S2x8x64x2176 : Shape := ⟨4, ![2, 8, 64, 2176]⟩
abbrev S1x2176x384 : Shape := ⟨3, ![1, 2176, 384]⟩
abbrev S1x2x2176x1 : Shape := ⟨4, ![1, 2, 2176, 1]⟩
abbrev S1x2x1x2176 : Shape := ⟨4, ![1, 2, 1, 2176]⟩
abbrev S1x2176x128 : Shape := ⟨3, ![1, 2176, 128]⟩
abbrev S2176x128 : Shape := ⟨2, ![2176, 128]⟩
abbrev S2x1x2176 : Shape := ⟨3, ![2, 1, 2176]⟩
abbrev S1x128x128 : Shape := ⟨3, ![1, 128, 128]⟩
abbrev S128x128 : Shape := ⟨2, ![128, 128]⟩
abbrev S1x128 : Shape := ⟨2, ![1, 128]⟩
abbrev S256x128 : Shape := ⟨2, ![256, 128]⟩
abbrev S1x1x1x128 : Shape := ⟨4, ![1, 1, 1, 128]⟩
abbrev S1x1x128x1 : Shape := ⟨4, ![1, 1, 128, 1]⟩
abbrev S128x1 : Shape := ⟨2, ![128, 1]⟩
abbrev S128 : Shape := ⟨1, ![128]⟩
abbrev S1x256x128 : Shape := ⟨3, ![1, 256, 128]⟩
abbrev S256x256 : Shape := ⟨2, ![256, 256]⟩
abbrev S128x256 : Shape := ⟨2, ![128, 256]⟩
abbrev S1x1x1x256 : Shape := ⟨4, ![1, 1, 1, 256]⟩
abbrev S1x256 : Shape := ⟨2, ![1, 256]⟩
abbrev S256 : Shape := ⟨1, ![256]⟩
abbrev S1x384x128 : Shape := ⟨3, ![1, 384, 128]⟩
abbrev S384x128 : Shape := ⟨2, ![384, 128]⟩
abbrev S256x384 : Shape := ⟨2, ![256, 384]⟩
abbrev S128x384 : Shape := ⟨2, ![128, 384]⟩
abbrev S1x1x1x384 : Shape := ⟨4, ![1, 1, 1, 384]⟩
abbrev S1x384 : Shape := ⟨2, ![1, 384]⟩
abbrev S384 : Shape := ⟨1, ![384]⟩
abbrev S1x512x128 : Shape := ⟨3, ![1, 512, 128]⟩
abbrev S512x128 : Shape := ⟨2, ![512, 128]⟩
abbrev S256x512 : Shape := ⟨2, ![256, 512]⟩
abbrev S128x512 : Shape := ⟨2, ![128, 512]⟩
abbrev S1x1x1x512 : Shape := ⟨4, ![1, 1, 1, 512]⟩
abbrev S1x512 : Shape := ⟨2, ![1, 512]⟩
abbrev S512 : Shape := ⟨1, ![512]⟩
abbrev S1x640x128 : Shape := ⟨3, ![1, 640, 128]⟩
abbrev S640x128 : Shape := ⟨2, ![640, 128]⟩
abbrev S256x640 : Shape := ⟨2, ![256, 640]⟩
abbrev S128x640 : Shape := ⟨2, ![128, 640]⟩
abbrev S1x1x1x640 : Shape := ⟨4, ![1, 1, 1, 640]⟩
abbrev S1x640 : Shape := ⟨2, ![1, 640]⟩
abbrev S640 : Shape := ⟨1, ![640]⟩
abbrev S1x768x128 : Shape := ⟨3, ![1, 768, 128]⟩
abbrev S768x128 : Shape := ⟨2, ![768, 128]⟩
abbrev S256x768 : Shape := ⟨2, ![256, 768]⟩
abbrev S128x768 : Shape := ⟨2, ![128, 768]⟩
abbrev S1x1x1x768 : Shape := ⟨4, ![1, 1, 1, 768]⟩
abbrev S1x768 : Shape := ⟨2, ![1, 768]⟩
abbrev S768 : Shape := ⟨1, ![768]⟩
abbrev S1x896x128 : Shape := ⟨3, ![1, 896, 128]⟩
abbrev S896x128 : Shape := ⟨2, ![896, 128]⟩
abbrev S256x896 : Shape := ⟨2, ![256, 896]⟩
abbrev S128x896 : Shape := ⟨2, ![128, 896]⟩
abbrev S1x1x1x896 : Shape := ⟨4, ![1, 1, 1, 896]⟩
abbrev S1x896 : Shape := ⟨2, ![1, 896]⟩
abbrev S896 : Shape := ⟨1, ![896]⟩
abbrev S1x1024x128 : Shape := ⟨3, ![1, 1024, 128]⟩
abbrev S1024x128 : Shape := ⟨2, ![1024, 128]⟩
abbrev S256x1024 : Shape := ⟨2, ![256, 1024]⟩
abbrev S128x1024 : Shape := ⟨2, ![128, 1024]⟩
abbrev S1x1x1x1024 : Shape := ⟨4, ![1, 1, 1, 1024]⟩
abbrev S1x1024 : Shape := ⟨2, ![1, 1024]⟩
abbrev S1024 : Shape := ⟨1, ![1024]⟩
abbrev S1x1152x128 : Shape := ⟨3, ![1, 1152, 128]⟩
abbrev S1152x128 : Shape := ⟨2, ![1152, 128]⟩
abbrev S256x1152 : Shape := ⟨2, ![256, 1152]⟩
abbrev S128x1152 : Shape := ⟨2, ![128, 1152]⟩
abbrev S1x1x1x1152 : Shape := ⟨4, ![1, 1, 1, 1152]⟩
abbrev S1x1152 : Shape := ⟨2, ![1, 1152]⟩
abbrev S1152 : Shape := ⟨1, ![1152]⟩
abbrev S1x1280x128 : Shape := ⟨3, ![1, 1280, 128]⟩
abbrev S1280x128 : Shape := ⟨2, ![1280, 128]⟩
abbrev S256x1280 : Shape := ⟨2, ![256, 1280]⟩
abbrev S128x1280 : Shape := ⟨2, ![128, 1280]⟩
abbrev S1x1x1x1280 : Shape := ⟨4, ![1, 1, 1, 1280]⟩
abbrev S1x1280 : Shape := ⟨2, ![1, 1280]⟩
abbrev S1280 : Shape := ⟨1, ![1280]⟩
abbrev S1x1408x128 : Shape := ⟨3, ![1, 1408, 128]⟩
abbrev S1408x128 : Shape := ⟨2, ![1408, 128]⟩
abbrev S256x1408 : Shape := ⟨2, ![256, 1408]⟩
abbrev S128x1408 : Shape := ⟨2, ![128, 1408]⟩
abbrev S1x1x1x1408 : Shape := ⟨4, ![1, 1, 1, 1408]⟩
abbrev S1x1408 : Shape := ⟨2, ![1, 1408]⟩
abbrev S1408 : Shape := ⟨1, ![1408]⟩
abbrev S1x1536x128 : Shape := ⟨3, ![1, 1536, 128]⟩
abbrev S1536x128 : Shape := ⟨2, ![1536, 128]⟩
abbrev S256x1536 : Shape := ⟨2, ![256, 1536]⟩
abbrev S128x1536 : Shape := ⟨2, ![128, 1536]⟩
abbrev S1x1x1x1536 : Shape := ⟨4, ![1, 1, 1, 1536]⟩
abbrev S1x1536 : Shape := ⟨2, ![1, 1536]⟩
abbrev S1536 : Shape := ⟨1, ![1536]⟩
abbrev S1x1664x128 : Shape := ⟨3, ![1, 1664, 128]⟩
abbrev S1664x128 : Shape := ⟨2, ![1664, 128]⟩
abbrev S256x1664 : Shape := ⟨2, ![256, 1664]⟩
abbrev S128x1664 : Shape := ⟨2, ![128, 1664]⟩
abbrev S1x1x1x1664 : Shape := ⟨4, ![1, 1, 1, 1664]⟩
abbrev S1x1664 : Shape := ⟨2, ![1, 1664]⟩
abbrev S1664 : Shape := ⟨1, ![1664]⟩
abbrev S1x1792x128 : Shape := ⟨3, ![1, 1792, 128]⟩
abbrev S1792x128 : Shape := ⟨2, ![1792, 128]⟩
abbrev S256x1792 : Shape := ⟨2, ![256, 1792]⟩
abbrev S128x1792 : Shape := ⟨2, ![128, 1792]⟩
abbrev S1x1x1x1792 : Shape := ⟨4, ![1, 1, 1, 1792]⟩
abbrev S1x1792 : Shape := ⟨2, ![1, 1792]⟩
abbrev S1792 : Shape := ⟨1, ![1792]⟩
abbrev S1x1920x128 : Shape := ⟨3, ![1, 1920, 128]⟩
abbrev S1920x128 : Shape := ⟨2, ![1920, 128]⟩
abbrev S256x1920 : Shape := ⟨2, ![256, 1920]⟩
abbrev S128x1920 : Shape := ⟨2, ![128, 1920]⟩
abbrev S1x1x1x1920 : Shape := ⟨4, ![1, 1, 1, 1920]⟩
abbrev S1x1920 : Shape := ⟨2, ![1, 1920]⟩
abbrev S1920 : Shape := ⟨1, ![1920]⟩
abbrev S1x2048x128 : Shape := ⟨3, ![1, 2048, 128]⟩
abbrev S2048x128 : Shape := ⟨2, ![2048, 128]⟩
abbrev S256x2048 : Shape := ⟨2, ![256, 2048]⟩
abbrev S128x2048 : Shape := ⟨2, ![128, 2048]⟩
abbrev S1x1x1x2048 : Shape := ⟨4, ![1, 1, 1, 2048]⟩
abbrev S1x2048 : Shape := ⟨2, ![1, 2048]⟩
abbrev S2048 : Shape := ⟨1, ![2048]⟩
abbrev S256x2176 : Shape := ⟨2, ![256, 2176]⟩
abbrev S128x2176 : Shape := ⟨2, ![128, 2176]⟩
abbrev S1x1x1x2176 : Shape := ⟨4, ![1, 1, 1, 2176]⟩

abbrev nBuf : Space → Nat
  | .hbm => 101
  | .vmem => 20
  | .smem => 0
  | _ => 0

abbrev bufTy : (tb : Table) → Fin (tcTables nBuf tb) → BufTy
  | .hbm, ⟨0, _⟩ => ⟨S2x2176x1536, .bf16⟩
  | .hbm, ⟨1, _⟩ => ⟨S2x8x2176x1, .f32⟩
  | .hbm, ⟨2, _⟩ => ⟨S2x8x1x2176, .f32⟩
  | .hbm, ⟨3, _⟩ => ⟨S2x2176x512, .bf16⟩
  | .hbm, ⟨4, _⟩ => ⟨S2x2176x4x3x128, .bf16⟩
  | .hbm, ⟨5, _⟩ => ⟨S2x2176x4x1x128, .bf16⟩
  | .hbm, ⟨6, _⟩ => ⟨S2x2176x4x128, .bf16⟩
  | .hbm, ⟨7, _⟩ => ⟨S2x2176x4x128, .f32⟩
  | .hbm, ⟨8, _⟩ => ⟨S2x2176x8x64, .f32⟩
  | .hbm, ⟨9, _⟩ => ⟨S2x2176x4x1x128, .bf16⟩
  | .hbm, ⟨10, _⟩ => ⟨S2x2176x4x128, .bf16⟩
  | .hbm, ⟨11, _⟩ => ⟨S2x2176x4x128, .f32⟩
  | .hbm, ⟨12, _⟩ => ⟨S2x2176x8x64, .f32⟩
  | .hbm, ⟨13, _⟩ => ⟨S2x2176x4x1x128, .bf16⟩
  | .hbm, ⟨14, _⟩ => ⟨S2x2176x4x128, .bf16⟩
  | .hbm, ⟨15, _⟩ => ⟨S2x2176x4x128, .f32⟩
  | .hbm, ⟨16, _⟩ => ⟨S2x2176x8x64, .f32⟩
  | .hbm, ⟨17, _⟩ => ⟨S2x8x2176x2176, .f32⟩
  | .hbm, ⟨18, _⟩ => ⟨S_, .f32⟩
  | .hbm, ⟨19, _⟩ => ⟨S2x8x2176x2176, .f32⟩
  | .hbm, ⟨20, _⟩ => ⟨S2x8x2176x2176, .f32⟩
  | .hbm, ⟨21, _⟩ => ⟨S2x8x2176x2176, .f32⟩
  | .hbm, ⟨22, _⟩ => ⟨S2x8x2176x2176, .f32⟩
  | .hbm, ⟨23, _⟩ => ⟨S2x8x2176x2176, .f32⟩
  | .hbm, ⟨24, _⟩ => ⟨S2x8x2176x2176, .f32⟩
  | .hbm, ⟨25, _⟩ => ⟨S2176, .i32⟩
  | .hbm, ⟨26, _⟩ => ⟨S1x2176, .i32⟩
  | .hbm, ⟨27, _⟩ => ⟨S2176x1, .i32⟩
  | .hbm, ⟨28, _⟩ => ⟨S2176x2176, .i32⟩
  | .hbm, ⟨29, _⟩ => ⟨S2176x2176, .i32⟩
  | .hbm, ⟨30, _⟩ => ⟨S2176x2176, .i1⟩
  | .hbm, ⟨31, _⟩ => ⟨S1x2176, .i32⟩
  | .hbm, ⟨32, _⟩ => ⟨S_, .i32⟩
  | .hbm, ⟨33, _⟩ => ⟨S1x2176, .i32⟩
  | .hbm, ⟨34, _⟩ => ⟨S1x2176, .i1⟩
  | .hbm, ⟨35, _⟩ => ⟨S2176x2176, .i1⟩
  | .hbm, ⟨36, _⟩ => ⟨S2176x2176, .i1⟩
  | .hbm, ⟨37, _⟩ => ⟨S1x1x2176x2176, .i1⟩
  | .hbm, ⟨38, _⟩ => ⟨S_, .f32⟩
  | .hbm, ⟨39, _⟩ => ⟨S_, .f32⟩
  | .hbm, ⟨40, _⟩ => ⟨S2x8x2176x2176, .i1⟩
  | .hbm, ⟨41, _⟩ => ⟨S2x8x2176x2176, .f32⟩
  | .hbm, ⟨42, _⟩ => ⟨S2x8x2176x2176, .f32⟩
  | .hbm, ⟨43, _⟩ => ⟨S_, .f32⟩
  | .hbm, ⟨44, _⟩ => ⟨S2x8x2176, .f32⟩
  | .hbm, ⟨45, _⟩ => ⟨S_, .f32⟩
  | .hbm, ⟨46, _⟩ => ⟨S2x8x2176, .f32⟩
  | .hbm, ⟨47, _⟩ => ⟨S2x8x2176, .f32⟩
  | .hbm, ⟨48, _⟩ => ⟨S2x8x2176x1, .f32⟩
  | .hbm, ⟨49, _⟩ => ⟨S2x8x2176x2176, .f32⟩
  | .hbm, ⟨50, _⟩ => ⟨S2x8x2176x2176, .f32⟩
  | .hbm, ⟨51, _⟩ => ⟨S2x8x2176x2176, .f32⟩
  | .hbm, ⟨52, _⟩ => ⟨S_, .f32⟩
  | .hbm, ⟨53, _⟩ => ⟨S2x8x2176, .f32⟩
  | .hbm, ⟨54, _⟩ => ⟨S2x8x2176x1, .f32⟩
  | .hbm, ⟨55, _⟩ => ⟨S2x8x2176x2176, .f32⟩
  | .hbm, ⟨56, _⟩ => ⟨S2x8x2176x2176, .f32⟩
  | .hbm, ⟨57, _⟩ => ⟨S2x8x64x2176, .f32⟩
  | .hbm, ⟨58, _⟩ => ⟨S2x2176x8x64, .f32⟩
  | .hbm, ⟨59, _⟩ => ⟨S2x2176x512, .f32⟩
  | .hbm, ⟨60, _⟩ => ⟨S2x2176x512, .bf16⟩
  | .hbm, ⟨61, _⟩ => ⟨S2x8x2176x2176, .f32⟩
  | .hbm, ⟨62, _⟩ => ⟨S_, .f32⟩
  | .hbm, ⟨63, _⟩ => ⟨S2x8x2176x2176, .f32⟩
  | .hbm, ⟨64, _⟩ => ⟨S2x8x2176x2176, .f32⟩
  | .hbm, ⟨65, _⟩ => ⟨S2x8x2176x2176, .f32⟩
  | .hbm, ⟨66, _⟩ => ⟨S2x8x2176x2176, .f32⟩
  | .hbm, ⟨67, _⟩ => ⟨S2x8x2176x2176, .f32⟩
  | .hbm, ⟨68, _⟩ => ⟨S2x8x2176x2176, .f32⟩
  | .hbm, ⟨69, _⟩ => ⟨S2176, .i32⟩
  | .hbm, ⟨70, _⟩ => ⟨S1x2176, .i32⟩
  | .hbm, ⟨71, _⟩ => ⟨S2176x1, .i32⟩
  | .hbm, ⟨72, _⟩ => ⟨S2176x2176, .i32⟩
  | .hbm, ⟨73, _⟩ => ⟨S2176x2176, .i32⟩
  | .hbm, ⟨74, _⟩ => ⟨S2176x2176, .i1⟩
  | .hbm, ⟨75, _⟩ => ⟨S1x2176, .i32⟩
  | .hbm, ⟨76, _⟩ => ⟨S_, .i32⟩
  | .hbm, ⟨77, _⟩ => ⟨S1x2176, .i32⟩
  | .hbm, ⟨78, _⟩ => ⟨S1x2176, .i1⟩
  | .hbm, ⟨79, _⟩ => ⟨S2176x2176, .i1⟩
  | .hbm, ⟨80, _⟩ => ⟨S2176x2176, .i1⟩
  | .hbm, ⟨81, _⟩ => ⟨S1x1x2176x2176, .i1⟩
  | .hbm, ⟨82, _⟩ => ⟨S_, .f32⟩
  | .hbm, ⟨83, _⟩ => ⟨S_, .f32⟩
  | .hbm, ⟨84, _⟩ => ⟨S2x8x2176x2176, .i1⟩
  | .hbm, ⟨85, _⟩ => ⟨S2x8x2176x2176, .f32⟩
  | .hbm, ⟨86, _⟩ => ⟨S2x8x2176x2176, .f32⟩
  | .hbm, ⟨87, _⟩ => ⟨S_, .f32⟩
  | .hbm, ⟨88, _⟩ => ⟨S2x8x2176, .f32⟩
  | .hbm, ⟨89, _⟩ => ⟨S2x8x2176x1, .f32⟩
  | .hbm, ⟨90, _⟩ => ⟨S2x8x2176x2176, .f32⟩
  | .hbm, ⟨91, _⟩ => ⟨S2x8x2176x2176, .f32⟩
  | .hbm, ⟨92, _⟩ => ⟨S2x8x2176x2176, .f32⟩
  | .hbm, ⟨93, _⟩ => ⟨S_, .f32⟩
  | .hbm, ⟨94, _⟩ => ⟨S2x8x2176, .f32⟩
  | .hbm, ⟨95, _⟩ => ⟨S2x8x2176x1, .f32⟩
  | .hbm, ⟨96, _⟩ => ⟨S2x8x2176x1, .f32⟩
  | .hbm, ⟨97, _⟩ => ⟨S2x8x2176x1, .f32⟩
  | .hbm, ⟨98, _⟩ => ⟨S2x2176x1536, .bf16⟩
  | .hbm, ⟨99, _⟩ => ⟨S2x8x2176x1, .f32⟩
  | .hbm, ⟨100, _⟩ => ⟨S2x8x1x2176, .f32⟩
  | .local _ .vmem, ⟨0, _⟩ => ⟨S1x2176x384, .bf16⟩
  | .local _ .vmem, ⟨1, _⟩ => ⟨S1x2176x384, .bf16⟩
  | .local _ .vmem, ⟨2, _⟩ => ⟨S1x2x2176x1, .f32⟩
  | .local _ .vmem, ⟨3, _⟩ => ⟨S1x2x2176x1, .f32⟩
  | .local _ .vmem, ⟨4, _⟩ => ⟨S1x2x1x2176, .f32⟩
  | .local _ .vmem, ⟨5, _⟩ => ⟨S1x2x1x2176, .f32⟩
  | .local _ .vmem, ⟨6, _⟩ => ⟨S1x2176x128, .bf16⟩
  | .local _ .vmem, ⟨7, _⟩ => ⟨S1x2176x128, .bf16⟩
  | .local _ .vmem, ⟨8, _⟩ => ⟨S1x2x2176x1, .f32⟩
  | .local _ .vmem, ⟨9, _⟩ => ⟨S1x2x2176x1, .f32⟩
  | .local _ .vmem, ⟨10, _⟩ => ⟨S1x2176x128, .bf16⟩
  | .local _ .vmem, ⟨11, _⟩ => ⟨S1x2176x128, .bf16⟩
  | .local _ .vmem, ⟨12, _⟩ => ⟨S1x2176x384, .bf16⟩
  | .local _ .vmem, ⟨13, _⟩ => ⟨S1x2176x384, .bf16⟩
  | .local _ .vmem, ⟨14, _⟩ => ⟨S1x2x2176x1, .f32⟩
  | .local _ .vmem, ⟨15, _⟩ => ⟨S1x2x2176x1, .f32⟩
  | .local _ .vmem, ⟨16, _⟩ => ⟨S1x2x1x2176, .f32⟩
  | .local _ .vmem, ⟨17, _⟩ => ⟨S1x2x1x2176, .f32⟩
  | .local _ .vmem, ⟨18, _⟩ => ⟨S2176x128, .f32⟩
  | .local _ .vmem, ⟨19, _⟩ => ⟨S2176x128, .f32⟩
  | _, _ => ⟨S2x2176x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c_5 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v67 : Ref sig .tc := ⟨.hbm, 86, rfl⟩
abbrev main_cst_7 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_8 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77_0 : Ref sig .tc := ⟨.hbm, 98, rfl⟩
abbrev main_v77_1 : Ref sig .tc := ⟨.hbm, 99, rfl⟩
abbrev main_v77_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2176x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2176x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x2176x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2176x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2176x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x2176x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1x2176 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FoxXIdeal.lean ====
variable {F : FTy → Type} [FloatOps F] [Named F]
def κ : String → Option EReal := fun
  | "masked" => some ⊥
  | _ => none
-- ==== FoxXReferenceIdeal.lean ====
abbrev S2x2176x1536 : Shape := ⟨3, ![2, 2176, 1536]⟩
abbrev S2x8x2176x1 : Shape := ⟨4, ![2, 8, 2176, 1]⟩
abbrev S2x8x1x2176 : Shape := ⟨4, ![2, 8, 1, 2176]⟩
abbrev S2x2176x512 : Shape := ⟨3, ![2, 2176, 512]⟩
abbrev S2x2176x4x3x128 : Shape := ⟨5, ![2, 2176, 4, 3, 128]⟩
abbrev S2x2176x4x1x128 : Shape := ⟨5, ![2, 2176, 4, 1, 128]⟩
abbrev S2x2176x4x128 : Shape := ⟨4, ![2, 2176, 4, 128]⟩
abbrev S2x2176x8x64 : Shape := ⟨4, ![2, 2176, 8, 64]⟩
abbrev S2x8x2176x2176 : Shape := ⟨4, ![2, 8, 2176, 2176]⟩
abbrev S_ : Shape := ⟨0, ![]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S1x1x2176x2176 : Shape := ⟨4, ![1, 1, 2176, 2176]⟩
abbrev S2x8x2176 : Shape := ⟨3, ![2, 8, 2176]⟩
abbrev S2x8x64x2176 : Shape := ⟨4, ![2, 8, 64, 2176]⟩
abbrev S2x8x2176x64 : Shape := ⟨4, ![2, 8, 2176, 64]⟩

abbrev nBuf : Space → Nat
  | .hbm => 131
  | .vmem => 0
  | .smem => 0
  | _ => 0

abbrev hbmTy0_0 (i : Nat) : BufTy := match i % 128 with
  | 0 => ⟨S2x2176x1536, .bf16⟩
  | 1 => ⟨S2x8x2176x1, .f32⟩
  | 2 => ⟨S2x8x1x2176, .f32⟩
  | 3 => ⟨S2x2176x512, .bf16⟩
  | 4 => ⟨S2x2176x4x3x128, .bf16⟩
  | 5 => ⟨S2x2176x4x1x128, .bf16⟩
  | 6 => ⟨S2x2176x4x128, .bf16⟩
  | 7 => ⟨S2x2176x4x128, .f32⟩
  | 8 => ⟨S2x2176x8x64, .f32⟩
  | 9 => ⟨S2x2176x4x1x128, .bf16⟩
  | 10 => ⟨S2x2176x4x128, .bf16⟩
  | 11 => ⟨S2x2176x4x128, .f32⟩
  | 12 => ⟨S2x2176x8x64, .f32⟩
  | 13 => ⟨S2x2176x4x1x128, .bf16⟩
  | 14 => ⟨S2x2176x4x128, .bf16⟩
  | 15 => ⟨S2x2176x4x128, .f32⟩
  | 16 => ⟨S2x2176x8x64, .f32⟩
  | 17 => ⟨S2x8x2176x2176, .f32⟩
  | 18 => ⟨S_, .f32⟩
  | 19 => ⟨S2x8x2176x2176, .f32⟩
  | 20 => ⟨S2x8x2176x2176, .f32⟩
  | 21 => ⟨S2x8x2176x2176, .f32⟩
  | 22 => ⟨S2x8x2176x2176, .f32⟩
  | 23 => ⟨S2x8x2176x2176, .f32⟩
  | 24 => ⟨S2x8x2176x2176, .f32⟩
  | 25 => ⟨S2176, .i32⟩
  | 26 => ⟨S1x2176, .i32⟩
  | 27 => ⟨S2176x1, .i32⟩
  | 28 => ⟨S2176x2176, .i32⟩
  | 29 => ⟨S2176x2176, .i32⟩
  | 30 => ⟨S2176x2176, .i1⟩
  | 31 => ⟨S1x2176, .i32⟩
  | 32 => ⟨S_, .i32⟩
  | 33 => ⟨S1x2176, .i32⟩
  | 34 => ⟨S1x2176, .i1⟩
  | 35 => ⟨S2176x2176, .i1⟩
  | 36 => ⟨S2176x2176, .i1⟩
  | 37 => ⟨S1x1x2176x2176, .i1⟩
  | 38 => ⟨S_, .f32⟩
  | 39 => ⟨S_, .f32⟩
  | 40 => ⟨S2x8x2176x2176, .i1⟩
  | 41 => ⟨S2x8x2176x2176, .f32⟩
  | 42 => ⟨S2x8x2176x2176, .f32⟩
  | 43 => ⟨S_, .f32⟩
  | 44 => ⟨S2x8x2176x2176, .f32⟩
  | 45 => ⟨S_, .f32⟩
  | 46 => ⟨S2x8x2176, .f32⟩
  | 47 => ⟨S2x8x2176x1, .f32⟩
  | 48 => ⟨S2x8x2176x2176, .f32⟩
  | 49 => ⟨S2x8x2176x2176, .i1⟩
  | 50 => ⟨S2x8x2176x2176, .f32⟩
  | 51 => ⟨S_, .f32⟩
  | 52 => ⟨S2x8x2176, .f32⟩
  | 53 => ⟨S_, .f32⟩
  | 54 => ⟨S2x8x2176, .f32⟩
  | 55 => ⟨S2x8x2176, .f32⟩
  | 56 => ⟨S_, .f32⟩
  | 57 => ⟨S2x8x2176, .f32⟩
  | 58 => ⟨S2x8x2176, .i1⟩
  | 59 => ⟨S_, .f32⟩
  | 60 => ⟨S2x8x2176, .f32⟩
  | 61 => ⟨S2x8x2176, .i1⟩
  | 62 => ⟨S_, .f32⟩
  | 63 => ⟨S2x8x2176, .f32⟩
  | 64 => ⟨S_, .f32⟩
  | 65 => ⟨S2x8x2176, .f32⟩
  | 66 => ⟨S_, .f32⟩
  | 67 => ⟨S2x8x2176, .f32⟩
  | 68 => ⟨S2x8x2176, .f32⟩
  | 69 => ⟨S2x8x2176, .f32⟩
  | 70 => ⟨S2x8x2176x1, .f32⟩
  | 71 => ⟨S2x8x2176x2176, .f32⟩
  | 72 => ⟨S2x8x2176x2176, .f32⟩
  | 73 => ⟨S2x8x2176x2176, .f32⟩
  | 74 => ⟨S_, .f32⟩
  | 75 => ⟨S2x8x2176, .f32⟩
  | 76 => ⟨S2x8x2176x1, .f32⟩
  | 77 => ⟨S2x8x2176x2176, .f32⟩
  | 78 => ⟨S2x8x2176x2176, .f32⟩
  | 79 => ⟨S2x8x2176x1, .f32⟩
  | 80 => ⟨S_, .f32⟩
  | 81 => ⟨S2x8x2176x1, .f32⟩
  | 82 => ⟨S2x8x2176x1, .f32⟩
  | 83 => ⟨S2x8x64x2176, .f32⟩
  | 84 => ⟨S2x2176x8x64, .f32⟩
  | 85 => ⟨S2x2176x512, .f32⟩
  | 86 => ⟨S2x2176x8x64, .f32⟩
  | 87 => ⟨S2x8x64x2176, .f32⟩
  | 88 => ⟨S2x8x2176x2176, .f32⟩
  | 89 => ⟨S2x8x64x2176, .f32⟩
  | 90 => ⟨S2x2176x8x64, .f32⟩
  | 91 => ⟨S2x8x2176x2176, .f32⟩
  | 92 => ⟨S2x8x2176x2176, .f32⟩
  | 93 => ⟨S2x8x2176x2176, .f32⟩
  | 94 => ⟨S_, .f32⟩
  | 95 => ⟨S2x8x2176, .f32⟩
  | 96 => ⟨S2x8x2176x1, .f32⟩
  | 97 => ⟨S2x8x2176x1, .f32⟩
  | 98 => ⟨S2x8x2176x2176, .f32⟩
  | 99 => ⟨S2x8x2176x2176, .f32⟩
  | 100 => ⟨S_, .f32⟩
  | 101 => ⟨S2x8x2176, .f32⟩
  | 102 => ⟨S2x8x2176x2176, .f32⟩
  | 103 => ⟨S2x8x2176x2176, .f32⟩
  | 104 => ⟨S2x8x2176x2176, .f32⟩
  | 105 => ⟨S_, .f32⟩
  | 106 => ⟨S2x8x2176x2176, .f32⟩
  | 107 => ⟨S2x8x2176x2176, .f32⟩
  | 108 => ⟨S2x8x2176x2176, .f32⟩
  | 109 => ⟨S_, .f32⟩
  | 110 => ⟨S2x8x2176, .f32⟩
  | 111 => ⟨S2x8x1x2176, .f32⟩
  | 112 => ⟨S_, .f32⟩
  | 113 => ⟨S2x8x2176, .f32⟩
  | 114 => ⟨S2x8x2176x1, .f32⟩
  | 115 => ⟨S_, .f32⟩
  | 116 => ⟨S2x8x2176x2176, .f32⟩
  | 117 => ⟨S2x8x2176x2176, .f32⟩
  | 118 => ⟨S2x8x2176x64, .f32⟩
  | 119 => ⟨S2x2176x8x64, .f32⟩
  | 120 => ⟨S2x8x2176x64, .f32⟩
  | 121 => ⟨S2x2176x8x64, .f32⟩
  | 122 => ⟨S2x2176x4x128, .f32⟩
  | 123 => ⟨S2x2176x4x128, .f32⟩
  | 124 => ⟨S2x2176x4x128, .f32⟩
  | 125 => ⟨S2x2176x4x1x128, .f32⟩
  | 126 => ⟨S2x2176x4x1x128, .f32⟩
  | 127 => ⟨S2x2176x4x1x128, .f32⟩
  | _ => ⟨S2x2176x1536, .bf16⟩

abbrev hbmTy0_1 (i : Nat) : BufTy := match i % 128 with
  | 0 => ⟨S2x2176x4x3x128, .f32⟩
  | 1 => ⟨S2x2176x1536, .f32⟩
  | 2 => ⟨S2x2176x1536, .bf16⟩
  | _ => ⟨S2x2176x1536, .bf16⟩

abbrev hbmTy (i : Nat) : BufTy := match i / 128 with
  | 0 => hbmTy0_0 i
  | 1 => hbmTy0_1 i
  | _ => ⟨S2x2176x1536, .bf16⟩

abbrev bufTy : (tb : Table) → Fin (tcTables nBuf tb) → BufTy
  | .hbm, ⟨i, _⟩ => hbmTy i
  | _, _ => ⟨S2x2176x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_call0_v0 : Ref sig .tc := ⟨.hbm, 39, rfl⟩
abbrev main_v32_1 : Ref sig .tc := ⟨.hbm, 40, rfl⟩
abbrev main_call0_v2 : Ref sig .tc := ⟨.hbm, 41, rfl⟩
abbrev main_v32_0 : Ref sig .tc := ⟨.hbm, 42, rfl⟩
abbrev main_call0_cst : Ref sig .tc := ⟨.hbm, 43, rfl⟩
abbrev main_v32_2 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call1_cst : Ref sig .tc := ⟨.hbm, 105, rfl⟩
abbrev main_call1_v0 : Ref sig .tc := ⟨.hbm, 106, rfl⟩
abbrev main_v81 : Ref sig .tc := ⟨.hbm, 107, rfl⟩
abbrev main_v82 : Ref sig .tc := ⟨.hbm, 108, rfl⟩
abbrev main_cst_13 : Ref sig .tc := ⟨.hbm, 109, rfl⟩
abbrev main_v83 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_v86 : Ref sig .tc := ⟨.hbm, 114, rfl⟩
abbrev main_cst_15 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩

abbrev nD : Nat := 1
abbrev τ : Topo := Topo.v7x

variable {F : FTy → Type} [FloatOps F]
-- ==== Proof.Gate.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gradient of the gated merge: `dm = dh · woᵀ`, `dy = dm · σ(g)`, `dg = dm · y · σ(g) (1 - σ(g))`. -/

namespace Cert.Gate

section Terms
open Cert.ReferenceIdeal Cert.ReferenceIdeal.Gen

/-- The constant one at every entry. -/
def one : FVec Ideal S4352x1024 .f32 := broadcastInDim S4352x1024 ![] bcast_S_S4352x1024 (constant S_ .f32 0x3F800000#32)

/-- The product `dh · woᵀ`. -/
def dm (dh : FVec Ideal S4352x1024 .bf16) (wo : FVec Ideal S1024x1024 .bf16) : FVec Ideal S4352x1024 .f32 :=
  Host.dotGeneral dot_S4352x1024_S1024x1024_S4352x1024_1_1_0_0_n_n none (extf .f32 dh bitsLt_bf16_f32) (extf .f32 wo bitsLt_bf16_f32)

/-- The first gate. -/
def sa (g : FVec Ideal S4352x2048 .bf16) : FVec Ideal S4352x1024 .f32 :=
  Host.divf one (addf one (Host.exp (Host.negf (extractStridedSlice S4352x1024 ![0, 0] (extf .f32 g bitsLt_bf16_f32) slices_S4352x2048_S4352x1024_0_0))))

/-- The second gate. -/
def sb (g : FVec Ideal S4352x2048 .bf16) : FVec Ideal S4352x1024 .f32 :=
  Host.divf one (addf one (Host.exp (Host.negf (extractStridedSlice S4352x1024 ![0, 1024] (extf .f32 g bitsLt_bf16_f32) slices_S4352x2048_S4352x1024_0_1024))))

/-- The gradient of the first branch. -/
def dya (dh : FVec Ideal S4352x1024 .bf16) (wo : FVec Ideal S1024x1024 .bf16) (g : FVec Ideal S4352x2048 .bf16) : FVec Ideal S4352x1024 .bf16 :=
  truncf .bf16 (mulf (sa g) (dm dh wo)) bitsLt_bf16_f32

/-- The gradient of the second branch. -/
def dyb (dh : FVec Ideal S4352x1024 .bf16) (wo : FVec Ideal S1024x1024 .bf16) (g : FVec Ideal S4352x2048 .bf16) : FVec Ideal S4352x1024 .bf16 :=
  truncf .bf16 (mulf (sb g) (dm dh wo)) bitsLt_bf16_f32

/-- The gradient of the gates, both halves side by side. -/
def dg (dh : FVec Ideal S4352x1024 .bf16) (wo : FVec Ideal S1024x1024 .bf16) (g : FVec Ideal S4352x2048 .bf16)
    (ya yb : FVec Ideal S4352x1024 .bf16) : FVec Ideal S4352x2048 .bf16 :=
  truncf .bf16 (concatenate S4352x2048 1
    [⟨S4352x1024, mulf (mulf (dm dh wo) (extf .f32 ya bitsLt_bf16_f32)) (mulf (sa g) (subf one (sa g)))⟩,
     ⟨S4352x1024, mulf (mulf (dm dh wo) (extf .f32 yb bitsLt_bf16_f32)) (mulf (sb g) (subf one (sb g)))⟩]
    concatenates_S4352x1024_S4352x1024_S4352x2048_d1) bitsLt_bf16_f32

end Terms

section Final
open Cert.KernelIdeal Cert.KernelIdeal.Gen

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ t.val < 8 :=
  (by decide +kernel : ∀ t : Fin grid0.N, _)

/-- The first output array after the run. -/
theorem final5 (c : Dev nD) : (dats m 0 c).arrAt 5 (cfgs 0).N
    = dya (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay4, k0_pay1, k0_pay2, dya, sa, dm, one, Ideal.logistic]
  blk_point [iblk, V, idx t]

/-- The second output array after the run. -/
theorem final6 (c : Dev nD) : (dats m 0 c).arrAt 6 (cfgs 0).N
    = dyb (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  pointwise [k0_pay5, k0_pay1, k0_pay3, dyb, sb, dm, one, Ideal.logistic]
  blk_point [iblk, V, idx t]

/-- The third output array after the run. -/
theorem final7 (c : Dev nD) : (dats m 0 c).arrAt 7 (cfgs 0).N
    = dg (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t _ y => ?_
  blk_simp
  rw [after0_7]
  canon_tiles x h
  all_goals open_payloads; pointwise [dg, sa, sb, dm, one, Ideal.logistic]
  · split
    · rename_i hlt
      blk_simp [idx t] at hlt
      omega
    · blk_point [iblk, V, idx t]
  · split
    · blk_point [iblk, V, idx t]
    · rename_i hlt
      blk_simp [idx t] at hlt
      omega

end Final

end Cert.Gate

end
-- ==== Proof.Reals.lean ====
module

public import Idealize.ShloMosaic.Lib.Pointwise

@[expose] public section

/-! Facts about sums and products of extended reals. -/

namespace Cert.Reals

open Finset

/-- A positive real factor leaves a sum of extended reals. -/
theorem sum_mul_coe {ι : Type*} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [sum_insert hi, sum_insert hi, ← ih]
    exact EReal.right_distrib_of_nonneg_of_ne_top (by exact_mod_cast ha) (EReal.coe_ne_top a) _ _

/-- A factor that is a positive real leaves a sum, term by term. -/
theorem sum_mul_coe_congr {n : ℕ} {f g : Fin n → EReal} {a : ℝ} (ha : 0 ≤ a) (h : ∀ k, f k * (a : EReal) = g k) :
    (∑ k, f k) * (a : EReal) = ∑ k, g k :=
  (sum_mul_coe _ _ ha).trans (sum_congr rfl fun k _ => h k)

/-- A sum over `4 n` indices as four sums over `n`, the four parts in order. -/
theorem sum_four {n N : ℕ} (hN : N = 4 * n) {a b c d : Fin n → EReal} {f : Fin N → EReal}
    (ha : ∀ k h, a k = f ⟨k, h⟩) (hb : ∀ k h, b k = f ⟨n + k, h⟩)
    (hc : ∀ k h, c k = f ⟨2 * n + k, h⟩) (hd : ∀ k h, d k = f ⟨3 * n + k, h⟩) :
    ∑ k, a k + ∑ k, b k + ∑ k, c k + ∑ k, d k = ∑ k, f k := by
  subst hN
  rw [Idealize.ShloMosaic.Fin.sum_univ_tiles 4 n rfl f, Fin.sum_univ_four]
  refine congrArg₂ (· + ·) (congrArg₂ (· + ·) (congrArg₂ (· + ·) ?_ ?_) ?_) ?_ <;> refine sum_congr rfl fun k _ => ?_
  · rw [ha k (by omega)]; congr 2; simp
  · rw [hb k (by omega)]; congr 2; simp
  · rw [hc k (by omega)]; congr 2
  · rw [hd k (by omega)]; congr 2

/-- Two sums over `4 n` indices as eight sums over `n`, the second sum's parts first. -/
theorem sum_four_four {n N : ℕ} (hN : N = 4 * n) {a b c d a' b' c' d' : Fin n → EReal} {f g : Fin N → EReal}
    (ha : ∀ k h, a k = f ⟨k, h⟩) (hb : ∀ k h, b k = f ⟨n + k, h⟩)
    (hc : ∀ k h, c k = f ⟨2 * n + k, h⟩) (hd : ∀ k h, d k = f ⟨3 * n + k, h⟩)
    (ha' : ∀ k h, a' k = g ⟨k, h⟩) (hb' : ∀ k h, b' k = g ⟨n + k, h⟩)
    (hc' : ∀ k h, c' k = g ⟨2 * n + k, h⟩) (hd' : ∀ k h, d' k = g ⟨3 * n + k, h⟩) :
    ∑ k, a k + ∑ k, b k + ∑ k, c k + ∑ k, d k + ∑ k, a' k + ∑ k, b' k + ∑ k, c' k + ∑ k, d' k = ∑ k, g k + ∑ k, f k := by
  rw [← sum_four hN ha hb hc hd, ← sum_four hN ha' hb' hc' hd']
  ac_rfl

/-- Three factors in the opposite order. -/
theorem mul_rev (x y z : EReal) : x * y * z = z * y * x := by
  rw [mul_comm (x * y), mul_comm x, mul_assoc]

/-- The 32-bit pattern of one half. -/
theorem half : Idealize.ShloMosaic.Ideal.ofBits .f32 0x3F000000#32 = (((1 : ℝ) / 2 : ℝ) : EReal) := by
  simp [Idealize.ShloMosaic.Ideal.ofBits, Idealize.ShloMosaic.Ideal.ieee, -EReal.coe_mul]; norm_num

/-- The 32-bit pattern of minus one half. -/
theorem neg_half : Idealize.ShloMosaic.Ideal.ofBits .f32 0xBF000000#32 = ((-((1 : ℝ) / 2) : ℝ) : EReal) := by
  simp [Idealize.ShloMosaic.Ideal.ofBits, Idealize.ShloMosaic.Ideal.ieee, -EReal.coe_mul, -EReal.coe_neg]; norm_num

/-- The 32-bit pattern of 1024. -/
theorem k1024 : Idealize.ShloMosaic.Ideal.ofBits .f32 0x44800000#32 = ((1024 : ℝ) : EReal) := by
  simp [Idealize.ShloMosaic.Ideal.ofBits, Idealize.ShloMosaic.Ideal.ieee, -EReal.coe_mul]; norm_num

/-- The norm's constant is positive. -/
theorem eps_pos : (0 : EReal) < Idealize.ShloMosaic.Ideal.ofBits .f32 0x358637BD#32 := by
  simp [Idealize.ShloMosaic.Ideal.ofBits, Idealize.ShloMosaic.Ideal.ieee, -EReal.coe_mul]

open Idealize.ShloMosaic

/-- A square is not negative. -/
theorem sq_nonneg (x : EReal) : 0 ≤ x * x := by
  induction x with
  | bot => simp
  | top => simp
  | coe r => exact_mod_cast mul_self_nonneg r

/-- A row's mean square, plus the norm's constant, is positive. -/
theorem ms_pos {n : ℕ} (f : Fin n → EReal) :
    0 < Ideal.div (∑ k, f k * f k) (Ideal.ofBits .f32 0x44800000#32) + Ideal.ofBits .f32 0x358637BD#32 := by
  rw [k1024, Ideal.div_coe (by norm_num)]
  refine lt_of_lt_of_le eps_pos (le_add_of_nonneg_left (mul_nonneg (sum_nonneg fun k _ => sq_nonneg _) ?_))
  exact_mod_cast (by norm_num : (0 : ℝ) ≤ 1 / 1024)

/-- Twice a product with a real factor. -/
theorem mul_add_mul_self (y : EReal) (a : ℝ) : y * (a : EReal) + y * (a : EReal) = y * ((2 * a : ℝ) : EReal) := by
  induction y with
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | coe r => norm_cast; ring

/-- The reciprocal root of a positive number is a real, and its cube is its quotient by the number. -/
theorem rsqrt_pos {v : EReal} (hv : 0 < v) : ∃ q : ℝ, Ideal.rsqrt v = (q : EReal) ∧ Ideal.div (Ideal.rsqrt v) v = ((q * q * q : ℝ) : EReal) := by
  induction v with
  | bot => exact absurd hv (by simp)
  | top => exact ⟨0, by simp, by simp [Ideal.div]⟩
  | coe r =>
    have hr : 0 < r := by exact_mod_cast hv
    refine ⟨(Real.sqrt r)⁻¹, ?_, ?_⟩
    · rw [Ideal.rsqrt_coe, if_neg hr.le.not_gt, if_neg hr.ne']
    · rw [Ideal.rsqrt_coe, if_neg hr.le.not_gt, if_neg hr.ne', Ideal.div_coe hr.ne']
      have h1 : Real.sqrt r * Real.sqrt r = r := Real.mul_self_sqrt hr.le
      have h2 : Real.sqrt r ≠ 0 := (Real.sqrt_pos.mpr hr).ne'
      norm_cast
      rw [mul_assoc, ← mul_inv, h1, one_div]

/-- The gradient of a normalised row's entry: the kernel's form and the reference's. -/
theorem rms_grad (d h p S : EReal) {v : EReal} (hv : 0 < v) :
    d + (Ideal.rsqrt v * p - h * (Ideal.rsqrt v * Ideal.rsqrt v * Ideal.rsqrt v * Ideal.div S (Ideal.ofBits .f32 0x44800000#32)))
    = d + (p * Ideal.rsqrt v + h * Ideal.div (S * (Ideal.ofBits .f32 0xBF000000#32 * Ideal.div (Ideal.rsqrt v) v)) (Ideal.ofBits .f32 0x44800000#32)
      + Ideal.div (S * (Ideal.ofBits .f32 0xBF000000#32 * Ideal.div (Ideal.rsqrt v) v)) (Ideal.ofBits .f32 0x44800000#32) * h) := by
  obtain ⟨q, hq, hc⟩ := rsqrt_pos hv
  rw [hc, hq, k1024, neg_half, Ideal.div_coe (by norm_num), Ideal.div_coe (by norm_num)]
  have e1 : h * (S * (((-(1 / 2) : ℝ) : EReal) * ((q * q * q : ℝ) : EReal)) * ((1 / 1024 : ℝ) : EReal))
      = (h * S) * ((-(1 / 2) * (q * q * q) * (1 / 1024) : ℝ) : EReal) := by
    rw [EReal.coe_mul, EReal.coe_mul]; ac_rfl
  have e2 : h * ((q : EReal) * q * q * (S * ((1 / 1024 : ℝ) : EReal))) = (h * S) * ((q * q * q * (1 / 1024) : ℝ) : EReal) := by
    rw [EReal.coe_mul, EReal.coe_mul, EReal.coe_mul]; ac_rfl
  rw [mul_comm _ h, e1, e2, add_assoc, mul_add_mul_self, mul_comm (q : EReal) p, sub_eq_add_neg, ← mul_neg, ← EReal.coe_neg]
  congr 5
  ring

/-- The gradient of a normalised row's entry, the reference reading equal rows. -/
theorem rms_row {n : ℕ} {d d' h h' p p' : EReal} {H H' P P' : Fin n → EReal} (hd : d = d') (hh : h = h') (hp : p = p')
    (hH : ∀ k, H k = H' k) (hP : ∀ k, P k = P' k) :
    d + (Ideal.rsqrt (Ideal.div (∑ k, H k * H k) (Ideal.ofBits .f32 0x44800000#32) + Ideal.ofBits .f32 0x358637BD#32) * p
      - h * (Ideal.rsqrt (Ideal.div (∑ k, H k * H k) (Ideal.ofBits .f32 0x44800000#32) + Ideal.ofBits .f32 0x358637BD#32)
        * Ideal.rsqrt (Ideal.div (∑ k, H k * H k) (Ideal.ofBits .f32 0x44800000#32) + Ideal.ofBits .f32 0x358637BD#32)
        * Ideal.rsqrt (Ideal.div (∑ k, H k * H k) (Ideal.ofBits .f32 0x44800000#32) + Ideal.ofBits .f32 0x358637BD#32)
        * Ideal.div (∑ k, P k * H k) (Ideal.ofBits .f32 0x44800000#32)))
    = d' + (p' * Ideal.rsqrt (Ideal.div (∑ k, H' k * H' k) (Ideal.ofBits .f32 0x44800000#32) + Ideal.ofBits .f32 0x358637BD#32)
      + h' * ∑ _ : Fin 1, Ideal.div ((∑ k, H' k * P' k) * (Ideal.ofBits .f32 0xBF000000#32
          * Ideal.div (Ideal.rsqrt (Ideal.div (∑ k, H' k * H' k) (Ideal.ofBits .f32 0x44800000#32) + Ideal.ofBits .f32 0x358637BD#32))
            (Ideal.div (∑ k, H' k * H' k) (Ideal.ofBits .f32 0x44800000#32) + Ideal.ofBits .f32 0x358637BD#32))) (Ideal.ofBits .f32 0x44800000#32)
      + (∑ _ : Fin 1, Ideal.div ((∑ k, H' k * P' k) * (Ideal.ofBits .f32 0xBF000000#32
          * Ideal.div (Ideal.rsqrt (Ideal.div (∑ k, H' k * H' k) (Ideal.ofBits .f32 0x44800000#32) + Ideal.ofBits .f32 0x358637BD#32))
            (Ideal.div (∑ k, H' k * H' k) (Ideal.ofBits .f32 0x44800000#32) + Ideal.ofBits .f32 0x358637BD#32))) (Ideal.ofBits .f32 0x44800000#32)) * h') := by
  obtain rfl : H = H' := funext hH
  obtain rfl : P = P' := funext hP
  subst hd hh hp
  rw [rms_grad _ _ _ _ (ms_pos H)]
  simp only [Fin.sum_univ_one, mul_comm (P _)]

/-- A sum of three, backwards. -/
theorem add_rev (x y z : EReal) : x + y + z = z + y + x := by rw [add_comm (x + y), add_comm x y, add_assoc]

/-- A number whose absolute value compares below infinity is real. -/
theorem real_of_abs_lt {x : EReal} (h : Ideal.cmp .olt (max x (-x)) (Ideal.ofBits .f32 0x7F800000#32) = 1#1) : ∃ r : ℝ, x = r := by
  induction x with
  | bot => simp [Ideal.cmp, Ideal.ofBits, Ideal.ieee] at h
  | top => simp [Ideal.cmp, Ideal.ofBits, Ideal.ieee] at h
  | coe r => exact ⟨r, rfl⟩

/-- A sum of reals is real. -/
theorem sum_real {ι : Type*} (s : Finset ι) {f : ι → EReal} (h : ∀ k, ∃ r : ℝ, f k = r) : ∃ r : ℝ, ∑ k ∈ s, f k = r := by
  classical
  induction s using Finset.induction_on with
  | empty => exact ⟨0, by simp⟩
  | insert i s hi ih =>
    obtain ⟨a, ha⟩ := h i
    obtain ⟨b, hb⟩ := ih
    exact ⟨a + b, by rw [sum_insert hi, ha, hb, EReal.coe_add]⟩

/-- A product of reals is real. -/
theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A real number times the derivative of `g · logistic g`, written as one product and as a sum of two. -/
theorem silu_grad {z : EReal} (hz : ∃ r : ℝ, z = r) (g : EReal) :
    z * (Ideal.logistic g + g * Ideal.logistic g * (1 - Ideal.logistic g))
      = z * Ideal.logistic g + g * z * (Ideal.logistic g * (1 - Ideal.logistic g)) := by
  obtain ⟨z, rfl⟩ := hz
  induction g with
  | bot => simp
  | top =>
    have h : (1 : EReal) - 1 = 0 := by rw [← EReal.coe_one, ← EReal.coe_sub, sub_self, EReal.coe_zero]
    simp [h]
  | coe r =>
    rw [Ideal.logistic_coe]
    norm_cast
    ring_nf

end Cert.Reals

end
-- ==== Proof.FfnInX.lean ====
module

public import proofs.«01_k».proof.Proof.Gen.FfnInXIdeal.Value
public import proofs.«01_k».proof.Proof.Gen.FfnInXReferenceIdeal.Run
public import Idealize.ShloMosaic.Lib.Pipeline.ValueKit
public import Idealize.ShloMosaic.Lib.Pointwise
public import Idealize.ShloMosaic.Lib.Claim
public import proofs.«01_k».proof.Proof.Reals

@[expose] public section

set_option maxRecDepth 16384

noncomputable section

open Idealize.ShloMosaic Idealize.ShloMosaic.TcCoe Idealize.SL.Sem
open Idealize.ShloMosaic.Pipeline (Dat)

/-! The gradient of the feed-forward layer's norm and first product. -/

namespace Cert.FfnInX

section Terms
open Cert.FfnInXReferenceIdeal Cert.FfnInXReferenceIdeal.Gen

/-- The gradient of the normalised rows. -/
def dn (dgu : FVec Ideal S2x4352x3072 .bf16) (w : FVec Ideal S2x4x1024x768 .bf16) : FVec Ideal S4352x1024 .f32 :=
  addf (Host.dotGeneral dot_S4352x3072_S1024x3072_S4352x1024_1_1_0_0_n_n none (shapeCast _ (extractStridedSlice S1x4352x3072 ![1, 0, 0] (extf .f32 dgu bitsLt_bf16_f32) slices_S2x4352x3072_S1x4352x3072_1_0_0) shapeCasts_S1x4352x3072_S4352x3072) (shapeCast _ (transpose S1024x4x768 [1, 0, 2] (shapeCast _ (extractStridedSlice S1x4x1024x768 ![1, 0, 0, 0] (extf .f32 w bitsLt_bf16_f32) slices_S2x4x1024x768_S1x4x1024x768_1_0_0_0) shapeCasts_S1x4x1024x768_S4x1024x768) transposes_S4x1024x768_S1024x4x768_1_0_2) shapeCasts_S1024x4x768_S1024x3072))
    (Host.dotGeneral dot_S4352x3072_S1024x3072_S4352x1024_1_1_0_0_n_n none (shapeCast _ (extractStridedSlice S1x4352x3072 ![0, 0, 0] (extf .f32 dgu bitsLt_bf16_f32) slices_S2x4352x3072_S1x4352x3072_0_0_0) shapeCasts_S1x4352x3072_S4352x3072) (shapeCast _ (transpose S1024x4x768 [1, 0, 2] (shapeCast _ (extractStridedSlice S1x4x1024x768 ![0, 0, 0, 0] (extf .f32 w bitsLt_bf16_f32) slices_S2x4x1024x768_S1x4x1024x768_0_0_0_0) shapeCasts_S1x4x1024x768_S4x1024x768) transposes_S4x1024x768_S1024x4x768_1_0_2) shapeCasts_S1024x4x768_S1024x3072))

/-- The rows' mean square, plus the norm's constant. -/
def ms (h : FVec Ideal S4352x1024 .f32) : FVec Ideal S4352x1 .f32 :=
  addf (Host.divf (broadcastInDim S4352x1 ![0] bcast_S4352_S4352x1_0 (Host.reduceAdd (mulf h h) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))

/-- The gradient of the normalised rows, times the norm's weight. -/
def tv (dgu : FVec Ideal S2x4352x3072 .bf16) (w : FVec Ideal S2x4x1024x768 .bf16) (g : FVec Ideal S1x1024 .f32) : FVec Ideal S4352x1024 .f32 :=
  mulf (dn dgu w) (broadcastInDim S4352x1024 ![0, 1] bcast_S1x1024_S4352x1024_0_1 g)

/-- The gradient of the rows' mean square, a column. -/
def dms (dgu : FVec Ideal S2x4352x3072 .bf16) (w : FVec Ideal S2x4x1024x768 .bf16) (h : FVec Ideal S4352x1024 .f32) (g : FVec Ideal S1x1024 .f32) : FVec Ideal S4352 .f32 :=
  Host.reduceAdd (Host.divf (mulf (shapeCast _ (Host.reduceAdd (mulf h (tv dgu w g)) (constant S_ .f32 0x00000000#32) reducesTo_S4352x1024_S4352_d1 h_S_) shapeCasts_S4352_S4352x1) (mulf (broadcastInDim S4352x1 ![] bcast_S_S4352x1 (constant S_ .f32 0xBF000000#32)) (Host.divf (Host.rsqrt (ms h)) (ms h)))) (broadcastInDim S4352x1 ![] bcast_S_S4352x1 (constant S_ .f32 0x44800000#32))) (constant S_ .f32 0x00000000#32) reducesTo_S4352x1_S4352_d1 h_S_

/-- The gradient of the rows. -/
def dh (dgu : FVec Ideal S2x4352x3072 .bf16) (w : FVec Ideal S2x4x1024x768 .bf16) (h : FVec Ideal S4352x1024 .f32) (g : FVec Ideal S1x1024 .f32)
    (dres : FVec Ideal S4352x1024 .f32) : FVec Ideal S4352x1024 .f32 :=
  addf dres (addf (addf (mulf (tv dgu w g) (broadcastInDim S4352x1024 ![0, 1] bcast_S4352x1_S4352x1024_0_1 (Host.rsqrt (ms h)))) (mulf h (broadcastInDim S4352x1024 ![0] bcast_S4352_S4352x1024_0 (dms dgu w h g))))
    (mulf (broadcastInDim S4352x1024 ![0] bcast_S4352_S4352x1024_0 (dms dgu w h g)) h))

/-- The gradient of the rows, at half the width. -/
def dhb (dgu : FVec Ideal S2x4352x3072 .bf16) (w : FVec Ideal S2x4x1024x768 .bf16) (h : FVec Ideal S4352x1024 .f32) (g : FVec Ideal S1x1024 .f32)
    (dres : FVec Ideal S4352x1024 .f32) : FVec Ideal S4352x1024 .bf16 :=
  truncf .bf16 (dh dgu w h g dres) bitsLt_bf16_f32

/-- The gradient of the norm's weight. -/
def dg (dgu : FVec Ideal S2x4352x3072 .bf16) (w : FVec Ideal S2x4x1024x768 .bf16) (h : FVec Ideal S4352x1024 .f32) : FVec Ideal S1x1024 .f32 :=
  shapeCast _ (Host.reduceAdd (mulf (mulf h (broadcastInDim S4352x1024 ![0, 1] bcast_S4352x1_S4352x1024_0_1 (Host.rsqrt (ms h)))) (dn dgu w)) (constant S_ .f32 0x00000000#32) reducesTo_S4352x1024_S1024_d0 h_S_) shapeCasts_S1024_S1x1024

/-- The summand of the norm's weight gradient at a row and a column. -/
def term (dgu : FVec Ideal S2x4352x3072 .bf16) (w : FVec Ideal S2x4x1024x768 .bf16) (h : FVec Ideal S4352x1024 .f32) (l : Fin 4352) (a : Fin 1024) : EReal :=
  dn dgu w (ix2 l a) * (h (ix2 l a) * Ideal.rsqrt (Ideal.div (∑ x : Fin 1024, h (ix2 l x) * h (ix2 l x)) (Ideal.ofBits .f32 0x44800000#32)
    + Ideal.ofBits .f32 0x358637BD#32))

end Terms

section Final
open Cert.FfnInXIdeal Cert.FfnInXIdeal.Gen

variable (m : (ℓ : Loc nD τ sig) → Buf (Elt Ideal) ℓ)

/-- The windows' block indices at a grid point. -/
theorem idx : ∀ t : Fin cfg0.N, win0_0.index t = ![0, t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ t.val < 8 :=
  (by decide +kernel : ∀ t : Fin grid0.N, _)

/-- What a grid point leaves in the output buffers, over the block of `dn` it computed. -/
theorem point (c : Dev nD) (t : Fin cfg0.N) : ∃ D : FVec Ideal S544x1024 .f32,
    (∀ (i : S544x1024.Idx) (j : Cert.FfnInXReferenceIdeal.S4352x1024.Idx), (j 0 : ℕ) = t.val * 544 + i 0 → (j 1 : ℕ) = i 1 →
      D i = dn (m ((c : Thread nD τ).loc main_arg0)) (m ((c : Thread nD τ).loc main_arg1)) j)
    ∧ (outsAt0 m c t.val t.isLt).1 = k0_pay2 D (iblk m c 2 t) (iblk m c 3 t) (iblk m c 4 t)
    ∧ (outsAt0 m c t.val t.isLt).2.1 = k0_pay4 D (iblk m c 2 t) (iblk m c 3 t) (iblk m c 4 t)
    ∧ (t.val % 8 = 0 → (outsAt0 m c t.val t.isLt).2.2 = k0_pay3 D (iblk m c 2 t))
    ∧ (¬ t.val % 8 = 0 → (outsAt0 m c t.val t.isLt).2.2 = k0_pay5 D (iblk m c 2 t) (outsAt0 m c (t.val - 1) (Nat.lt_of_le_of_lt (Nat.sub_le _ _) t.isLt)).2.2) := by
  by_cases h : t.val % 8 = 0
  · refine ⟨?D, fun i j h0 h1 => ?hD, funext fun y => ?o5, funext fun y => ?o6, fun _ => funext fun y => ?o7, fun h' => absurd h h'⟩
    case o5 =>
      rw [outsAt0_A m c t h (by have := idx t; omega)]
      frame_out
      rfl
    case o6 =>
      rw [outsAt0_A m c t h (by have := idx t; omega)]
      frame_out
    case o7 =>
      rw [outsAt0_A m c t h (by have := idx t; omega)]
      frame_out
    case hD =>
      pointwise [k0_pay7, k0_pay6, dn]
      refine Cert.Reals.sum_four_four rfl (fun k _ => ?_) (fun k _ => ?_) (fun k _ => ?_) (fun k _ => ?_) (fun k _ => ?_)
        (fun k _ => ?_) (fun k _ => ?_) (fun k _ => ?_) <;> blk_point [iblk, V, idx t]
  · refine ⟨?D, fun i j h0 h1 => ?hD, funext fun y => ?o5, funext fun y => ?o6, fun h' => absurd h' h, fun _ => funext fun y => ?o7⟩
    case o5 =>
      rw [outsAt0_B m c t h (by have := idx t; omega)]
      frame_out
    case o6 =>
      rw [outsAt0_B m c t h (by have := idx t; omega)]
      frame_out
    case o7 =>
      rw [outsAt0_B m c t h (by have := idx t; omega)]
      frame_out
    case hD =>
      pointwise [k0_pay7, k0_pay6, dn]
      refine Cert.Reals.sum_four_four rfl (fun k _ => ?_) (fun k _ => ?_) (fun k _ => ?_) (fun k _ => ?_) (fun k _ => ?_)
        (fun k _ => ?_) (fun k _ => ?_) (fun k _ => ?_) <;> blk_point [iblk, V, idx t]

section Rows
variable {m}
variable (c : Dev nD) (t : Fin cfg0.N) (D : FVec Ideal S544x1024 .f32)
  (hD : ∀ (i : S544x1024.Idx) (j : Cert.FfnInXReferenceIdeal.S4352x1024.Idx), (j 0 : ℕ) = t.val * 544 + i 0 → (j 1 : ℕ) = i 1 →
      D i = dn (m ((c : Thread nD τ).loc main_arg0)) (m ((c : Thread nD τ).loc main_arg1)) j)

include hD in
/-- The rows' gradient over a grid point's block. -/
theorem rows (i : S544x1024.Idx) (j : Cert.FfnInXReferenceIdeal.S4352x1024.Idx) (h0 : (j 0 : ℕ) = t.val * 544 + i 0) (h1 : (j 1 : ℕ) = i 1) :
    k0_pay2 D (iblk m c 2 t) (iblk m c 3 t) (iblk m c 4 t) i
      = dh (m ((c : Thread nD τ).loc main_arg0)) (m ((c : Thread nD τ).loc main_arg1)) (m ((c : Thread nD τ).loc main_arg2))
        (m ((c : Thread nD τ).loc main_arg3)) (m ((c : Thread nD τ).loc main_arg4)) j := by
  pointwise [k0_pay2, k0_pay1, dh, dms, tv, ms]
  refine Cert.Reals.rms_row ?_ ?_ (Ideal.mul_congr (hD i j h0 h1) ?_) (fun k => ?_)
    fun k => Ideal.mul_congr (hD (ix2 (i 0) k) (ix2 (j 0) k) h0 rfl) ?_
  all_goals blk_point [iblk, V, idx t]

include hD in
/-- The norm's weight gradient over a grid point's block: the summands of its rows. -/
theorem part (i : S1x1024.Idx) : k0_pay3 D (iblk m c 2 t) i
    = ∑ k : Fin 544, term (m ((c : Thread nD τ).loc main_arg0)) (m ((c : Thread nD τ).loc main_arg1)) (m ((c : Thread nD τ).loc main_arg2))
      ⟨t.val * 544 + k.val, by have := (idx t).2.2.2.2.2.2.2.2; omega⟩ (i 1) := by
  pointwise [k0_pay3, k0_pay1]
  refine Fin.sum_fin_congr fun k => ?_
  unfold term
  refine Ideal.mul_congr (hD _ _ rfl rfl) ?_
  blk_point [iblk, V, idx t]

end Rows

/-- The first output array after the run. -/
theorem final5 (c : Dev nD) : (dats m 0 c).arrAt 5 (cfgs 0).N
    = dh (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  obtain ⟨D, hD, h5, h6, hA, hB⟩ := point m c t
  rw [after0_5, h5]
  refine rows c t D hD _ _ ?_ ?_ <;> blk_simp [idx t]

/-- The second output array after the run. -/
theorem final6 (c : Dev nD) : (dats m 0 c).arrAt 6 (cfgs 0).N
    = dhb (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  obtain ⟨D, hD, h5, h6, hA, hB⟩ := point m c t
  rw [after0_6, h6]
  refine (rows c t D hD _ _ ?_ ?_ :) <;> blk_simp [idx t]

/-- The third output array after the run. -/
theorem final7 (c : Dev nD) : (dats m 0 c).arrAt 7 (cfgs 0).N
    = dg (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => (0 : EReal))
    (fun t i => ∑ k : Fin 544, term (m ((c : Thread nD τ).loc main_arg0)) (m ((c : Thread nD τ).loc main_arg1)) (m ((c : Thread nD τ).loc main_arg2))
      ⟨t.val * 544 + k.val, by have := (idx t).2.2.2.2.2.2.2.2; omega⟩ (i 1))
    (fun t h j => by
      obtain ⟨D, hD, h5, h6, hA, hB⟩ := point m c t
      rw [hA h, part c t D hD, zero_add])
    (fun t h j => by
      obtain ⟨D, hD, h5, h6, hA, hB⟩ := point m c t
      rw [hB h, ← part c t D hD]
      pointwise [k0_pay5])
    (le_of_eq N_0) t0_7 rfl j, zero_add]
  pointwise [dg, ms]
  refine Fin.sum_mul_add_congr fun t k hl => ?_
  unfold term
  exact mul_comm (_ : EReal) _

end Final

end Cert.FfnInX

end
-- ==== Proof.FfnOutX.lean ====
module

public import proofs.«01_k».proof.Proof.Gen.FfnOutXIdeal.Value
public import proofs.«01_k».proof.Proof.Gen.FfnOutXReferenceIdeal.Run
public import Idealize.ShloMosaic.Lib.Pipeline.ValueKit
public import Idealize.ShloMosaic.Lib.Pointwise
public import Idealize.ShloMosaic.Lib.Claim
public import proofs.«01_k».proof.Proof.Reals
public import proofs.«01_k».proof.Pre_finite

@[expose] public section

set_option maxRecDepth 16384

noncomputable section

open Idealize.ShloMosaic Idealize.ShloMosaic.TcCoe Idealize.SL.Sem
open Idealize.ShloMosaic.Pipeline (Dat)

/-! The gradient of the feed-forward layer's gate and up products: with `a = silu(g) · u` and `da = (dh / 2) · wᵀ`,
the gate's gradient is `da · u · silu'(g)` and the up product's `da · silu(g)`. -/

namespace Cert.FfnOutX

section Factors
open Cert.FfnOutXIdeal Cert.FfnOutXIdeal.Gen

/-- The gate. -/
def fg (gu : FVec Ideal S2x4352x3072 .f32) : FVec Ideal S4352x3072 .f32 :=
  shapeCast _ (extractStridedSlice S1x4352x3072 ![0, 0, 0] gu slices_S2x4352x3072_S1x4352x3072_0_0_0) shapeCasts_S1x4352x3072_S4352x3072

/-- The up product. -/
def fu (gu : FVec Ideal S2x4352x3072 .f32) : FVec Ideal S4352x3072 .f32 :=
  shapeCast _ (extractStridedSlice S1x4352x3072 ![1, 0, 0] gu slices_S2x4352x3072_S1x4352x3072_1_0_0) shapeCasts_S1x4352x3072_S4352x3072

/-- The gate's logistic. -/
def fs (gu : FVec Ideal S2x4352x3072 .f32) : FVec Ideal S4352x3072 .f32 :=
  Host.divf (broadcastInDim S4352x3072 ![] bcast_S_S4352x3072 (constant S_ .f32 0x3F800000#32))
    (addf (broadcastInDim S4352x3072 ![] bcast_S_S4352x3072 (constant S_ .f32 0x3F800000#32)) (Host.exp (Host.negf (fg gu))))

/-- The two factors by which the kernel multiplies. -/
def factors (gu : FVec Ideal S2x4352x3072 .f32) : FVec Ideal S2x4352x3072 .bf16 :=
  truncf .bf16 (concatenate S2x4352x3072 0
    [⟨S1x4352x3072, broadcastInDim S1x4352x3072 ![1, 2] bcast_S4352x3072_S1x4352x3072_1_2
      (mulf (mulf (broadcastInDim S4352x3072 ![] bcast_S_S4352x3072 (constant S_ .f32 0x3F000000#32)) (fu gu))
        (addf (fs gu) (mulf (mulf (fg gu) (fs gu)) (subf (broadcastInDim S4352x3072 ![] bcast_S_S4352x3072 (constant S_ .f32 0x3F800000#32)) (fs gu)))))⟩,
     ⟨S1x4352x3072, broadcastInDim S1x4352x3072 ![1, 2] bcast_S4352x3072_S1x4352x3072_1_2
      (mulf (broadcastInDim S4352x3072 ![] bcast_S_S4352x3072 (constant S_ .f32 0x3F000000#32)) (mulf (fg gu) (fs gu)))⟩]
    concatenates_S1x4352x3072_S1x4352x3072_S2x4352x3072_d0) bitsLt_bf16_f32

/-- The first factor: half the up product times the gate's derivative. -/
theorem factors_gate (gu : FVec Ideal S2x4352x3072 .f32) (i : Fin 4352) (j : Fin 3072) :
    factors gu (ix3 0 i j) = ((1 / 2 : ℝ) : EReal) * gu (ix3 1 i j) * (Ideal.logistic (gu (ix3 0 i j))
      + gu (ix3 0 i j) * Ideal.logistic (gu (ix3 0 i j)) * (1 - Ideal.logistic (gu (ix3 0 i j)))) := by
  pointwise [factors, fg, fu, fs, Ideal.logistic]
  rw [Cert.Reals.half]

/-- The second factor: half the activated gate. -/
theorem factors_up (gu : FVec Ideal S2x4352x3072 .f32) (i : Fin 4352) (j : Fin 3072) :
    factors gu (ix3 1 i j) = ((1 / 2 : ℝ) : EReal) * (gu (ix3 0 i j) * Ideal.logistic (gu (ix3 0 i j))) := by
  pointwise [factors, fg, fu, fs, Ideal.logistic]
  rw [Cert.Reals.half]

variable (m : (ℓ : Loc nD τ sig) → Buf (Elt Ideal) ℓ)

/-- The kernel's third operand is the two factors. -/
theorem V_factors (c : Dev nD) : V m c main_v23 = factors (m ((c : Thread nD τ).loc main_arg2)) := by
  simp only [V, hostOps0]
  after_results_simp <;> rfl

end Factors

section Terms
open Cert.FfnOutXReferenceIdeal Cert.FfnOutXReferenceIdeal.Gen

/-- The gate. -/
def rg (gu : FVec Ideal S2x4352x3072 .f32) : FVec Ideal S4352x3072 .f32 :=
  shapeCast _ (extractStridedSlice S1x4352x3072 ![0, 0, 0] gu slices_S2x4352x3072_S1x4352x3072_0_0_0) shapeCasts_S1x4352x3072_S4352x3072

/-- The up product. -/
def ru (gu : FVec Ideal S2x4352x3072 .f32) : FVec Ideal S4352x3072 .f32 :=
  shapeCast _ (extractStridedSlice S1x4352x3072 ![1, 0, 0] gu slices_S2x4352x3072_S1x4352x3072_1_0_0) shapeCasts_S1x4352x3072_S4352x3072

/-- The gate's logistic. -/
def rs (gu : FVec Ideal S2x4352x3072 .f32) : FVec Ideal S4352x3072 .f32 :=
  Host.divf (broadcastInDim S4352x3072 ![] bcast_S_S4352x3072 (constant S_ .f32 0x3F800000#32))
    (addf (broadcastInDim S4352x3072 ![] bcast_S_S4352x3072 (constant S_ .f32 0x3F800000#32)) (Host.exp (Host.negf (rg gu))))

/-- The activation's gradient. -/
def da (dh : FVec Ideal S4352x1024 .bf16) (w : FVec Ideal S3072x1024 .bf16) : FVec Ideal S4352x3072 .f32 :=
  Host.dotGeneral dot_S4352x1024_S3072x1024_S4352x3072_1_1_0_0_n_n none
    (mulf (broadcastInDim S4352x1024 ![] bcast_S_S4352x1024 (constant S_ .f32 0x3F000000#32)) (extf .f32 dh bitsLt_bf16_f32)) (extf .f32 w bitsLt_bf16_f32)

/-- The two gradients. -/
def dgu (dh : FVec Ideal S4352x1024 .bf16) (w : FVec Ideal S3072x1024 .bf16) (gu : FVec Ideal S2x4352x3072 .f32) : FVec Ideal S2x4352x3072 .bf16 :=
  truncf .bf16 (addf
    (pad S2x4352x3072 ![1, 0, 0] ![0, 0, 0] ![0, 0, 0] (broadcastInDim S1x4352x3072 ![1, 2] bcast_S4352x3072_S1x4352x3072_1_2
      (mulf (mulf (rg gu) (rs gu)) (da dh w))) (constant S_ .f32 0x00000000#32) pads_S1x4352x3072_S2x4352x3072_100_000_000 h_S_)
    (pad S2x4352x3072 ![0, 0, 0] ![1, 0, 0] ![0, 0, 0] (broadcastInDim S1x4352x3072 ![1, 2] bcast_S4352x3072_S1x4352x3072_1_2
      (addf (mulf (mulf (da dh w) (ru gu)) (rs gu)) (mulf (mulf (rg gu) (mulf (da dh w) (ru gu)))
        (mulf (rs gu) (subf (broadcastInDim S4352x3072 ![] bcast_S_S4352x3072 (constant S_ .f32 0x3F800000#32)) (rs gu))))))
      (constant S_ .f32 0x00000000#32) pads_S1x4352x3072_S2x4352x3072_010_000_000 h_S_)) bitsLt_bf16_f32

/-- Row `i`, column `j` of the activation's gradient, halved after the sum. -/
theorem da_apply (dh : FVec Ideal S4352x1024 .bf16) (w : FVec Ideal S3072x1024 .bf16) (i : Fin 4352) (j : Fin 3072) :
    da dh w (ix2 i j) = (∑ k : Fin 1024, dh (ix2 i k) * w (ix2 j k)) * ((1 / 2 : ℝ) : EReal) := by
  pointwise [da]
  rw [Cert.Reals.half]
  refine (Cert.Reals.sum_mul_coe_congr (by norm_num) fun k => ?_).symm
  exact (mul_comm _ _).trans (mul_assoc _ _ _).symm

/-- The gate's gradient. -/
theorem dgu_gate (dh : FVec Ideal S4352x1024 .bf16) (w : FVec Ideal S3072x1024 .bf16) (gu : FVec Ideal S2x4352x3072 .f32) (i : Fin 4352) (j : Fin 3072) :
    dgu dh w gu (ix3 0 i j) = da dh w (ix2 i j) * gu (ix3 1 i j) * Ideal.logistic (gu (ix3 0 i j))
      + gu (ix3 0 i j) * (da dh w (ix2 i j) * gu (ix3 1 i j)) * (Ideal.logistic (gu (ix3 0 i j)) * (1 - Ideal.logistic (gu (ix3 0 i j)))) := by
  pointwise [dgu, rg, ru, rs, Ideal.logistic]

/-- The up product's gradient. -/
theorem dgu_up (dh : FVec Ideal S4352x1024 .bf16) (w : FVec Ideal S3072x1024 .bf16) (gu : FVec Ideal S2x4352x3072 .f32) (i : Fin 4352) (j : Fin 3072) :
    dgu dh w gu (ix3 1 i j) = gu (ix3 0 i j) * Ideal.logistic (gu (ix3 0 i j)) * da dh w (ix2 i j) := by
  pointwise [dgu, rg, ru, rs, Ideal.logistic]

end Terms

section Pre
variable [Cert.Pre_finite.Facts]

/-- Under the precondition the incoming gradient is real, … -/
theorem pre0 {dh : FVec Ideal ⟨2, ![4352, 1024]⟩ .bf16} {w : FVec Ideal ⟨2, ![3072, 1024]⟩ .bf16} {gu : FVec Ideal ⟨3, ![2, 4352, 3072]⟩ .f32}
    (h : (Cert.Pre_finite.fn (F := Ideal) dh w gu).1 = fun _ => 1#1) (i : Fin 4352) (k : Fin 1024) : ∃ r : ℝ, dh (ix2 i k) = r :=
  Cert.Reals.real_of_abs_lt (congrFun h (ix2 i k))

/-- … so are the weights, … -/
theorem pre1 {dh : FVec Ideal ⟨2, ![4352, 1024]⟩ .bf16} {w : FVec Ideal ⟨2, ![3072, 1024]⟩ .bf16} {gu : FVec Ideal ⟨3, ![2, 4352, 3072]⟩ .f32}
    (h : (Cert.Pre_finite.fn (F := Ideal) dh w gu).2.1 = fun _ => 1#1) (j : Fin 3072) (k : Fin 1024) : ∃ r : ℝ, w (ix2 j k) = r :=
  Cert.Reals.real_of_abs_lt (congrFun h (ix2 j k))

/-- … and so is the up product. -/
theorem pre2 {dh : FVec Ideal ⟨2, ![4352, 1024]⟩ .bf16} {w : FVec Ideal ⟨2, ![3072, 1024]⟩ .bf16} {gu : FVec Ideal ⟨3, ![2, 4352, 3072]⟩ .f32}
    (h : (Cert.Pre_finite.fn (F := Ideal) dh w gu).2.2 = fun _ => 1#1) (i : Fin 4352) (j : Fin 3072) : ∃ r : ℝ, gu (ix3 1 i j) = r := by
  refine Cert.Reals.real_of_abs_lt ?_
  have h' := congrFun h (ix2 i j)
  dsimp only [Cert.Pre_finite.fn] at h'
  pointwise [] at h'
  exact h'

end Pre

section Final
open Cert.FfnOutXIdeal Cert.FfnOutXIdeal.Gen

/-- One entry of the gate's gradient, the kernel's product and the two summands of the derivative. -/
theorem gate_eq {dh : FVec Ideal S4352x1024 .bf16} {w : FVec Ideal S3072x1024 .bf16} {gu : FVec Ideal S2x4352x3072 .f32} (i : Fin 4352) (j : Fin 3072)
    (h0 : ∀ i k, ∃ r : ℝ, dh (ix2 i k) = r) (h1 : ∀ j k, ∃ r : ℝ, w (ix2 j k) = r) (h2 : ∀ i j, ∃ r : ℝ, gu (ix3 1 i j) = r) :
    (∑ k : Fin 1024, dh (ix2 i k) * w (ix2 j k)) * factors gu (ix3 0 i j) = dgu dh w gu (ix3 0 i j) := by
  rw [factors_gate, dgu_gate, da_apply]
  have hs := Cert.Reals.sum_real Finset.univ fun k => Cert.Reals.mul_real (h0 i k) (h1 j k)
  rw [← Cert.Reals.silu_grad (Cert.Reals.mul_real (Cert.Reals.mul_real hs ⟨_, rfl⟩) (h2 i j))]
  generalize (∑ k : Fin 1024, dh (ix2 i k) * w (ix2 j k)) = s
  refine (mul_assoc (_ : EReal) _ _).symm.trans (congrArg (· * _) (mul_assoc (_ : EReal) _ _).symm)

/-- One entry of the up product's gradient. -/
theorem up_eq (dh : FVec Ideal S4352x1024 .bf16) (w : FVec Ideal S3072x1024 .bf16) (gu : FVec Ideal S2x4352x3072 .f32) (i : Fin 4352) (j : Fin 3072) :
    (∑ k : Fin 1024, dh (ix2 i k) * w (ix2 j k)) * factors gu (ix3 1 i j) = dgu dh w gu (ix3 1 i j) := by
  rw [factors_up, dgu_up, da_apply]
  exact (mul_assoc (_ : EReal) _ _).symm.trans (mul_comm (_ : EReal) _)

variable (m : (ℓ : Loc nD τ sig) → Buf (Elt Ideal) ℓ)

/-- The windows' block indices at a grid point. -/
theorem idx : ∀ t : Fin cfg0.N, win0_0.index t = ![t.val / 4, 0] ∧ win0_1.index t = ![0, 0]
    ∧ win0_2.index t = ![0, t.val / 4, t.val % 4] ∧ win0_3.index t = ![0, t.val / 4, t.val % 4] ∧ t.val < 16
    ∧ k0_off1 (grid0.coords t) = ![768 * (t.val % 4), 0] :=
  (by decide +kernel : ∀ t : Fin grid0.N, _)

set_option maxHeartbeats 2000000 in
/-- The output array after the run. -/
theorem final3 (c : Dev nD) (f0 : ∀ i k, ∃ r : ℝ, m ((c : Thread nD τ).loc main_arg0) (ix2 i k) = (r : EReal)) (f1 : ∀ j k, ∃ r : ℝ, m ((c : Thread nD τ).loc main_arg1) (ix2 j k) = (r : EReal))
    (f2 : ∀ i j, ∃ r : ℝ, m ((c : Thread nD τ).loc main_arg2) (ix3 1 i j) = (r : EReal)) : (dats m 0 c).arrAt 3 (cfgs 0).N
    = dgu (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  canon_tiles x h
  all_goals
    have ht := idx t
    have hi : 1088 * (t.val / 4) + (x 1).val < 4352 := by omega
    have hj : 768 * (t.val % 4) + (x 2).val < 3072 := by omega
    open_payloads; pointwise []
  · refine Eq.trans ?_ ((up_eq (m ((c : Thread nD τ).loc main_arg0)) (m ((c : Thread nD τ).loc main_arg1)) (m ((c : Thread nD τ).loc main_arg2)) ⟨_, hi⟩ ⟨_, hj⟩).trans ?_)
    · refine congrArg₂ (fun a b : EReal => a * b) (Finset.sum_congr rfl fun k _ => ?_) ?_
      · blk_point [iblk, V, idx t]
      · rw [← V_factors]
        blk_point [iblk, idx t]
    · generalize dgu _ _ _ = f
      blk_point [idx t]
  · refine Eq.trans ?_ ((gate_eq (dh := m ((c : Thread nD τ).loc main_arg0)) (w := m ((c : Thread nD τ).loc main_arg1)) (gu := m ((c : Thread nD τ).loc main_arg2)) ⟨_, hi⟩ ⟨_, hj⟩ f0 f1 f2).trans ?_)
    · refine congrArg₂ (fun a b : EReal => a * b) (Finset.sum_congr rfl fun k _ => ?_) ?_
      · blk_point [iblk, V, idx t]
      · rw [← V_factors]
        blk_point [iblk, idx t]
    · generalize dgu _ _ _ = f
      blk_point [idx t]

end Final

end Cert.FfnOutX

end
-- ==== Proof.FfnInW.lean ====
module

public import proofs.«01_k».proof.Proof.Gen.FfnInWIdeal.Value
public import proofs.«01_k».proof.Proof.Gen.FfnInWReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gradient of the feed-forward layer's first weights: `dw[s, j, f, d] = Σ_t dgu[s, t, 768 j + f] · n[t, d]`. -/

namespace Cert.FfnInW

section Terms
open Cert.FfnInWReferenceIdeal Cert.FfnInWReferenceIdeal.Gen

/-- The gradient of the weights. -/
def dw (n : FVec Ideal S4352x1024 .bf16) (dgu : FVec Ideal S2x4352x3072 .bf16) : FVec Ideal S2x4x768x1024 .bf16 :=
  truncf .bf16 (Host.dotGeneral dot_S2x4x768x4352_S4352x1024_S2x4x768x1024_3_0_012_1_n_n none
    (transpose S2x4x768x4352 [0, 2, 3, 1] (shapeCast _ (extf .f32 dgu bitsLt_bf16_f32) shapeCasts_S2x4352x3072_S2x4352x4x768) transposes_S2x4352x4x768_S2x4x768x4352_0_2_3_1)
    (extf .f32 n bitsLt_bf16_f32)) bitsLt_bf16_f32

end Terms

section Final
open Cert.FfnInWIdeal Cert.FfnInWIdeal.Gen

variable (m : (ℓ : Loc nD τ sig) → Buf (Elt Ideal) ℓ)

/-- The windows' block indices at a grid point. -/
theorem idx : ∀ t : Fin cfg0.N, win0_0.index t = ![t.val / 4, 0, t.val % 4] ∧ win0_1.index t = ![0, 0]
    ∧ win0_2.index t = ![t.val / 4, t.val % 4, 0, 0] ∧ t.val < 8 :=
  (by decide +kernel : ∀ t : Fin grid0.N, _)

/-- The output array after the run. -/
theorem final2 (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dw]
  blk_point [iblk, V, idx t]

end Final

end Cert.FfnInW

end
-- ==== Proof.FfnOutW.lean ====
module

public import proofs.«01_k».proof.Proof.Gen.FfnOutWIdeal.Value
public import proofs.«01_k».proof.Proof.Gen.FfnOutWReferenceIdeal.Run
public import Idealize.ShloMosaic.Lib.Pipeline.ValueKit
public import Idealize.ShloMosaic.Lib.Pointwise
public import Idealize.ShloMosaic.Lib.Claim
public import proofs.«01_k».proof.Proof.Reals

@[expose] public section

set_option maxRecDepth 16384

noncomputable section

open Idealize.ShloMosaic Idealize.ShloMosaic.TcCoe Idealize.SL.Sem
open Idealize.ShloMosaic.Pipeline (Dat)

/-! The gradient of the feed-forward layer's second weights: `dw[e, d] = Σ_t a[t, e] · dh[t, d] / 2`. -/

namespace Cert.FfnOutW

section Terms
open Cert.FfnOutWReferenceIdeal Cert.FfnOutWReferenceIdeal.Gen

/-- The gradient of the weights. -/
def dw (a : FVec Ideal S4352x3072 .bf16) (dh : FVec Ideal S4352x1024 .bf16) : FVec Ideal S8x352x1024 .bf16 :=
  truncf .bf16 (shapeCast _ (transpose S2816x1024 [1, 0] (Host.dotGeneral dot_S4352x1024_S4352x2816_S1024x2816_0_0_1_1_n_n none
    (mulf (broadcastInDim S4352x1024 ![] bcast_S_S4352x1024 (constant S_ .f32 0x3F000000#32)) (extf .f32 dh bitsLt_bf16_f32))
    (shapeCast _ (extractStridedSlice S4352x4x704 ![0, 0, 0] (shapeCast _ (extf .f32 a bitsLt_bf16_f32) shapeCasts_S4352x3072_S4352x4x768)
      slices_S4352x4x768_S4352x4x704_0_0_0) shapeCasts_S4352x4x704_S4352x2816)) transposes_S1024x2816_S2816x1024_1_0)
    shapeCasts_S2816x1024_S8x352x1024) bitsLt_bf16_f32

end Terms

section Final
open Cert.FfnOutWIdeal Cert.FfnOutWIdeal.Gen

variable (m : (ℓ : Loc nD τ sig) → Buf (Elt Ideal) ℓ)

/-- The windows' block indices at a grid point. -/
theorem idx : ∀ t : Fin cfg0.N, win0_0.index t = ![0, t.val] ∧ win0_1.index t = ![0, 0]
    ∧ win0_2.index t = ![t.val, 0, 0] ∧ t.val < 4 :=
  (by decide +kernel : ∀ t : Fin grid0.N, _)

/-- The output array after the run. -/
theorem final2 (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t _ y => ?_
  blk_simp
  rw [after0_2]
  canon_tiles x h
  all_goals open_payloads; pointwise [dw]
  all_goals
    rw [Cert.Reals.half]
    refine Cert.Reals.sum_mul_coe_congr (by norm_num) fun k => ?_
    refine (Cert.Reals.mul_rev _ _ _).trans ?_
    blk_point [iblk, V, idx t]

end Final

end Cert.FfnOutW

end
-- ==== Proof.ProjX.lean ====
module

public import proofs.«01_k».proof.Proof.Gen.ProjXIdeal.Value
public import proofs.«01_k».proof.Proof.Gen.ProjXReferenceIdeal.Run
public import Idealize.ShloMosaic.Lib.Pipeline.ValueKit
public import Idealize.ShloMosaic.Lib.Pointwise
public import Idealize.ShloMosaic.Lib.Claim
public import proofs.«01_k».proof.Proof.Reals

@[expose] public section

set_option maxRecDepth 16384

noncomputable section

open Idealize.ShloMosaic Idealize.ShloMosaic.TcCoe Idealize.SL.Sem
open Idealize.ShloMosaic.Pipeline (Dat)

/-! The gradient of the norm and of the projections. -/

namespace Cert.ProjX

section Terms
open Cert.ProjXReferenceIdeal Cert.ProjXReferenceIdeal.Gen

/-- The gradient of the normalised rows. -/
def dn (dq : FVec Ideal S4352x2304 .bf16) (dt : FVec Ideal S4352x2048 .bf16) (df : FVec Ideal S4352x128 .bf16) (w : FVec Ideal S1024x6272 .bf16) : FVec Ideal S4352x1024 .f32 :=
  addf (addf (Host.dotGeneral dot_S4352x128_S1024x128_S4352x1024_1_1_0_0_n_n none (extf .f32 df bitsLt_bf16_f32) (extractStridedSlice S1024x128 ![0, 6144] (extf .f32 w bitsLt_bf16_f32) slices_S1024x6272_S1024x128_0_6144))
    (Host.dotGeneral dot_S4352x2048_S1024x2048_S4352x1024_1_1_0_0_n_n none (extf .f32 dt bitsLt_bf16_f32) (extractStridedSlice S1024x2048 ![0, 4096] (extf .f32 w bitsLt_bf16_f32) slices_S1024x6272_S1024x2048_0_4096)))
    (Host.dotGeneral dot_S4352x2304_S1024x2304_S4352x1024_1_1_0_0_n_n none (extf .f32 dq bitsLt_bf16_f32) (extractStridedSlice S1024x2304 ![0, 0] (extf .f32 w bitsLt_bf16_f32) slices_S1024x6272_S1024x2304_0_0))

/-- The rows' mean square, plus the norm's constant. -/
def ms (h : FVec Ideal S4352x1024 .f32) : FVec Ideal S4352x1 .f32 :=
  addf (Host.divf (broadcastInDim S4352x1 ![0] bcast_S4352_S4352x1_0 (Host.reduceAdd (mulf h h) (constant S_ .f32 0x00000000#32) reducesTo_S4352x1024_S4352_d1 h_S_)) (broadcastInDim S4352x1 ![] bcast_S_S4352x1 (constant S_ .f32 0x44800000#32))) (broadcastInDim S4352x1 ![] bcast_S_S4352x1 (constant S_ .f32 0x358637BD#32))

/-- The gradient of the normalised rows, times the norm's weight. -/
def tv (dq : FVec Ideal S4352x2304 .bf16) (dt : FVec Ideal S4352x2048 .bf16) (df : FVec Ideal S4352x128 .bf16) (w : FVec Ideal S1024x6272 .bf16) (g : FVec Ideal S1x1024 .f32) : FVec Ideal S4352x1024 .f32 :=
  mulf (dn dq dt df w) (broadcastInDim S4352x1024 ![0, 1] bcast_S1x1024_S4352x1024_0_1 g)

/-- The gradient of the rows' mean square, a column. -/
def dms (dq : FVec Ideal S4352x2304 .bf16) (dt : FVec Ideal S4352x2048 .bf16) (df : FVec Ideal S4352x128 .bf16) (w : FVec Ideal S1024x6272 .bf16) (h : FVec Ideal S4352x1024 .f32) (g : FVec Ideal S1x1024 .f32) : FVec Ideal S4352 .f32 :=
  Host.reduceAdd (Host.divf (mulf (shapeCast _ (Host.reduceAdd (mulf h (tv dq dt df w g)) (constant S_ .f32 0x00000000#32) reducesTo_S4352x1024_S4352_d1 h_S_) shapeCasts_S4352_S4352x1) (mulf (broadcastInDim S4352x1 ![] bcast_S_S4352x1 (constant S_ .f32 0xBF000000#32)) (Host.divf (Host.rsqrt (ms h)) (ms h)))) (broadcastInDim S4352x1 ![] bcast_S_S4352x1 (constant S_ .f32 0x44800000#32))) (constant S_ .f32 0x00000000#32) reducesTo_S4352x1_S4352_d1 h_S_

/-- The gradient of the rows. -/
def dh (dq : FVec Ideal S4352x2304 .bf16) (dt : FVec Ideal S4352x2048 .bf16) (df : FVec Ideal S4352x128 .bf16) (w : FVec Ideal S1024x6272 .bf16) (h : FVec Ideal S4352x1024 .f32) (g : FVec Ideal S1x1024 .f32)
    (dres : FVec Ideal S4352x1024 .f32) : FVec Ideal S4352x1024 .f32 :=
  addf dres (addf (addf (mulf (tv dq dt df w g) (broadcastInDim S4352x1024 ![0, 1] bcast_S4352x1_S4352x1024_0_1 (Host.rsqrt (ms h)))) (mulf h (broadcastInDim S4352x1024 ![0] bcast_S4352_S4352x1024_0 (dms dq dt df w h g))))
    (mulf (broadcastInDim S4352x1024 ![0] bcast_S4352_S4352x1024_0 (dms dq dt df w h g)) h))

/-- The gradient of the rows, at half the width. -/
def dhb (dq : FVec Ideal S4352x2304 .bf16) (dt : FVec Ideal S4352x2048 .bf16) (df : FVec Ideal S4352x128 .bf16) (w : FVec Ideal S1024x6272 .bf16) (h : FVec Ideal S4352x1024 .f32) (g : FVec Ideal S1x1024 .f32)
    (dres : FVec Ideal S4352x1024 .f32) : FVec Ideal S4352x1024 .bf16 :=
  truncf .bf16 (dh dq dt df w h g dres) bitsLt_bf16_f32

/-- The gradient of the norm's weight. -/
def dg (dq : FVec Ideal S4352x2304 .bf16) (dt : FVec Ideal S4352x2048 .bf16) (df : FVec Ideal S4352x128 .bf16) (w : FVec Ideal S1024x6272 .bf16) (h : FVec Ideal S4352x1024 .f32) : FVec Ideal S1x1024 .f32 :=
  shapeCast _ (Host.reduceAdd (mulf (mulf h (broadcastInDim S4352x1024 ![0, 1] bcast_S4352x1_S4352x1024_0_1 (Host.rsqrt (ms h)))) (dn dq dt df w)) (constant S_ .f32 0x00000000#32) reducesTo_S4352x1024_S1024_d0 h_S_) shapeCasts_S1024_S1x1024

/-- The summand of the norm's weight gradient at a row and a column. -/
def term (dq : FVec Ideal S4352x2304 .bf16) (dt : FVec Ideal S4352x2048 .bf16) (df : FVec Ideal S4352x128 .bf16) (w : FVec Ideal S1024x6272 .bf16) (h : FVec Ideal S4352x1024 .f32) (l : Fin 4352) (a : Fin 1024) : EReal :=
  dn dq dt df w (ix2 l a) * (h (ix2 l a) * Ideal.rsqrt (Ideal.div (∑ x : Fin 1024, h (ix2 l x) * h (ix2 l x)) (Ideal.ofBits .f32 0x44800000#32)
    + Ideal.ofBits .f32 0x358637BD#32))

end Terms

section Final
open Cert.ProjXIdeal Cert.ProjXIdeal.Gen

variable (m : (ℓ : Loc nD τ sig) → Buf (Elt Ideal) ℓ)

/-- The windows' block indices at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] ∧ t.val < 8 :=
  (by decide +kernel : ∀ t : Fin grid0.N, _)

/-- What a grid point leaves in the output buffers, over the six blocks whose products it adds. -/
theorem point (c : Dev nD) (t : Fin cfg0.N) : ∃ (v0 : Vec Ideal S544x2304 .bf16) (v1 : Vec Ideal S1024x2304 .bf16) (v3 : Vec Ideal S544x2048 .bf16) (v4 : Vec Ideal S1024x2048 .bf16) (v7 : Vec Ideal S544x128 .bf16) (v8 : Vec Ideal S1024x128 .bf16),
    (∀ (i : S544x1024.Idx) (j : Cert.ProjXReferenceIdeal.S4352x1024.Idx), (j 0 : ℕ) = t.val * 544 + i 0 → (j 1 : ℕ) = i 1 →
      k0_pay5 v0 v1 v3 v4 v7 v8 i = dn (m ((c : Thread nD τ).loc main_arg0)) (m ((c : Thread nD τ).loc main_arg1)) (m ((c : Thread nD τ).loc main_arg2)) (m ((c : Thread nD τ).loc main_arg3)) j)
    ∧ (outsAt0 m c t.val t.isLt).1 = k0_pay1 (iblk m c 4 t) (iblk m c 6 t) (k0_pay8 v0 v1 v3 v4 v7 v8 (iblk m c 4 t) (iblk m c 5 t)) (k0_pay9 v0 v1 v3 v4 v7 v8 (iblk m c 4 t) (iblk m c 5 t)) (k0_pay10 (iblk m c 4 t))
    ∧ (outsAt0 m c t.val t.isLt).2.1 = k0_pay3 (iblk m c 4 t) (iblk m c 6 t) (k0_pay8 v0 v1 v3 v4 v7 v8 (iblk m c 4 t) (iblk m c 5 t)) (k0_pay9 v0 v1 v3 v4 v7 v8 (iblk m c 4 t) (iblk m c 5 t)) (k0_pay10 (iblk m c 4 t))
    ∧ (t.val % 8 = 0 → (outsAt0 m c t.val t.isLt).2.2 = k0_pay2 (k0_pay5 v0 v1 v3 v4 v7 v8) (iblk m c 4 t) (k0_pay6 (iblk m c 4 t)))
    ∧ (¬ t.val % 8 = 0 → (outsAt0 m c t.val t.isLt).2.2 = k0_pay4 (k0_pay5 v0 v1 v3 v4 v7 v8) (iblk m c 4 t) (k0_pay6 (iblk m c 4 t)) (outsAt0 m c (t.val - 1) (Nat.lt_of_le_of_lt (Nat.sub_le _ _) t.isLt)).2.2) := by
  by_cases h : t.val % 8 = 0
  · refine ⟨?v0, ?v1, ?v3, ?v4, ?v7, ?v8, fun i j h0 h1 => ?hD, funext fun y => ?o7, funext fun y => ?o8, fun _ => funext fun y => ?o9, fun h' => absurd h h'⟩
    case o7 =>
      rw [outsAt0_A m c t h (by have := idx t; omega)]
      frame_out
      rfl
    case o8 =>
      rw [outsAt0_A m c t h (by have := idx t; omega)]
      frame_out
    case o9 =>
      rw [outsAt0_A m c t h (by have := idx t; omega)]
      frame_out
    case hD =>
      pointwise [k0_pay5, dn]
      refine (Cert.Reals.add_rev _ _ _).trans ?_
      blk_point [iblk, V, idx t]
  · refine ⟨?v0, ?v1, ?v3, ?v4, ?v7, ?v8, fun i j h0 h1 => ?hD, funext fun y => ?o7, funext fun y => ?o8, fun h' => absurd h' h, fun _ => funext fun y => ?o9⟩
    case o7 =>
      rw [outsAt0_B m c t h (by have := idx t; omega)]
      frame_out
    case o8 =>
      rw [outsAt0_B m c t h (by have := idx t; omega)]
      frame_out
    case o9 =>
      rw [outsAt0_B m c t h (by have := idx t; omega)]
      frame_out
    case hD =>
      pointwise [k0_pay5, dn]
      refine (Cert.Reals.add_rev _ _ _).trans ?_
      blk_point [iblk, V, idx t]

section Rows
variable {m}
variable (c : Dev nD) (t : Fin cfg0.N) (v0 : Vec Ideal S544x2304 .bf16) (v1 : Vec Ideal S1024x2304 .bf16) (v3 : Vec Ideal S544x2048 .bf16) (v4 : Vec Ideal S1024x2048 .bf16) (v7 : Vec Ideal S544x128 .bf16) (v8 : Vec Ideal S1024x128 .bf16)
  (hD : ∀ (i : S544x1024.Idx) (j : Cert.ProjXReferenceIdeal.S4352x1024.Idx), (j 0 : ℕ) = t.val * 544 + i 0 → (j 1 : ℕ) = i 1 →
      k0_pay5 v0 v1 v3 v4 v7 v8 i = dn (m ((c : Thread nD τ).loc main_arg0)) (m ((c : Thread nD τ).loc main_arg1)) (m ((c : Thread nD τ).loc main_arg2)) (m ((c : Thread nD τ).loc main_arg3)) j)

include hD in
/-- The rows' gradient over a grid point's block. -/
theorem rows (i : S544x1024.Idx) (j : Cert.ProjXReferenceIdeal.S4352x1024.Idx) (h0 : (j 0 : ℕ) = t.val * 544 + i 0) (h1 : (j 1 : ℕ) = i 1) :
    k0_pay1 (iblk m c 4 t) (iblk m c 6 t) (k0_pay8 v0 v1 v3 v4 v7 v8 (iblk m c 4 t) (iblk m c 5 t)) (k0_pay9 v0 v1 v3 v4 v7 v8 (iblk m c 4 t) (iblk m c 5 t)) (k0_pay10 (iblk m c 4 t)) i
      = dh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  pointwise [k0_pay1, k0_pay8, k0_pay9, k0_pay10, k0_pay7, k0_pay6, dh, dms, tv, ms]
  refine Cert.Reals.rms_row ?_ ?_ (Ideal.mul_congr (hD i j h0 h1) ?_) (fun k => ?_)
    fun k => Ideal.mul_congr (hD (ix2 (i 0) k) (ix2 (j 0) k) h0 rfl) ?_
  all_goals blk_point [iblk, V, idx t]

include hD in
/-- The norm's weight gradient over a grid point's block: the summands of its rows. -/
theorem part (i : S1x1024.Idx) : k0_pay2 (k0_pay5 v0 v1 v3 v4 v7 v8) (iblk m c 4 t) (k0_pay6 (iblk m c 4 t)) i
    = ∑ k : Fin 544, term (m ((c : Thread nD τ).loc main_arg0)) (m ((c : Thread nD τ).loc main_arg1)) (m ((c : Thread nD τ).loc main_arg2)) (m ((c : Thread nD τ).loc main_arg3)) (m ((c : Thread nD τ).loc main_arg4)) ⟨t.val * 544 + k.val, by have := (idx t).2.2.2.2.2.2.2.2.2.2; omega⟩ (i 1) := by
  pointwise [k0_pay2, k0_pay6]
  refine Fin.sum_fin_congr fun k => ?_
  unfold term
  refine Ideal.mul_congr (hD _ _ rfl rfl) ?_
  blk_point [iblk, V, idx t]

end Rows

/-- The first output array after the run. -/
theorem final7 (c : Dev nD) : (dats m 0 c).arrAt 7 (cfgs 0).N
    = dh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  obtain ⟨v0, v1, v3, v4, v7, v8, hD, h7, h8, hA, hB⟩ := point m c t
  rw [after0_7, h7]
  refine rows c t v0 v1 v3 v4 v7 v8 hD _ _ ?_ ?_ <;> blk_simp [idx t]

/-- The second output array after the run. -/
theorem final8 (c : Dev nD) : (dats m 0 c).arrAt 8 (cfgs 0).N
    = dhb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  obtain ⟨v0, v1, v3, v4, v7, v8, hD, h7, h8, hA, hB⟩ := point m c t
  rw [after0_8, h8]
  refine (rows c t v0 v1 v3 v4 v7 v8 hD _ _ ?_ ?_ :) <;> blk_simp [idx t]

/-- The third output array after the run. -/
theorem final9 (c : Dev nD) : (dats m 0 c).arrAt 9 (cfgs 0).N = dg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 9 t0_7 (by decide +kernel) _ fun j => ?_
  blk_simp
  rw [after0_9, Pipeline.eq_sum_fin_of_reset_step_apply_last (fun n h => (outsAt0 m c n h).2.2) 8 (fun _ => (0 : EReal))
    (fun t i => ∑ k : Fin 544, term (m ((c : Thread nD τ).loc main_arg0)) (m ((c : Thread nD τ).loc main_arg1)) (m ((c : Thread nD τ).loc main_arg2)) (m ((c : Thread nD τ).loc main_arg3)) (m ((c : Thread nD τ).loc main_arg4)) ⟨t.val * 544 + k.val, by have := (idx t).2.2.2.2.2.2.2.2.2.2; omega⟩ (i 1))
    (fun t h j => by
      obtain ⟨v0, v1, v3, v4, v7, v8, hD, h7, h8, hA, hB⟩ := point m c t
      rw [hA h, part c t v0 v1 v3 v4 v7 v8 hD, zero_add])
    (fun t h j => by
      obtain ⟨v0, v1, v3, v4, v7, v8, hD, h7, h8, hA, hB⟩ := point m c t
      rw [hB h, ← part c t v0 v1 v3 v4 v7 v8 hD]
      pointwise [k0_pay4])
    (le_of_eq N_0) t0_7 rfl j, zero_add]
  pointwise [dg, ms]
  refine Fin.sum_mul_add_congr fun t k hl => ?_
  unfold term
  exact mul_comm (_ : EReal) _

end Final

end Cert.ProjX

end
-- ==== Proof.ProjQkvW.lean ====
module

public import proofs.«01_k».proof.Proof.Gen.ProjQkvWIdeal.Value
public import proofs.«01_k».proof.Proof.Gen.ProjQkvWReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gradient of the projection's query, key and value weights, the product of the normalised rows and of the gradients of the three. -/

namespace Cert.ProjQkvW

section Terms
open Cert.ProjQkvWReferenceIdeal Cert.ProjQkvWReferenceIdeal.Gen

/-- The gradient of the weights. -/
def dw (x : FVec Ideal S4352x1024 .bf16) (dy : FVec Ideal S4352x2304 .bf16) : FVec Ideal S1024x2304 .bf16 :=
  truncf .bf16 (transpose S1024x2304 [1, 0] (Host.dotGeneral dot_S4352x2304_S4352x1024_S2304x1024_0_0_1_1_n_n none (extf .f32 dy bitsLt_bf16_f32)
    (extf .f32 x bitsLt_bf16_f32)) transposes_S2304x1024_S1024x2304_1_0) bitsLt_bf16_f32

end Terms

section Final
open Cert.ProjQkvWIdeal Cert.ProjQkvWIdeal.Gen

variable (m : (ℓ : Loc nD τ sig) → Buf (Elt Ideal) ℓ)

/-- The windows' block indices at a grid point. -/
theorem idx : ∀ t : Fin cfg0.N, win0_0.index t = ![0, t.val % 2] ∧ win0_1.index t = ![0, t.val / 2] ∧ win0_2.index t = ![t.val % 2, t.val / 2] ∧ t.val < 6 :=
  (by decide +kernel : ∀ t : Fin grid0.N, _)

/-- The output array after the run. -/
theorem final2 (c : Dev nD) : (dats m 0 c).arrAt 2 (cfgs 0).N = dw (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dw]
  refine Fin.sum_fin_congr fun k => (mul_comm (_ : EReal) _).trans ?_
  blk_point [iblk, V, idx t]

end Final

end Cert.ProjQkvW

end
-- ==== Proof.ProjGatesW.lean ====
module

public import proofs.«01_k».proof.Proof.Gen.ProjGatesWIdeal.Value
public import proofs.«01_k».proof.Proof.Gen.ProjGatesWReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gradient of the projection's gate weights. -/

namespace Cert.ProjGatesW

section Terms
open Cert.ProjGatesWReferenceIdeal Cert.ProjGatesWReferenceIdeal.Gen

/-- The gradient of the weights. -/
def dw (x : FVec Ideal S4352x1024 .bf16) (dy : FVec Ideal S4352x2048 .bf16) : FVec Ideal S1024x2048 .bf16 :=
  truncf .bf16 (transpose S1024x2048 [1, 0] (Host.dotGeneral dot_S4352x2048_S4352x1024_S2048x1024_0_0_1_1_n_n none (extf .f32 dy bitsLt_bf16_f32)
    (extf .f32 x bitsLt_bf16_f32)) transposes_S2048x1024_S1024x2048_1_0) bitsLt_bf16_f32

end Terms

section Final
open Cert.ProjGatesWIdeal Cert.ProjGatesWIdeal.Gen

variable (m : (ℓ : Loc nD τ sig) → Buf (Elt Ideal) ℓ)

/-- The windows' block indices at a grid point. -/
theorem idx : ∀ t : Fin cfg0.N, win0_0.index t = ![0, t.val / 4] ∧ win0_1.index t = ![0, t.val % 4] ∧ win0_2.index t = ![t.val / 4, t.val % 4] ∧ t.val < 8 :=
  (by decide +kernel : ∀ t : Fin grid0.N, _)

/-- The output array after the run. -/
theorem final2 (c : Dev nD) : (dats m 0 c).arrAt 2 (cfgs 0).N = dw (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dw]
  refine Fin.sum_fin_congr fun k => (mul_comm (_ : EReal) _).trans ?_
  blk_point [iblk, V, idx t]

end Final

end Cert.ProjGatesW

end
-- ==== Proof.ProjFW.lean ====
module

public import proofs.«01_k».proof.Proof.Gen.ProjFWIdeal.Value
public import proofs.«01_k».proof.Proof.Gen.ProjFWReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gradient of the projection's forget-gate weights. -/

namespace Cert.ProjFW

section Terms
open Cert.ProjFWReferenceIdeal Cert.ProjFWReferenceIdeal.Gen

/-- The gradient of the weights. -/
def dw (x : FVec Ideal S4352x1024 .bf16) (dy : FVec Ideal S4352x128 .bf16) : FVec Ideal S1024x128 .bf16 :=
  truncf .bf16 (transpose S1024x128 [1, 0] (Host.dotGeneral dot_S4352x128_S4352x1024_S128x1024_0_0_1_1_n_n none (extf .f32 dy bitsLt_bf16_f32)
    (extf .f32 x bitsLt_bf16_f32)) transposes_S128x1024_S1024x128_1_0) bitsLt_bf16_f32

end Terms

section Final
open Cert.ProjFWIdeal Cert.ProjFWIdeal.Gen

variable (m : (ℓ : Loc nD τ sig) → Buf (Elt Ideal) ℓ)

/-- The windows' block indices at a grid point. -/
theorem idx : ∀ t : Fin cfg0.N, win0_0.index t = ![0, t.val] ∧ win0_1.index t = ![0, 0] ∧ win0_2.index t = ![t.val, 0] ∧ t.val < 2 :=
  (by decide +kernel : ∀ t : Fin grid0.N, _)

/-- The output array after the run. -/
theorem final2 (c : Dev nD) : (dats m 0 c).arrAt 2 (cfgs 0).N = dw (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dw]
  refine Fin.sum_fin_congr fun k => (mul_comm (_ : EReal) _).trans ?_
  blk_point [iblk, V, idx t]

end Final

end Cert.ProjFW

end
-- ==== Proof.MixOutW.lean ====
module

public import proofs.«01_k».proof.Proof.Gen.MixOutWIdeal.Value
public import proofs.«01_k».proof.Proof.Gen.MixOutWReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gradient of the output projection's weights, over the mixed rows and the gradient of the output. -/

namespace Cert.MixOutW

section Terms
open Cert.MixOutWReferenceIdeal Cert.MixOutWReferenceIdeal.Gen

/-- The gradient of the weights. -/
def dw (x : FVec Ideal S4352x1024 .bf16) (dy : FVec Ideal S4352x1024 .bf16) : FVec Ideal S1024x1024 .bf16 :=
  truncf .bf16 (transpose S1024x1024 [1, 0] (Host.dotGeneral dot_S4352x1024_S4352x1024_S1024x1024_0_0_1_1_n_n none (extf .f32 dy bitsLt_bf16_f32)
    (extf .f32 x bitsLt_bf16_f32)) transposes_S1024x1024_S1024x1024_1_0) bitsLt_bf16_f32

end Terms

section Final
open Cert.MixOutWIdeal Cert.MixOutWIdeal.Gen

variable (m : (ℓ : Loc nD τ sig) → Buf (Elt Ideal) ℓ)

/-- The windows' block indices at a grid point. -/
theorem idx : ∀ t : Fin cfg0.N, win0_0.index t = ![0, t.val] ∧ win0_1.index t = ![0, 0] ∧ win0_2.index t = ![t.val, 0] ∧ t.val < 2 :=
  (by decide +kernel : ∀ t : Fin grid0.N, _)

/-- The output array after the run. -/
theorem final2 (c : Dev nD) : (dats m 0 c).arrAt 2 (cfgs 0).N = dw (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dw]
  refine Fin.sum_fin_congr fun k => (mul_comm (_ : EReal) _).trans ?_
  blk_point [iblk, V, idx t]

end Final

end Cert.MixOutW

end
-- ==== Proof.BranchX.lean ====
module

public import proofs.«01_k».proof.Proof.Gen.BranchXIdeal.Value
public import proofs.«01_k».proof.Proof.Gen.BranchXReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gradients of the two branches' outputs: each is the gradient of the branch's product against its weights. -/

namespace Cert.BranchX

section Terms
open Cert.BranchXReferenceIdeal Cert.BranchXReferenceIdeal.Gen

/-- The gradient of the first branch's output. -/
def da (dy : FVec Ideal S4352x1024 .bf16) (w : FVec Ideal S512x1024 .bf16) : FVec Ideal S4352x512 .f32 :=
  Host.dotGeneral dot_S4352x1024_S512x1024_S4352x512_1_1_0_0_n_n none (extf .f32 dy bitsLt_bf16_f32) (extf .f32 w bitsLt_bf16_f32)

/-- The gradient of the second branch's output. -/
def db (dy : FVec Ideal S4352x1024 .bf16) (w : FVec Ideal S512x1024 .bf16) : FVec Ideal S4352x512 .bf16 :=
  truncf .bf16 (da dy w) bitsLt_bf16_f32

end Terms

section Final
open Cert.BranchXIdeal Cert.BranchXIdeal.Gen

variable (m : (ℓ : Loc nD τ sig) → Buf (Elt Ideal) ℓ)

/-- The windows' block indices at a grid point. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0]
    ∧ t.val < 4 :=
  (by decide +kernel : ∀ t : Fin grid0.N, _)

/-- The first output array after the run. -/
theorem final4 (c : Dev nD) : (dats m 0 c).arrAt 4 (cfgs 0).N = da (m ((c : Thread nD τ).loc main_arg0)) (m ((c : Thread nD τ).loc main_arg2)) := by
  refine (dats m 0 c).arrAt_eq_of_covers 4 _ (by decide +kernel) fun t _ y => ?_
  blk_simp
  rw [after0_4]; frame_out
  pointwise [k0_pay1, da]
  blk_point [iblk, V, idx t]

/-- The second output array after the run. -/
theorem final5 (c : Dev nD) : (dats m 0 c).arrAt 5 (cfgs 0).N = db (m ((c : Thread nD τ).loc main_arg1)) (m ((c : Thread nD τ).loc main_arg3)) := by
  refine (dats m 0 c).arrAt_eq_of_covers 5 _ (by decide +kernel) fun t _ y => ?_
  blk_simp
  rw [after0_5]; frame_out
  pointwise [k0_pay2, db, da]
  blk_point [iblk, V, idx t]

end Final

end Cert.BranchX

end
-- ==== Proof.BranchW.lean ====
module

public import proofs.«01_k».proof.Proof.Gen.BranchWIdeal.Value
public import proofs.«01_k».proof.Proof.Gen.BranchWReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gradients of the two branches' output weights. -/

namespace Cert.BranchW

section Terms
open Cert.BranchWReferenceIdeal Cert.BranchWReferenceIdeal.Gen

/-- The gradient of a branch's weights. -/
def dw (o : FVec Ideal S4352x512 .bf16) (dy : FVec Ideal S4352x1024 .bf16) : FVec Ideal S512x1024 .bf16 :=
  truncf .bf16 (transpose S512x1024 [1, 0] (Host.dotGeneral dot_S4352x1024_S4352x512_S1024x512_0_0_1_1_n_n none (extf .f32 dy bitsLt_bf16_f32)
    (extf .f32 o bitsLt_bf16_f32)) transposes_S1024x512_S512x1024_1_0) bitsLt_bf16_f32

end Terms

section Final
open Cert.BranchWIdeal Cert.BranchWIdeal.Gen

variable (m : (ℓ : Loc nD τ sig) → Buf (Elt Ideal) ℓ)

/-- The windows' block indices at a grid point. -/
theorem idx : ∀ t : Fin cfg0.N, win0_0.index t = ![0, 0] ∧ win0_1.index t = ![0, 0] ∧ win0_2.index t = ![0, t.val] ∧ win0_3.index t = ![0, t.val]
    ∧ win0_4.index t = ![0, t.val] ∧ win0_5.index t = ![0, t.val] ∧ t.val < 2 :=
  (by decide +kernel : ∀ t : Fin grid0.N, _)

/-- The first output array after the run. -/
theorem final4 (c : Dev nD) : (dats m 0 c).arrAt 4 (cfgs 0).N = dw (m ((c : Thread nD τ).loc main_arg0)) (m ((c : Thread nD τ).loc main_arg2)) := by
  refine (dats m 0 c).arrAt_eq_of_covers 4 _ (by decide +kernel) fun t _ y => ?_
  blk_simp
  rw [after0_4]; frame_out
  pointwise [k0_pay1, dw]
  refine Fin.sum_fin_congr fun k => (mul_comm (_ : EReal) _).trans ?_
  blk_point [iblk, V, idx t]

/-- The second output array after the run. -/
theorem final5 (c : Dev nD) : (dats m 0 c).arrAt 5 (cfgs 0).N = dw (m ((c : Thread nD τ).loc main_arg1)) (m ((c : Thread nD τ).loc main_arg3)) := by
  refine (dats m 0 c).arrAt_eq_of_covers 5 _ (by decide +kernel) fun t _ y => ?_
  blk_simp
  rw [after0_5]; frame_out
  pointwise [k0_pay2, dw]
  refine Fin.sum_fin_congr fun k => (mul_comm (_ : EReal) _).trans ?_
  blk_point [iblk, V, idx t]

end Final

end Cert.BranchW

end
-- ==== Proof.FfnIn.lean ====
module

public import proofs.«01_k».proof.Proof.Gen.FfnInIdeal.Value
public import proofs.«01_k».proof.Proof.Gen.FfnInReferenceIdeal.Run
public import Idealize.ShloMosaic.Lib.Pipeline.ValueKit
public import Idealize.ShloMosaic.Lib.Pointwise
public import Idealize.ShloMosaic.Lib.Claim
public import proofs.«01_k».proof.Proof.Reals
public import proofs.«01_k».proof.Pre_finite_in

@[expose] public section

set_option maxRecDepth 16384

noncomputable section

open Idealize.ShloMosaic Idealize.ShloMosaic.TcCoe Idealize.SL.Sem
open Idealize.ShloMosaic.Pipeline (Dat)

/-! The feed-forward layer's first product: the activation, and the two factors its gradient is multiplied by. -/

namespace Cert.FfnIn

section Terms
open Cert.FfnInReferenceIdeal Cert.FfnInReferenceIdeal.Gen

/-- The gate's product. -/
def g (x : FVec Ideal S4352x1024 .bf16) (w : FVec Ideal S2x4x1024x768 .bf16) : FVec Ideal S4352x3072 .f32 :=
  Host.dotGeneral dot_S4352x1024_S1024x3072_S4352x3072_1_0_0_1_n_n none (extf .f32 x bitsLt_bf16_f32) (shapeCast _ (transpose S1024x4x768 [1, 0, 2] (extf .f32 (shapeCast _ (extractStridedSlice S1x4x1024x768 ![0, 0, 0, 0] w slices_S2x4x1024x768_S1x4x1024x768_0_0_0_0) shapeCasts_S1x4x1024x768_S4x1024x768) bitsLt_bf16_f32) transposes_S4x1024x768_S1024x4x768_1_0_2) shapeCasts_S1024x4x768_S1024x3072)

/-- The up product. -/
def u (x : FVec Ideal S4352x1024 .bf16) (w : FVec Ideal S2x4x1024x768 .bf16) : FVec Ideal S4352x3072 .f32 :=
  Host.dotGeneral dot_S4352x1024_S1024x3072_S4352x3072_1_0_0_1_n_n none (extf .f32 x bitsLt_bf16_f32) (shapeCast _ (transpose S1024x4x768 [1, 0, 2] (extf .f32 (shapeCast _ (extractStridedSlice S1x4x1024x768 ![1, 0, 0, 0] w slices_S2x4x1024x768_S1x4x1024x768_1_0_0_0) shapeCasts_S1x4x1024x768_S4x1024x768) bitsLt_bf16_f32) transposes_S4x1024x768_S1024x4x768_1_0_2) shapeCasts_S1024x4x768_S1024x3072)

/-- The array of ones. -/
def one : FVec Ideal S4352x3072 .f32 := broadcastInDim S4352x3072 ![] bcast_S_S4352x3072 (constant S_ .f32 0x3F800000#32)

/-- Half the gradient's unit. -/
def half : FVec Ideal S4352x3072 .f32 := mulf (broadcastInDim S4352x3072 ![] bcast_S_S4352x3072 (constant S_ .f32 0x3F000000#32)) one

/-- The gate's logistic. -/
def s (v : FVec Ideal S4352x3072 .f32) : FVec Ideal S4352x3072 .f32 := Host.divf one (addf one (Host.exp (Host.negf v)))

/-- The activation of a gate and an up product. -/
def act (v z : FVec Ideal S4352x3072 .f32) : FVec Ideal S4352x3072 .bf16 := truncf .bf16 (mulf (mulf v (s v)) z) bitsLt_bf16_f32

/-- The halved activation's derivatives by the gate and by the up product. -/
def factors (v z : FVec Ideal S4352x3072 .f32) : FVec Ideal S2x4352x3072 .bf16 :=
  truncf .bf16 (concatenate S2x4352x3072 0
    [⟨S1x4352x3072, broadcastInDim S1x4352x3072 ![1, 2] bcast_S4352x3072_S1x4352x3072_1_2
      (addf (mulf (mulf half z) (s v)) (mulf (mulf v (mulf half z)) (mulf (s v) (subf one (s v)))))⟩,
     ⟨S1x4352x3072, broadcastInDim S1x4352x3072 ![1, 2] bcast_S4352x3072_S1x4352x3072_1_2 (mulf (mulf v (s v)) half)⟩]
    concatenates_S1x4352x3072_S1x4352x3072_S2x4352x3072_d0) bitsLt_bf16_f32

/-- The derivative by the gate, in the kernel's order, where the up product is real. -/
theorem factors_gate (v z : FVec Ideal S4352x3072 .f32) (i : Fin 4352) (j : Fin 3072) (hz : ∃ r : ℝ, z (ix2 i j) = (r : EReal)) :
    factors v z (ix3 0 i j) = Ideal.ofBits .f32 0x3F000000#32 * z (ix2 i j) * (Ideal.logistic (v (ix2 i j))
      + v (ix2 i j) * Ideal.logistic (v (ix2 i j)) * (1 - Ideal.logistic (v (ix2 i j)))) := by
  rw [Cert.Reals.half]
  refine Eq.trans ?_ (Cert.Reals.silu_grad (Cert.Reals.mul_real ⟨_, rfl⟩ hz) _).symm
  pointwise [factors, s, one, half, Ideal.logistic]
  rw [Cert.Reals.half]

/-- The derivative by the up product, in the kernel's order. -/
theorem factors_up (v z : FVec Ideal S4352x3072 .f32) (i : Fin 4352) (j : Fin 3072) :
    factors v z (ix3 1 i j) = Ideal.ofBits .f32 0x3F000000#32 * (v (ix2 i j) * Ideal.logistic (v (ix2 i j))) := by
  refine Eq.trans ?_ (mul_comm (_ : EReal) _)
  pointwise [factors, s, one, half, Ideal.logistic]

end Terms

section Pre
variable [Cert.Pre_finite_in.Facts]

/-- Under the precondition the up product is real. -/
theorem u_real {x : FVec Ideal ⟨2, ![4352, 1024]⟩ .bf16} {w : FVec Ideal ⟨4, ![2, 4, 1024, 768]⟩ .bf16}
    (h : (Cert.Pre_finite_in.fn (F := Ideal) x w).1 = fun _ => 1#1) (h' : (Cert.Pre_finite_in.fn (F := Ideal) x w).2 = fun _ => 1#1)
    (i : Fin 4352) (j : Fin 3072) : ∃ r : ℝ, u x w (ix2 i j) = (r : EReal) := by
  pointwise [u]
  exact Cert.Reals.sum_real _ fun k => Cert.Reals.mul_real (Cert.Reals.real_of_abs_lt (congrFun h (ix2 i k))) (Cert.Reals.real_of_abs_lt (congrFun h' _))

end Pre

section Final
open Cert.FfnInIdeal Cert.FfnInIdeal.Gen

variable (m : (ℓ : Loc nD τ sig) → Buf (Elt Ideal) ℓ)

/-- The windows' block indices at a grid point. -/
theorem idx : ∀ t : Fin cfg0.N, win0_0.index t = ![t.val / 4, 0] ∧ win0_1.index t = ![0, t.val % 4, 0, 0]
    ∧ win0_2.index t = ![0, t.val / 4, t.val % 4] ∧ win0_3.index t = ![t.val / 4, t.val % 4] ∧ t.val < 16 :=
  (by decide +kernel : ∀ t : Fin grid0.N, _)

set_option maxHeartbeats 2000000 in
/-- The first output array after the run. -/
theorem final2 (c : Dev nD) (f : ∀ i j, ∃ r : ℝ, u (m ((c : Thread nD τ).loc main_arg0)) (m ((c : Thread nD τ).loc main_arg1)) (ix2 i j) = (r : EReal)) :
    (dats m 0 c).arrAt 2 (cfgs 0).N = factors (g (m ((c : Thread nD τ).loc main_arg0)) (m ((c : Thread nD τ).loc main_arg1))) (u (m ((c : Thread nD τ).loc main_arg0)) (m ((c : Thread nD τ).loc main_arg1))) := by
  refine (dats m 0 c).arrAt_eq_of_covers 2 _ (by decide +kernel) fun t _ y => ?_
  blk_simp
  rw [after0_2]
  canon_tiles x h
  all_goals
    have ht := idx t
    have hi : 1088 * (t.val / 4) + (x 1).val < 4352 := by omega
    have hj : 768 * (t.val % 4) + (x 2).val < 3072 := by omega
    open_payloads
  · refine Eq.trans ?_ ((factors_up (g (m ((c : Thread nD τ).loc main_arg0)) (m ((c : Thread nD τ).loc main_arg1))) (u (m ((c : Thread nD τ).loc main_arg0)) (m ((c : Thread nD τ).loc main_arg1))) ⟨_, hi⟩ ⟨_, hj⟩).symm.trans ?_)
    · pointwise [g]
      blk_point [iblk, V, idx t]
    · generalize factors _ _ = f
      blk_point [idx t]
  · refine Eq.trans ?_ ((factors_gate (g (m ((c : Thread nD τ).loc main_arg0)) (m ((c : Thread nD τ).loc main_arg1))) (u (m ((c : Thread nD τ).loc main_arg0)) (m ((c : Thread nD τ).loc main_arg1))) ⟨_, hi⟩ ⟨_, hj⟩ (f _ _)).symm.trans ?_)
    · pointwise [g, u]
      blk_point [iblk, V, idx t]
    · generalize factors _ _ = f
      blk_point [idx t]

/-- The second output array after the run. -/
theorem final3 (c : Dev nD) : (dats m 0 c).arrAt 3 (cfgs 0).N = act (g (m ((c : Thread nD τ).loc main_arg0)) (m ((c : Thread nD τ).loc main_arg1))) (u (m ((c : Thread nD τ).loc main_arg0)) (m ((c : Thread nD τ).loc main_arg1))) := by
  refine (dats m 0 c).arrAt_eq_of_covers 3 _ (by decide +kernel) fun t _ y => ?_
  blk_simp
  rw [after0_3]; frame_out
  pointwise [k0_pay5, k0_pay4, k0_pay3, k0_pay2, k0_pay1, act, s, one, g, u, Ideal.logistic]
  blk_point [iblk, V, idx t]

end Final

end Cert.FfnIn

end
-- ==== Proof.FfnOut.lean ====
module

public import proofs.«01_k».proof.Proof.Gen.FfnOutIdeal.Value
public import proofs.«01_k».proof.Proof.Gen.FfnOutReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The feed-forward layer's second product: half of it is added to the rows, which are then normalised. -/

namespace Cert.FfnOut

section Terms
open Cert.FfnOutReferenceIdeal Cert.FfnOutReferenceIdeal.Gen

/-- The rows with the product added. -/
def h (x : FVec Ideal S4352x3072 .bf16) (w : FVec Ideal S3072x1024 .bf16) (res : FVec Ideal S4352x1024 .f32) : FVec Ideal S4352x1024 .f32 :=
  addf res (mulf (broadcastInDim S4352x1024 ![] bcast_S_S4352x1024 (constant S_ .f32 0x3F000000#32)) (Host.dotGeneral dot_S4352x3072_S3072x1024_S4352x1024_1_0_0_1_n_n none (extf .f32 x bitsLt_bf16_f32) (extf .f32 w bitsLt_bf16_f32)))

/-- The rows' mean square, plus the norm's constant. -/
def ms (r : FVec Ideal S4352x1024 .f32) : FVec Ideal S4352x1 .f32 :=
  addf (Host.divf (broadcastInDim S4352x1 ![0] bcast_S4352_S4352x1_0 (Host.reduceAdd (mulf r r) (constant S_ .f32 0x00000000#32) reducesTo_S4352x1024_S4352_d1 h_S_)) (broadcastInDim S4352x1 ![] bcast_S_S4352x1 (constant S_ .f32 0x44800000#32)))
    (broadcastInDim S4352x1 ![] bcast_S_S4352x1 (constant S_ .f32 0x358637BD#32))

/-- The normalised rows. -/
def norm (r : FVec Ideal S4352x1024 .f32) (g : FVec Ideal S1x1024 .f32) : FVec Ideal S4352x1024 .bf16 :=
  truncf .bf16 (mulf (mulf r (broadcastInDim S4352x1024 ![0, 1] bcast_S4352x1_S4352x1024_0_1 (Host.rsqrt (ms r)))) (broadcastInDim S4352x1024 ![0, 1] bcast_S1x1024_S4352x1024_0_1 g)) bitsLt_bf16_f32

end Terms

section Final
open Cert.FfnOutIdeal Cert.FfnOutIdeal.Gen

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0]
    ∧ t.val < 8 :=
  (by decide +kernel : ∀ t : Fin grid0.N, _)

/-- The rows a grid point computes. -/
theorem row (c : Dev nD) (t : Fin cfg0.N) (i : S544x1024.Idx) (j : Cert.FfnOutReferenceIdeal.S4352x1024.Idx) (h0 : (j 0 : ℕ) = t.val * 544 + i 0)
    (h1 : (j 1 : ℕ) = i 1) : k0_pay1 (iblk m c 0 t) (iblk m c 1 t) (iblk m c 2 t) i = h (m ((c : Thread nD τ).loc main_arg0)) (m ((c : Thread nD τ).loc main_arg1)) (m ((c : Thread nD τ).loc main_arg2)) j := by
  pointwise [k0_pay1, h]
  refine (add_comm (_ : EReal) _).trans ?_
  refine congrArg₂ (fun a b : EReal => a + b) ?_ ((mul_comm (_ : EReal) _).trans ?_)
  all_goals blk_point [iblk, V, idx t]

/-- The first output array after the run. -/
theorem final4 (c : Dev nD) : (dats m 0 c).arrAt 4 (cfgs 0).N = h (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  refine row m c t _ _ ?_ ?_ <;> blk_simp [idx t]

/-- The second output array after the run. -/
theorem final5 (c : Dev nD) : (dats m 0 c).arrAt 5 (cfgs 0).N = norm (h (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t _ y => ?_
  blk_simp
  rw [after0_5]; frame_out
  unfold k0_pay2
  have hD := row m c t
  generalize k0_pay1 (iblk m c 0 t) (iblk m c 1 t) (iblk m c 2 t) = D at hD ⊢
  generalize h (m ((c : Thread nD τ).loc main_arg0)) (m ((c : Thread nD τ).loc main_arg1)) (m ((c : Thread nD τ).loc main_arg2)) = H at hD ⊢
  pointwise [norm, ms]
  refine Ideal.mul_congr (Ideal.mul_congr (hD _ _ ?_ ?_) (congrArg (fun s => Ideal.rsqrt (Ideal.div s _ + _))
    (Fin.sum_fin_congr fun k => Ideal.mul_congr (hD _ _ ?_ rfl) (hD _ _ ?_ rfl)))) ?_
  all_goals blk_point [iblk, V, idx t]

end Final

end Cert.FfnOut

end
-- ==== Proof.MixOut.lean ====
module

public import proofs.«01_k».proof.Proof.Gen.MixOutIdeal.Value
public import proofs.«01_k».proof.Proof.Gen.MixOutReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The output projection: the product is added to the rows, which are then normalised. -/

namespace Cert.MixOut

section Terms
open Cert.MixOutReferenceIdeal Cert.MixOutReferenceIdeal.Gen

/-- The rows with the product added. -/
def h (x : FVec Ideal S4352x1024 .bf16) (w : FVec Ideal S1024x1024 .bf16) (res : FVec Ideal S4352x1024 .f32) : FVec Ideal S4352x1024 .f32 :=
  addf res (Host.dotGeneral dot_S4352x1024_S1024x1024_S4352x1024_1_0_0_1_n_n none (extf .f32 x bitsLt_bf16_f32) (extf .f32 w bitsLt_bf16_f32))

/-- The rows' mean square, plus the norm's constant. -/
def ms (r : FVec Ideal S4352x1024 .f32) : FVec Ideal S4352x1 .f32 :=
  addf (Host.divf (broadcastInDim S4352x1 ![0] bcast_S4352_S4352x1_0 (Host.reduceAdd (mulf r r) (constant S_ .f32 0x00000000#32) reducesTo_S4352x1024_S4352_d1 h_S_)) (broadcastInDim S4352x1 ![] bcast_S_S4352x1 (constant S_ .f32 0x44800000#32)))
    (broadcastInDim S4352x1 ![] bcast_S_S4352x1 (constant S_ .f32 0x358637BD#32))

/-- The normalised rows. -/
def norm (r : FVec Ideal S4352x1024 .f32) (g : FVec Ideal S1x1024 .f32) : FVec Ideal S4352x1024 .bf16 :=
  truncf .bf16 (mulf (mulf r (broadcastInDim S4352x1024 ![0, 1] bcast_S4352x1_S4352x1024_0_1 (Host.rsqrt (ms r)))) (broadcastInDim S4352x1024 ![0, 1] bcast_S1x1024_S4352x1024_0_1 g)) bitsLt_bf16_f32

end Terms

section Final
open Cert.MixOutIdeal Cert.MixOutIdeal.Gen

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0]
    ∧ t.val < 8 :=
  (by decide +kernel : ∀ t : Fin grid0.N, _)

/-- The rows a grid point computes. -/
theorem row (c : Dev nD) (t : Fin cfg0.N) (i : S544x1024.Idx) (j : Cert.MixOutReferenceIdeal.S4352x1024.Idx) (h0 : (j 0 : ℕ) = t.val * 544 + i 0)
    (h1 : (j 1 : ℕ) = i 1) : k0_pay1 (iblk m c 0 t) (iblk m c 1 t) (iblk m c 2 t) i = h (m ((c : Thread nD τ).loc main_arg0)) (m ((c : Thread nD τ).loc main_arg1)) (m ((c : Thread nD τ).loc main_arg2)) j := by
  pointwise [k0_pay1, h]
  refine (add_comm (_ : EReal) _).trans ?_
  blk_point [iblk, V, idx t]

/-- The first output array after the run. -/
theorem final4 (c : Dev nD) : (dats m 0 c).arrAt 4 (cfgs 0).N = h (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  refine row m c t _ _ ?_ ?_ <;> blk_simp [idx t]

/-- The second output array after the run. -/
theorem final5 (c : Dev nD) : (dats m 0 c).arrAt 5 (cfgs 0).N = norm (h (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t _ y => ?_
  blk_simp
  rw [after0_5]; frame_out
  unfold k0_pay2
  have hD := row m c t
  generalize k0_pay1 (iblk m c 0 t) (iblk m c 1 t) (iblk m c 2 t) = D at hD ⊢
  generalize h (m ((c : Thread nD τ).loc main_arg0)) (m ((c : Thread nD τ).loc main_arg1)) (m ((c : Thread nD τ).loc main_arg2)) = H at hD ⊢
  pointwise [norm, ms]
  refine Ideal.mul_congr (Ideal.mul_congr (hD _ _ ?_ ?_) (congrArg (fun s => Ideal.rsqrt (Ideal.div s _ + _))
    (Fin.sum_fin_congr fun k => Ideal.mul_congr (hD _ _ ?_ rfl) (hD _ _ ?_ rfl)))) ?_
  all_goals blk_point [iblk, V, idx t]

end Final

end Cert.MixOut

end
-- ==== Proof.Proj.lean ====
module

public import proofs.«01_k».proof.Proof.Gen.ProjIdeal.Value
public import proofs.«01_k».proof.Proof.Gen.ProjReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The projections of the normalised rows: queries, keys and values, gates, and forget gates, which are columns of one product. -/

namespace Cert.Proj

section Terms
open Cert.ProjReferenceIdeal Cert.ProjReferenceIdeal.Gen

/-- The product of the rows with the projection's weights. -/
def xw (x : FVec Ideal S4352x1024 .bf16) (w : FVec Ideal S1024x6272 .bf16) : FVec Ideal S4352x6272 .f32 :=
  Host.dotGeneral dot_S4352x1024_S1024x6272_S4352x6272_1_0_0_1_n_n none (extf .f32 x bitsLt_bf16_f32) (extf .f32 w bitsLt_bf16_f32)

/-- The queries, keys and values. -/
def qkv (x : FVec Ideal S4352x1024 .bf16) (w : FVec Ideal S1024x6272 .bf16) : FVec Ideal S4352x2304 .bf16 :=
  truncf .bf16 (extractStridedSlice S4352x2304 ![0, 0] (xw x w) slices_S4352x6272_S4352x2304_0_0) bitsLt_bf16_f32

/-- The branches' gates, before the logistic function. -/
def gates (x : FVec Ideal S4352x1024 .bf16) (w : FVec Ideal S1024x6272 .bf16) : FVec Ideal S4352x2048 .bf16 :=
  truncf .bf16 (extractStridedSlice S4352x2048 ![0, 4096] (xw x w) slices_S4352x6272_S4352x2048_0_4096) bitsLt_bf16_f32

/-- The forget gates, before the logistic function. -/
def fgate (x : FVec Ideal S4352x1024 .bf16) (w : FVec Ideal S1024x6272 .bf16) : FVec Ideal S4352x128 .f32 :=
  extractStridedSlice S4352x128 ![0, 6144] (xw x w) slices_S4352x6272_S4352x128_0_6144

end Terms

section Final
open Cert.ProjIdeal Cert.ProjIdeal.Gen

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0]
    ∧ t.val < 8 :=
  (by decide +kernel : ∀ t : Fin grid0.N, _)

/-- The first output array after the run. -/
theorem final2 (c : Dev nD) : (dats m 0 c).arrAt 2 (cfgs 0).N = qkv (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, qkv, xw]
  blk_point [iblk, V, idx t]

/-- The second output array after the run. -/
theorem final3 (c : Dev nD) : (dats m 0 c).arrAt 3 (cfgs 0).N = gates (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay2, gates, xw]
  blk_point [iblk, V, idx t]

/-- The third output array after the run. -/
theorem final4 (c : Dev nD) : (dats m 0 c).arrAt 4 (cfgs 0).N = fgate (m ((c : Thread nD τ).loc main_arg0)) (m ((c : Thread nD τ).loc main_arg1)) := by
  refine (dats m 0 c).arrAt_eq_of_covers 4 _ (by decide +kernel) fun t _ y => ?_
  blk_simp
  rw [after0_4]; frame_out
  pointwise [k0_pay3, fgate, xw]
  blk_point [iblk, V, idx t]

end Final

end Cert.Proj

end
-- ==== Proof.Branch.lean ====
module

public import proofs.«01_k».proof.Proof.Gen.BranchIdeal.Value
public import proofs.«01_k».proof.Proof.Gen.BranchReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The gated sum of the two branches, each times its own weights. -/

namespace Cert.Branch

section Terms
open Cert.BranchReferenceIdeal Cert.BranchReferenceIdeal.Gen

/-- A branch's output times its weights. -/
def yo (o : FVec Ideal S4352x512 .bf16) (w : FVec Ideal S512x1024 .bf16) : FVec Ideal S4352x1024 .f32 :=
  Host.dotGeneral dot_S4352x512_S512x1024_S4352x1024_1_0_0_1_n_n none (extf .f32 o bitsLt_bf16_f32) (extf .f32 w bitsLt_bf16_f32)

/-- The same at half the width. -/
def yb (o : FVec Ideal S4352x512 .bf16) (w : FVec Ideal S512x1024 .bf16) : FVec Ideal S4352x1024 .bf16 :=
  truncf .bf16 (yo o w) bitsLt_bf16_f32

/-- The array of ones. -/
def one : FVec Ideal S4352x1024 .f32 := broadcastInDim S4352x1024 ![] bcast_S_S4352x1024 (constant S_ .f32 0x3F800000#32)

/-- The first branch's gate. -/
def sa (g : FVec Ideal S4352x2048 .bf16) : FVec Ideal S4352x1024 .f32 :=
  Host.divf one (addf one (Host.exp (Host.negf (extractStridedSlice S4352x1024 ![0, 0] (extf .f32 g bitsLt_bf16_f32) slices_S4352x2048_S4352x1024_0_0))))

/-- The second branch's gate. -/
def sb (g : FVec Ideal S4352x2048 .bf16) : FVec Ideal S4352x1024 .f32 :=
  Host.divf one (addf one (Host.exp (Host.negf (extractStridedSlice S4352x1024 ![0, 1024] (extf .f32 g bitsLt_bf16_f32) slices_S4352x2048_S4352x1024_0_1024))))

/-- The gated sum of the branches. -/
def mixed (oa ob : FVec Ideal S4352x512 .bf16) (wa wb : FVec Ideal S512x1024 .bf16) (g : FVec Ideal S4352x2048 .bf16) : FVec Ideal S4352x1024 .bf16 :=
  truncf .bf16 (addf (mulf (sa g) (yo oa wa)) (mulf (sb g) (yo ob wb))) bitsLt_bf16_f32

end Terms

section Final
open Cert.BranchIdeal Cert.BranchIdeal.Gen

variable (m : (ℓ : Loc nD τ sig) → Buf (Elt Ideal) ℓ)

/-- The windows' block indices at a grid point. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0]
    ∧ t.val < 8 :=
  (by decide +kernel : ∀ t : Fin grid0.N, _)

/-- The first output array after the run. -/
theorem final5 (c : Dev nD) : (dats m 0 c).arrAt 5 (cfgs 0).N = mixed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  pointwise [k0_pay3, k0_pay1, k0_pay2, mixed, sa, sb, one, yo, Ideal.logistic]
  blk_point [iblk, V, idx t]

/-- The second output array after the run. -/
theorem final6 (c : Dev nD) : (dats m 0 c).arrAt 6 (cfgs 0).N = yb (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay4, k0_pay1, yb, yo]
  blk_point [iblk, V, idx t]

/-- The third output array after the run. -/
theorem final7 (c : Dev nD) : (dats m 0 c).arrAt 7 (cfgs 0).N = yb (m ((c : Thread nD τ).loc main_arg1)) (m ((c : Thread nD τ).loc main_arg3)) := by
  refine (dats m 0 c).arrAt_eq_of_covers 7 _ (by decide +kernel) fun t _ y => ?_
  blk_simp
  rw [after0_7]; frame_out
  pointwise [k0_pay5, k0_pay2, yb, yo]
  blk_point [iblk, V, idx t]

end Final

end Cert.Branch

end
-- ==== Proof.FoxHost.lean ====
module

public import proofs.«01_k».proof.Proof.Gen.FoxXIdeal.Value
public import proofs.«01_k».proof.Proof.Gen.FoxXReferenceIdeal.Run
public import Idealize.ShloMosaic.Lib.Pipeline.ValueKit
public import Idealize.ShloMosaic.Lib.Pointwise
public import Idealize.ShloMosaic.Lib.Claim

@[expose] public section

set_option maxRecDepth 16384

/-! The arrays of the forgetting attention and of its gradient, as functions of the arguments. -/

noncomputable section

open Idealize.ShloMosaic Idealize.ShloMosaic.TcCoe Idealize.SL.Sem
open Idealize.ShloMosaic.Pipeline (Dat)

namespace Cert.FoxX

section Terms
open Cert.FoxXReferenceIdeal Cert.FoxXReferenceIdeal.Gen

variable (x : FVec Ideal S2x2176x1536 .bf16) (a : FVec Ideal S2x8x2176x1 .f32) (b : FVec Ideal S2x8x1x2176 .f32)
  (w : FVec Ideal S2x2176x512 .bf16)

/-- The queries' heads. -/
def hq : FVec Ideal S2x2176x8x64 .f32 :=
  shapeCast _ (extf .f32 (shapeCast S2x2176x4x128 (extractStridedSlice S2x2176x4x1x128 ![0, 0, 0, 0, 0]
    (shapeCast S2x2176x4x3x128 x shapeCasts_S2x2176x1536_S2x2176x4x3x128) slices_S2x2176x4x3x128_S2x2176x4x1x128_0_0_0_0_0)
    shapeCasts_S2x2176x4x1x128_S2x2176x4x128) bitsLt_bf16_f32) shapeCasts_S2x2176x4x128_S2x2176x8x64

/-- The keys' heads. -/
def hk : FVec Ideal S2x2176x8x64 .f32 :=
  shapeCast _ (extf .f32 (shapeCast S2x2176x4x128 (extractStridedSlice S2x2176x4x1x128 ![0, 0, 0, 1, 0]
    (shapeCast S2x2176x4x3x128 x shapeCasts_S2x2176x1536_S2x2176x4x3x128) slices_S2x2176x4x3x128_S2x2176x4x1x128_0_0_0_1_0)
    shapeCasts_S2x2176x4x1x128_S2x2176x4x128) bitsLt_bf16_f32) shapeCasts_S2x2176x4x128_S2x2176x8x64

/-- The values' heads. -/
def hv : FVec Ideal S2x2176x8x64 .f32 :=
  shapeCast _ (extf .f32 (shapeCast S2x2176x4x128 (extractStridedSlice S2x2176x4x1x128 ![0, 0, 0, 2, 0]
    (shapeCast S2x2176x4x3x128 x shapeCasts_S2x2176x1536_S2x2176x4x3x128) slices_S2x2176x4x3x128_S2x2176x4x1x128_0_0_0_2_0)
    shapeCasts_S2x2176x4x1x128_S2x2176x4x128) bitsLt_bf16_f32) shapeCasts_S2x2176x4x128_S2x2176x8x64

/-- Which key a query sees. -/
def mask : IVec S2x8x2176x2176 1 :=
  broadcastInDim S2x8x2176x2176 ![0, 1, 2, 3] bcast_S1x1x2176x2176_S2x8x2176x2176_0_1_2_3
    (broadcastInDim S1x1x2176x2176 ![2, 3] bcast_S2176x2176_S1x1x2176x2176_2_3
      (andi (cmpi .sle
          (broadcastInDim S2176x2176 ![0, 1] bcast_S1x2176_S2176x2176_0_1 (broadcastInDim S1x2176 ![1] bcast_S2176_S1x2176_1 (iotaInDim S2176 32 0)))
          (broadcastInDim S2176x2176 ![0, 1] bcast_S2176x1_S2176x2176_0_1 (broadcastInDim S2176x1 ![0] bcast_S2176_S2176x1_0 (iotaInDim S2176 32 0))))
        (broadcastInDim S2176x2176 ![0, 1] bcast_S1x2176_S2176x2176_0_1
          (cmpi .sge (broadcastInDim S1x2176 ![1] bcast_S2176_S1x2176_1 (iotaInDim S2176 32 0))
            (broadcastInDim S1x2176 ![] bcast_S_S1x2176 (constantI S_ 32 112#32))))))

/-- The scores, −∞ where the key isn't seen. -/
def sc : FVec Ideal S2x8x2176x2176 .f32 :=
  select mask
    (subf (addf (mulf (Host.dotGeneral dot_S2x2176x8x64_S2x2176x8x64_S2x8x2176x2176_3_3_1_1_02_02 none (hq x) (hk x))
        (broadcastInDim S2x8x2176x2176 ![] bcast_S_S2x8x2176x2176 (constant S_ .f32 0x3E000000#32)))
      (broadcastInDim S2x8x2176x2176 ![0, 1, 2, 3] bcast_S2x8x2176x1_S2x8x2176x2176_0_1_2_3 a))
      (broadcastInDim S2x8x2176x2176 ![0, 1, 2, 3] bcast_S2x8x1x2176_S2x8x2176x2176_0_1_2_3 b))
    (broadcastInDim S2x8x2176x2176 ![] bcast_S_S2x8x2176x2176 (constant S_ .f32 0xFF800000#32))

/-- Each row's largest score. -/
def mx : FVec Ideal S2x8x2176 .f32 :=
  Host.reduce FloatOps.maximumf (sc x a b) (constant S_ .f32 0xFF800000#32) reducesTo_S2x8x2176x2176_S2x8x2176_d3 h_S_

/-- The exponentials of the scores less the row's `M`. -/
def ex (M : FVec Ideal S2x8x2176 .f32) : FVec Ideal S2x8x2176x2176 .f32 :=
  Host.exp (subf (sc x a b) (broadcastInDim S2x8x2176x2176 ![0, 1, 2, 3] bcast_S2x8x2176x1_S2x8x2176x2176_0_1_2_3
    (broadcastInDim S2x8x2176x1 ![0, 1, 2] bcast_S2x8x2176_S2x8x2176x1_0_1_2 M)))

/-- The largest score, bounded below by −∞. -/
def mb : FVec Ideal S2x8x2176 .f32 :=
  maximumf (broadcastInDim S2x8x2176 ![] bcast_S_S2x8x2176 (constant S_ .f32 0xFF800000#32)) (mx x a b)

/-- The rows' sums of an array. -/
def rowsum (e : FVec Ideal S2x8x2176x2176 .f32) : FVec Ideal S2x8x2176 .f32 :=
  Host.reduceAdd e (constant S_ .f32 0x00000000#32) reducesTo_S2x8x2176x2176_S2x8x2176_d3 h_S_

/-- A value per row, as a column. -/
def col (r : FVec Ideal S2x8x2176 .f32) : FVec Ideal S2x8x2176x1 .f32 :=
  broadcastInDim S2x8x2176x1 ![0, 1, 2] bcast_S2x8x2176_S2x8x2176x1_0_1_2 r

/-- A column, in every column. -/
def spread (r : FVec Ideal S2x8x2176x1 .f32) : FVec Ideal S2x8x2176x2176 .f32 :=
  broadcastInDim S2x8x2176x2176 ![0, 1, 2, 3] bcast_S2x8x2176x1_S2x8x2176x2176_0_1_2_3 r

/-- The exponentials and their rows' sums. -/
def e0 : FVec Ideal S2x8x2176x2176 .f32 := ex x a b (mb x a b)
def den : FVec Ideal S2x8x2176x1 .f32 := col (rowsum (e0 x a b))

/-- The attention's probabilities. -/
def prob : FVec Ideal S2x8x2176x2176 .f32 := Host.divf (e0 x a b) (spread (den x a b))

/-- The attention's output. -/
def out : FVec Ideal S2x2176x512 .bf16 :=
  truncf .bf16 (shapeCast S2x2176x512 (transpose S2x2176x8x64 [0, 3, 1, 2]
    (Host.dotGeneral dot_S2x2176x8x64_S2x8x2176x2176_S2x8x64x2176_1_3_3_2_02_01 none (hv x) (prob x a b))
    transposes_S2x8x64x2176_S2x2176x8x64_0_3_1_2) Cert.FoxXIdeal.Gen.shapeCasts_S2x2176x8x64_S2x2176x512) bitsLt_bf16_f32

/-- The logarithm of the rows' sums of exponentials. -/
def lse : FVec Ideal S2x8x2176x1 .f32 :=
  addf (col (mx x a b)) (Host.log (col (rowsum (ex x a b (mx x a b)))))

/-- The cotangent's heads, its positions last. -/
def wt : FVec Ideal S2x8x64x2176 .f32 :=
  transpose S2x8x64x2176 [0, 2, 3, 1] (shapeCast S2x2176x8x64 (extf .f32 w bitsLt_bf16_f32) shapeCasts_S2x2176x512_S2x2176x8x64)
    transposes_S2x2176x8x64_S2x8x64x2176_0_2_3_1

/-- The gradient of the probabilities. -/
def gp : FVec Ideal S2x8x2176x2176 .f32 :=
  Host.dotGeneral dot_S2x8x64x2176_S2x2176x8x64_S2x8x2176x2176_2_3_3_1_01_02 none (wt w) (hv x)

/-- The gradient of the exponentials' sum. -/
def gd : FVec Ideal S2x8x2176 .f32 :=
  Host.reduceAdd (Host.negf (shapeCast S2x8x2176x1
    (rowsum (mulf (mulf (gp x w) (spread (Host.divf (broadcastInDim S2x8x2176x1 ![] bcast_S_S2x8x2176x1 (constant S_ .f32 0x3F800000#32))
      (mulf (den x a b) (den x a b))))) (e0 x a b))) shapeCasts_S2x8x2176_S2x8x2176x1))
    (constant S_ .f32 0x00000000#32) reducesTo_S2x8x2176x1_S2x8x2176_d3 h_S_

/-- The gradient of the scores. -/
def gs : FVec Ideal S2x8x2176x2176 .f32 :=
  select mask (mulf (addf (Host.divf (gp x w) (spread (den x a b)))
      (broadcastInDim S2x8x2176x2176 ![0, 1, 2] bcast_S2x8x2176_S2x8x2176x2176_0_1_2 (gd x a b w))) (e0 x a b))
    (broadcastInDim S2x8x2176x2176 ![] bcast_S_S2x8x2176x2176 (constant S_ .f32 0x00000000#32))

/-- The gradients of the queries', the keys' and the values' heads. -/
def gq : FVec Ideal S2x2176x8x64 .f32 :=
  transpose S2x2176x8x64 [0, 2, 1, 3] (Host.dotGeneral dot_S2x8x2176x2176_S2x2176x8x64_S2x8x2176x64_3_1_2_3_01_02 none
    (mulf (gs x a b w) (broadcastInDim S2x8x2176x2176 ![] bcast_S_S2x8x2176x2176 (constant S_ .f32 0x3E000000#32))) (hk x))
    transposes_S2x8x2176x64_S2x2176x8x64_0_2_1_3
def gk : FVec Ideal S2x2176x8x64 .f32 :=
  transpose S2x2176x8x64 [0, 2, 1, 3] (Host.dotGeneral dot_S2x8x2176x2176_S2x2176x8x64_S2x8x2176x64_2_1_3_3_01_02 none
    (mulf (gs x a b w) (broadcastInDim S2x8x2176x2176 ![] bcast_S_S2x8x2176x2176 (constant S_ .f32 0x3E000000#32))) (hq x))
    transposes_S2x8x2176x64_S2x2176x8x64_0_2_1_3
def gv : FVec Ideal S2x2176x8x64 .f32 :=
  transpose S2x2176x8x64 [0, 3, 1, 2] (Host.dotGeneral dot_S2x8x64x2176_S2x8x2176x2176_S2x8x64x2176_3_2_2_3_01_01 none (wt w) (prob x a b))
    transposes_S2x8x64x2176_S2x2176x8x64_0_3_1_2

/-- Heads' gradients in pairs, as one of the three parts. -/
def part (r : FVec Ideal S2x2176x8x64 .f32) : FVec Ideal S2x2176x4x1x128 .f32 :=
  broadcastInDim S2x2176x4x1x128 ![0, 1, 2, 4] bcast_S2x2176x4x128_S2x2176x4x1x128_0_1_2_4
    (shapeCast S2x2176x4x128 r shapeCasts_S2x2176x8x64_S2x2176x4x128)

/-- The three gradients, a pair of heads after another. -/
def gall : FVec Ideal S2x2176x1536 .bf16 :=
  truncf .bf16 (shapeCast S2x2176x1536 (concatenate S2x2176x4x3x128 3
    [⟨S2x2176x4x1x128, part (gq x a b w)⟩, ⟨S2x2176x4x1x128, part (gk x a b w)⟩, ⟨S2x2176x4x1x128, part (gv x a b w)⟩]
    concatenates_S2x2176x4x1x128_S2x2176x4x1x128_S2x2176x4x1x128_S2x2176x4x3x128_d3) shapeCasts_S2x2176x4x3x128_S2x2176x1536) bitsLt_bf16_f32

/-- The gradients of the queries' and of the keys' gates. -/
def gcq : FVec Ideal S2x8x2176x1 .f32 := shapeCast S2x8x2176x1 (rowsum (gs x a b w)) shapeCasts_S2x8x2176_S2x8x2176x1
def gck : FVec Ideal S2x8x1x2176 .f32 :=
  shapeCast S2x8x1x2176 (Host.reduceAdd (Host.negf (gs x a b w)) (constant S_ .f32 0x00000000#32)
    reducesTo_S2x8x2176x2176_S2x8x2176_d2 h_S_) shapeCasts_S2x8x2176_S2x8x1x2176

end Terms

section Kernel
open Cert.FoxXIdeal Cert.FoxXIdeal.Gen

variable (m : (ℓ : Loc nD τ sig) → Buf (Elt Ideal) ℓ)

set_option maxHeartbeats 4000000 in
theorem V_out (c : Dev nD) : V m c main_v47 = out (m ((c : Thread nD τ).loc main_arg0)) (m ((c : Thread nD τ).loc main_arg1)) (m ((c : Thread nD τ).loc main_arg2)) := by
  simp only [V, hostOps0, hostOps0_1, hostOps0_2, hostOps0_3, hostOps0_4, List.flatten_cons, List.flatten_nil, List.cons_append, List.nil_append, List.append_nil]
  after_results_simp <;> rfl

set_option maxHeartbeats 4000000 in
theorem V_lse (c : Dev nD) : V m c main_v76 = lse (m ((c : Thread nD τ).loc main_arg0)) (m ((c : Thread nD τ).loc main_arg1)) (m ((c : Thread nD τ).loc main_arg2)) := by
  simp only [V, hostOps0, hostOps0_1, hostOps0_2, hostOps0_3, hostOps0_4, List.flatten_cons, List.flatten_nil, List.cons_append, List.nil_append, List.append_nil]
  after_results_simp <;> rfl

end Kernel

section Ref
open Cert.FoxXReferenceIdeal Cert.FoxXReferenceIdeal.Gen Cert.FoxXReferenceIdeal.Value

variable (m : (ℓ : Loc nD τ sig) → Buf (Elt Ideal) ℓ)

theorem ref1 (c : Dev nD) : res_out1 m c = gcq (m ((c : Thread nD τ).loc main_arg0)) (m ((c : Thread nD τ).loc main_arg1)) (m ((c : Thread nD τ).loc main_arg2)) (m ((c : Thread nD τ).loc main_arg3)) := by
  rfl

theorem ref2 (c : Dev nD) : res_out2 m c = gck (m ((c : Thread nD τ).loc main_arg0)) (m ((c : Thread nD τ).loc main_arg1)) (m ((c : Thread nD τ).loc main_arg2)) (m ((c : Thread nD τ).loc main_arg3)) := by
  rfl

theorem ref0 (c : Dev nD) : res_out0 m c = gall (m ((c : Thread nD τ).loc main_arg0)) (m ((c : Thread nD τ).loc main_arg1)) (m ((c : Thread nD τ).loc main_arg2)) (m ((c : Thread nD τ).loc main_arg3)) := by
  rfl

end Ref

end Cert.FoxX
-- ==== Proof.FoxMath.lean ====
module

public import Idealize.ShloMosaic.Lib.Pointwise
public import Idealize.ShloMosaic.Lib.WordCmp
public import proofs.«01_k».proof.FoxXIdeal

@[expose] public section

/-! The gradient of the forgetting attention over the reals, for the two heads of one lane pair, and the extended-real
forms in which the kernel computes its entries. -/

noncomputable section

open Idealize.ShloMosaic Idealize.ShloMosaic.WordCmp

namespace Cert.FoxX
open Cert.FoxXIdeal

/-- What one pair of heads reads: queries, keys, values, the output's cotangent and the output by position and lane;
the cumulative gates of the query and of the key and the row's log-sum-exp by head and position. -/
structure Pr where
  q : ℕ → Fin 128 → ℝ
  k : ℕ → Fin 128 → ℝ
  v : ℕ → Fin 128 → ℝ
  w : ℕ → Fin 128 → ℝ
  o : ℕ → Fin 128 → EReal
  cc : Fin 2 → ℕ → ℝ
  cr : Fin 2 → ℕ → ℝ
  lse : Fin 2 → ℕ → EReal

/-- Lane `l` belongs to head `h`. -/
def lane (h : Fin 2) (l : Fin 128) : Prop := l.val / 64 = h.val

instance (h : Fin 2) (l : Fin 128) : Decidable (lane h l) := inferInstanceAs (Decidable (_ = _))

/-- The query at `i` sees the key at `j`. -/
def ok (i j : ℕ) : Prop := j ≤ i ∧ 112 ≤ j

instance (i j : ℕ) : Decidable (ok i j) := inferInstanceAs (Decidable (_ ∧ _))

/-- The head of a lane. -/
def hd (l : Fin 128) : Fin 2 := ⟨l.val / 64, by omega⟩

namespace Pr

variable (B : Pr)

/-- The logarithm of the probability. -/
def S (h : Fin 2) (i j : ℕ) : ℝ :=
  (∑ l, if lane h l then B.q i l * (1 / 8) * B.k j l else 0) - B.cr h j - ((B.lse h i).toReal - B.cc h i)

/-- The attention's probability. -/
def P (h : Fin 2) (i j : ℕ) : ℝ := if ok i j then Real.exp (B.S h i j) else 0

/-- The gradient of the probability. -/
def DP (h : Fin 2) (i j : ℕ) : ℝ := ∑ l, if lane h l then B.w i l * B.v j l else 0

/-- The row's inner product of output and cotangent. -/
def E (h : Fin 2) (i : ℕ) : ℝ := ∑ l, if lane h l then B.w i l * (B.o i l).toReal else 0

/-- The gradient of the score. -/
def D (h : Fin 2) (i j : ℕ) : ℝ := B.P h i j * (B.DP h i j - B.E h i)

theorem P_eq_zero {h : Fin 2} {i j : ℕ} (hij : ¬ ok i j) : B.P h i j = 0 := if_neg hij

theorem D_eq_zero {h : Fin 2} {i j : ℕ} (hij : ¬ ok i j) : B.D h i j = 0 := by
  rw [D, B.P_eq_zero hij, zero_mul]

/-- Output and log-sum-exp are reals but for the padding rows, where the log-sum-exp is −∞, the cotangent zero and the
output anything. -/
structure Padded : Prop where
  o : ∀ (i : ℕ) (l : Fin 128), 112 ≤ i → B.o i l = ((B.o i l).toReal : EReal)
  pad : ∀ (i : ℕ) (l : Fin 128), i < 112 → B.w i l = 0
  lse : ∀ (h : Fin 2) (i : ℕ), 112 ≤ i → B.lse h i = ((B.lse h i).toReal : EReal)
  bot : ∀ (h : Fin 2) (i : ℕ), i < 112 → B.lse h i = ⊥

/-- The blocks hold the data. -/
structure Blk (x0 : S1x2176x384.Idx → EReal) (x1 : S1x2x2176x1.Idx → EReal) (x2 : S1x2x1x2176.Idx → EReal)
    (x3 : S1x2176x128.Idx → EReal) (x4 : S1x2x2176x1.Idx → EReal) (x5 : S1x2176x128.Idx → EReal) : Prop where
  q : ∀ (i : Fin 2176) (l : Fin 128) (hl : l.val < 384), x0 (ix3 0 i ⟨l.val, hl⟩) = (B.q i.val l : EReal)
  k : ∀ (i : Fin 2176) (l : Fin 128) (hl : 128 + l.val < 384), x0 (ix3 0 i ⟨128 + l.val, hl⟩) = (B.k i.val l : EReal)
  v : ∀ (i : Fin 2176) (l : Fin 128) (hl : 256 + l.val < 384), x0 (ix3 0 i ⟨256 + l.val, hl⟩) = (B.v i.val l : EReal)
  w : ∀ (i : Fin 2176) (l : Fin 128), x5 (ix3 0 i l) = (B.w i.val l : EReal)
  o : ∀ (i : Fin 2176) (l : Fin 128), x3 (ix3 0 i l) = B.o i.val l
  cc : ∀ (h : Fin 2) (i : Fin 2176), x1 (ix4 0 h i 0) = (B.cc h i.val : EReal)
  cr : ∀ (h : Fin 2) (j : Fin 2176), x2 (ix4 0 h 0 j) = (B.cr h j.val : EReal)
  lse : ∀ (h : Fin 2) (i : Fin 2176), x4 (ix4 0 h i 0) = B.lse h i.val

end Pr

/-- The bf16 pattern `0x3E00` is one eighth. -/
theorem eighth : Ideal.ofBits .bf16 15872#16 = (((1 : ℝ) / 8 : ℝ) : EReal) := by
  simp [Ideal.ofBits, Ideal.ieee, -EReal.coe_mul]; norm_num

/-- A sum of reals read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum whose terms are zero off a head's lanes. -/
theorem lane_sum {h : Fin 2} {c : Fin 128 → BitVec 1} (hc : ∀ l, c l = BitVec.ofBool (decide (lane h l)))
    {f : Fin 128 → EReal} {g : Fin 128 → ℝ} (hf : ∀ l, f l = (g l : EReal)) :
    ∑ l, Scalar.select (c l) (f l) 0 = ((∑ l, if lane h l then g l else 0 : ℝ) : EReal) := by
  rw [coe_sum]
  refine Finset.sum_congr rfl fun l _ => ?_
  rw [hc, select_ofBool, hf]
  by_cases hl : lane h l <;> simp [hl]

theorem lane_lo {h : Fin 2} (hh : h.val = 0) (l : Fin 128) :
    IntOp.cmpi .slt (BitVec.ofNat 32 l.val) 64#32 = BitVec.ofBool (decide (lane h l)) := by
  rw [cmpi_slt_ofNat (by omega) (by norm_num)]
  congr 2
  simp only [lane, hh, eq_iff_iff]
  omega

theorem lane_hi {h : Fin 2} (hh : h.val = 1) (l : Fin 128) :
    IntOp.xori (IntOp.cmpi .slt (BitVec.ofNat 32 l.val) 64#32) 1#1 = BitVec.ofBool (decide (lane h l)) := by
  rw [cmpi_slt_ofNat (by omega) (by norm_num), show (1#1 : BitVec 1) = BitVec.ofBool true from rfl, xori_ofBool]
  congr 1
  by_cases hl : l.val < 64 <;> simp [lane, hh, hl] <;> omega

theorem ok_word {n N r : ℕ} (hn : n < 2176) (hr : N + r < 2176) :
    IntOp.andi (IntOp.cmpi .sle (BitVec.ofNat 32 n) (IntOp.addi (BitVec.ofNat 32 N) (BitVec.ofNat 32 r)))
        (IntOp.cmpi .sge (BitVec.ofNat 32 n) 112#32)
      = BitVec.ofBool (decide (n ≤ N + r ∧ 112 ≤ n)) := by
  rw [addi_ofNat, cmpi_sle_ofNat (by omega) (by omega), show (112#32 : BitVec 32) = BitVec.ofNat 32 112 from rfl,
    cmpi_sge_ofNat (by omega) (by norm_num), andi_ofBool]
  simp

variable {B : Pr}

/-- The mask's named constant. -/
theorem masked : (Named.named (F := Ideal) (φ := .f32) κ "masked" 4048155338#32 : EReal) = ⊥ :=
  IdealRules.named_const.ideal_named_scalar _ _ _ _ rfl

/-- The inner product of a query and a key, one eighth on the query. -/
def Pr.QK (B : Pr) (h : Fin 2) (i j : ℕ) : ℝ := ∑ l, if lane h l then B.q i l * (1 / 8) * B.k j l else 0

theorem qk_lo (i j : ℕ) : ∑ l : Fin 128, Scalar.select (IntOp.cmpi .slt (BitVec.ofNat 32 l.val) 64#32)
    ((B.q i l : EReal) * ((1 / 8 : ℝ) : EReal) * (B.k j l : EReal)) 0 = (B.QK 0 i j : EReal) :=
  lane_sum (lane_lo rfl) fun l => by simp only [← EReal.coe_mul]

theorem qk_hi (i j : ℕ) : ∑ l : Fin 128, Scalar.select (IntOp.xori (IntOp.cmpi .slt (BitVec.ofNat 32 l.val) 64#32) 1#1)
    ((B.q i l : EReal) * ((1 / 8 : ℝ) : EReal) * (B.k j l : EReal)) 0 = (B.QK 1 i j : EReal) :=
  lane_sum (lane_hi rfl) fun l => by simp only [← EReal.coe_mul]

theorem dp_lo (i j : ℕ) : ∑ l : Fin 128, Scalar.select (IntOp.cmpi .slt (BitVec.ofNat 32 l.val) 64#32)
    ((B.w i l : EReal) * (B.v j l : EReal)) 0 = (B.DP 0 i j : EReal) :=
  lane_sum (lane_lo rfl) fun l => by simp only [← EReal.coe_mul]

theorem dp_hi (i j : ℕ) : ∑ l : Fin 128, Scalar.select (IntOp.xori (IntOp.cmpi .slt (BitVec.ofNat 32 l.val) 64#32) 1#1)
    ((B.w i l : EReal) * (B.v j l : EReal)) 0 = (B.DP 1 i j : EReal) :=
  lane_sum (lane_hi rfl) fun l => by simp only [← EReal.coe_mul]

theorem Pr.Padded.wo (Bp : B.Padded) (i : ℕ) (l : Fin 128) :
    (B.w i l : EReal) * B.o i l = ((B.w i l * (B.o i l).toReal : ℝ) : EReal) := by
  by_cases hi : 112 ≤ i
  · rw [Bp.o i l hi, ← EReal.coe_mul, EReal.toReal_coe]
  · simp only [Bp.pad i l (by omega), EReal.coe_zero, zero_mul]

theorem Pr.Padded.e_lo (Bp : B.Padded) (i : ℕ) : ∑ l : Fin 128, Scalar.select (IntOp.cmpi .slt (BitVec.ofNat 32 l.val) 64#32)
    ((B.w i l : EReal) * B.o i l) 0 = (B.E 0 i : EReal) :=
  lane_sum (lane_lo rfl) (Bp.wo i)

theorem Pr.Padded.e_hi (Bp : B.Padded) (i : ℕ) : ∑ l : Fin 128, Scalar.select (IntOp.xori (IntOp.cmpi .slt (BitVec.ofNat 32 l.val) 64#32) 1#1)
    ((B.w i l : EReal) * B.o i l) 0 = (B.E 1 i : EReal) :=
  lane_sum (lane_hi rfl) (Bp.wo i)

/-- A probability as the kernel computes it. -/
theorem Pr.Padded.p_cell (Bp : B.Padded) {h : Fin 2} {i j : ℕ} {n N r : ℕ} (hn : n = j) (hr : N + r = i) :
    Ideal.exp (Scalar.select (BitVec.ofBool (decide (n ≤ N + r ∧ 112 ≤ n))) ((B.QK h i j : EReal) - (B.cr h j : EReal)) ⊥
      - (B.lse h i - (B.cc h i : EReal))) = (B.P h i j : EReal) := by
  subst hn
  rw [hr, select_ofBool]
  change Ideal.exp ((if decide (ok i n) = true then _ else _) - _) = _
  by_cases hij : ok i n
  · have hi : 112 ≤ i := hij.2.trans hij.1
    rw [Bp.lse h i hi]
    simp only [hij, decide_true, if_true, Pr.P, Pr.S, Pr.QK, EReal.toReal_coe, ← EReal.coe_sub, Ideal.exp_coe]
  · rw [B.P_eq_zero hij]
    by_cases hi : 112 ≤ i
    · rw [Bp.lse h i hi]
      simp [hij, ← EReal.coe_sub]
    · rw [Bp.bot h i (by omega)]
      simp [hij]

/-- A score's gradient as the kernel computes it. -/
theorem d_cell (h : Fin 2) (i j : ℕ) :
    (B.P h i j : EReal) * ((B.DP h i j : EReal) - (B.E h i : EReal)) = (B.D h i j : EReal) := by
  rw [← EReal.coe_sub, ← EReal.coe_mul, Pr.D]

/-- A sum over the first positions, the terms of the others zero. -/
theorem sum_first {kh : ℕ} (hk : kh ≤ 2176) {f : ℕ → ℝ}
    (hf : ∀ j : ℕ, kh ≤ j → f j = 0) : ∑ x : Fin kh, f x.val = ∑ j : Fin 2176, f j.val := by
  refine Finset.sum_of_injOn (Fin.castLE hk) (fun a _ b _ e => by simpa using e) (fun _ _ => Finset.mem_coe.2 (Finset.mem_univ _)) (fun j _ hj => hf j ?_) (fun _ _ => rfl)
  by_contra hlt
  exact hj ⟨⟨j.val, by omega⟩, by simp, rfl⟩

/-- The gradient of the query's gate as the kernel computes it. -/
theorem dcq_tile {h h' : Fin 2} {i i' : ℕ} {kh : ℕ} (eh : h.val = h'.val) (ei : i = i') (hkh : kh ≤ 2176) (hi : i < kh) :
    ∑ x : Fin kh, (B.D h i x.val : EReal) = ((∑ j : Fin 2176, B.D h' i' j.val : ℝ) : EReal) := by
  obtain rfl := Fin.ext eh
  subst ei
  rw [← sum_first hkh (f := fun j => B.D h i j) (fun j hj => B.D_eq_zero fun ho => by have := ho.1; omega), coe_sum]

end Cert.FoxX
-- ==== Proof.FoxTiles.lean ====
module

public import proofs.«01_k».proof.Proof.FoxMath

@[expose] public section

set_option maxRecDepth 16384

/-! The two heads of a block, put back side by side. -/

noncomputable section

open Idealize.ShloMosaic Idealize.ShloMosaic.WordCmp

namespace Cert.FoxX
open Cert.FoxXIdeal

variable {B : Pr}

theorem hd_cases (l : Fin 128) : hd l = 0 ∧ l.val < 64 ∨ hd l = 1 ∧ ¬ l.val < 64 := by
  by_cases hl : l.val < 64
  · exact .inl ⟨Fin.ext (by simp only [hd, Fin.val_zero]; omega), hl⟩
  · exact .inr ⟨Fin.ext (by simp only [hd, Fin.val_one]; omega), hl⟩

theorem select_lo (l : Fin 128) (x y : EReal) :
    Scalar.select (IntOp.cmpi .slt (BitVec.ofNat 32 l.val) 64#32) x y = if hd l = 0 then x else y := by
  rw [show (64#32 : BitVec 32) = BitVec.ofNat 32 64 from rfl, cmpi_slt_ofNat (by omega) (by norm_num), select_ofBool]
  rcases hd_cases l with ⟨e, hl⟩ | ⟨e, hl⟩ <;> simp [e, hl]

theorem select_hi (l : Fin 128) (x y : EReal) :
    Scalar.select (IntOp.xori (IntOp.cmpi .slt (BitVec.ofNat 32 l.val) 64#32) 1#1) x y = if hd l = 0 then y else x := by
  rw [show (64#32 : BitVec 32) = BitVec.ofNat 32 64 from rfl, cmpi_slt_ofNat (by omega) (by norm_num),
    show (1#1 : BitVec 1) = BitVec.ofBool true from rfl, xori_ofBool, select_ofBool]
  rcases hd_cases l with ⟨e, hl⟩ | ⟨e, hl⟩ <;> simp [e, hl]

/-- One eighth, as a single-precision word. -/
theorem eighth32 : Ideal.ofBits .f32 1040187392#32 = (((1 : ℝ) / 8 : ℝ) : EReal) := by
  simp [Ideal.ofBits, Ideal.ieee, -EReal.coe_mul]; norm_num

/-- The lanes of both heads, each from its own head's rows. -/
theorem halvesK (N k : ℕ) (l : Fin 128) (a : EReal) :
    a + (∑ x : Fin 128, Scalar.select (IntOp.cmpi .slt (BitVec.ofNat 32 l.val) 64#32)
          ((B.D 0 (N + x.val) k : EReal) * ((B.q (N + x.val) l : EReal) * ((1 / 8 : ℝ) : EReal))) 0
        + ∑ x : Fin 128, Scalar.select (IntOp.xori (IntOp.cmpi .slt (BitVec.ofNat 32 l.val) 64#32) 1#1)
          ((B.D 1 (N + x.val) k : EReal) * ((B.q (N + x.val) l : EReal) * ((1 / 8 : ℝ) : EReal))) 0)
      = a + ∑ x : Fin 128, ((B.D (hd l) (N + x.val) k * (B.q (N + x.val) l * (1 / 8)) : ℝ) : EReal) := by
  simp only [select_lo, select_hi, ← EReal.coe_mul]
  rcases hd_cases l with ⟨e, -⟩ | ⟨e, -⟩ <;> simp [e, -EReal.coe_mul]

theorem halvesV (N k : ℕ) (l : Fin 128) (a : EReal) :
    a + (∑ x : Fin 128, Scalar.select (IntOp.cmpi .slt (BitVec.ofNat 32 l.val) 64#32)
          ((B.P 0 (N + x.val) k : EReal) * (B.w (N + x.val) l : EReal)) 0
        + ∑ x : Fin 128, Scalar.select (IntOp.xori (IntOp.cmpi .slt (BitVec.ofNat 32 l.val) 64#32) 1#1)
          ((B.P 1 (N + x.val) k : EReal) * (B.w (N + x.val) l : EReal)) 0)
      = a + ∑ x : Fin 128, ((B.P (hd l) (N + x.val) k * B.w (N + x.val) l : ℝ) : EReal) := by
  simp only [select_lo, select_hi, ← EReal.coe_mul]
  rcases hd_cases l with ⟨e, -⟩ | ⟨e, -⟩ <;> simp [e, -EReal.coe_mul]

/-- The gradient of the query. -/
def Pr.DQ (B : Pr) (i : ℕ) (l : Fin 128) : ℝ := (∑ j : Fin 2176, B.D (hd l) i j.val * B.k j.val l) * (1 / 8)
/-- The gradient of the key. -/
def Pr.DK (B : Pr) (j : ℕ) (l : Fin 128) : ℝ := ∑ i : Fin 2176, B.D (hd l) i.val j * (B.q i.val l * (1 / 8))
/-- The gradient of the value. -/
def Pr.DV (B : Pr) (j : ℕ) (l : Fin 128) : ℝ := ∑ i : Fin 2176, B.P (hd l) i.val j * B.w i.val l
/-- The three side by side. -/
def Pr.G (B : Pr) (i n : ℕ) : ℝ :=
  if h : n < 128 then B.DQ i ⟨n, h⟩ else if h' : n - 128 < 128 then B.DK i ⟨n - 128, h'⟩
  else if h'' : n - 256 < 128 then B.DV i ⟨n - 256, h''⟩ else 0

theorem dq_tile {i i' n kh : ℕ} {l : Fin 128} (ei : i = i') (en : n = l.val) (hkh : kh ≤ 2176) (hi : i < kh) :
    Scalar.select (IntOp.cmpi .slt (BitVec.ofNat 32 l.val) 64#32)
        ((∑ x : Fin kh, (B.D 0 i x.val : EReal) * (B.k x.val l : EReal)) * Ideal.ofBits .f32 1040187392#32)
        ((∑ x : Fin kh, (B.D 1 i x.val : EReal) * (B.k x.val l : EReal)) * Ideal.ofBits .f32 1040187392#32)
      = (B.G i' n : EReal) := by
  subst ei en
  have hs : ∀ h : Fin 2, (∑ x : Fin kh, (B.D h i x.val : EReal) * (B.k x.val l : EReal)) * Ideal.ofBits .f32 1040187392#32
      = (((∑ j : Fin 2176, B.D h i j.val * B.k j.val l) * (1 / 8) : ℝ) : EReal) := fun h => by
    rw [eighth32, EReal.coe_mul, ← sum_first hkh (f := fun j => B.D h i j * B.k j l)
      (fun j hj => by rw [B.D_eq_zero (fun ho => by have := ho.1; omega), zero_mul]), coe_sum]
    simp only [EReal.coe_mul]
  rw [hs, hs, select_lo, Pr.G, dif_pos l.isLt, Pr.DQ]
  rcases hd_cases l with ⟨e, -⟩ | ⟨e, -⟩ <;> simp [e]

theorem dk_tile {i i' n : ℕ} {l : Fin 128} (ei : i = i') (en : n = 128 + l.val) : B.DK i l = B.G i' n := by
  subst ei en
  rw [Pr.G, dif_neg (by omega), dif_pos (by omega)]
  congr 1
  exact Fin.ext (by simp)

theorem dv_tile {i i' n : ℕ} {l : Fin 128} (ei : i = i') (en : n = 256 + l.val) : B.DV i l = B.G i' n := by
  subst ei en
  rw [Pr.G, dif_neg (by omega), dif_neg (by omega), dif_pos (by omega)]
  congr 1
  exact Fin.ext (by simp)

end Cert.FoxX
-- ==== Proof.FoxHeads.lean ====
module

public import proofs.«01_k».proof.Proof.FoxHost
public import proofs.«01_k».proof.Proof.FoxTiles

@[expose] public section

set_option maxRecDepth 16384

noncomputable section

open Idealize.ShloMosaic Idealize.ShloMosaic.TcCoe Idealize.ShloMosaic.WordCmp Idealize.SL.Sem
open Idealize.ShloMosaic.Pipeline (Dat)

/-! The arrays of the forgetting attention at an index, and what a pair of heads reads. -/

namespace Cert.FoxX
open Cert.FoxXReferenceIdeal Cert.FoxXReferenceIdeal.Gen

variable (x : FVec Ideal S2x2176x1536 .bf16) (a : FVec Ideal S2x8x2176x1 .f32) (b : FVec Ideal S2x8x1x2176 .f32)
  (w : FVec Ideal S2x2176x512 .bf16)

theorem hq_at (n : Fin 2) (i : Fin 2176) (h : Fin 8) (d : Fin 64) :
    hq x (ix4 n i h d) = x (ix3 n i ⟨h.val / 2 * 384 + (h.val % 2 * 64 + d.val), by omega⟩) := by
  pointwise [hq]

theorem hk_at (n : Fin 2) (i : Fin 2176) (h : Fin 8) (d : Fin 64) :
    hk x (ix4 n i h d) = x (ix3 n i ⟨h.val / 2 * 384 + 128 + (h.val % 2 * 64 + d.val), by omega⟩) := by
  pointwise [hk]

theorem hv_at (n : Fin 2) (i : Fin 2176) (h : Fin 8) (d : Fin 64) :
    hv x (ix4 n i h d) = x (ix3 n i ⟨h.val / 2 * 384 + 256 + (h.val % 2 * 64 + d.val), by omega⟩) := by
  pointwise [hv]

theorem mask_at (n : Fin 2) (h : Fin 8) (i j : Fin 2176) :
    mask (ix4 n h i j) = BitVec.ofBool (decide (ok i.val j.val)) := by
  pointwise [mask]
  have e := ok_word (n := j.val) (N := i.val) (r := 0) (by omega) (by omega)
  rw [addi_ofNat] at e
  exact e

theorem sc_at (n : Fin 2) (h : Fin 8) (i j : Fin 2176) : sc x a b (ix4 n h i j) = if ok i.val j.val then
    (∑ d, hq x (ix4 n i h d) * hk x (ix4 n j h d)) * ((1 / 8 : ℝ) : EReal) + a (ix4 n h i 0) - b (ix4 n h 0 j) else ⊥ := by
  pointwise [sc]
  rw [mask_at, select_ofBool, eighth32]
  have e : Ideal.ofBits FTy.f32 4286578688#32 = ⊥ := by simp [Ideal.ofBits, Ideal.ieee]
  rw [e]
  by_cases ho : ok i.val j.val <;> simp [ho]

theorem mx_at (n : Fin 2) (h : Fin 8) (i : Fin 2176) :
    mx x a b (ix3 n h i) = Finset.univ.fold max ⊥ fun j : Fin 2176 => sc x a b (ix4 n h i j) := by
  unfold mx
  simp only [pointwise]
  have e : Ideal.ofBits FTy.f32 4286578688#32 = ⊥ := by simp [Ideal.ofBits, Ideal.ieee]
  exact congrArg (fun t => Finset.univ.fold max t _) e

theorem mb_of (M : FVec Ideal S2x8x2176 .f32) (n : Fin 2) (h : Fin 8) (i : Fin 2176) :
    maximumf (broadcastInDim S2x8x2176 ![] bcast_S_S2x8x2176 (constant S_ .f32 0xFF800000#32)) M (ix3 n h i) = M (ix3 n h i) := by
  have e : Ideal.ofBits FTy.f32 4286578688#32 = ⊥ := by simp [Ideal.ofBits, Ideal.ieee]
  pointwise [e]
  exact max_eq_right bot_le

theorem mb_at (n : Fin 2) (h : Fin 8) (i : Fin 2176) : mb x a b (ix3 n h i) = mx x a b (ix3 n h i) := by
  rw [mb, mb_of]

theorem ex_at (M : FVec Ideal S2x8x2176 .f32) (n : Fin 2) (h : Fin 8) (i j : Fin 2176) :
    ex x a b M (ix4 n h i j) = Ideal.exp (sc x a b (ix4 n h i j) - M (ix3 n h i)) := by
  pointwise [ex]

theorem den_at (n : Fin 2) (h : Fin 8) (i : Fin 2176) : den x a b (ix4 n h i 0) = ∑ j, e0 x a b (ix4 n h i j) := by
  pointwise [den, col, rowsum]

theorem prob_at (n : Fin 2) (h : Fin 8) (i j : Fin 2176) :
    prob x a b (ix4 n h i j) = Ideal.div (e0 x a b (ix4 n h i j)) (∑ j, e0 x a b (ix4 n h i j)) := by
  pointwise [prob, spread, den, col, rowsum]

theorem out_at (n : Fin 2) (i : Fin 2176) (l : Fin 512) : out x a b (ix3 n i l)
    = ∑ j, hv x (ix4 n j ⟨l.val / 64, by omega⟩ ⟨l.val % 64, by omega⟩) * prob x a b (ix4 n ⟨l.val / 64, by omega⟩ i j) := by
  pointwise [out]

theorem lse_of (M : FVec Ideal S2x8x2176 .f32) (e : FVec Ideal S2x8x2176x2176 .f32) (n : Fin 2) (h : Fin 8) (i : Fin 2176) :
    addf (col M) (Host.log (col (rowsum e))) (ix4 n h i 0) = M (ix3 n h i) + Ideal.log (∑ j, e (ix4 n h i j)) := by
  pointwise [col, rowsum]

theorem lse_at (n : Fin 2) (h : Fin 8) (i : Fin 2176) :
    lse x a b (ix4 n h i 0) = mx x a b (ix3 n h i) + Ideal.log (∑ j, e0 x a b (ix4 n h i j)) := by
  unfold lse
  rw [lse_of]
  refine congrArg (fun t => mx x a b (ix3 n h i) + Ideal.log t) (Finset.sum_congr rfl fun j _ => ?_)
  rw [e0, ex_at, ex_at, mb_at]

theorem wt_at (n : Fin 2) (h : Fin 8) (d : Fin 64) (i : Fin 2176) :
    wt w (ix4 n h d i) = w (ix3 n i ⟨h.val * 64 + d.val, by omega⟩) := by
  pointwise [wt]

theorem gp_at (n : Fin 2) (h : Fin 8) (i j : Fin 2176) :
    gp x w (ix4 n h i j) = ∑ d, wt w (ix4 n h d i) * hv x (ix4 n j h d) := by
  pointwise [gp]

theorem gs_at (n : Fin 2) (h : Fin 8) (i j : Fin 2176) : gs x a b w (ix4 n h i j) = if ok i.val j.val then
      (Ideal.div (gp x w (ix4 n h i j)) (∑ k, e0 x a b (ix4 n h i k)) + -∑ k, gp x w (ix4 n h i k) *
        Ideal.div 1 ((∑ k, e0 x a b (ix4 n h i k)) * ∑ k, e0 x a b (ix4 n h i k)) * e0 x a b (ix4 n h i k))
        * e0 x a b (ix4 n h i j) else 0 := by
  pointwise [gs, gd, spread, den, col, rowsum]
  rw [mask_at, select_ofBool]
  by_cases ho : ok i.val j.val <;> simp [ho]

theorem gv_at (n : Fin 2) (i : Fin 2176) (h : Fin 8) (d : Fin 64) :
    gv x a b w (ix4 n i h d) = ∑ k, wt w (ix4 n h d k) * prob x a b (ix4 n h k i) := by
  pointwise [gv]

theorem gq_at (n : Fin 2) (i : Fin 2176) (h : Fin 8) (d : Fin 64) :
    gq x a b w (ix4 n i h d) = ∑ k, gs x a b w (ix4 n h i k) * ((1 / 8 : ℝ) : EReal) * hk x (ix4 n k h d) := by
  pointwise [gq]
  rw [eighth32]

theorem gk_at (n : Fin 2) (i : Fin 2176) (h : Fin 8) (d : Fin 64) :
    gk x a b w (ix4 n i h d) = ∑ k, gs x a b w (ix4 n h k i) * ((1 / 8 : ℝ) : EReal) * hq x (ix4 n k h d) := by
  pointwise [gk]
  rw [eighth32]

theorem part_at (r : FVec Ideal S2x2176x8x64 .f32) (n : Fin 2) (i : Fin 2176) (p : Fin 4) (l : Fin 128) :
    part r (ix5 n i p 0 l) = r (ix4 n i ⟨p.val * 2 + l.val / 64, by omega⟩ ⟨l.val % 64, by omega⟩) := by
  pointwise [part]

theorem pairs_at (r : FVec Ideal S2x2176x4x3x128 .f32) (n : Fin 2) (i : Fin 2176) (l : Fin 1536) :
    truncf .bf16 (shapeCast S2x2176x1536 r shapeCasts_S2x2176x4x3x128_S2x2176x1536) bitsLt_bf16_f32 (ix3 n i l)
      = r (ix5 n i ⟨l.val / 384, by omega⟩ ⟨l.val / 128 % 3, by omega⟩ ⟨l.val % 128, by omega⟩) := by
  pointwise

section Cat
variable (r0 r1 r2 : FVec Ideal S2x2176x4x1x128 .f32)
theorem cat0 (n : Fin 2) (i : Fin 2176) (p : Fin 4) (l : Fin 128) :
    concatenate S2x2176x4x3x128 3 [⟨S2x2176x4x1x128, r0⟩, ⟨S2x2176x4x1x128, r1⟩, ⟨S2x2176x4x1x128, r2⟩]
      concatenates_S2x2176x4x1x128_S2x2176x4x1x128_S2x2176x4x1x128_S2x2176x4x3x128_d3 (ix5 n i p 0 l) = r0 (ix5 n i p 0 l) := by
  pointwise
theorem cat1 (n : Fin 2) (i : Fin 2176) (p : Fin 4) (l : Fin 128) :
    concatenate S2x2176x4x3x128 3 [⟨S2x2176x4x1x128, r0⟩, ⟨S2x2176x4x1x128, r1⟩, ⟨S2x2176x4x1x128, r2⟩]
      concatenates_S2x2176x4x1x128_S2x2176x4x1x128_S2x2176x4x1x128_S2x2176x4x3x128_d3 (ix5 n i p 1 l) = r1 (ix5 n i p 0 l) := by
  pointwise
theorem cat2 (n : Fin 2) (i : Fin 2176) (p : Fin 4) (l : Fin 128) :
    concatenate S2x2176x4x3x128 3 [⟨S2x2176x4x1x128, r0⟩, ⟨S2x2176x4x1x128, r1⟩, ⟨S2x2176x4x1x128, r2⟩]
      concatenates_S2x2176x4x1x128_S2x2176x4x1x128_S2x2176x4x1x128_S2x2176x4x3x128_d3 (ix5 n i p 2 l) = r2 (ix5 n i p 0 l) := by
  pointwise
end Cat

theorem gcq_at (n : Fin 2) (h : Fin 8) (i : Fin 2176) : gcq x a b w (ix4 n h i 0) = ∑ j, gs x a b w (ix4 n h i j) := by
  pointwise [gcq, rowsum]

theorem gck_at (n : Fin 2) (h : Fin 8) (j : Fin 2176) : gck x a b w (ix4 n h 0 j) = ∑ i, -gs x a b w (ix4 n h i j) := by
  pointwise [gck]

end Cert.FoxX
-- ==== Proof.FoxGrad.lean ====
module

public import proofs.«01_k».proof.Proof.FoxHeads

@[expose] public section

set_option maxRecDepth 16384

noncomputable section

open Idealize.ShloMosaic Idealize.ShloMosaic.TcCoe Idealize.ShloMosaic.WordCmp Idealize.SL.Sem
open Idealize.ShloMosaic.Pipeline (Dat)

/-! The gradient of the attention in reals, over finite arguments. -/

namespace Cert.FoxX
open Cert.FoxXReferenceIdeal Cert.FoxXReferenceIdeal.Gen

variable (x : FVec Ideal S2x2176x1536 .bf16) (a : FVec Ideal S2x8x2176x1 .f32) (b : FVec Ideal S2x8x1x2176 .f32)
  (w : FVec Ideal S2x2176x512 .bf16)

/-- The maximum of −∞ alone. -/
theorem fold_bot {ι : Type*} {s : Finset ι} {f : ι → EReal} (hf : ∀ j, f j = ⊥) : s.fold max ⊥ f = ⊥ := by
  refine le_antisymm ?_ bot_le
  rw [Finset.fold_max_le]
  exact ⟨le_rfl, fun j _ => (hf j).le⟩

/-- The maximum of reals and −∞, with one real among them. -/
theorem fold_real {ι : Type*} {s : Finset ι} {f : ι → EReal} (hf : ∀ j, f j = ⊥ ∨ ∃ r : ℝ, f j = r) {j : ι} (hj : j ∈ s)
    {r : ℝ} (hr : f j = r) : s.fold max ⊥ f = ((s.fold max ⊥ f).toReal : EReal) := by
  refine (EReal.coe_toReal (ne_of_lt ?_) (ne_of_gt ?_)).symm
  · rw [Finset.fold_max_lt]
    refine ⟨bot_lt_top, fun k _ => ?_⟩
    rcases hf k with e | ⟨r, e⟩ <;> rw [e]
    · exact bot_lt_top
    · exact EReal.coe_lt_top r
  · rw [Finset.lt_fold_max]
    exact .inr ⟨j, hj, hr ▸ EReal.bot_lt_coe r⟩

/-- A head's lane. -/
def ln (h : Fin 2) (d : Fin 64) : Fin 128 := ⟨h.val * 64 + d.val, by omega⟩

theorem lanes (h : Fin 2) (f : Fin 128 → ℝ) : (∑ l, if lane h l then f l else 0) = ∑ d, f (ln h d) := by
  rw [← Finset.sum_filter]
  refine (Finset.sum_nbij' (fun d => ln h d) (fun l => ⟨l.val % 64, by omega⟩) ?_ ?_ ?_ ?_ ?_).symm
  · intro d _
    rw [Finset.mem_filter]
    exact ⟨Finset.mem_univ _, show (h.val * 64 + d.val) / 64 = h.val by omega⟩
  · intro l _
    exact Finset.mem_univ _
  · intro d _
    exact Fin.ext (show (h.val * 64 + d.val) % 64 = d.val by omega)
  · intro l hl
    have hl' : l.val / 64 = h.val := (Finset.mem_filter.mp hl).2
    exact Fin.ext (show h.val * 64 + l.val % 64 = l.val by omega)
  · intro d _
    rfl

theorem hd_ln (h : Fin 2) (d : Fin 64) : hd (ln h d) = h := Fin.ext (show (h.val * 64 + d.val) / 64 = h.val by omega)

theorem ln_hd (l : Fin 128) : ln (hd l) ⟨l.val % 64, by omega⟩ = l :=
  Fin.ext (show l.val / 64 * 64 + l.val % 64 = l.val by omega)

/-- A position. -/
def pos (i : ℕ) : Fin 2176 := ⟨min i 2175, by omega⟩

theorem pos_val (i : Fin 2176) : pos i.val = i := Fin.ext (by simp only [pos]; omega)

/-- A head of a pair. -/
def head (p : Fin 4) (h : Fin 2) : Fin 8 := ⟨p.val * 2 + h.val, by omega⟩

/-- What the pair `p` of the batch's `n`-th sequence reads. -/
def pair (n : Fin 2) (p : Fin 4) : Pr where
  q i l := (x (ix3 n (pos i) ⟨p.val * 384 + l.val, by omega⟩)).toReal
  k i l := (x (ix3 n (pos i) ⟨p.val * 384 + 128 + l.val, by omega⟩)).toReal
  v i l := (x (ix3 n (pos i) ⟨p.val * 384 + 256 + l.val, by omega⟩)).toReal
  w i l := (w (ix3 n (pos i) ⟨p.val * 128 + l.val, by omega⟩)).toReal
  o i l := out x a b (ix3 n (pos i) ⟨p.val * 128 + l.val, by omega⟩)
  cc h i := (a (ix4 n (head p h) (pos i) 0)).toReal
  cr h i := (b (ix4 n (head p h) 0 (pos i))).toReal
  lse h i := lse x a b (ix4 n (head p h) (pos i) 0)

/-- The arguments are finite and the padding's cotangent is zero. -/
structure Fine : Prop where
  fx : ∀ i, x i = ((x i).toReal : EReal)
  fa : ∀ i, a i = ((a i).toReal : EReal)
  fb : ∀ i, b i = ((b i).toReal : EReal)
  fw : ∀ i, w i = ((w i).toReal : EReal)
  pad : ∀ (n : Fin 2) (i : Fin 2176) (l : Fin 512), i.val < 112 → w (ix3 n i l) = 0

variable {x a b w}
variable (H : Fine x a b w) (n : Fin 2) (p : Fin 4) (h : Fin 2)

include H

theorem q_re (i : Fin 2176) (d : Fin 64) : hq x (ix4 n i (head p h) d) = ((pair x a b w n p).q i.val (ln h d) : EReal) := by
  rw [hq_at, H.fx]
  simp only [pair, pos_val]
  refine congrArg (fun t => ((x (ix3 n i t)).toReal : EReal)) (Fin.ext ?_)
  simp only [head, ln]
  omega

theorem k_re (i : Fin 2176) (d : Fin 64) : hk x (ix4 n i (head p h) d) = ((pair x a b w n p).k i.val (ln h d) : EReal) := by
  rw [hk_at, H.fx]
  simp only [pair, pos_val]
  refine congrArg (fun t => ((x (ix3 n i t)).toReal : EReal)) (Fin.ext ?_)
  simp only [head, ln]
  omega

theorem v_re (i : Fin 2176) (d : Fin 64) : hv x (ix4 n i (head p h) d) = ((pair x a b w n p).v i.val (ln h d) : EReal) := by
  rw [hv_at, H.fx]
  simp only [pair, pos_val]
  refine congrArg (fun t => ((x (ix3 n i t)).toReal : EReal)) (Fin.ext ?_)
  simp only [head, ln]
  omega

theorem w_re (i : Fin 2176) (d : Fin 64) : wt w (ix4 n (head p h) d i) = ((pair x a b w n p).w i.val (ln h d) : EReal) := by
  rw [wt_at, H.fw]
  simp only [pair, pos_val]
  refine congrArg (fun t => ((w (ix3 n i t)).toReal : EReal)) (Fin.ext ?_)
  simp only [head, ln]
  omega

/-- The score. -/
def sr (B : Pr) (h : Fin 2) (i j : ℕ) : ℝ := (∑ d, B.q i (ln h d) * B.k j (ln h d)) * (1 / 8) + B.cc h i - B.cr h j

theorem sc_re (i j : Fin 2176) :
    sc x a b (ix4 n (head p h) i j) = if ok i.val j.val then (sr (pair x a b w n p) h i.val j.val : EReal) else ⊥ := by
  rw [sc_at]
  refine if_congr Iff.rfl ?_ rfl
  simp only [q_re H n p h, k_re H n p h]
  rw [H.fa, H.fb, sr, EReal.coe_sub, EReal.coe_add, EReal.coe_mul, coe_sum]
  simp only [pair, pos_val, EReal.coe_mul]

/-- The row's largest score. -/
def mr (x : FVec Ideal S2x2176x1536 .bf16) (a : FVec Ideal S2x8x2176x1 .f32) (b : FVec Ideal S2x8x1x2176 .f32)
    (n : Fin 2) (p : Fin 4) (h : Fin 2) (i : Fin 2176) : ℝ := (mx x a b (ix3 n (head p h) i)).toReal

theorem mx_pad (i : Fin 2176) (hi : i.val < 112) : mx x a b (ix3 n (head p h) i) = ⊥ := by
  rw [mx_at]
  refine fold_bot fun j => ?_
  rw [sc_re H n p h, if_neg]
  rintro ⟨h1, h2⟩
  omega

theorem mx_re (i : Fin 2176) (hi : 112 ≤ i.val) : mx x a b (ix3 n (head p h) i) = (mr x a b n p h i : EReal) := by
  rw [mr, mx_at]
  refine fold_real (fun j => ?_) (Finset.mem_univ i) (r := sr (pair x a b w n p) h i.val i.val) ?_
  · rw [sc_re H n p h]
    split
    · exact .inr ⟨_, rfl⟩
    · exact .inl rfl
  · rw [sc_re H n p h, if_pos ⟨le_rfl, hi⟩]

/-- The exponential of the score less the row's largest. -/
def er (x : FVec Ideal S2x2176x1536 .bf16) (a : FVec Ideal S2x8x2176x1 .f32) (b : FVec Ideal S2x8x1x2176 .f32)
    (w : FVec Ideal S2x2176x512 .bf16) (n : Fin 2) (p : Fin 4) (h : Fin 2) (i j : Fin 2176) : ℝ :=
  if ok i.val j.val then Real.exp (sr (pair x a b w n p) h i.val j.val - mr x a b n p h i) else 0

theorem e0_re (i j : Fin 2176) : e0 x a b (ix4 n (head p h) i j) = (er x a b w n p h i j : EReal) := by
  rw [e0, ex_at, sc_re H n p h, mb_at, er]
  by_cases ho : ok i.val j.val
  · rw [if_pos ho, if_pos ho, mx_re H n p h i (by have := ho.1; have := ho.2; omega), ← EReal.coe_sub, Ideal.exp_coe]
  · rw [if_neg ho, if_neg ho, EReal.bot_sub, Ideal.exp_bot, EReal.coe_zero]

/-- The row's sum of exponentials. -/
def tr (x : FVec Ideal S2x2176x1536 .bf16) (a : FVec Ideal S2x8x2176x1 .f32) (b : FVec Ideal S2x8x1x2176 .f32)
    (w : FVec Ideal S2x2176x512 .bf16) (n : Fin 2) (p : Fin 4) (h : Fin 2) (i : Fin 2176) : ℝ := ∑ j, er x a b w n p h i j

theorem sum_re (i : Fin 2176) : ∑ j, e0 x a b (ix4 n (head p h) i j) = (tr x a b w n p h i : EReal) := by
  simp only [e0_re H n p h]
  rw [tr, coe_sum]

omit H in
theorem er_pad (i j : Fin 2176) (hi : i.val < 112) : er x a b w n p h i j = 0 := by
  rw [er, if_neg]
  rintro ⟨h1, h2⟩
  omega

omit H in
theorem tr_pad (i : Fin 2176) (hi : i.val < 112) : tr x a b w n p h i = 0 :=
  Finset.sum_eq_zero fun j _ => er_pad n p h i j hi

omit H in
theorem tr_pos (i : Fin 2176) (hi : 112 ≤ i.val) : 0 < tr x a b w n p h i := by
  refine Finset.sum_pos' (fun j _ => ?_) ⟨i, Finset.mem_univ _, ?_⟩
  · rw [er]
    split
    · exact (Real.exp_pos _).le
    · exact le_rfl
  · rw [er, if_pos ⟨le_rfl, hi⟩]
    exact Real.exp_pos _

theorem lse_re (i : Fin 2176) (hi : 112 ≤ i.val) :
    lse x a b (ix4 n (head p h) i 0) = ((mr x a b n p h i + Real.log (tr x a b w n p h i) : ℝ) : EReal) := by
  rw [lse_at, sum_re H n p h, mx_re H n p h i hi, Ideal.log_coe, if_neg (not_le.mpr (tr_pos n p h i hi)), EReal.coe_add]

theorem lse_pad (i : Fin 2176) (hi : i.val < 112) : lse x a b (ix4 n (head p h) i 0) = ⊥ := by
  rw [lse_at, mx_pad H n p h i hi, EReal.bot_add]

theorem prob_re (i j : Fin 2176) (hi : 112 ≤ i.val) :
    prob x a b (ix4 n (head p h) i j) = ((er x a b w n p h i j / tr x a b w n p h i : ℝ) : EReal) := by
  rw [prob_at, sum_re H n p h, e0_re H n p h, Ideal.div_coe (tr_pos n p h i hi).ne', ← EReal.coe_mul, mul_one_div]

theorem P_eq (i j : Fin 2176) : (pair x a b w n p).P h i.val j.val = er x a b w n p h i j / tr x a b w n p h i := by
  by_cases ho : ok i.val j.val
  · have hi : 112 ≤ i.val := by have := ho.1; have := ho.2; omega
    have e1 : ((pair x a b w n p).lse h i.val).toReal = mr x a b n p h i + Real.log (tr x a b w n p h i) := by
      simp only [pair, pos_val]
      rw [lse_re H n p h i hi, EReal.toReal_coe]
    rw [Pr.P, if_pos ho, er, if_pos ho, Pr.S, e1, lanes, ← Real.exp_log (tr_pos (x := x) (a := a) (b := b) (w := w) n p h i hi),
      ← Real.exp_sub, Real.exp_log (tr_pos n p h i hi)]
    refine congrArg Real.exp ?_
    rw [sr, Finset.sum_mul, Finset.sum_congr rfl fun d _ => mul_right_comm _ _ _]
    ring
  · rw [Pr.P, if_neg ho, er, if_neg ho, zero_div]

theorem prob_P (i j : Fin 2176) (hi : 112 ≤ i.val) :
    prob x a b (ix4 n (head p h) i j) = ((pair x a b w n p).P h i.val j.val : EReal) := by
  rw [prob_re H n p h i j hi, P_eq H n p h]

theorem out_re (i : Fin 2176) (l : Fin 128) (hi : 112 ≤ i.val) : out x a b (ix3 n i ⟨p.val * 128 + l.val, by omega⟩)
    = ((∑ j : Fin 2176, (pair x a b w n p).v j.val l * (pair x a b w n p).P (hd l) i.val j.val : ℝ) : EReal) := by
  rw [out_at, coe_sum]
  refine Finset.sum_congr rfl fun j _ => ?_
  have e1 : (⟨(p.val * 128 + l.val) / 64, by omega⟩ : Fin 8) = head p (hd l) :=
    Fin.ext (show (p.val * 128 + l.val) / 64 = p.val * 2 + l.val / 64 by omega)
  have e2 : (⟨(p.val * 128 + l.val) % 64, by omega⟩ : Fin 64) = ⟨l.val % 64, by omega⟩ :=
    Fin.ext (show (p.val * 128 + l.val) % 64 = l.val % 64 by omega)
  rw [e1, e2, v_re H n p, prob_P H n p _ i j hi, ln_hd, EReal.coe_mul]

theorem DP_re (i j : Fin 2176) : gp x w (ix4 n (head p h) i j) = ((pair x a b w n p).DP h i.val j.val : EReal) := by
  rw [gp_at, Pr.DP, lanes, coe_sum]
  refine Finset.sum_congr rfl fun d _ => ?_
  rw [w_re H n p, v_re H n p, EReal.coe_mul]

theorem E_eq (i : Fin 2176) (hi : 112 ≤ i.val) : (pair x a b w n p).E h i.val
    = ∑ j : Fin 2176, (pair x a b w n p).P h i.val j.val * (pair x a b w n p).DP h i.val j.val := by
  have e1 : ∀ l, ((pair x a b w n p).o i.val l).toReal
      = ∑ j : Fin 2176, (pair x a b w n p).v j.val l * (pair x a b w n p).P (hd l) i.val j.val := by
    intro l
    rw [show (pair x a b w n p).o i.val l = out x a b (ix3 n (pos i.val) ⟨p.val * 128 + l.val, by omega⟩) from rfl, pos_val,
      out_re H n p i l hi, EReal.toReal_coe]
  simp only [Pr.E, Pr.DP, lanes, e1, hd_ln, Finset.mul_sum]
  rw [Finset.sum_comm]
  refine Finset.sum_congr rfl fun j _ => Finset.sum_congr rfl fun d _ => ?_
  ring

theorem gs_re (i j : Fin 2176) : gs x a b w (ix4 n (head p h) i j) = ((pair x a b w n p).D h i.val j.val : EReal) := by
  rw [gs_at]
  by_cases ho : ok i.val j.val
  · have hi : 112 ≤ i.val := by have := ho.1; have := ho.2; omega
    have ht := (tr_pos (x := x) (a := a) (b := b) (w := w) n p h i hi).ne'
    simp only [if_pos ho, sum_re H n p h]
    simp only [e0_re H n p h, DP_re H n p h]
    rw [← EReal.coe_mul, Ideal.div_coe ht, Ideal.div_coe (mul_ne_zero ht ht), one_mul]
    simp only [← EReal.coe_mul]
    rw [← coe_sum, ← EReal.coe_neg, ← EReal.coe_add, ← EReal.coe_mul, Pr.D, E_eq H n p h i hi]
    refine congrArg _ ?_
    simp only [P_eq H n p h]
    have e : ∑ k : Fin 2176, (pair x a b w n p).DP h i.val k.val * (1 / (tr x a b w n p h i * tr x a b w n p h i)) * er x a b w n p h i k
        = 1 / tr x a b w n p h i * ∑ k : Fin 2176, er x a b w n p h i k / tr x a b w n p h i * (pair x a b w n p).DP h i.val k.val := by
      rw [Finset.mul_sum]
      exact Finset.sum_congr rfl fun k _ => by ring
    rw [e]
    ring
  · rw [if_neg ho, Pr.D_eq_zero _ ho, EReal.coe_zero]

theorem gq_re (i : Fin 2176) (l : Fin 128) : gq x a b w (ix4 n i (head p (hd l)) ⟨l.val % 64, by omega⟩)
    = ((pair x a b w n p).DQ i.val l : EReal) := by
  rw [gq_at, Pr.DQ, Finset.sum_mul, coe_sum]
  refine Finset.sum_congr rfl fun k _ => ?_
  rw [gs_re H n p, k_re H n p, ln_hd, ← EReal.coe_mul, ← EReal.coe_mul]
  exact congrArg _ (mul_right_comm _ _ _)

theorem gk_re (i : Fin 2176) (l : Fin 128) : gk x a b w (ix4 n i (head p (hd l)) ⟨l.val % 64, by omega⟩)
    = ((pair x a b w n p).DK i.val l : EReal) := by
  rw [gk_at, Pr.DK, coe_sum]
  refine Finset.sum_congr rfl fun k _ => ?_
  rw [gs_re H n p, q_re H n p, ln_hd, ← EReal.coe_mul, ← EReal.coe_mul]
  exact congrArg _ (by ring)

theorem w_pad (i : Fin 2176) (l : Fin 128) (hi : i.val < 112) : (pair x a b w n p).w i.val l = 0 := by
  simp only [pair, pos_val]
  rw [H.pad n i _ hi, EReal.toReal_zero]

theorem gv_re (i : Fin 2176) (l : Fin 128) : gv x a b w (ix4 n i (head p (hd l)) ⟨l.val % 64, by omega⟩)
    = ((pair x a b w n p).DV i.val l : EReal) := by
  rw [gv_at, Pr.DV, coe_sum]
  refine Finset.sum_congr rfl fun k _ => ?_
  rw [w_re H n p, ln_hd]
  by_cases hk : k.val < 112
  · rw [w_pad H n p k l hk, EReal.coe_zero, zero_mul, mul_zero, EReal.coe_zero]
  · rw [prob_P H n p _ k i (by omega), ← EReal.coe_mul, mul_comm]

/-- The three gradients, a pair's part. -/
theorem gall_re (i : Fin 2176) (l : Fin 384) : gall x a b w (ix3 n i ⟨p.val * 384 + l.val, by omega⟩)
    = ((pair x a b w n p).G i.val l.val : EReal) := by
  unfold gall
  rw [pairs_at]
  have e1 : (⟨(p.val * 384 + l.val) / 384, by omega⟩ : Fin 4) = p := Fin.ext (show (p.val * 384 + l.val) / 384 = p.val by omega)
  rw [e1]
  have hh : ∀ l : Fin 128, (⟨p.val * 2 + l.val / 64, by omega⟩ : Fin 8) = head p (hd l) := fun l => rfl
  by_cases h0 : l.val < 128
  · have e2 : (⟨(p.val * 384 + l.val) / 128 % 3, by omega⟩ : Fin 3) = 0 := Fin.ext (show (p.val * 384 + l.val) / 128 % 3 = 0 by omega)
    have e3 : (⟨(p.val * 384 + l.val) % 128, by omega⟩ : Fin 128) = ⟨l.val, h0⟩ := Fin.ext (show (p.val * 384 + l.val) % 128 = l.val by omega)
    rw [e2, e3, cat0, part_at, hh, gq_re H n p, Pr.G, dif_pos h0]
  · by_cases h1 : l.val - 128 < 128
    · have e2 : (⟨(p.val * 384 + l.val) / 128 % 3, by omega⟩ : Fin 3) = 1 := Fin.ext (show (p.val * 384 + l.val) / 128 % 3 = 1 by omega)
      have e3 : (⟨(p.val * 384 + l.val) % 128, by omega⟩ : Fin 128) = ⟨l.val - 128, h1⟩ := Fin.ext (show (p.val * 384 + l.val) % 128 = l.val - 128 by omega)
      rw [e2, e3, cat1, part_at, hh, gk_re H n p, Pr.G, dif_neg h0, dif_pos h1]
    · have h2 : l.val - 256 < 128 := by omega
      have e2 : (⟨(p.val * 384 + l.val) / 128 % 3, by omega⟩ : Fin 3) = 2 := Fin.ext (show (p.val * 384 + l.val) / 128 % 3 = 2 by omega)
      have e3 : (⟨(p.val * 384 + l.val) % 128, by omega⟩ : Fin 128) = ⟨l.val - 256, h2⟩ := Fin.ext (show (p.val * 384 + l.val) % 128 = l.val - 256 by omega)
      rw [e2, e3, cat2, part_at, hh, gv_re H n p, Pr.G, dif_neg h0, dif_neg h1, dif_pos h2]

/-- The gates' gradients. -/
theorem row_re (i : Fin 2176) : ∑ j, gs x a b w (ix4 n (head p h) i j) = ((∑ j : Fin 2176, (pair x a b w n p).D h i.val j.val : ℝ) : EReal) := by
  rw [coe_sum]
  exact Finset.sum_congr rfl fun j _ => gs_re H n p h i j

theorem col_re (j : Fin 2176) : ∑ i, -gs x a b w (ix4 n (head p h) i j) = ((-∑ i : Fin 2176, (pair x a b w n p).D h i.val j.val : ℝ) : EReal) := by
  rw [← Finset.sum_neg_distrib, coe_sum]
  exact Finset.sum_congr rfl fun i _ => by rw [gs_re H n p h i j, EReal.coe_neg]

/-- What the pair reads is as the kernel needs it. -/
theorem padded : (pair x a b w n p).Padded where
  o i l hi := by
    have hp : 112 ≤ (pos i).val := by simp only [pos]; omega
    simp only [pair]
    rw [out_re H n p (pos i) l hp, EReal.toReal_coe]
  pad i l hi := by
    have hp : (pos i).val < 112 := by simp only [pos]; omega
    simp only [pair]
    rw [H.pad n (pos i) _ hp, EReal.toReal_zero]
  lse h i hi := by
    have hp : 112 ≤ (pos i).val := by simp only [pos]; omega
    simp only [pair]
    rw [lse_re H n p h (pos i) hp, EReal.toReal_coe]
  bot h i hi := by
    have hp : (pos i).val < 112 := by simp only [pos]; omega
    simp only [pair]
    exact lse_pad H n p h (pos i) hp

end Cert.FoxX
-- ==== Proof.FoxSteps.lean ====
module

public import proofs.«01_k».proof.Proof.FoxMath
public import Idealize.ShloMosaic.Lib.Pipeline.ValueKit

@[expose] public section

set_option maxRecDepth 16384

/-! Sums the kernel accumulates block of rows by block of rows. -/

noncomputable section

open Idealize.ShloMosaic

namespace Cert.FoxX
open Cert.FoxXIdeal

variable (B : Pr)

/-- A sum over `N + 128` rows, the last 128 apart. -/
theorem sum_rows (f : ℕ → ℝ) (N : ℕ) :
    ∑ i ∈ Finset.range (N + 128), f i = ∑ i ∈ Finset.range N, f i + ∑ r : Fin 128, f (N + r.val) := by
  rw [Finset.sum_range_add, Finset.sum_range (fun r => f (N + r))]

/-- What the key's gate holds after `s` half steps. -/
def acc8 (s : ℕ) (h : Fin 2) (j : ℕ) : ℝ := -∑ i ∈ Finset.range (128 * ((s + 1 - h.val) / 2)), B.D h i j

theorem acc8_zero (h : Fin 2) (j : ℕ) : acc8 B 0 h j = 0 := by
  have := h.isLt
  have e : (0 + 1 - h.val) / 2 = 0 := by omega
  simp [acc8, e]

theorem acc8_step {s : ℕ} {h : Fin 2} (hh : h.val = s % 2) (j : ℕ) :
    acc8 B (s + 1) h j = acc8 B s h j - ∑ r : Fin 128, B.D h (128 * (s / 2) + r.val) j := by
  have e : 128 * ((s + 1 + 1 - h.val) / 2) = 128 * (s / 2) + 128 := by omega
  have e' : 128 * ((s + 1 - h.val) / 2) = 128 * (s / 2) := by omega
  rw [acc8, acc8, e, e', sum_rows]
  ring

theorem acc8_other {s : ℕ} {h : Fin 2} (hh : h.val ≠ s % 2) (j : ℕ) : acc8 B (s + 1) h j = acc8 B s h j := by
  have := h.isLt
  have e : (s + 1 + 1 - h.val) / 2 = (s + 1 - h.val) / 2 := by omega
  rw [acc8, acc8, e]

theorem acc8_beyond {s : ℕ} {h : Fin 2} (hh : h.val = s % 2) {j : ℕ} (hj : 128 * (s / 2 + 1) ≤ j) :
    acc8 B (s + 1) h j = acc8 B s h j := by
  rw [acc8_step B hh, Finset.sum_eq_zero, sub_zero]
  intro r _
  refine B.D_eq_zero fun ho => ?_
  have := ho.1
  omega

theorem acc8_last (h : Fin 2) (j : ℕ) : acc8 B 34 h j = -∑ i : Fin 2176, B.D h i.val j := by
  have := h.isLt
  have e : 128 * ((34 + 1 - h.val) / 2) = 2176 := by omega
  rw [acc8, e, Finset.sum_range]

/-- One half step: a read-modify-write of one head's first columns. -/
theorem step8 (s : ℕ) {kh hh : ℕ} {inb : ∀ a, (![0, hh, 0, 0] : Fin 4 → ℕ) a + (![1, 1, 1, kh] : Fin 4 → ℕ) a ≤ S1x2x1x2176.size a}
    {L : List (View.Piece (Elt Ideal) S1x2x1x2176 .f32)}
    {w : (Rect.unit (s := S1x2x1x2176) ![0, hh, 0, 0] ![1, 1, 1, kh] inb).shape.Idx → Elt Ideal .f32}
    (hkh : kh = 128 * (s / 2 + 1)) (hhh : hh = s % 2)
    (hL : ∀ y : S1x2x1x2176.Idx, View.canon L y = (acc8 B s (y 1) (y 3).val : EReal))
    (hw : (∀ y : S1x2x1x2176.Idx, View.canon L y = (acc8 B s (y 1) (y 3).val : EReal)) → ∀ (h : Fin 2), h.val = hh → ∀ k : Fin kh,
      w (ix4 0 0 0 k) = (acc8 B s h k.val : EReal) - ∑ r : Fin 128, (B.D h (128 * (s / 2) + r.val) k.val : EReal)) :
    ∀ y : S1x2x1x2176.Idx, View.canon (⟨Rect.unit ![0, hh, 0, 0] ![1, 1, 1, kh] inb, w⟩ :: L) y
      = (acc8 B (s + 1) (y 1) (y 3).val : EReal) := by
  intro y
  have y0 : (y 0).val < 1 := (y 0).isLt
  have y1 : (y 1).val < 2 := (y 1).isLt
  have y2 : (y 2).val < 1 := (y 2).isLt
  by_cases hy : (y 1).val = hh ∧ (y 3).val < kh
  · have e : y = (Rect.unit (s := S1x2x1x2176) ![0, hh, 0, 0] ![1, 1, 1, kh] inb).emb (ix4 0 0 0 ⟨(y 3).val, hy.2⟩) := by
      funext a
      refine Fin.ext ?_
      change (y a).val = (![0, hh, 0, 0] : Fin 4 → ℕ) a + 1 * (ix4 (0 : Fin 1) (0 : Fin 1) (0 : Fin 1) (⟨(y 3).val, hy.2⟩ : Fin kh) a).val
      fin_cases a
      · simpa using y0
      · simpa using hy.1
      · simpa using y2
      · simp
    conv_lhs => rw [e]
    rw [View.canon_cons_emb, hw hL (y 1) hy.1 ⟨(y 3).val, hy.2⟩, acc8_step B (hy.1.trans hhh), EReal.coe_sub, coe_sum]
  · rw [View.canon_cons_of_not_mem, hL]
    · by_cases h1 : (y 1).val = s % 2
      · rw [acc8_beyond B h1]
        omega
      · rw [acc8_other B h1]
    · intro hm
      have m1 := (LoadRect.mem_set _).mp hm (1 : Fin 4)
      have m3 := (LoadRect.mem_set _).mp hm (3 : Fin 4)
      obtain ⟨a, ha, ea⟩ := m1
      obtain ⟨b, hb, eb⟩ := m3
      have ha' : a < 1 := ha
      have hb' : b < kh := hb
      have ea' : (y 1).val = hh + 1 * a := ea
      have eb' : (y 3).val = 0 + 1 * b := eb
      exact hy ⟨by omega, by omega⟩

/-- What a scratch buffer of keys or values holds after `n` blocks of rows. -/
def accR (f : ℕ → ℕ → Fin 128 → ℝ) (n : ℕ) (j : ℕ) (l : Fin 128) : ℝ := ∑ i ∈ Finset.range (128 * n), f i j l

theorem accR_zero (f : ℕ → ℕ → Fin 128 → ℝ) (j : ℕ) (l : Fin 128) : accR f 0 j l = 0 := by simp [accR]

theorem accR_step (f : ℕ → ℕ → Fin 128 → ℝ) (n j : ℕ) (l : Fin 128) :
    accR f (n + 1) j l = accR f n j l + ∑ r : Fin 128, f (128 * n + r.val) j l :=
  sum_rows (fun i => f i j l) (128 * n)

theorem accR_last (f : ℕ → ℕ → Fin 128 → ℝ) (j : ℕ) (l : Fin 128) : accR f 17 j l = ∑ i : Fin 2176, f i.val j l :=
  Finset.sum_range (fun i => f i j l)

/-- One block's read-modify-write of the first rows. -/
theorem stepR {f : ℕ → ℕ → Fin 128 → ℝ} (hf : ∀ i j l, i < j → f i j l = 0) (n : ℕ) {kh : ℕ}
    {inb : ∀ a, (![0, 0] : Fin 2 → ℕ) a + (![kh, 128] : Fin 2 → ℕ) a ≤ S2176x128.size a}
    {L : List (View.Piece (Elt Ideal) S2176x128 .f32)}
    {w : (Rect.unit (s := S2176x128) ![0, 0] ![kh, 128] inb).shape.Idx → Elt Ideal .f32}
    (hkh : kh = 128 * (n + 1))
    (hL : ∀ y : S2176x128.Idx, View.canon L y = (accR f n (y 0).val (y 1) : EReal))
    (hw : (∀ y : S2176x128.Idx, View.canon L y = (accR f n (y 0).val (y 1) : EReal)) → ∀ (k : Fin kh) (l : Fin 128),
      w (ix2 k l) = (accR f n k.val l : EReal) + ∑ r : Fin 128, (f (128 * n + r.val) k.val l : EReal)) :
    ∀ y : S2176x128.Idx, View.canon (⟨Rect.unit ![0, 0] ![kh, 128] inb, w⟩ :: L) y
      = (accR f (n + 1) (y 0).val (y 1) : EReal) := by
  intro y
  have y1 : (y 1).val < 128 := (y 1).isLt
  by_cases hy : (y 0).val < kh
  · have e : y = (Rect.unit (s := S2176x128) ![0, 0] ![kh, 128] inb).emb (ix2 (⟨(y 0).val, hy⟩ : Fin kh) (⟨(y 1).val, y1⟩ : Fin 128)) := by
      funext a
      refine Fin.ext ?_
      change (y a).val = (![0, 0] : Fin 2 → ℕ) a + 1 * (ix2 (⟨(y 0).val, hy⟩ : Fin kh) (⟨(y 1).val, y1⟩ : Fin 128) a).val
      fin_cases a <;> simp
    conv_lhs => rw [e]
    rw [View.canon_cons_emb, hw hL ⟨(y 0).val, hy⟩ ⟨(y 1).val, y1⟩]
    refine Eq.trans ?_ (congrArg _ (accR_step f n _ _)).symm
    rw [EReal.coe_add, coe_sum]
    rfl
  · rw [View.canon_cons_of_not_mem, hL]
    · refine congrArg _ ((accR_step f n _ _).trans ?_).symm
      rw [Finset.sum_eq_zero, add_zero]
      intro r _
      exact hf _ _ _ (by omega)
    · intro hm
      obtain ⟨b, hb, eb⟩ := (LoadRect.mem_set _).mp hm (0 : Fin 2)
      have hb' : b < kh := hb
      have eb' : (y 0).val = 0 + 1 * b := eb
      omega

end Cert.FoxX
-- ==== Proof.FoxKeys.lean ====
module

public import proofs.«01_k».proof.Proof.Gen.FoxXIdeal.Value
public import proofs.«01_k».proof.Proof.FoxMath
public import proofs.«01_k».proof.Proof.FoxSteps
public import proofs.«01_k».proof.Proof.FoxTiles
public import Idealize.ShloMosaic.Lib.Pipeline.ValueKit
public import Idealize.ShloMosaic.Lib.Pointwise
public import Idealize.ShloMosaic.Lib.Claim

@[expose] public section

set_option maxRecDepth 16384

/-! What the kernel accumulates for keys and values. -/

noncomputable section

open Idealize.ShloMosaic Idealize.ShloMosaic.TcCoe Idealize.SL.Sem Idealize.ShloMosaic.WordCmp
open Idealize.ShloMosaic.Pipeline (Dat)

namespace Cert.FoxX
open Cert.FoxXIdeal Cert.FoxXIdeal.Gen

variable (c : Dev nD) (i : grid0.Coords)
  (arg2 : Memref sig .tc .vmem S1x2176x384 .bf16) (harg2 : arg2.IsWhole)
  (arg3 : Memref sig .tc .vmem S1x2x2176x1 .f32) (harg3 : arg3.IsWhole)
  (arg4 : Memref sig .tc .vmem S1x2x1x2176 .f32) (harg4 : arg4.IsWhole)
  (arg5 : Memref sig .tc .vmem S1x2176x128 .bf16) (harg5 : arg5.IsWhole)
  (arg6 : Memref sig .tc .vmem S1x2x2176x1 .f32) (harg6 : arg6.IsWhole)
  (arg7 : Memref sig .tc .vmem S1x2176x128 .bf16) (harg7 : arg7.IsWhole)
  (arg8 : Memref sig .tc .vmem S1x2176x384 .bf16) (harg8 : arg8.IsWhole)
  (arg9 : Memref sig .tc .vmem S1x2x2176x1 .f32) (harg9 : arg9.IsWhole)
  (arg10 : Memref sig .tc .vmem S1x2x1x2176 .f32) (harg10 : arg10.IsWhole)
  (arg11 : Memref sig .tc .vmem S2176x128 .f32) (harg11 : arg11.IsWhole)
  (arg12 : Memref sig .tc .vmem S2176x128 .f32) (harg12 : arg12.IsWhole)
  (x0 : Vec Ideal S1x2176x384 .bf16) (x1 : Vec Ideal S1x2x2176x1 .f32) (x2 : Vec Ideal S1x2x1x2176 .f32)
  (x3 : Vec Ideal S1x2176x128 .bf16) (x4 : Vec Ideal S1x2x2176x1 .f32) (x5 : Vec Ideal S1x2176x128 .bf16)
variable {c i arg2 harg2 arg3 harg3 arg4 harg4 arg5 harg5 arg6 harg6 arg7 harg7 arg8 harg8 arg9 harg9 arg10 harg10
  arg11 harg11 arg12 harg12 x0 x1 x2 x3 x4 x5}

set_option maxHeartbeats 16000000 in
/-- The sums the kernel holds for the keys. -/
theorem chainK {B : Pr} (Bp : B.Padded) (Bk : B.Blk x0 x1 x2 x3 x4 x5) : ∀ y : S2176x128.Idx,
    View.canon (kernelRun0_A.sl.HS0_18 c arg2 harg2 arg3 harg3 arg4 harg4 arg5 harg5 arg6 harg6 arg7 harg7 arg11 x0 x1 x2 x3 x4 x5) y
      = (accR (fun i j l => B.D (hd l) i j * (B.q i l * (1 / 8))) 17 (y 0).val (y 1) : EReal) := by
  have hf : ∀ i j l, i < j → (fun (i j : ℕ) (l : Fin 128) => B.D (hd l) i j * (B.q i l * (1 / 8))) i j l = 0 := by
    intro i j l hij
    simp only [B.D_eq_zero (h := hd l) (i := i) (j := j) (fun ho => by have := ho.1; omega), zero_mul]
  iterate 17 refine stepR hf _ rfl ?_ ?_
  · intro y
    refine Eq.trans ?_ (congrArg _ (accR_zero _ (y 0).val (y 1))).symm
    unfold kernelRun0_A.sl.HS0_1
    clear Bk Bp
    canon_tiles x h
    frame_out
    open_payloads
    pointwise [Memref.IsWhole.read_unread]
    exact EReal.coe_zero.symm
  all_goals
    intro hL k l
    simp only [kernelRun0_A.sl.v158, kernelRun0_A.sl.v668, kernelRun0_A.sl.v1518, kernelRun0_A.sl.v2198, kernelRun0_A.sl.v1348,
      kernelRun0_A.sl.v1688, kernelRun0_A.sl.v1008, kernelRun0_A.sl.v1520, kernelRun0_A.sl.v1352,
      kernelRun0_A.sl.v498, kernelRun0_A.sl.v328, kernelRun0_A.sl.v2708, kernelRun0_A.sl.v164, kernelRun0_A.sl.v162,
      kernelRun0_A.sl.v1012, kernelRun0_A.sl.v670, kernelRun0_A.sl.v330, kernelRun0_A.sl.v1010, kernelRun0_A.sl.v166,
      kernelRun0_A.sl.v673, kernelRun0_A.sl.v672, kernelRun0_A.sl.v1692, kernelRun0_A.sl.v1178, kernelRun0_A.sl.v2902,
      kernelRun0_A.sl.v1523, kernelRun0_A.sl.v502, kernelRun0_A.sl.v2538, kernelRun0_A.sl.v2878,
      kernelRun0_A.sl.v1690, kernelRun0_A.sl.v160, kernelRun0_A.sl.v163, kernelRun0_A.sl.v2368, kernelRun0_A.sl.v2028,
      kernelRun0_A.sl.v1013, kernelRun0_A.sl.v838, kernelRun0_A.sl.v1858, kernelRun0_A.sl.v2030,
      kernelRun0_A.sl.v2033, kernelRun0_A.sl.v840, kernelRun0_A.sl.v333, kernelRun0_A.sl.v500, kernelRun0_A.sl.v1182,
      kernelRun0_A.sl.v1522, kernelRun0_A.sl.v1350, kernelRun0_A.sl.v1180, kernelRun0_A.sl.v843, kernelRun0_A.sl.v168,
      kernelRun0_A.sl.v332, kernelRun0_A.sl.v169, kernelRun0_A.sl.v1183, kernelRun0_A.sl.v1862, kernelRun0_A.sl.v1353,
      kernelRun0_A.sl.v842, kernelRun0_A.sl.v1693, kernelRun0_A.sl.v2032, kernelRun0_A.sl.v503, kernelRun0_A.sl.v1860,
      kernelRun0_A.sl.v1863]
    simp only [View.readCov_eq_canon', hL]
    frame_out
    open_payloads
    pointwise
    pointwise [Memref.IsWhole.read_unread]
    simp (disch := first | omega | rfl) only [Bk.q, Bk.k, Bk.v, Bk.w, Bk.o, Bk.cc, Bk.cr, Bk.lse, eighth, masked, ok_word,
      qk_lo, qk_hi, dp_lo, dp_hi, Bp.e_lo, Bp.e_hi, Bp.p_cell, d_cell]
  · refine Eq.trans ?_ (halvesK 0 _ _ _)
    simp only [Nat.zero_add]
  all_goals exact halvesK _ _ _ _

end Cert.FoxX
-- ==== Proof.FoxValues.lean ====
module

public import proofs.«01_k».proof.Proof.Gen.FoxXIdeal.Value
public import proofs.«01_k».proof.Proof.FoxMath
public import proofs.«01_k».proof.Proof.FoxSteps
public import proofs.«01_k».proof.Proof.FoxTiles
public import Idealize.ShloMosaic.Lib.Pipeline.ValueKit
public import Idealize.ShloMosaic.Lib.Pointwise
public import Idealize.ShloMosaic.Lib.Claim

@[expose] public section

set_option maxRecDepth 16384

/-! What the kernel accumulates for keys and values. -/

noncomputable section

open Idealize.ShloMosaic Idealize.ShloMosaic.TcCoe Idealize.SL.Sem Idealize.ShloMosaic.WordCmp
open Idealize.ShloMosaic.Pipeline (Dat)

namespace Cert.FoxX
open Cert.FoxXIdeal Cert.FoxXIdeal.Gen

variable (c : Dev nD) (i : grid0.Coords)
  (arg2 : Memref sig .tc .vmem S1x2176x384 .bf16) (harg2 : arg2.IsWhole)
  (arg3 : Memref sig .tc .vmem S1x2x2176x1 .f32) (harg3 : arg3.IsWhole)
  (arg4 : Memref sig .tc .vmem S1x2x1x2176 .f32) (harg4 : arg4.IsWhole)
  (arg5 : Memref sig .tc .vmem S1x2176x128 .bf16) (harg5 : arg5.IsWhole)
  (arg6 : Memref sig .tc .vmem S1x2x2176x1 .f32) (harg6 : arg6.IsWhole)
  (arg7 : Memref sig .tc .vmem S1x2176x128 .bf16) (harg7 : arg7.IsWhole)
  (arg8 : Memref sig .tc .vmem S1x2176x384 .bf16) (harg8 : arg8.IsWhole)
  (arg9 : Memref sig .tc .vmem S1x2x2176x1 .f32) (harg9 : arg9.IsWhole)
  (arg10 : Memref sig .tc .vmem S1x2x1x2176 .f32) (harg10 : arg10.IsWhole)
  (arg11 : Memref sig .tc .vmem S2176x128 .f32) (harg11 : arg11.IsWhole)
  (arg12 : Memref sig .tc .vmem S2176x128 .f32) (harg12 : arg12.IsWhole)
  (x0 : Vec Ideal S1x2176x384 .bf16) (x1 : Vec Ideal S1x2x2176x1 .f32) (x2 : Vec Ideal S1x2x1x2176 .f32)
  (x3 : Vec Ideal S1x2176x128 .bf16) (x4 : Vec Ideal S1x2x2176x1 .f32) (x5 : Vec Ideal S1x2176x128 .bf16)
variable {c i arg2 harg2 arg3 harg3 arg4 harg4 arg5 harg5 arg6 harg6 arg7 harg7 arg8 harg8 arg9 harg9 arg10 harg10
  arg11 harg11 arg12 harg12 x0 x1 x2 x3 x4 x5}

set_option maxHeartbeats 16000000 in
/-- The sums the kernel holds for the values. -/
theorem chainV {B : Pr} (Bp : B.Padded) (Bk : B.Blk x0 x1 x2 x3 x4 x5) : ∀ y : S2176x128.Idx,
    View.canon (kernelRun0_A.sl.HS1_18 c arg2 harg2 arg3 harg3 arg4 harg4 arg6 harg6 arg7 harg7 arg12 x0 x1 x2 x4 x5) y
      = (accR (fun i j l => B.P (hd l) i j * B.w i l) 17 (y 0).val (y 1) : EReal) := by
  have hf : ∀ i j l, i < j → (fun (i j : ℕ) (l : Fin 128) => B.P (hd l) i j * B.w i l) i j l = 0 := by
    intro i j l hij
    simp only [B.P_eq_zero (h := hd l) (i := i) (j := j) (fun ho => by have := ho.1; omega), zero_mul]
  iterate 17 refine stepR hf _ rfl ?_ ?_
  · intro y
    refine Eq.trans ?_ (congrArg _ (accR_zero _ (y 0).val (y 1))).symm
    unfold kernelRun0_A.sl.HS0_1
    clear Bk Bp
    canon_tiles x h
    frame_out
    open_payloads
    pointwise [Memref.IsWhole.read_unread]
    exact EReal.coe_zero.symm
  all_goals
    intro hL k l
    simp only [kernelRun0_A.sl.v164, kernelRun0_A.sl.v166, kernelRun0_A.sl.v168, kernelRun0_A.sl.v169, kernelRun0_A.sl.v334,
      kernelRun0_A.sl.v674, kernelRun0_A.sl.v678, kernelRun0_A.sl.v2907, kernelRun0_A.sl.v2884, kernelRun0_A.sl.v1864,
      kernelRun0_A.sl.v338, kernelRun0_A.sl.v1524, kernelRun0_A.sl.v1184, kernelRun0_A.sl.v2204,
      kernelRun0_A.sl.v2714, kernelRun0_A.sl.v2374, kernelRun0_A.sl.v336, kernelRun0_A.sl.v1528,
      kernelRun0_A.sl.v2544, kernelRun0_A.sl.v1866, kernelRun0_A.sl.v1186, kernelRun0_A.sl.v1014,
      kernelRun0_A.sl.v2034, kernelRun0_A.sl.v1694, kernelRun0_A.sl.v844, kernelRun0_A.sl.v1016,
      kernelRun0_A.sl.v1354, kernelRun0_A.sl.v2038, kernelRun0_A.sl.v1358, kernelRun0_A.sl.v504, kernelRun0_A.sl.v508,
      kernelRun0_A.sl.v1526, kernelRun0_A.sl.r_109, kernelRun0_A.sl.v1019, kernelRun0_A.sl.v676,
      kernelRun0_A.sl.v1698, kernelRun0_A.sl.v1868, kernelRun0_A.sl.v1529, kernelRun0_A.sl.v1188,
      kernelRun0_A.sl.v1869, kernelRun0_A.sl.v339, kernelRun0_A.sl.v506, kernelRun0_A.sl.v1696, kernelRun0_A.sl.v1189,
      kernelRun0_A.sl.v848, kernelRun0_A.sl.v1356, kernelRun0_A.sl.v1018, kernelRun0_A.sl.v846, kernelRun0_A.sl.v2036,
      kernelRun0_A.sl.v1699, kernelRun0_A.sl.v679, kernelRun0_A.sl.v849, kernelRun0_A.sl.v509, kernelRun0_A.sl.v1359,
      kernelRun0_A.sl.v2039]
    simp only [View.readCov_eq_canon', hL]
    frame_out
    open_payloads
    pointwise
    pointwise [Memref.IsWhole.read_unread]
    simp (disch := first | omega | rfl) only [Bk.q, Bk.k, Bk.v, Bk.w, Bk.o, Bk.cc, Bk.cr, Bk.lse, eighth, masked, ok_word,
      qk_lo, qk_hi, dp_lo, dp_hi, Bp.e_lo, Bp.e_hi, Bp.p_cell, d_cell]
  · refine Eq.trans ?_ (halvesV 0 _ _ _)
    simp only [Nat.zero_add]
  all_goals exact halvesV _ _ _ _

end Cert.FoxX
-- ==== Proof.FoxSix.lean ====
module

public import proofs.«01_k».proof.Proof.Gen.FoxXIdeal.Value
public import proofs.«01_k».proof.Proof.FoxMath
public import proofs.«01_k».proof.Proof.FoxSteps
public import proofs.«01_k».proof.Proof.FoxTiles
public import proofs.«01_k».proof.Proof.FoxKeys
public import proofs.«01_k».proof.Proof.FoxValues
public import Idealize.ShloMosaic.Lib.Pipeline.ValueKit
public import Idealize.ShloMosaic.Lib.Pointwise
public import Idealize.ShloMosaic.Lib.Claim

@[expose] public section

set_option maxRecDepth 16384

/-! The block of the gradients of queries, keys and values. -/

noncomputable section

open Idealize.ShloMosaic Idealize.ShloMosaic.TcCoe Idealize.SL.Sem Idealize.ShloMosaic.WordCmp
open Idealize.ShloMosaic.Pipeline (Dat)

namespace Cert.FoxX
open Cert.FoxXIdeal Cert.FoxXIdeal.Gen

variable (c : Dev nD) (i : grid0.Coords)
  (arg2 : Memref sig .tc .vmem S1x2176x384 .bf16) (harg2 : arg2.IsWhole)
  (arg3 : Memref sig .tc .vmem S1x2x2176x1 .f32) (harg3 : arg3.IsWhole)
  (arg4 : Memref sig .tc .vmem S1x2x1x2176 .f32) (harg4 : arg4.IsWhole)
  (arg5 : Memref sig .tc .vmem S1x2176x128 .bf16) (harg5 : arg5.IsWhole)
  (arg6 : Memref sig .tc .vmem S1x2x2176x1 .f32) (harg6 : arg6.IsWhole)
  (arg7 : Memref sig .tc .vmem S1x2176x128 .bf16) (harg7 : arg7.IsWhole)
  (arg8 : Memref sig .tc .vmem S1x2176x384 .bf16) (harg8 : arg8.IsWhole)
  (arg9 : Memref sig .tc .vmem S1x2x2176x1 .f32) (harg9 : arg9.IsWhole)
  (arg10 : Memref sig .tc .vmem S1x2x1x2176 .f32) (harg10 : arg10.IsWhole)
  (arg11 : Memref sig .tc .vmem S2176x128 .f32) (harg11 : arg11.IsWhole)
  (arg12 : Memref sig .tc .vmem S2176x128 .f32) (harg12 : arg12.IsWhole)
  (x0 : Vec Ideal S1x2176x384 .bf16) (x1 : Vec Ideal S1x2x2176x1 .f32) (x2 : Vec Ideal S1x2x1x2176 .f32)
  (x3 : Vec Ideal S1x2176x128 .bf16) (x4 : Vec Ideal S1x2x2176x1 .f32) (x5 : Vec Ideal S1x2176x128 .bf16)
variable {c i arg2 harg2 arg3 harg3 arg4 harg4 arg5 harg5 arg6 harg6 arg7 harg7 arg8 harg8 arg9 harg9 arg10 harg10
  arg11 harg11 arg12 harg12 x0 x1 x2 x3 x4 x5}

set_option maxHeartbeats 16000000 in
/-- The block the kernel leaves: the gradients of queries, keys and values side by side. -/
theorem point6 {B : Pr} (Bp : B.Padded) (Bk : B.Blk x0 x1 x2 x3 x4 x5) (y : S1x2176x384.Idx) :
    View.canon (kernelRun0_A c i arg2 harg2 arg3 harg3 arg4 harg4 arg5 harg5 arg6 harg6 arg7 harg7 arg8 harg8 arg9 harg9 arg10 harg10 arg11 harg11 arg12 harg12 x0 x1 x2 x3 x4 x5).1 y
      = (B.G (y 1).val (y 2).val : EReal) := by
  unfold kernelRun0_A
  dsimp only
  canon_tiles x h using cover0_A_6 c i arg2 harg2 arg3 harg3 arg4 harg4 arg5 harg5 arg6 harg6 arg7 harg7 arg8 harg8 arg9 harg9 arg10 harg10 arg11 harg11 arg12 harg12 x0 x1 x2 x3 x4 x5 y
  · simp only [kernelRun0_A.sl.v2907, View.readCov_eq_canon']
    open_payloads
    pointwise
    refine (chainV Bp Bk (ix2 (x 1) (x 2))).trans (congrArg _ ?_)
    refine (accR_last _ _ _).trans ?_
    exact dv_tile (l := x 2) h1.symm h2
  · simp only [kernelRun0_A.sl.v2902, View.readCov_eq_canon']
    open_payloads
    pointwise
    refine (chainK Bp Bk (ix2 (x 1) (x 2))).trans (congrArg _ ?_)
    refine (accR_last _ _ _).trans ?_
    exact dk_tile (l := x 2) h1.symm h2
  all_goals
    frame_out
    open_payloads
    pointwise
    pointwise [Memref.IsWhole.read_unread]
    obtain ⟨l, hl⟩ : ∃ l : Fin 128, l.val = (x 2).val := ⟨x 2, rfl⟩
    simp (disch := first | omega | rfl) only [← hl, Bk.q, Bk.k, Bk.v, Bk.w, Bk.o, Bk.cc, Bk.cr, Bk.lse, eighth, masked, ok_word,
      qk_lo, qk_hi, dp_lo, dp_hi, Bp.e_lo, Bp.e_hi, Bp.p_cell, d_cell]
    refine dq_tile ?_ ?_ ?_ ?_ <;> first | omega | (simp; omega)

end Cert.FoxX
-- ==== Proof.FoxSeven.lean ====
module

public import proofs.«01_k».proof.Proof.Gen.FoxXIdeal.Value
public import proofs.«01_k».proof.Proof.FoxMath
public import Idealize.ShloMosaic.Lib.Pipeline.ValueKit
public import Idealize.ShloMosaic.Lib.Pointwise
public import Idealize.ShloMosaic.Lib.Claim

@[expose] public section

set_option maxRecDepth 16384

/-! The forgetting attention's backward kernel: what it leaves for the query's gate. -/

noncomputable section

open Idealize.ShloMosaic Idealize.ShloMosaic.TcCoe Idealize.SL.Sem Idealize.ShloMosaic.WordCmp
open Idealize.ShloMosaic.Pipeline (Dat)

namespace Cert.FoxX
open Cert.FoxXIdeal Cert.FoxXIdeal.Gen

variable (c : Dev nD) (i : grid0.Coords)
  (arg2 : Memref sig .tc .vmem S1x2176x384 .bf16) (harg2 : arg2.IsWhole)
  (arg3 : Memref sig .tc .vmem S1x2x2176x1 .f32) (harg3 : arg3.IsWhole)
  (arg4 : Memref sig .tc .vmem S1x2x1x2176 .f32) (harg4 : arg4.IsWhole)
  (arg5 : Memref sig .tc .vmem S1x2176x128 .bf16) (harg5 : arg5.IsWhole)
  (arg6 : Memref sig .tc .vmem S1x2x2176x1 .f32) (harg6 : arg6.IsWhole)
  (arg7 : Memref sig .tc .vmem S1x2176x128 .bf16) (harg7 : arg7.IsWhole)
  (arg8 : Memref sig .tc .vmem S1x2176x384 .bf16) (harg8 : arg8.IsWhole)
  (arg9 : Memref sig .tc .vmem S1x2x2176x1 .f32) (harg9 : arg9.IsWhole)
  (arg10 : Memref sig .tc .vmem S1x2x1x2176 .f32) (harg10 : arg10.IsWhole)
  (arg11 : Memref sig .tc .vmem S2176x128 .f32) (harg11 : arg11.IsWhole)
  (arg12 : Memref sig .tc .vmem S2176x128 .f32) (harg12 : arg12.IsWhole)
  (x0 : Vec Ideal S1x2176x384 .bf16) (x1 : Vec Ideal S1x2x2176x1 .f32) (x2 : Vec Ideal S1x2x1x2176 .f32)
  (x3 : Vec Ideal S1x2176x128 .bf16) (x4 : Vec Ideal S1x2x2176x1 .f32) (x5 : Vec Ideal S1x2176x128 .bf16)
variable {c i arg2 harg2 arg3 harg3 arg4 harg4 arg5 harg5 arg6 harg6 arg7 harg7 arg8 harg8 arg9 harg9 arg10 harg10
  arg11 harg11 arg12 harg12 x0 x1 x2 x3 x4 x5}

set_option maxHeartbeats 4000000 in
/-- The block the kernel leaves for the query's gate: each row's sum of the score's gradients. -/
theorem point7 {B : Pr} (Bp : B.Padded) (Bk : B.Blk x0 x1 x2 x3 x4 x5) (y : S1x2x2176x1.Idx) :
    View.canon (kernelRun0_A c i arg2 harg2 arg3 harg3 arg4 harg4 arg5 harg5 arg6 harg6 arg7 harg7 arg8 harg8 arg9
      harg9 arg10 harg10 arg11 harg11 arg12 harg12 x0 x1 x2 x3 x4 x5).2.1 y
      = ((∑ j : Fin 2176, B.D (y 1) (y 2).val j.val : ℝ) : EReal) := by
  unfold kernelRun0_A
  dsimp only
  canon_tiles x h
  all_goals
    frame_out
    open_payloads
    pointwise [Memref.IsWhole.read_unread]
    simp (disch := first | omega | rfl) only [Bk.q, Bk.k, Bk.v, Bk.w, Bk.o, Bk.cc, Bk.cr, Bk.lse, eighth, masked, ok_word,
      qk_lo, qk_hi, dp_lo, dp_hi, Bp.e_lo, Bp.e_hi, Bp.p_cell, d_cell]
    refine dcq_tile ?_ ?_ ?_ ?_ <;> first | omega | (simp; omega)

end Cert.FoxX
-- ==== Proof.FoxEight.lean ====
module

public import proofs.«01_k».proof.Proof.Gen.FoxXIdeal.Value
public import proofs.«01_k».proof.Proof.FoxMath
public import proofs.«01_k».proof.Proof.FoxSteps
public import Idealize.ShloMosaic.Lib.Pipeline.ValueKit
public import Idealize.ShloMosaic.Lib.Pointwise
public import Idealize.ShloMosaic.Lib.Claim

@[expose] public section

set_option maxRecDepth 16384

/-! The block the kernel leaves for the key's gate. -/

noncomputable section

open Idealize.ShloMosaic Idealize.ShloMosaic.TcCoe Idealize.SL.Sem Idealize.ShloMosaic.WordCmp
open Idealize.ShloMosaic.Pipeline (Dat)

namespace Cert.FoxX
open Cert.FoxXIdeal Cert.FoxXIdeal.Gen

variable (c : Dev nD) (i : grid0.Coords)
  (arg2 : Memref sig .tc .vmem S1x2176x384 .bf16) (harg2 : arg2.IsWhole)
  (arg3 : Memref sig .tc .vmem S1x2x2176x1 .f32) (harg3 : arg3.IsWhole)
  (arg4 : Memref sig .tc .vmem S1x2x1x2176 .f32) (harg4 : arg4.IsWhole)
  (arg5 : Memref sig .tc .vmem S1x2176x128 .bf16) (harg5 : arg5.IsWhole)
  (arg6 : Memref sig .tc .vmem S1x2x2176x1 .f32) (harg6 : arg6.IsWhole)
  (arg7 : Memref sig .tc .vmem S1x2176x128 .bf16) (harg7 : arg7.IsWhole)
  (arg8 : Memref sig .tc .vmem S1x2176x384 .bf16) (harg8 : arg8.IsWhole)
  (arg9 : Memref sig .tc .vmem S1x2x2176x1 .f32) (harg9 : arg9.IsWhole)
  (arg10 : Memref sig .tc .vmem S1x2x1x2176 .f32) (harg10 : arg10.IsWhole)
  (arg11 : Memref sig .tc .vmem S2176x128 .f32) (harg11 : arg11.IsWhole)
  (arg12 : Memref sig .tc .vmem S2176x128 .f32) (harg12 : arg12.IsWhole)
  (x0 : Vec Ideal S1x2176x384 .bf16) (x1 : Vec Ideal S1x2x2176x1 .f32) (x2 : Vec Ideal S1x2x1x2176 .f32)
  (x3 : Vec Ideal S1x2176x128 .bf16) (x4 : Vec Ideal S1x2x2176x1 .f32) (x5 : Vec Ideal S1x2176x128 .bf16)
variable {c i arg2 harg2 arg3 harg3 arg4 harg4 arg5 harg5 arg6 harg6 arg7 harg7 arg8 harg8 arg9 harg9 arg10 harg10
  arg11 harg11 arg12 harg12 x0 x1 x2 x3 x4 x5}

set_option maxHeartbeats 4000000 in
/-- The block the kernel leaves for the key's gate: each column's sum of the score's gradients, negated. -/
theorem point8 {B : Pr} (Bp : B.Padded) (Bk : B.Blk x0 x1 x2 x3 x4 x5) (y : S1x2x1x2176.Idx) :
    View.canon (kernelRun0_A c i arg2 harg2 arg3 harg3 arg4 harg4 arg5 harg5 arg6 harg6 arg7 harg7 arg8 harg8 arg9 harg9 arg10 harg10 arg11 harg11 arg12 harg12 x0 x1 x2 x3 x4 x5).2.2.1 y
      = ((-∑ i : Fin 2176, B.D (y 1) i.val (y 3).val : ℝ) : EReal) := by
  refine Eq.trans ?_ (congrArg _ (acc8_last B (y 1) (y 3).val))
  unfold kernelRun0_A
  dsimp only
  revert y
  iterate 34 refine step8 B _ rfl rfl ?_ ?_
  · intro y
    refine Eq.trans ?_ (congrArg _ (acc8_zero B (y 1) (y 3).val)).symm
    unfold kernelRun0_A.sl.H8_1
    clear Bk Bp
    canon_tiles x h
    frame_out
    open_payloads
    pointwise [Memref.IsWhole.read_unread]
    exact EReal.coe_zero.symm
  all_goals
    intro hL h hh k
    obtain rfl | rfl : h = 0 ∨ h = 1 := by omega
    all_goals first | exact absurd hh (by decide) | skip
    simp only [kernelRun0_A.sl.v315, kernelRun0_A.sl.v98, kernelRun0_A.sl.v1118, kernelRun0_A.sl.v655, kernelRun0_A.sl.v2818,
      kernelRun0_A.sl.v1798, kernelRun0_A.sl.r_2, kernelRun0_A.sl.v1165, kernelRun0_A.sl.v1340, kernelRun0_A.sl.v2308,
      kernelRun0_A.sl.v1505, kernelRun0_A.sl.v2355, kernelRun0_A.sl.v948, kernelRun0_A.sl.v2015,
      kernelRun0_A.sl.v2525, kernelRun0_A.sl.v2138, kernelRun0_A.sl.v778, kernelRun0_A.sl.v438, kernelRun0_A.sl.v830,
      kernelRun0_A.sl.v1675, kernelRun0_A.sl.v656, kernelRun0_A.sl.v1335, kernelRun0_A.sl.v145, kernelRun0_A.sl.r_14,
      kernelRun0_A.sl.v1628, kernelRun0_A.sl.v268, kernelRun0_A.sl.v1458, kernelRun0_A.sl.v779, kernelRun0_A.sl.v2648,
      kernelRun0_A.sl.v831, kernelRun0_A.sl.v1968, kernelRun0_A.sl.v2695, kernelRun0_A.sl.v608, kernelRun0_A.sl.r_53,
      kernelRun0_A.sl.v485, kernelRun0_A.sl.v2865, kernelRun0_A.sl.v1845, kernelRun0_A.sl.v1288, kernelRun0_A.sl.v782,
      kernelRun0_A.sl.v659, kernelRun0_A.sl.v825, kernelRun0_A.sl.v995, kernelRun0_A.sl.v2478, kernelRun0_A.sl.v1850,
      kernelRun0_A.sl.v2185, kernelRun0_A.sl.v1506, kernelRun0_A.sl.r_91, kernelRun0_A.sl.v1799,
      kernelRun0_A.sl.v2016, kernelRun0_A.sl.v2019, kernelRun0_A.sl.r_40, kernelRun0_A.sl.v2022,
      kernelRun0_A.sl.v1166, kernelRun0_A.sl.v1341, kernelRun0_A.sl.v269, kernelRun0_A.sl.v1676, kernelRun0_A.sl.r_26,
      kernelRun0_A.sl.v146, kernelRun0_A.sl.v486, kernelRun0_A.sl.v832, kernelRun0_A.sl.r_66, kernelRun0_A.sl.v322,
      kernelRun0_A.sl.r_79, kernelRun0_A.sl.v1289, kernelRun0_A.sl.v1169, kernelRun0_A.sl.v1849, kernelRun0_A.sl.v785,
      kernelRun0_A.sl.v1852, kernelRun0_A.sl.v272, kernelRun0_A.sl.v149, kernelRun0_A.sl.v1851, kernelRun0_A.sl.v662,
      kernelRun0_A.sl.v996, kernelRun0_A.sl.v1802, kernelRun0_A.sl.v1509, kernelRun0_A.sl.v999, kernelRun0_A.sl.v1172,
      kernelRun0_A.sl.v1679, kernelRun0_A.sl.v152, kernelRun0_A.sl.v1342, kernelRun0_A.sl.v489, kernelRun0_A.sl.v275,
      kernelRun0_A.sl.v1512, kernelRun0_A.sl.v1292, kernelRun0_A.sl.v1805, kernelRun0_A.sl.v1682,
      kernelRun0_A.sl.v1002, kernelRun0_A.sl.v1295, kernelRun0_A.sl.v492]
    simp only [View.readCov_eq_canon', hL]
    frame_out
    open_payloads
    pointwise [Memref.IsWhole.read_unread]
    simp (disch := first | omega | rfl) only [Bk.q, Bk.k, Bk.v, Bk.w, Bk.o, Bk.cc, Bk.cr, Bk.lse, eighth, masked, ok_word,
      qk_lo, qk_hi, dp_lo, dp_hi, Bp.e_lo, Bp.e_hi, Bp.p_cell, d_cell]
    done

end Cert.FoxX
-- ==== Proof.FoxX.lean ====
module

public import proofs.«01_k».proof.Proof.FoxGrad
public import proofs.«01_k».proof.Proof.FoxSix
public import proofs.«01_k».proof.Proof.FoxSeven
public import proofs.«01_k».proof.Proof.FoxEight
public import proofs.«01_k».proof.Proof.Reals
public import proofs.«01_k».proof.Pre_finite_fox

@[expose] public section

set_option maxRecDepth 16384

/-! The forgetting attention's gradient: the kernel's three arrays are the reference's. -/

noncomputable section

open Idealize.ShloMosaic Idealize.ShloMosaic.TcCoe Idealize.SL.Sem
open Idealize.ShloMosaic.Pipeline (Dat)

namespace Cert.FoxX
open Cert.FoxXIdeal Cert.FoxXIdeal.Gen

variable (m : (ℓ : Loc nD τ sig) → Buf (Elt Ideal) ℓ)

/-- The windows' block indices at a grid point. -/
theorem idx : ∀ t : Fin cfg0.N, win0_0.index t = ![t.val / 4, 0, t.val % 4] ∧ win0_1.index t = ![t.val / 4, t.val % 4, 0, 0]
    ∧ win0_2.index t = ![t.val / 4, t.val % 4, 0, 0] ∧ win0_3.index t = ![t.val / 4, 0, t.val % 4]
    ∧ win0_4.index t = ![t.val / 4, t.val % 4, 0, 0] ∧ win0_5.index t = ![t.val / 4, 0, t.val % 4]
    ∧ win0_6.index t = ![t.val / 4, 0, t.val % 4] ∧ win0_7.index t = ![t.val / 4, t.val % 4, 0, 0]
    ∧ win0_8.index t = ![t.val / 4, t.val % 4, 0, 0] ∧ t.val < 8 :=
  (by decide +kernel : ∀ t : Fin grid0.N, _)

/-- The sequence and the pair of a grid point. -/
def seq (t : Fin cfg0.N) : Fin 2 := ⟨t.val / 4, by have := (idx t).2.2.2.2.2.2.2.2.2; omega⟩
def duo (t : Fin cfg0.N) : Fin 4 := ⟨t.val % 4, by omega⟩

/-- What a grid point's pair reads. -/
def data (c : Dev nD) (t : Fin cfg0.N) : Pr :=
  pair (m ((c : Thread nD τ).loc main_arg0)) (m ((c : Thread nD τ).loc main_arg1)) (m ((c : Thread nD τ).loc main_arg2))
    (m ((c : Thread nD τ).loc main_arg3)) (seq t) (duo t)

variable {m} {c : Dev nD}
variable (H : Fine (m ((c : Thread nD τ).loc main_arg0)) (m ((c : Thread nD τ).loc main_arg1)) (m ((c : Thread nD τ).loc main_arg2))
  (m ((c : Thread nD τ).loc main_arg3)))

section Blocks
variable (m c) (t : Fin cfg0.N)

theorem blk0 (i : Fin 2176) (l : Fin 384) : (iblk m c 0 t : S1x2176x384.Idx → EReal) (ix3 0 i l)
    = m ((c : Thread nD τ).loc main_arg0) (ix3 (seq t) i ⟨(duo t).val * 384 + l.val, by omega⟩) := by
  blk_point [iblk, V, idx t, seq, duo]

theorem blk1 (h : Fin 2) (i : Fin 2176) : (iblk m c 1 t : S1x2x2176x1.Idx → EReal) (ix4 0 h i 0)
    = m ((c : Thread nD τ).loc main_arg1) (ix4 (seq t) (head (duo t) h) i 0) := by
  blk_point [iblk, V, idx t, seq, duo, head]

theorem blk2 (h : Fin 2) (i : Fin 2176) : (iblk m c 2 t : S1x2x1x2176.Idx → EReal) (ix4 0 h 0 i)
    = m ((c : Thread nD τ).loc main_arg2) (ix4 (seq t) (head (duo t) h) 0 i) := by
  blk_point [iblk, V, idx t, seq, duo, head]

theorem blk3 {f : S2x2176x512.Idx → EReal} (hf : V m c main_v47 = f) (i : Fin 2176) (l : Fin 128) :
    (iblk m c 3 t : S1x2176x128.Idx → EReal) (ix3 0 i l) = f (ix3 (seq t) i ⟨(duo t).val * 128 + l.val, by omega⟩) := by
  subst hf
  blk_point [iblk, idx t, seq, duo]

theorem blk4 {f : S2x8x2176x1.Idx → EReal} (hf : V m c main_v76 = f) (h : Fin 2) (i : Fin 2176) :
    (iblk m c 4 t : S1x2x2176x1.Idx → EReal) (ix4 0 h i 0) = f (ix4 (seq t) (head (duo t) h) i 0) := by
  unfold iblk
  change ((cfg0.win 4).blk t).view.read (Elt Ideal) (V m c main_v76) (ix4 0 h i 0) = _
  rw [hf]
  blk_point [idx t, seq, duo, head]

theorem blk5 (i : Fin 2176) (l : Fin 128) : (iblk m c 5 t : S1x2176x128.Idx → EReal) (ix3 0 i l)
    = m ((c : Thread nD τ).loc main_arg3) (ix3 (seq t) i ⟨(duo t).val * 128 + l.val, by omega⟩) := by
  blk_point [iblk, V, idx t, seq, duo]

end Blocks

include H in
theorem blocks (t : Fin cfg0.N) : (data m c t).Blk (iblk m c 0 t) (iblk m c 1 t) (iblk m c 2 t) (iblk m c 3 t) (iblk m c 4 t) (iblk m c 5 t) where
  q i l hl := by
    rw [blk0, H.fx]
    simp only [data, pair, pos_val]
  k i l hl := by
    rw [blk0, H.fx]
    simp only [data, pair, pos_val, Nat.add_assoc]
  v i l hl := by
    rw [blk0, H.fx]
    simp only [data, pair, pos_val, Nat.add_assoc]
  w i l := by
    rw [blk5, H.fw]
    simp only [data, pair, pos_val]
  o i l := by
    rw [blk3 m c t (V_out m c)]
    simp only [data, pair, pos_val]
  cc h i := by
    rw [blk1, H.fa]
    simp only [data, pair, pos_val]
  cr h i := by
    rw [blk2, H.fb]
    simp only [data, pair, pos_val]
  lse h i := by
    rw [blk4 m c t (V_lse m c)]
    simp only [data, pair, pos_val]

include H

set_option maxHeartbeats 4000000 in
/-- The gradients of queries, keys and values. -/
theorem final6 : (dats m 0 c).arrAt 6 cfg0.N
    = gall (m ((c : Thread nD τ).loc main_arg0)) (m ((c : Thread nD τ).loc main_arg1)) (m ((c : Thread nD τ).loc main_arg2))
      (m ((c : Thread nD τ).loc main_arg3)) := by
  refine (dats m 0 c).arrAt_eq_of_covers 6 _ (by decide +kernel) fun t _ y => ?_
  blk_simp
  rw [after0_6]
  unfold outsAt0
  dsimp only
  unfold out0_A_6
  rw [View.read_writes_junk_eq_canon]
  refine (point6 (padded H _ _) (blocks H t) y).trans ?_
  refine (gall_re H (seq t) (duo t) (y 1) (y 2)).symm.trans ?_
  generalize gall _ _ _ _ = f
  blk_point [idx t, seq, duo]

set_option maxHeartbeats 4000000 in
/-- The query gates' gradient. -/
theorem final7 : (dats m 0 c).arrAt 7 cfg0.N
    = gcq (m ((c : Thread nD τ).loc main_arg0)) (m ((c : Thread nD τ).loc main_arg1)) (m ((c : Thread nD τ).loc main_arg2))
      (m ((c : Thread nD τ).loc main_arg3)) := by
  refine (dats m 0 c).arrAt_eq_of_covers 7 _ (by decide +kernel) fun t _ y => ?_
  blk_simp
  rw [after0_7]
  unfold outsAt0
  dsimp only
  unfold out0_A_7
  rw [View.read_writes_junk_eq_canon]
  refine (point7 (padded H _ _) (blocks H t) y).trans ?_
  refine (row_re H (seq t) (duo t) (y 1) (y 2)).symm.trans ((gcq_at _ _ _ _ _ _ _).symm.trans ?_)
  generalize gcq _ _ _ _ = f
  blk_point [idx t, seq, duo, head]

set_option maxHeartbeats 4000000 in
/-- The key gates' gradient. -/
theorem final8 : (dats m 0 c).arrAt 8 cfg0.N
    = gck (m ((c : Thread nD τ).loc main_arg0)) (m ((c : Thread nD τ).loc main_arg1)) (m ((c : Thread nD τ).loc main_arg2))
      (m ((c : Thread nD τ).loc main_arg3)) := by
  refine (dats m 0 c).arrAt_eq_of_covers 8 _ (by decide +kernel) fun t _ y => ?_
  blk_simp
  rw [after0_8]
  unfold outsAt0
  dsimp only
  unfold out0_A_8
  rw [View.read_writes_junk_eq_canon]
  refine (point8 (padded H _ _) (blocks H t) y).trans ?_
  refine (col_re H (seq t) (duo t) (y 1) (y 3)).symm.trans ((gck_at _ _ _ _ _ _ _).symm.trans ?_)
  generalize gck _ _ _ _ = f
  blk_point [idx t, seq, duo, head]

omit H

/-! ## The precondition -/

/-- The precondition's shape relations hold. -/
theorem preFacts : Cert.Pre_finite_fox.Facts where
  bitsLt_bf16_f32 := by decide
  bcast_S_S2x2176x1536 := by decide
  bcast_S_S2x8x2176x1 := by decide
  bcast_S_S2x8x1x2176 := by decide
  bcast_S_S2x2176x512 := by decide
  slices_S2x2176x512_S2x112x512_0_0_0 := by decide
  bcast_S_S2x112x512 := by decide

/-- A real number is the one it is read as. -/
theorem coe_toReal {x : EReal} (h : ∃ r : ℝ, x = r) : x = (x.toReal : EReal) := by
  obtain ⟨r, rfl⟩ := h
  rw [EReal.toReal_coe]

section Pre

attribute [local instance] preFacts

/-- Under the precondition the arguments are finite and the padding's cotangent is zero. -/
theorem fine {x : FVec Ideal ⟨3, ![2, 2176, 1536]⟩ .bf16} {a : FVec Ideal ⟨4, ![2, 8, 2176, 1]⟩ .f32}
    {b : FVec Ideal ⟨4, ![2, 8, 1, 2176]⟩ .f32} {w : FVec Ideal ⟨3, ![2, 2176, 512]⟩ .bf16}
    (h0 : (Cert.Pre_finite_fox.fn (F := Ideal) x a b w).1 = fun _ => 1#1)
    (h1 : (Cert.Pre_finite_fox.fn (F := Ideal) x a b w).2.1 = fun _ => 1#1)
    (h2 : (Cert.Pre_finite_fox.fn (F := Ideal) x a b w).2.2.1 = fun _ => 1#1)
    (h3 : (Cert.Pre_finite_fox.fn (F := Ideal) x a b w).2.2.2.1 = fun _ => 1#1)
    (h4 : (Cert.Pre_finite_fox.fn (F := Ideal) x a b w).2.2.2.2 = fun _ => 1#1) : Fine x a b w where
  fx i := coe_toReal (Cert.Reals.real_of_abs_lt (congrFun h0 i))
  fa i := coe_toReal (Cert.Reals.real_of_abs_lt (congrFun h1 i))
  fb i := coe_toReal (Cert.Reals.real_of_abs_lt (congrFun h2 i))
  fw i := coe_toReal (Cert.Reals.real_of_abs_lt (congrFun h3 i))
  pad n i l hi := by
    have h' := congrFun h4 (ix3 n (⟨i.val, hi⟩ : Fin 112) l)
    dsimp only [Cert.Pre_finite_fox.fn] at h'
    pointwise [] at h'
    by_contra hx
    simp [hx] at h'

end Pre

end Cert.FoxX

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FfnInX
public import proofs.«01_k».proof.Proof.Gen.FfnInX.Skeleton
public import proofs.«01_k».proof.Proof.Gen.FfnInX.Launch
public import proofs.«01_k».proof.Proof.Gen.FfnInX.Points
public import proofs.«01_k».proof.Proof.Gen.FfnInX.Frame
public import proofs.«01_k».proof.Proof.Gen.FfnInXIdeal
public import proofs.«01_k».proof.Proof.Gen.FfnInXIdeal.Skeleton
public import proofs.«01_k».proof.Proof.Gen.FfnInXIdeal.Launch
public import proofs.«01_k».proof.Proof.Gen.FfnInXIdeal.Points
public import proofs.«01_k».proof.Proof.Gen.FfnInXIdeal.Frame
public import proofs.«01_k».proof.Proof.Gen.FfnInXReferenceIdeal
public import proofs.«01_k».proof.Proof.Gen.FfnOutX
public import proofs.«01_k».proof.Proof.Gen.FfnOutX.Skeleton
public import proofs.«01_k».proof.Proof.Gen.FfnOutX.Launch
public import proofs.«01_k».proof.Proof.Gen.FfnOutX.Points
public import proofs.«01_k».proof.Proof.Gen.FfnOutX.Frame
public import proofs.«01_k».proof.Proof.Gen.FfnOutXIdeal
public import proofs.«01_k».proof.Proof.Gen.FfnOutXIdeal.Skeleton
public import proofs.«01_k».proof.Proof.Gen.FfnOutXIdeal.Launch
public import proofs.«01_k».proof.Proof.Gen.FfnOutXIdeal.Points
public import proofs.«01_k».proof.Proof.Gen.FfnOutXIdeal.Frame
public import proofs.«01_k».proof.Proof.Gen.FfnOutXReferenceIdeal
public import proofs.«01_k».proof.Proof.Gen.FfnInW
public import proofs.«01_k».proof.Proof.Gen.FfnInW.Skeleton
public import proofs.«01_k».proof.Proof.Gen.FfnInW.Launch
public import proofs.«01_k».proof.Proof.Gen.FfnInW.Points
public import proofs.«01_k».proof.Proof.Gen.FfnInW.Frame
public import proofs.«01_k».proof.Proof.Gen.FfnInWIdeal
public import proofs.«01_k».proof.Proof.Gen.FfnInWIdeal.Skeleton
public import proofs.«01_k».proof.Proof.Gen.FfnInWIdeal.Launch
public import proofs.«01_k».proof.Proof.Gen.FfnInWIdeal.Points
public import proofs.«01_k».proof.Proof.Gen.FfnInWIdeal.Frame
public import proofs.«01_k».proof.Proof.Gen.FfnInWReferenceIdeal
public import proofs.«01_k».proof.Proof.Gen.FfnOutW
public import proofs.«01_k».proof.Proof.Gen.FfnOutW.Skeleton
public import proofs.«01_k».proof.Proof.Gen.FfnOutW.Launch
public import proofs.«01_k».proof.Proof.Gen.FfnOutW.Points
public import proofs.«01_k».proof.Proof.Gen.FfnOutW.Frame
public import proofs.«01_k».proof.Proof.Gen.FfnOutWIdeal
public import proofs.«01_k».proof.Proof.Gen.FfnOutWIdeal.Skeleton
public import proofs.«01_k».proof.Proof.Gen.FfnOutWIdeal.Launch
public import proofs.«01_k».proof.Proof.Gen.FfnOutWIdeal.Points
public import proofs.«01_k».proof.Proof.Gen.FfnOutWIdeal.Frame
public import proofs.«01_k».proof.Proof.Gen.FfnOutWReferenceIdeal
public import proofs.«01_k».proof.Proof.Gen.KernelIdeal.Value
public import proofs.«01_k».proof.Proof.Gen.FfnInXIdeal.Value
public import proofs.«01_k».proof.Proof.Gen.FfnOutXIdeal.Value
public import proofs.«01_k».proof.Proof.Gen.FfnInWIdeal.Value
public import proofs.«01_k».proof.Proof.Gen.FfnOutWIdeal.Value
public import proofs.«01_k».proof.Proof.Gen.ReferenceIdeal.Run
public import proofs.«01_k».proof.Proof.Gen.FfnInXReferenceIdeal.Run
public import proofs.«01_k».proof.Proof.Gen.FfnOutXReferenceIdeal.Run
public import proofs.«01_k».proof.Proof.Gen.FfnInWReferenceIdeal.Run
public import proofs.«01_k».proof.Proof.Gen.FfnOutWReferenceIdeal.Run
public import Idealize.ShloMosaic.Adequacy
public import Idealize.ShloMosaic.Init
public import Idealize.ShloMosaic.Lib.Quiescent
public import Idealize.ShloMosaic.Lib.Claim
public import proofs.«01_k».proof.Proof.Gen.ProjX.Frame
public import proofs.«01_k».proof.Proof.Gen.ProjXIdeal.Value
public import proofs.«01_k».proof.Proof.Gen.ProjXReferenceIdeal.Run
public import proofs.«01_k».proof.Proof.Gen.ProjQkvW.Frame
public import proofs.«01_k».proof.Proof.Gen.ProjQkvWIdeal.Value
public import proofs.«01_k».proof.Proof.Gen.ProjQkvWReferenceIdeal.Run
public import proofs.«01_k».proof.Proof.Gen.ProjGatesW.Frame
public import proofs.«01_k».proof.Proof.Gen.ProjGatesWIdeal.Value
public import proofs.«01_k».proof.Proof.Gen.ProjGatesWReferenceIdeal.Run
public import proofs.«01_k».proof.Proof.Gen.ProjFW.Frame
public import proofs.«01_k».proof.Proof.Gen.ProjFWIdeal.Value
public import proofs.«01_k».proof.Proof.Gen.ProjFWReferenceIdeal.Run
public import proofs.«01_k».proof.Proof.Gen.MixOutW.Frame
public import proofs.«01_k».proof.Proof.Gen.MixOutWIdeal.Value
public import proofs.«01_k».proof.Proof.Gen.MixOutWReferenceIdeal.Run
public import proofs.«01_k».proof.Proof.Gen.BranchX.Frame
public import proofs.«01_k».proof.Proof.Gen.BranchXIdeal.Value
public import proofs.«01_k».proof.Proof.Gen.BranchXReferenceIdeal.Run
public import proofs.«01_k».proof.Proof.Gen.BranchW.Frame
public import proofs.«01_k».proof.Proof.Gen.BranchWIdeal.Value
public import proofs.«01_k».proof.Proof.Gen.BranchWReferenceIdeal.Run
public import proofs.«01_k».proof.Proof.Gen.FfnIn.Frame
public import proofs.«01_k».proof.Proof.Gen.FfnInIdeal.Value
public import proofs.«01_k».proof.Proof.Gen.FfnInReferenceIdeal.Run
public import proofs.«01_k».proof.Proof.Gen.FfnOut.Frame
public import proofs.«01_k».proof.Proof.Gen.FfnOutIdeal.Value
public import proofs.«01_k».proof.Proof.Gen.FfnOutReferenceIdeal.Run
public import proofs.«01_k».proof.Proof.Gen.MixOut.Frame
public import proofs.«01_k».proof.Proof.Gen.MixOutIdeal.Value
public import proofs.«01_k».proof.Proof.Gen.MixOutReferenceIdeal.Run
public import proofs.«01_k».proof.Proof.Gen.Proj.Frame
public import proofs.«01_k».proof.Proof.Gen.ProjIdeal.Value
public import proofs.«01_k».proof.Proof.Gen.ProjReferenceIdeal.Run
public import proofs.«01_k».proof.Proof.Gen.Branch.Frame
public import proofs.«01_k».proof.Proof.Gen.BranchIdeal.Value
public import proofs.«01_k».proof.Proof.Gen.BranchReferenceIdeal.Run
public import proofs.«01_k».proof.Proof.Gen.FoxX.Frame
public import proofs.«01_k».proof.Proof.Gen.FoxXIdeal.Value
public import proofs.«01_k».proof.Proof.Gen.FoxXReferenceIdeal.Run
public import proofs.«01_k».proof.Proof.Gate
public import proofs.«01_k».proof.Proof.FfnInX
public import proofs.«01_k».proof.Proof.FfnOutX
public import proofs.«01_k».proof.Proof.FfnInW
public import proofs.«01_k».proof.Proof.FfnOutW
public import proofs.«01_k».proof.Proof.ProjX
public import proofs.«01_k».proof.Proof.ProjQkvW
public import proofs.«01_k».proof.Proof.ProjGatesW
public import proofs.«01_k».proof.Proof.ProjFW
public import proofs.«01_k».proof.Proof.MixOutW
public import proofs.«01_k».proof.Proof.BranchX
public import proofs.«01_k».proof.Proof.BranchW
public import proofs.«01_k».proof.Proof.FfnIn
public import proofs.«01_k».proof.Proof.FfnOut
public import proofs.«01_k».proof.Proof.MixOut
public import proofs.«01_k».proof.Proof.Proj
public import proofs.«01_k».proof.Proof.Branch
public import proofs.«01_k».proof.Proof.FoxX

@[expose] public section

noncomputable section

namespace Cert.Proof

open Idealize.ShloMosaic Idealize.SL.Sem

/-- The precondition's own shape relations hold. -/
theorem preFacts : Cert.Pre_finite.Facts where
  bitsLt_bf16_f32 := Cert.FfnOutXIdeal.Gen.facts.bitsLt_bf16_f32
  slices_S2x4352x3072_S1x4352x3072_1_0_0 := Cert.FfnOutXIdeal.Gen.facts.slices_S2x4352x3072_S1x4352x3072_1_0_0
  shapeCasts_S1x4352x3072_S4352x3072 := Cert.FfnOutXIdeal.Gen.facts.shapeCasts_S1x4352x3072_S4352x3072
  bcast_S_S4352x1024 := Cert.FfnOutXReferenceIdeal.Gen.facts.bcast_S_S4352x1024
  bcast_S_S3072x1024 := by decide
  bcast_S_S4352x3072 := Cert.FfnOutXIdeal.Gen.facts.bcast_S_S4352x3072

/-- The second precondition's shape relations hold. -/
theorem preInFacts : Cert.Pre_finite_in.Facts where
  bitsLt_bf16_f32 := by decide
  bcast_S_S4352x1024 := by decide
  bcast_S_S2x4x1024x768 := by decide

/-! ## The branch gate's gradient -/

/-- The reference leaves its arguments as they were; it has no semaphore. -/
theorem frameR : Cert.quiescent_ReferenceIdeal (hReferenceIdeal := Cert.ReferenceIdeal.Gen.facts) := by
  intro m g _
  refine (θ_run _ _ _).mono (fun r h => ⟨fun c => ?_, sem_eq_zero_of_no_sems (by decide) _⟩) (Cert.ReferenceIdeal.Value.run m g)
  exact (h c).2.2.2

/-- The kernel's three arrays are the reference's. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
  · refine (θ_run _ _ _).mono (fun r h c => ?_) (Cert.ReferenceIdeal.Value.run m' g')
    obtain ⟨a0, a1, a2, a3, a4⟩ := hagree c
    have t5 := Cert.Gate.final5 m c
    have t6 := Cert.Gate.final6 m c
    have t7 := Cert.Gate.final7 m c
    rw [← a0, ← a1, ← a2] at t5 t6 t7
    rw [← a3, ← a4] at t7
    exact ⟨(h c).1.trans t5.symm, (h c).2.1.trans t6.symm, (h c).2.2.1.trans t7.symm, (h c).2.2.2⟩

/-! ## The gradient of the feed-forward layer's first product and norm -/

/-- The reference leaves its arguments as they were. -/
theorem ffnInX_frameR : Cert.quiescent_FfnInXReferenceIdeal (hFfnInXReferenceIdeal := Cert.FfnInXReferenceIdeal.Gen.facts) := by
  intro m g _
  refine (θ_run _ _ _).mono (fun r h => ⟨fun c => ?_, sem_eq_zero_of_no_sems (by decide) _⟩) (Cert.FfnInXReferenceIdeal.Value.run m g)
  exact (h c).2.2.2

/-- The kernel's three arrays are the reference's. -/
theorem ffnInX : Cert.algebraic_FfnInXIdeal_FfnInXReferenceIdeal (hFfnInXIdeal := Cert.FfnInXIdeal.Gen.facts)
    (hFfnInXReferenceIdeal := Cert.FfnInXReferenceIdeal.Gen.facts) := by
  pair_intro
  · run_from Cert.FfnInXIdeal.Gen.run_main m g
  · refine (θ_run _ _ _).mono (fun r h c => ?_) (Cert.FfnInXReferenceIdeal.Value.run m' g')
    obtain ⟨a0, a1, a2, a3, a4⟩ := hagree c
    have t5 := Cert.FfnInX.final5 m c
    have t6 := Cert.FfnInX.final6 m c
    have t7 := Cert.FfnInX.final7 m c
    rw [← a0, ← a1, ← a2] at t5 t6 t7
    rw [← a3, ← a4] at t5 t6
    exact ⟨(h c).1.trans t5.symm, (h c).2.1.trans t6.symm, (h c).2.2.1.trans t7.symm, (h c).2.2.2⟩

/-! ## The gradient of the feed-forward layer's gate and up products -/

/-- The reference leaves its arguments as they were. -/
theorem ffnOutX_frameR : Cert.quiescent_FfnOutXReferenceIdeal (hFfnOutXReferenceIdeal := Cert.FfnOutXReferenceIdeal.Gen.facts) := by
  intro m g _
  refine (θ_run _ _ _).mono (fun r h => ⟨fun c => ?_, sem_eq_zero_of_no_sems (by decide) _⟩) (Cert.FfnOutXReferenceIdeal.Value.run m g)
  exact (h c).2

/-- Under the precondition the kernel's array is the reference's. -/
theorem ffnOutX : Cert.algebraic_FfnOutXIdeal_FfnOutXReferenceIdeal_pre_finite (hFfnOutXIdeal := Cert.FfnOutXIdeal.Gen.facts)
    (hFfnOutXReferenceIdeal := Cert.FfnOutXReferenceIdeal.Gen.facts) (hPre_finite := preFacts) := by
  intro m g m' g' hpre hagree
  refine ⟨_, Cert.FfnOutXIdeal.Value.run_blocks m g, ?_⟩
  refine (θ_run _ _ _).mono (fun r h c => ?_) (Cert.FfnOutXReferenceIdeal.Value.run m' g')
  obtain ⟨a0, a1, a2⟩ := hagree c
  letI := preFacts
  obtain ⟨p0, p1, p2⟩ := hpre c
  have t := Cert.FfnOutX.final3 m c (Cert.FfnOutX.pre0 p0) (Cert.FfnOutX.pre1 p1) (Cert.FfnOutX.pre2 p2)
  rw [← a0, ← a1, ← a2] at t
  exact ⟨(h c).1.trans t.symm, (h c).2⟩

/-! ## The gradient of the feed-forward layer's first weights -/

/-- The reference leaves its arguments as they were. -/
theorem ffnInW_frameR : Cert.quiescent_FfnInWReferenceIdeal (hFfnInWReferenceIdeal := Cert.FfnInWReferenceIdeal.Gen.facts) := by
  intro m g _
  refine (θ_run _ _ _).mono (fun r h => ⟨fun c => ?_, sem_eq_zero_of_no_sems (by decide) _⟩) (Cert.FfnInWReferenceIdeal.Value.run m g)
  exact (h c).2

/-- The kernel's array is the reference's. -/
theorem ffnInW : Cert.algebraic_FfnInWIdeal_FfnInWReferenceIdeal (hFfnInWIdeal := Cert.FfnInWIdeal.Gen.facts)
    (hFfnInWReferenceIdeal := Cert.FfnInWReferenceIdeal.Gen.facts) := by
  pair_intro
  · run_from Cert.FfnInWIdeal.Gen.run_main m g
  · refine (θ_run _ _ _).mono (fun r h c => ?_) (Cert.FfnInWReferenceIdeal.Value.run m' g')
    obtain ⟨a0, a1⟩ := hagree c
    have t := Cert.FfnInW.final2 m c
    rw [← a0, ← a1] at t
    exact ⟨(h c).1.trans t.symm, (h c).2⟩

/-! ## The gradient of the feed-forward layer's second weights -/

/-- The reference leaves its arguments as they were. -/
theorem ffnOutW_frameR : Cert.quiescent_FfnOutWReferenceIdeal (hFfnOutWReferenceIdeal := Cert.FfnOutWReferenceIdeal.Gen.facts) := by
  intro m g _
  refine (θ_run _ _ _).mono (fun r h => ⟨fun c => ?_, sem_eq_zero_of_no_sems (by decide) _⟩) (Cert.FfnOutWReferenceIdeal.Value.run m g)
  exact (h c).2

/-- The kernel's array is the reference's. -/
theorem ffnOutW : Cert.algebraic_FfnOutWIdeal_FfnOutWReferenceIdeal (hFfnOutWIdeal := Cert.FfnOutWIdeal.Gen.facts)
    (hFfnOutWReferenceIdeal := Cert.FfnOutWReferenceIdeal.Gen.facts) := by
  pair_intro
  · run_from Cert.FfnOutWIdeal.Gen.run_main m g
  · refine (θ_run _ _ _).mono (fun r h c => ?_) (Cert.FfnOutWReferenceIdeal.Value.run m' g')
    obtain ⟨a0, a1⟩ := hagree c
    have t := Cert.FfnOutW.final2 m c
    rw [← a0, ← a1] at t
    exact ⟨(h c).1.trans t.symm, (h c).2⟩

/-! ## The gradient of the projections and of their norm -/

/-- The reference leaves its arguments as they were. -/
theorem projX_frameR : Cert.quiescent_ProjXReferenceIdeal (hProjXReferenceIdeal := Cert.ProjXReferenceIdeal.Gen.facts) := by
  intro m g _
  refine (θ_run _ _ _).mono (fun r h => ⟨fun c => ?_, sem_eq_zero_of_no_sems (by decide) _⟩) (Cert.ProjXReferenceIdeal.Value.run m g)
  exact (h c).2.2.2

/-- The kernel's results are the reference's. -/
theorem projX : Cert.algebraic_ProjXIdeal_ProjXReferenceIdeal (hProjXIdeal := Cert.ProjXIdeal.Gen.facts)
    (hProjXReferenceIdeal := Cert.ProjXReferenceIdeal.Gen.facts) := by
  pair_intro
  · run_from Cert.ProjXIdeal.Gen.run_main m g
  · refine (θ_run _ _ _).mono (fun r h c => ?_) (Cert.ProjXReferenceIdeal.Value.run m' g')
    obtain ⟨a0, a1, a2, a3, a4, a5, a6⟩ := hagree c
    have t7 := Cert.ProjX.final7 m c
    rw [← a0, ← a1, ← a2, ← a3, ← a4, ← a5, ← a6] at t7
    have t8 := Cert.ProjX.final8 m c
    rw [← a0, ← a1, ← a2, ← a3, ← a4, ← a5, ← a6] at t8
    have t9 := Cert.ProjX.final9 m c
    rw [← a0, ← a1, ← a2, ← a3, ← a4] at t9
    exact ⟨(h c).1.trans t7.symm, (h c).2.1.trans t8.symm, (h c).2.2.1.trans t9.symm, (h c).2.2.2⟩

/-! ## The gradient of the query, key and value weights -/

/-- The reference leaves its arguments as they were. -/
theorem projQkvW_frameR : Cert.quiescent_ProjQkvWReferenceIdeal (hProjQkvWReferenceIdeal := Cert.ProjQkvWReferenceIdeal.Gen.facts) := by
  intro m g _
  refine (θ_run _ _ _).mono (fun r h => ⟨fun c => ?_, sem_eq_zero_of_no_sems (by decide) _⟩) (Cert.ProjQkvWReferenceIdeal.Value.run m g)
  exact (h c).2

/-- The kernel's result is the reference's. -/
theorem projQkvW : Cert.algebraic_ProjQkvWIdeal_ProjQkvWReferenceIdeal (hProjQkvWIdeal := Cert.ProjQkvWIdeal.Gen.facts)
    (hProjQkvWReferenceIdeal := Cert.ProjQkvWReferenceIdeal.Gen.facts) := by
  pair_intro
  · run_from Cert.ProjQkvWIdeal.Gen.run_main m g
  · refine (θ_run _ _ _).mono (fun r h c => ?_) (Cert.ProjQkvWReferenceIdeal.Value.run m' g')
    obtain ⟨a0, a1⟩ := hagree c
    have t2 := Cert.ProjQkvW.final2 m c
    rw [← a0, ← a1] at t2
    exact ⟨(h c).1.trans t2.symm, (h c).2⟩

/-! ## The gradient of the gate weights -/

/-- The reference leaves its arguments as they were. -/
theorem projGatesW_frameR : Cert.quiescent_ProjGatesWReferenceIdeal (hProjGatesWReferenceIdeal := Cert.ProjGatesWReferenceIdeal.Gen.facts) := by
  intro m g _
  refine (θ_run _ _ _).mono (fun r h => ⟨fun c => ?_, sem_eq_zero_of_no_sems (by decide) _⟩) (Cert.ProjGatesWReferenceIdeal.Value.run m g)
  exact (h c).2

/-- The kernel's result is the reference's. -/
theorem projGatesW : Cert.algebraic_ProjGatesWIdeal_ProjGatesWReferenceIdeal (hProjGatesWIdeal := Cert.ProjGatesWIdeal.Gen.facts)
    (hProjGatesWReferenceIdeal := Cert.ProjGatesWReferenceIdeal.Gen.facts) := by
  pair_intro
  · run_from Cert.ProjGatesWIdeal.Gen.run_main m g
  · refine (θ_run _ _ _).mono (fun r h c => ?_) (Cert.ProjGatesWReferenceIdeal.Value.run m' g')
    obtain ⟨a0, a1⟩ := hagree c
    have t2 := Cert.ProjGatesW.final2 m c
    rw [← a0, ← a1] at t2
    exact ⟨(h c).1.trans t2.symm, (h c).2⟩

/-! ## The gradient of the forget-gate weights -/

/-- The reference leaves its arguments as they were. -/
theorem projFW_frameR : Cert.quiescent_ProjFWReferenceIdeal (hProjFWReferenceIdeal := Cert.ProjFWReferenceIdeal.Gen.facts) := by
  intro m g _
  refine (θ_run _ _ _).mono (fun r h => ⟨fun c => ?_, sem_eq_zero_of_no_sems (by decide) _⟩) (Cert.ProjFWReferenceIdeal.Value.run m g)
  exact (h c).2

/-- The kernel's result is the reference's. -/
theorem projFW : Cert.algebraic_ProjFWIdeal_ProjFWReferenceIdeal (hProjFWIdeal := Cert.ProjFWIdeal.Gen.facts)
    (hProjFWReferenceIdeal := Cert.ProjFWReferenceIdeal.Gen.facts) := by
  pair_intro
  · run_from Cert.ProjFWIdeal.Gen.run_main m g
  · refine (θ_run _ _ _).mono (fun r h c => ?_) (Cert.ProjFWReferenceIdeal.Value.run m' g')
    obtain ⟨a0, a1⟩ := hagree c
    have t2 := Cert.ProjFW.final2 m c
    rw [← a0, ← a1] at t2
    exact ⟨(h c).1.trans t2.symm, (h c).2⟩

/-! ## The gradient of the output projection's weights -/

/-- The reference leaves its arguments as they were. -/
theorem mixOutW_frameR : Cert.quiescent_MixOutWReferenceIdeal (hMixOutWReferenceIdeal := Cert.MixOutWReferenceIdeal.Gen.facts) := by
  intro m g _
  refine (θ_run _ _ _).mono (fun r h => ⟨fun c => ?_, sem_eq_zero_of_no_sems (by decide) _⟩) (Cert.MixOutWReferenceIdeal.Value.run m g)
  exact (h c).2

/-- The kernel's result is the reference's. -/
theorem mixOutW : Cert.algebraic_MixOutWIdeal_MixOutWReferenceIdeal (hMixOutWIdeal := Cert.MixOutWIdeal.Gen.facts)
    (hMixOutWReferenceIdeal := Cert.MixOutWReferenceIdeal.Gen.facts) := by
  pair_intro
  · run_from Cert.MixOutWIdeal.Gen.run_main m g
  · refine (θ_run _ _ _).mono (fun r h c => ?_) (Cert.MixOutWReferenceIdeal.Value.run m' g')
    obtain ⟨a0, a1⟩ := hagree c
    have t2 := Cert.MixOutW.final2 m c
    rw [← a0, ← a1] at t2
    exact ⟨(h c).1.trans t2.symm, (h c).2⟩

/-! ## The gradients of the branches' outputs -/

/-- The reference leaves its arguments as they were. -/
theorem branchX_frameR : Cert.quiescent_BranchXReferenceIdeal (hBranchXReferenceIdeal := Cert.BranchXReferenceIdeal.Gen.facts) := by
  intro m g _
  refine (θ_run _ _ _).mono (fun r h => ⟨fun c => ?_, sem_eq_zero_of_no_sems (by decide) _⟩) (Cert.BranchXReferenceIdeal.Value.run m g)
  exact (h c).2.2

/-- The kernel's results are the reference's. -/
theorem branchX : Cert.algebraic_BranchXIdeal_BranchXReferenceIdeal (hBranchXIdeal := Cert.BranchXIdeal.Gen.facts)
    (hBranchXReferenceIdeal := Cert.BranchXReferenceIdeal.Gen.facts) := by
  pair_intro
  · run_from Cert.BranchXIdeal.Gen.run_main m g
  · refine (θ_run _ _ _).mono (fun r h c => ?_) (Cert.BranchXReferenceIdeal.Value.run m' g')
    obtain ⟨a0, a1, a2, a3⟩ := hagree c
    have t4 := Cert.BranchX.final4 m c
    rw [← a0, ← a2] at t4
    have t5 := Cert.BranchX.final5 m c
    rw [← a1, ← a3] at t5
    exact ⟨(h c).1.trans t4.symm, (h c).2.1.trans t5.symm, (h c).2.2⟩

/-! ## The gradients of the branches' weights -/

/-- The reference leaves its arguments as they were. -/
theorem branchW_frameR : Cert.quiescent_BranchWReferenceIdeal (hBranchWReferenceIdeal := Cert.BranchWReferenceIdeal.Gen.facts) := by
  intro m g _
  refine (θ_run _ _ _).mono (fun r h => ⟨fun c => ?_, sem_eq_zero_of_no_sems (by decide) _⟩) (Cert.BranchWReferenceIdeal.Value.run m g)
  exact (h c).2.2

/-- The kernel's results are the reference's. -/
theorem branchW : Cert.algebraic_BranchWIdeal_BranchWReferenceIdeal (hBranchWIdeal := Cert.BranchWIdeal.Gen.facts)
    (hBranchWReferenceIdeal := Cert.BranchWReferenceIdeal.Gen.facts) := by
  pair_intro
  · run_from Cert.BranchWIdeal.Gen.run_main m g
  · refine (θ_run _ _ _).mono (fun r h c => ?_) (Cert.BranchWReferenceIdeal.Value.run m' g')
    obtain ⟨a0, a1, a2, a3⟩ := hagree c
    have t4 := Cert.BranchW.final4 m c
    rw [← a0, ← a2] at t4
    have t5 := Cert.BranchW.final5 m c
    rw [← a1, ← a3] at t5
    exact ⟨(h c).1.trans t4.symm, (h c).2.1.trans t5.symm, (h c).2.2⟩

/-! ## The feed-forward layer's first product -/

/-- The reference leaves its arguments as they were. -/
theorem ffnIn_frameR : Cert.quiescent_FfnInReferenceIdeal (hFfnInReferenceIdeal := Cert.FfnInReferenceIdeal.Gen.facts) := by
  intro m g _
  refine (θ_run _ _ _).mono (fun r h => ⟨fun c => ?_, sem_eq_zero_of_no_sems (by decide) _⟩) (Cert.FfnInReferenceIdeal.Value.run m g)
  exact (h c).2.2

/-- Under the precondition the kernel's arrays are the reference's. -/
theorem ffnIn : Cert.algebraic_FfnInIdeal_FfnInReferenceIdeal_pre_finite_in (hFfnInIdeal := Cert.FfnInIdeal.Gen.facts)
    (hFfnInReferenceIdeal := Cert.FfnInReferenceIdeal.Gen.facts) (hPre_finite_in := preInFacts) := by
  intro m g m' g' hpre hagree
  refine ⟨_, _, Cert.FfnInIdeal.Value.run_blocks m g, ?_⟩
  refine (θ_run _ _ _).mono (fun r h c => ?_) (Cert.FfnInReferenceIdeal.Value.run m' g')
  obtain ⟨a0, a1⟩ := hagree c
  letI := preInFacts
  obtain ⟨p0, p1⟩ := hpre c
  have t2 := Cert.FfnIn.final2 m c (Cert.FfnIn.u_real p0 p1)
  rw [← a0, ← a1] at t2
  have t3 := Cert.FfnIn.final3 m c
  rw [← a0, ← a1] at t3
  exact ⟨(h c).1.trans t2.symm, (h c).2.1.trans t3.symm, (h c).2.2⟩

/-! ## The feed-forward layer's second product -/

/-- The reference leaves its arguments as they were. -/
theorem ffnOut_frameR : Cert.quiescent_FfnOutReferenceIdeal (hFfnOutReferenceIdeal := Cert.FfnOutReferenceIdeal.Gen.facts) := by
  intro m g _
  refine (θ_run _ _ _).mono (fun r h => ⟨fun c => ?_, sem_eq_zero_of_no_sems (by decide) _⟩) (Cert.FfnOutReferenceIdeal.Value.run m g)
  exact (h c).2.2

/-- The kernel's results are the reference's. -/
theorem ffnOut : Cert.algebraic_FfnOutIdeal_FfnOutReferenceIdeal (hFfnOutIdeal := Cert.FfnOutIdeal.Gen.facts)
    (hFfnOutReferenceIdeal := Cert.FfnOutReferenceIdeal.Gen.facts) := by
  pair_intro
  · run_from Cert.FfnOutIdeal.Gen.run_main m g
  · refine (θ_run _ _ _).mono (fun r h c => ?_) (Cert.FfnOutReferenceIdeal.Value.run m' g')
    obtain ⟨a0, a1, a2, a3⟩ := hagree c
    have t4 := Cert.FfnOut.final4 m c
    rw [← a0, ← a1, ← a2] at t4
    have t5 := Cert.FfnOut.final5 m c
    rw [← a0, ← a1, ← a2, ← a3] at t5
    exact ⟨(h c).1.trans t4.symm, (h c).2.1.trans t5.symm, (h c).2.2⟩

/-! ## The output projection -/

/-- The reference leaves its arguments as they were. -/
theorem mixOut_frameR : Cert.quiescent_MixOutReferenceIdeal (hMixOutReferenceIdeal := Cert.MixOutReferenceIdeal.Gen.facts) := by
  intro m g _
  refine (θ_run _ _ _).mono (fun r h => ⟨fun c => ?_, sem_eq_zero_of_no_sems (by decide) _⟩) (Cert.MixOutReferenceIdeal.Value.run m g)
  exact (h c).2.2

/-- The kernel's results are the reference's. -/
theorem mixOut : Cert.algebraic_MixOutIdeal_MixOutReferenceIdeal (hMixOutIdeal := Cert.MixOutIdeal.Gen.facts)
    (hMixOutReferenceIdeal := Cert.MixOutReferenceIdeal.Gen.facts) := by
  pair_intro
  · run_from Cert.MixOutIdeal.Gen.run_main m g
  · refine (θ_run _ _ _).mono (fun r h c => ?_) (Cert.MixOutReferenceIdeal.Value.run m' g')
    obtain ⟨a0, a1, a2, a3⟩ := hagree c
    have t4 := Cert.MixOut.final4 m c
    rw [← a0, ← a1, ← a2] at t4
    have t5 := Cert.MixOut.final5 m c
    rw [← a0, ← a1, ← a2, ← a3] at t5
    exact ⟨(h c).1.trans t4.symm, (h c).2.1.trans t5.symm, (h c).2.2⟩

/-! ## The projections -/

/-- The reference leaves its arguments as they were. -/
theorem proj_frameR : Cert.quiescent_ProjReferenceIdeal (hProjReferenceIdeal := Cert.ProjReferenceIdeal.Gen.facts) := by
  intro m g _
  refine (θ_run _ _ _).mono (fun r h => ⟨fun c => ?_, sem_eq_zero_of_no_sems (by decide) _⟩) (Cert.ProjReferenceIdeal.Value.run m g)
  exact (h c).2.2.2

/-- The kernel's results are the reference's. -/
theorem proj : Cert.algebraic_ProjIdeal_ProjReferenceIdeal (hProjIdeal := Cert.ProjIdeal.Gen.facts)
    (hProjReferenceIdeal := Cert.ProjReferenceIdeal.Gen.facts) := by
  pair_intro
  · run_from Cert.ProjIdeal.Gen.run_main m g
  · refine (θ_run _ _ _).mono (fun r h c => ?_) (Cert.ProjReferenceIdeal.Value.run m' g')
    obtain ⟨a0, a1⟩ := hagree c
    have t2 := Cert.Proj.final2 m c
    rw [← a0, ← a1] at t2
    have t3 := Cert.Proj.final3 m c
    rw [← a0, ← a1] at t3
    have t4 := Cert.Proj.final4 m c
    rw [← a0, ← a1] at t4
    exact ⟨(h c).1.trans t2.symm, (h c).2.1.trans t3.symm, (h c).2.2.1.trans t4.symm, (h c).2.2.2⟩

/-! ## The gated sum of the branches -/

/-- The reference leaves its arguments as they were. -/
theorem branch_frameR : Cert.quiescent_BranchReferenceIdeal (hBranchReferenceIdeal := Cert.BranchReferenceIdeal.Gen.facts) := by
  intro m g _
  refine (θ_run _ _ _).mono (fun r h => ⟨fun c => ?_, sem_eq_zero_of_no_sems (by decide) _⟩) (Cert.BranchReferenceIdeal.Value.run m g)
  exact (h c).2.2.2

/-- The kernel's results are the reference's. -/
theorem branch : Cert.algebraic_BranchIdeal_BranchReferenceIdeal (hBranchIdeal := Cert.BranchIdeal.Gen.facts)
    (hBranchReferenceIdeal := Cert.BranchReferenceIdeal.Gen.facts) := by
  pair_intro
  · run_from Cert.BranchIdeal.Gen.run_main m g
  · refine (θ_run _ _ _).mono (fun r h c => ?_) (Cert.BranchReferenceIdeal.Value.run m' g')
    obtain ⟨a0, a1, a2, a3, a4⟩ := hagree c
    have t5 := Cert.Branch.final5 m c
    rw [← a0, ← a1, ← a2, ← a3, ← a4] at t5
    have t6 := Cert.Branch.final6 m c
    rw [← a0, ← a2] at t6
    have t7 := Cert.Branch.final7 m c
    rw [← a1, ← a3] at t7
    exact ⟨(h c).1.trans t5.symm, (h c).2.1.trans t6.symm, (h c).2.2.1.trans t7.symm, (h c).2.2.2⟩

/-! ## The forgetting attention's gradient -/

/-- The reference leaves its arguments as they were. -/
theorem foxX_frameR : Cert.quiescent_FoxXReferenceIdeal (hFoxXReferenceIdeal := Cert.FoxXReferenceIdeal.Gen.facts) := by
  intro m g _
  refine (θ_run _ _ _).mono (fun r h => ⟨fun c => ?_, sem_eq_zero_of_no_sems (by decide) _⟩) (Cert.FoxXReferenceIdeal.Value.run m g)
  exact (h c).2.2.2

/-- Under the precondition the kernel's arrays are the reference's. -/
theorem foxX : Cert.algebraic_FoxXIdeal_FoxXReferenceIdeal_pre_finite_fox (hFoxXIdeal := Cert.FoxXIdeal.Gen.facts)
    (hFoxXReferenceIdeal := Cert.FoxXReferenceIdeal.Gen.facts) (hPre_finite_fox := Cert.FoxX.preFacts) := by
  intro m g m' g' hpre hagree
  refine ⟨_, _, _, Cert.FoxXIdeal.Value.run_blocks m g, ?_⟩
  refine (θ_run _ _ _).mono (fun r h c => ?_) (Cert.FoxXReferenceIdeal.Value.run m' g')
  obtain ⟨a0, a1, a2, a3⟩ := hagree c
  letI := Cert.FoxX.preFacts
  obtain ⟨p0, p1, p2, p3, p4⟩ := hpre c
  have H := Cert.FoxX.fine p0 p1 p2 p3 p4
  have t6 := Cert.FoxX.final6 H
  have t7 := Cert.FoxX.final7 H
  have t8 := Cert.FoxX.final8 H
  rw [← a0, ← a1, ← a2, ← a3] at t6 t7 t8
  exact ⟨(h c).1.trans ((Cert.FoxX.ref0 m' c).trans t6.symm), (h c).2.1.trans ((Cert.FoxX.ref1 m' c).trans t7.symm),
    (h c).2.2.1.trans ((Cert.FoxX.ref2 m' c).trans t8.symm), (h c).2.2.2⟩

theorem claim : Cert.Claim := ⟨Cert.Kernel.Gen.facts, Cert.KernelIdeal.Gen.facts, Cert.ReferenceIdeal.Gen.facts,
  Cert.FfnInX.Gen.facts, Cert.FfnInXIdeal.Gen.facts, Cert.FfnInXReferenceIdeal.Gen.facts,
  Cert.FfnOutX.Gen.facts, Cert.FfnOutXIdeal.Gen.facts, Cert.FfnOutXReferenceIdeal.Gen.facts,
  Cert.FfnInW.Gen.facts, Cert.FfnInWIdeal.Gen.facts, Cert.FfnInWReferenceIdeal.Gen.facts,
  Cert.FfnOutW.Gen.facts, Cert.FfnOutWIdeal.Gen.facts, Cert.FfnOutWReferenceIdeal.Gen.facts,
  Cert.ProjX.Gen.facts, Cert.ProjXIdeal.Gen.facts, Cert.ProjXReferenceIdeal.Gen.facts,
  Cert.ProjQkvW.Gen.facts, Cert.ProjQkvWIdeal.Gen.facts, Cert.ProjQkvWReferenceIdeal.Gen.facts,
  Cert.ProjGatesW.Gen.facts, Cert.ProjGatesWIdeal.Gen.facts, Cert.ProjGatesWReferenceIdeal.Gen.facts,
  Cert.ProjFW.Gen.facts, Cert.ProjFWIdeal.Gen.facts, Cert.ProjFWReferenceIdeal.Gen.facts,
  Cert.MixOutW.Gen.facts, Cert.MixOutWIdeal.Gen.facts, Cert.MixOutWReferenceIdeal.Gen.facts,
  Cert.BranchX.Gen.facts, Cert.BranchXIdeal.Gen.facts, Cert.BranchXReferenceIdeal.Gen.facts,
  Cert.BranchW.Gen.facts, Cert.BranchWIdeal.Gen.facts, Cert.BranchWReferenceIdeal.Gen.facts,
  Cert.FfnIn.Gen.facts, Cert.FfnInIdeal.Gen.facts, Cert.FfnInReferenceIdeal.Gen.facts,
  Cert.FfnOut.Gen.facts, Cert.FfnOutIdeal.Gen.facts, Cert.FfnOutReferenceIdeal.Gen.facts,
  Cert.MixOut.Gen.facts, Cert.MixOutIdeal.Gen.facts, Cert.MixOutReferenceIdeal.Gen.facts,
  Cert.Proj.Gen.facts, Cert.ProjIdeal.Gen.facts, Cert.ProjReferenceIdeal.Gen.facts,
  Cert.Branch.Gen.facts, Cert.BranchIdeal.Gen.facts, Cert.BranchReferenceIdeal.Gen.facts,
  Cert.FoxX.Gen.facts, Cert.FoxXIdeal.Gen.facts, Cert.FoxXReferenceIdeal.Gen.facts,
  preFacts, preInFacts, Cert.FoxX.preFacts,
  fun m ρ _ => Cert.Kernel.Gen.frame m ρ, fun m ρ _ => Cert.KernelIdeal.Gen.frame m ρ, frameR,
  fun m ρ _ => Cert.FfnInX.Gen.frame m ρ, fun m ρ _ => Cert.FfnInXIdeal.Gen.frame m ρ, ffnInX_frameR,
  fun m ρ _ => Cert.FfnOutX.Gen.frame m ρ, fun m ρ _ => Cert.FfnOutXIdeal.Gen.frame m ρ, fun m ρ _ => Cert.FfnOutXIdeal.Gen.frame m ρ,
  ffnOutX_frameR, fun m ρ _ => ffnOutX_frameR m ρ trivial,
  fun m ρ _ => Cert.FfnInW.Gen.frame m ρ, fun m ρ _ => Cert.FfnInWIdeal.Gen.frame m ρ, ffnInW_frameR,
  fun m ρ _ => Cert.FfnOutW.Gen.frame m ρ, fun m ρ _ => Cert.FfnOutWIdeal.Gen.frame m ρ, ffnOutW_frameR,
  fun m ρ _ => Cert.ProjX.Gen.frame m ρ, fun m ρ _ => Cert.ProjXIdeal.Gen.frame m ρ, projX_frameR,
  fun m ρ _ => Cert.ProjQkvW.Gen.frame m ρ, fun m ρ _ => Cert.ProjQkvWIdeal.Gen.frame m ρ, projQkvW_frameR,
  fun m ρ _ => Cert.ProjGatesW.Gen.frame m ρ, fun m ρ _ => Cert.ProjGatesWIdeal.Gen.frame m ρ, projGatesW_frameR,
  fun m ρ _ => Cert.ProjFW.Gen.frame m ρ, fun m ρ _ => Cert.ProjFWIdeal.Gen.frame m ρ, projFW_frameR,
  fun m ρ _ => Cert.MixOutW.Gen.frame m ρ, fun m ρ _ => Cert.MixOutWIdeal.Gen.frame m ρ, mixOutW_frameR,
  fun m ρ _ => Cert.BranchX.Gen.frame m ρ, fun m ρ _ => Cert.BranchXIdeal.Gen.frame m ρ, branchX_frameR,
  fun m ρ _ => Cert.BranchW.Gen.frame m ρ, fun m ρ _ => Cert.BranchWIdeal.Gen.frame m ρ, branchW_frameR,
  fun m ρ _ => Cert.FfnIn.Gen.frame m ρ, fun m ρ _ => Cert.FfnInIdeal.Gen.frame m ρ, fun m ρ _ => Cert.FfnInIdeal.Gen.frame m ρ,
  ffnIn_frameR, fun m ρ _ => ffnIn_frameR m ρ trivial,
  fun m ρ _ => Cert.FfnOut.Gen.frame m ρ, fun m ρ _ => Cert.FfnOutIdeal.Gen.frame m ρ, ffnOut_frameR,
  fun m ρ _ => Cert.MixOut.Gen.frame m ρ, fun m ρ _ => Cert.MixOutIdeal.Gen.frame m ρ, mixOut_frameR,
  fun m ρ _ => Cert.Proj.Gen.frame m ρ, fun m ρ _ => Cert.ProjIdeal.Gen.frame m ρ, proj_frameR,
  fun m ρ _ => Cert.Branch.Gen.frame m ρ, fun m ρ _ => Cert.BranchIdeal.Gen.frame m ρ, branch_frameR,
  fun m ρ _ => Cert.FoxX.Gen.frame m ρ, fun m ρ _ => Cert.FoxXIdeal.Gen.frame m ρ, fun m ρ _ => Cert.FoxXIdeal.Gen.frame m ρ,
  foxX_frameR, fun m ρ _ => foxX_frameR m ρ trivial,
  trivial, algebraic, trivial, ffnInX, trivial, ffnOutX, trivial, ffnInW, trivial, ffnOutW,
  trivial, projX, trivial, projQkvW, trivial, projGatesW, trivial, projFW, trivial, mixOutW, trivial, branchX, trivial, branchW, trivial, ffnIn, trivial, ffnOut, trivial, mixOut, trivial, proj, trivial, branch,
  IdealRules.named_const.statement Cert.FoxXIdeal.κ "masked" .f32 0xF149F2CA#32 ⊥ rfl, foxX⟩

end Cert.Proof

end
